-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_logits [hPre_finite_logits : Cert.Pre_finite_logits.Facts] (m : (ℓ : Loc Cert.KernelIdeal.nD Cert.KernelIdeal.τ Cert.KernelIdeal.sig) → Buf (Elt Ideal) ℓ) : Prop :=
  ∀ c : Dev Cert.KernelIdeal.nD,
    (Cert.Pre_finite_logits.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).1 = (fun _ => 1#1)
    ∧ (Cert.Pre_finite_logits.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.1 = (fun _ => 1#1)
    ∧ (Cert.Pre_finite_logits.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.1 = (fun _ => 1#1)
    ∧ (Cert.Pre_finite_logits.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_logits [hPre_finite_logits : Cert.Pre_finite_logits.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_logits.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).1 = (fun _ => 1#1)
    ∧ (Cert.Pre_finite_logits.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.1 = (fun _ => 1#1)
    ∧ (Cert.Pre_finite_logits.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.2.1 = (fun _ => 1#1)
    ∧ (Cert.Pre_finite_logits.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_KernelIdeal_pre_finite_logits [hKernelIdeal : Cert.KernelIdeal.Facts] [hPre_finite_logits : Cert.Pre_finite_logits.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_logits m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def quiescent_ReferenceIdeal_pre_finite_logits [hReferenceIdeal : Cert.ReferenceIdeal.Facts] [hPre_finite_logits : Cert.Pre_finite_logits.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_logits m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def preserves_Kernel_KernelIdeal : Prop :=
  IdealRules.named_const.Statement Cert.KernelIdeal.κ "log2e" .f32 0x3FB8AA3B#32 (((Real.log 2)⁻¹ : ℝ) : EReal)

def algebraic_KernelIdeal_ReferenceIdeal_pre_finite_logits [hKernelIdeal : Cert.KernelIdeal.Facts] [hReferenceIdeal : Cert.ReferenceIdeal.Facts] [hPre_finite_logits : Cert.Pre_finite_logits.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_logits m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v23_0)) (v1 : (c : Dev Cert.KernelIdeal.nD) → Buf (Elt Ideal) ((c.tc : Thread Cert.KernelIdeal.nD Cert.KernelIdeal.τ).loc Cert.KernelIdeal.main_v23_1)) (v2 : (c : Dev Cert.KernelIdeal.nD) → Buf (Elt Ideal) ((c.tc : Thread Cert.KernelIdeal.nD Cert.KernelIdeal.τ).loc Cert.KernelIdeal.main_v23_2)) (v3 : (c : Dev Cert.KernelIdeal.nD) → Buf (Elt Ideal) ((c.tc : Thread Cert.KernelIdeal.nD Cert.KernelIdeal.τ).loc Cert.KernelIdeal.main_v23_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23_0) = v0 c
          ∧ r.2.mem ((c.tc : Thread Cert.KernelIdeal.nD Cert.KernelIdeal.τ).loc Cert.KernelIdeal.main_v23_1) = v1 c
          ∧ r.2.mem ((c.tc : Thread Cert.KernelIdeal.nD Cert.KernelIdeal.τ).loc Cert.KernelIdeal.main_v23_2) = v2 c
          ∧ r.2.mem ((c.tc : Thread Cert.KernelIdeal.nD Cert.KernelIdeal.τ).loc Cert.KernelIdeal.main_v23_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_v45) = v1 c
          ∧ r.2.mem ((c.tc : Thread Cert.ReferenceIdeal.nD Cert.ReferenceIdeal.τ).loc Cert.ReferenceIdeal.main_v46) = v2 c
          ∧ r.2.mem ((c.tc : Thread Cert.ReferenceIdeal.nD Cert.ReferenceIdeal.τ).loc Cert.ReferenceIdeal.main_v47) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v2) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v29) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hPre_finite_logits : Cert.Pre_finite_logits.Facts),
    quiescent_Kernel (hKernel := hKernel)
    ∧ quiescent_KernelIdeal (hKernelIdeal := hKernelIdeal)
    ∧ quiescent_KernelIdeal_pre_finite_logits (hKernelIdeal := hKernelIdeal) (hPre_finite_logits := hPre_finite_logits)
    ∧ quiescent_ReferenceIdeal (hReferenceIdeal := hReferenceIdeal)
    ∧ quiescent_ReferenceIdeal_pre_finite_logits (hReferenceIdeal := hReferenceIdeal) (hPre_finite_logits := hPre_finite_logits)
    ∧ quiescent_Kernel2 (hKernel2 := hKernel2)
    ∧ quiescent_Kernel2Ideal (hKernel2Ideal := hKernel2Ideal)
    ∧ quiescent_Reference2Ideal (hReference2Ideal := hReference2Ideal)
    ∧ preserves_Kernel_KernelIdeal
    ∧ algebraic_KernelIdeal_ReferenceIdeal_pre_finite_logits (hKernelIdeal := hKernelIdeal) (hReferenceIdeal := hReferenceIdeal) (hPre_finite_logits := hPre_finite_logits)
    ∧ preserves_Kernel2_Kernel2Ideal
    ∧ algebraic_Kernel2Ideal_Reference2Ideal (hKernel2Ideal := hKernel2Ideal) (hReference2Ideal := hReference2Ideal)
-- ==== Pre_finite_logits.lean ====
abbrev S16384x1024 : Shape := ⟨2, ![16384, 1024]⟩
abbrev S16384x8 : Shape := ⟨2, ![16384, 8]⟩
abbrev S8 : Shape := ⟨1, ![8]⟩
abbrev S2048x2048 : Shape := ⟨2, ![2048, 2048]⟩
abbrev S2048x8192 : Shape := ⟨2, ![2048, 8192]⟩
abbrev S8192x2048 : Shape := ⟨2, ![8192, 2048]⟩
abbrev S2048x1 : Shape := ⟨2, ![2048, 1]⟩
abbrev S_ : Shape := ⟨0, ![]⟩

class Facts : Prop where
  bcast_S_S16384x1024 : S_.BroadcastsInDim S16384x1024 (![] : Fin 0 → Fin S16384x1024.rank)
  bcast_S_S16384x8 : S_.BroadcastsInDim S16384x8 (![] : Fin 0 → Fin S16384x8.rank)
  bcast_S_S8 : S_.BroadcastsInDim S8 (![] : Fin 0 → Fin S8.rank)

variable [Facts]

def fn {F : FTy → Type} [FloatOps F] (main_arg0 : FVec F S16384x1024 .f32) (main_arg1 : FVec F S16384x1024 .f32) (main_arg2 : FVec F S16384x1024 .f32) (main_arg3 : FVec F S16384x1024 .f32) (main_arg4 : FVec F S16384x1024 .f32) (main_arg5 : FVec F S16384x8 .f32) (main_arg6 : FVec F S8 .f32) (main_arg7 : FVec F S2048x2048 .f32) (main_arg8 : FVec F S2048x8192 .f32) (main_arg9 : FVec F S8192x2048 .f32) (main_arg10 : FVec F S2048x1 .f32) : IVec S16384x1024 1 × IVec S16384x1024 1 × IVec S16384x8 1 × IVec S8 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_v3 : FVec F S16384x1024 .f32 := Host.absf main_arg1
  let main_cst_0 : FVec F S_ .f32 := constant S_ .f32 0x7F800000#32
  let main_v4 : FVec F S16384x1024 .f32 := broadcastInDim S16384x1024 ![] bcast_S_S16384x1024 main_cst_0
  let main_v5 : IVec S16384x1024 1 := cmpf .olt main_v3 main_v4
  let main_v6 : FVec F S16384x8 .f32 := Host.absf main_arg5
  let main_cst_1 : FVec F S_ .f32 := constant S_ .f32 0x7F800000#32
  let main_v7 : FVec F S16384x8 .f32 := broadcastInDim S16384x8 ![] bcast_S_S16384x8 main_cst_1
  let main_v8 : IVec S16384x8 1 := cmpf .olt main_v6 main_v7
  let main_v9 : FVec F S8 .f32 := Host.absf main_arg6
  let main_cst_2 : FVec F S_ .f32 := constant S_ .f32 0x7F800000#32
  let main_v10 : FVec F S8 .f32 := broadcastInDim S8 ![] bcast_S_S8 main_cst_2
  let main_v11 : IVec S8 1 := cmpf .olt main_v9 main_v10
  (main_v2, main_v5, main_v8, main_v11)
-- ==== Kernel.lean ====
abbrev S16384x1024 : Shape := ⟨2, ![16384, 1024]⟩
abbrev S16384x8 : Shape := ⟨2, ![16384, 8]⟩
abbrev S8 : Shape := ⟨1, ![8]⟩
abbrev S2048x2048 : Shape := ⟨2, ![2048, 2048]⟩
abbrev S2048x8192 : Shape := ⟨2, ![2048, 8192]⟩
abbrev S8192x2048 : Shape := ⟨2, ![8192, 2048]⟩
abbrev S2048x1 : Shape := ⟨2, ![2048, 1]⟩
abbrev S_ : Shape := ⟨0, ![]⟩
abbrev S16384x5120 : Shape := ⟨2, ![16384, 5120]⟩
abbrev S8x1 : Shape := ⟨2, ![8, 1]⟩
abbrev S8x6 : Shape := ⟨2, ![8, 6]⟩
abbrev S8x8 : Shape := ⟨2, ![8, 8]⟩
abbrev S64 : Shape := ⟨1, ![64]⟩
abbrev S128 : Shape := ⟨1, ![128]⟩
abbrev S1x128 : Shape := ⟨2, ![1, 128]⟩
abbrev S16384x8x1 : Shape := ⟨3, ![16384, 8, 1]⟩
abbrev S16384x8x6 : Shape := ⟨3, ![16384, 8, 6]⟩
abbrev S16384x8x8 : Shape := ⟨3, ![16384, 8, 8]⟩
abbrev S16384x64 : Shape := ⟨2, ![16384, 64]⟩
abbrev S16384x128 : Shape := ⟨2, ![16384, 128]⟩
abbrev S2048x128 : Shape := ⟨2, ![2048, 128]⟩
abbrev S256x256 : Shape := ⟨2, ![256, 256]⟩
abbrev S256x128 : Shape := ⟨2, ![256, 128]⟩
abbrev S4096x128 : Shape := ⟨2, ![4096, 128]⟩
abbrev S64x2048 : Shape := ⟨2, ![64, 2048]⟩
abbrev S64x8192 : Shape := ⟨2, ![64, 8192]⟩
abbrev S256x2048 : Shape := ⟨2, ![256, 2048]⟩
abbrev S64x1 : Shape := ⟨2, ![64, 1]⟩
abbrev S4096x256 : Shape := ⟨2, ![4096, 256]⟩
abbrev S4x512x512 : Shape := ⟨3, ![4, 512, 512]⟩
abbrev S4x512x128 : Shape := ⟨3, ![4, 512, 128]⟩
abbrev S512x128 : Shape := ⟨2, ![512, 128]⟩
abbrev S512x256 : Shape := ⟨2, ![512, 256]⟩
abbrev S512x512 : Shape := ⟨2, ![512, 512]⟩
abbrev S1x512x512 : Shape := ⟨3, ![1, 512, 512]⟩
abbrev S512 : Shape := ⟨1, ![512]⟩
abbrev S512x1 : Shape := ⟨2, ![512, 1]⟩
abbrev S1x512x128 : Shape := ⟨3, ![1, 512, 128]⟩

abbrev nBuf : Space → Nat
  | .hbm => 49
  | .vmem => 41
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S16384x1024, .f32⟩
  | .hbm, ⟨3, _⟩ => ⟨S16384x1024, .f32⟩
  | .hbm, ⟨4, _⟩ => ⟨S16384x1024, .f32⟩
  | .hbm, ⟨5, _⟩ => ⟨S16384x8, .f32⟩
  | .hbm, ⟨6, _⟩ => ⟨S8, .f32⟩
  | .hbm, ⟨7, _⟩ => ⟨S2048x2048, .f32⟩
  | .hbm, ⟨8, _⟩ => ⟨S2048x8192, .f32⟩
  | .hbm, ⟨9, _⟩ => ⟨S8192x2048, .f32⟩
  | .hbm, ⟨10, _⟩ => ⟨S2048x1, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S16384x1024, .f32⟩
  | .hbm, ⟨17, _⟩ => ⟨S16384x1024, .f32⟩
  | .hbm, ⟨18, _⟩ => ⟨S16384x1024, .bf16⟩
  | .hbm, ⟨19, _⟩ => ⟨S16384x1024, .bf16⟩
  | .hbm, ⟨20, _⟩ => ⟨S16384x1024, .bf16⟩
  | .hbm, ⟨21, _⟩ => ⟨S16384x1024, .bf16⟩
  | .hbm, ⟨22, _⟩ => ⟨S16384x1024, .bf16⟩
  | .hbm, ⟨23, _⟩ => ⟨S16384x5120, .bf16⟩
  | .hbm, ⟨24, _⟩ => ⟨S8x1, .f32⟩
  | .hbm, ⟨25, _⟩ => ⟨S8x6, .f32⟩
  | .hbm, ⟨26, _⟩ => ⟨S_, .i32⟩
  | .hbm, ⟨27, _⟩ => ⟨S_, .f32⟩
  | .hbm, ⟨28, _⟩ => ⟨S8x8, .f32⟩
  | .hbm, ⟨29, _⟩ => ⟨S64, .f32⟩
  | .hbm, ⟨30, _⟩ => ⟨S_, .i32⟩
  | .hbm, ⟨31, _⟩ => ⟨S_, .f32⟩
  | .hbm, ⟨32, _⟩ => ⟨S128, .f32⟩
  | .hbm, ⟨33, _⟩ => ⟨S1x128, .f32⟩
  | .hbm, ⟨34, _⟩ => ⟨S16384x8x1, .f32⟩
  | .hbm, ⟨35, _⟩ => ⟨S16384x8x6, .f32⟩
  | .hbm, ⟨36, _⟩ => ⟨S_, .i32⟩
  | .hbm, ⟨37, _⟩ => ⟨S_, .f32⟩
  | .hbm, ⟨38, _⟩ => ⟨S16384x8x8, .f32⟩
  | .hbm, ⟨39, _⟩ => ⟨S16384x64, .f32⟩
  | .hbm, ⟨40, _⟩ => ⟨S_, .i32⟩
  | .hbm, ⟨41, _⟩ => ⟨S_, .f32⟩
  | .hbm, ⟨42, _⟩ => ⟨S16384x128, .f32⟩
  | .hbm, ⟨43, _⟩ => ⟨S16384x128, .bf16⟩
  | .hbm, ⟨44, _⟩ => ⟨S16384x128, .bf16⟩
  | .hbm, ⟨45, _⟩ => ⟨S16384x1024, .bf16⟩
  | .hbm, ⟨46, _⟩ => ⟨S2048x2048, .bf16⟩
  | .hbm, ⟨47, _⟩ => ⟨S2048x8192, .bf16⟩
  | .hbm, ⟨48, _⟩ => ⟨S8192x2048, .bf16⟩
  | .local _ .vmem, ⟨0, _⟩ => ⟨S2048x128, .f32⟩
  | .local _ .vmem, ⟨1, _⟩ => ⟨S2048x128, .f32⟩
  | .local _ .vmem, ⟨2, _⟩ => ⟨S1x128, .f32⟩
  | .local _ .vmem, ⟨3, _⟩ => ⟨S2048x128, .bf16⟩
  | .local _ .vmem, ⟨4, _⟩ => ⟨S2048x128, .bf16⟩
  | .local _ .vmem, ⟨5, _⟩ => ⟨S2048x128, .bf16⟩
  | .local _ .vmem, ⟨6, _⟩ => ⟨S2048x128, .bf16⟩
  | .local _ .vmem, ⟨7, _⟩ => ⟨S2048x128, .f32⟩
  | .local _ .vmem, ⟨8, _⟩ => ⟨S1x128, .f32⟩
  | .local _ .vmem, ⟨9, _⟩ => ⟨S4096x128, .bf16⟩
  | .local _ .vmem, ⟨10, _⟩ => ⟨S4096x128, .bf16⟩
  | .local _ .vmem, ⟨11, _⟩ => ⟨S4096x128, .bf16⟩
  | .local _ .vmem, ⟨12, _⟩ => ⟨S4096x128, .bf16⟩
  | .local _ .vmem, ⟨13, _⟩ => ⟨S4096x128, .bf16⟩
  | .local _ .vmem, ⟨14, _⟩ => ⟨S4096x128, .bf16⟩
  | .local _ .vmem, ⟨15, _⟩ => ⟨S4096x128, .bf16⟩
  | .local _ .vmem, ⟨16, _⟩ => ⟨S4096x128, .bf16⟩
  | .local _ .vmem, ⟨17, _⟩ => ⟨S4096x128, .bf16⟩
  | .local _ .vmem, ⟨18, _⟩ => ⟨S4096x128, .bf16⟩
  | .local _ .vmem, ⟨19, _⟩ => ⟨S64x2048, .f32⟩
  | .local _ .vmem, ⟨20, _⟩ => ⟨S64x2048, .f32⟩
  | .local _ .vmem, ⟨21, _⟩ => ⟨S64x8192, .f32⟩
  | .local _ .vmem, ⟨22, _⟩ => ⟨S64x8192, .f32⟩
  | .local _ .vmem, ⟨23, _⟩ => ⟨S256x2048, .f32⟩
  | .local _ .vmem, ⟨24, _⟩ => ⟨S256x2048, .f32⟩
  | .local _ .vmem, ⟨25, _⟩ => ⟨S64x1, .f32⟩
  | .local _ .vmem, ⟨26, _⟩ => ⟨S64x1, .f32⟩
  | .local _ .vmem, ⟨27, _⟩ => ⟨S4096x128, .bf16⟩
  | .local _ .vmem, ⟨28, _⟩ => ⟨S4096x128, .bf16⟩
  | .local _ .vmem, ⟨29, _⟩ => ⟨S64x2048, .bf16⟩
  | .local _ .vmem, ⟨30, _⟩ => ⟨S64x2048, .bf16⟩
  | .local _ .vmem, ⟨31, _⟩ => ⟨S64x8192, .bf16⟩
  | .local _ .vmem, ⟨32, _⟩ => ⟨S64x8192, .bf16⟩
  | .local _ .vmem, ⟨33, _⟩ => ⟨S256x2048, .bf16⟩
  | .local _ .vmem, ⟨34, _⟩ => ⟨S256x2048, .bf16⟩
  | .local _ .vmem, ⟨35, _⟩ => ⟨S4096x128, .bf16⟩
  | .local _ .vmem, ⟨36, _⟩ => ⟨S4096x128, .f32⟩
  | .local _ .vmem, ⟨37, _⟩ => ⟨S4096x256, .f32⟩
  | .local _ .vmem, ⟨38, _⟩ => ⟨S4x512x512, .f32⟩
  | .local _ .vmem, ⟨39, _⟩ => ⟨S4x512x128, .f32⟩
  | .local _ .vmem, ⟨40, _⟩ => ⟨S4x512x128, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_v0 : Ref sig .tc := ⟨.hbm, 12, rfl⟩
abbrev main_cst_0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_c : Ref sig .tc := ⟨.hbm, 26, rfl⟩
abbrev main_call0_v0 : Ref sig .tc := ⟨.hbm, 27, rfl⟩
abbrev main_v13 : Ref sig .tc := ⟨.hbm, 28, rfl⟩
abbrev main_v14 : Ref sig .tc := ⟨.hbm, 29, rfl⟩
abbrev main_c_1 : Ref sig .tc := ⟨.hbm, 30, rfl⟩
abbrev main_call1_v0 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_c_2 : Ref sig .tc := ⟨.hbm, 36, rfl⟩
abbrev main_call2_v0 : Ref sig .tc := ⟨.hbm, 37, rfl⟩
abbrev main_v19 : Ref sig .tc := ⟨.hbm, 38, rfl⟩
abbrev main_v20 : Ref sig .tc := ⟨.hbm, 39, rfl⟩
abbrev main_c_3 : Ref sig .tc := ⟨.hbm, 40, rfl⟩
abbrev main_call3_v0 : Ref sig .tc := ⟨.hbm, 41, rfl⟩
abbrev main_v21 : Ref sig .tc := ⟨.hbm, 42, rfl⟩
abbrev main_v22_0 : Ref sig .tc := ⟨.hbm, 43, rfl⟩
abbrev main_v22_1 : Ref sig .tc := ⟨.hbm, 44, rfl⟩
abbrev main_v23_0 : Ref sig .tc := ⟨.hbm, 45, rfl⟩
abbrev main_v23_1 : Ref sig .tc := ⟨.hbm, 46, rfl⟩
abbrev main_v23_2 : Ref sig .tc := ⟨.hbm, 47, rfl⟩
abbrev main_v23_3 : Ref sig .tc := ⟨.hbm, 48, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_scratch1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc1_stg3_0 : Ref sig .tc := ⟨.vmem, 15, rfl⟩
abbrev cc1_stg3_1 : Ref sig .tc := ⟨.vmem, 16, rfl⟩
abbrev cc1_stg4_0 : Ref sig .tc := ⟨.vmem, 17, rfl⟩
abbrev cc1_stg4_1 : Ref sig .tc := ⟨.vmem, 18, rfl⟩
abbrev cc1_stg5_0 : Ref sig .tc := ⟨.vmem, 19, rfl⟩
abbrev cc1_stg5_1 : Ref sig .tc := ⟨.vmem, 20, rfl⟩
abbrev cc1_stg6_0 : Ref sig .tc := ⟨.vmem, 21, rfl⟩
abbrev cc1_stg6_1 : Ref sig .tc := ⟨.vmem, 22, rfl⟩
abbrev cc1_stg7_0 : Ref sig .tc := ⟨.vmem, 23, rfl⟩
abbrev cc1_stg7_1 : Ref sig .tc := ⟨.vmem, 24, rfl⟩
abbrev cc1_stg8_0 : Ref sig .tc := ⟨.vmem, 25, rfl⟩
abbrev cc1_stg8_1 : Ref sig .tc := ⟨.vmem, 26, rfl⟩
abbrev cc1_stg9_0 : Ref sig .tc := ⟨.vmem, 27, rfl⟩
abbrev cc1_stg9_1 : Ref sig .tc := ⟨.vmem, 28, rfl⟩
abbrev cc1_stg10_0 : Ref sig .tc := ⟨.vmem, 29, rfl⟩
abbrev cc1_stg10_1 : Ref sig .tc := ⟨.vmem, 30, rfl⟩
abbrev cc1_stg11_0 : Ref sig .tc := ⟨.vmem, 31, rfl⟩
abbrev cc1_stg11_1 : Ref sig .tc := ⟨.vmem, 32, rfl⟩
abbrev cc1_stg12_0 : Ref sig .tc := ⟨.vmem, 33, rfl⟩
abbrev cc1_stg12_1 : Ref sig .tc := ⟨.vmem, 34, rfl⟩
abbrev cc1_scratch0 : Ref sig .tc := ⟨.vmem, 35, rfl⟩
abbrev cc1_scratch1 : Ref sig .tc := ⟨.vmem, 36, rfl⟩
abbrev cc1_scratch2 : Ref sig .tc := ⟨.vmem, 37, rfl⟩
abbrev cc1_scratch3 : Ref sig .tc := ⟨.vmem, 38, rfl⟩
abbrev cc1_scratch4 : Ref sig .tc := ⟨.vmem, 39, rfl⟩
abbrev cc1_scratch5 : Ref sig .tc := ⟨.vmem, 40, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem2_1 : DmaSem sig := 12
abbrev cc1_sem3_0 : DmaSem sig := 13
abbrev cc1_sem3_1 : DmaSem sig := 14
abbrev cc1_sem4_0 : DmaSem sig := 15
abbrev cc1_sem4_1 : DmaSem sig := 16
abbrev cc1_sem5_0 : DmaSem sig := 17
abbrev cc1_sem5_1 : DmaSem sig := 18
abbrev cc1_sem6_0 : DmaSem sig := 19
abbrev cc1_sem6_1 : DmaSem sig := 20
abbrev cc1_sem7_0 : DmaSem sig := 21
abbrev cc1_sem7_1 : DmaSem sig := 22
abbrev cc1_sem8_0 : DmaSem sig := 23
abbrev cc1_sem8_1 : DmaSem sig := 24
abbrev cc1_sem9_0 : DmaSem sig := 25
abbrev cc1_sem9_1 : DmaSem sig := 26
abbrev cc1_sem10_0 : DmaSem sig := 27
abbrev cc1_sem10_1 : DmaSem sig := 28
abbrev cc1_sem11_0 : DmaSem sig := 29
abbrev cc1_sem11_1 : DmaSem sig := 30
abbrev cc1_sem12_0 : DmaSem sig := 31
abbrev cc1_sem12_1 : DmaSem sig := 32

abbrev nD : Nat := 1
abbrev τ : Topo := Topo.v7x

variable {F : FTy → Type} [FloatOps F]

abbrev grid0 : Pipeline.Grid := ⟨2, ![4, 2], ![false, false]⟩

def cc0_transform_0 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev grid1 : Pipeline.Grid := ⟨2, ![4, 8], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  ![arg0.toNat, v0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg1
  let c0_i32 : BitVec 32 := 0#32
  ![arg0.toNat, v0.toNat]

def cc1_transform_5 (i : grid1.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc1_transform_6 (i : grid1.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc1_transform_7 (i : grid1.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc1_transform_8 (i : grid1.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc1_transform_9 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_10 (i : grid1.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc1_transform_11 (i : grid1.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc1_transform_12 (i : grid1.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

abbrev stage1_0 : Fin 2 → Memref sig .tc .vmem S4096x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S4096x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S4096x128 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S4096x128 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 2 → Memref sig .tc .vmem S4096x128 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S64x2048 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev stage1_6 : Fin 2 → Memref sig .tc .vmem S64x8192 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]

abbrev stage1_7 : Fin 2 → Memref sig .tc .vmem S256x2048 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, true]

abbrev stage1_8 : Fin 2 → Memref sig .tc .vmem S64x1 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true, true]

abbrev stage1_9 : Fin 2 → Memref sig .tc .vmem S4096x128 .bf16 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true, true]

abbrev stage1_10 : Fin 2 → Memref sig .tc .vmem S64x2048 .bf16 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true, true]

abbrev stage1_11 : Fin 2 → Memref sig .tc .vmem S64x8192 .bf16 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true, true]

abbrev stage1_12 : Fin 2 → Memref sig .tc .vmem S256x2048 .bf16 := fun | 0 => Memref.whole cc1_stg12_0 | 1 => Memref.whole cc1_stg12_1 | ⟨_ + 2, h⟩ => absurd h (Nat.not_lt.2 (Nat.le_add_left _ _))
abbrev sem1_12 : Fin 2 → DmaSem sig := fun | 0 => cc1_sem12_0 | 1 => cc1_sem12_1 | ⟨_ + 2, h⟩ => absurd h (Nat.not_lt.2 (Nat.le_add_left _ _))
abbrev reads1_12 : Fin grid1.rank → Bool := ![true, true]
-- ==== KernelIdeal.lean ====
variable {F : FTy → Type} [FloatOps F] [Named F]
def κ : String → Option EReal := fun
  | "log2e" => some (((Real.log 2)⁻¹ : ℝ) : EReal)
  | _ => none
-- ==== ReferenceIdeal.lean ====
abbrev S16384x1024 : Shape := ⟨2, ![16384, 1024]⟩
abbrev S16384x8 : Shape := ⟨2, ![16384, 8]⟩
abbrev S8 : Shape := ⟨1, ![8]⟩
abbrev S2048x2048 : Shape := ⟨2, ![2048, 2048]⟩
abbrev S2048x8192 : Shape := ⟨2, ![2048, 8192]⟩
abbrev S8192x2048 : Shape := ⟨2, ![8192, 2048]⟩
abbrev S2048x1 : Shape := ⟨2, ![2048, 1]⟩
abbrev S4x4096x8x128 : Shape := ⟨4, ![4, 4096, 8, 128]⟩
abbrev S4x4096x8 : Shape := ⟨3, ![4, 4096, 8]⟩
abbrev S1x1x8 : Shape := ⟨3, ![1, 1, 8]⟩
abbrev S_ : Shape := ⟨0, ![]⟩
abbrev S4x8x4096 : Shape := ⟨3, ![4, 8, 4096]⟩
abbrev S4x8x4096x4096 : Shape := ⟨4, ![4, 8, 4096, 4096]⟩
abbrev S4x8x4096x1 : Shape := ⟨4, ![4, 8, 4096, 1]⟩
abbrev S4x8x1x4096 : Shape := ⟨4, ![4, 8, 1, 4096]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S1x1x4096x4096 : Shape := ⟨4, ![1, 1, 4096, 4096]⟩
abbrev S4x8x128x4096 : Shape := ⟨4, ![4, 8, 128, 4096]⟩

abbrev nBuf : Space → Nat
  | .hbm => 84
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S16384x1024, .f32⟩
  | .hbm, ⟨3, _⟩ => ⟨S16384x1024, .f32⟩
  | .hbm, ⟨4, _⟩ => ⟨S16384x1024, .f32⟩
  | .hbm, ⟨5, _⟩ => ⟨S16384x8, .f32⟩
  | .hbm, ⟨6, _⟩ => ⟨S8, .f32⟩
  | .hbm, ⟨7, _⟩ => ⟨S2048x2048, .f32⟩
  | .hbm, ⟨8, _⟩ => ⟨S2048x8192, .f32⟩
  | .hbm, ⟨9, _⟩ => ⟨S8192x2048, .f32⟩
  | .hbm, ⟨10, _⟩ => ⟨S2048x1, .f32⟩
  | .hbm, ⟨11, _⟩ => ⟨S4x4096x8x128, .f32⟩
  | .hbm, ⟨12, _⟩ => ⟨S4x4096x8x128, .f32⟩
  | .hbm, ⟨13, _⟩ => ⟨S4x4096x8x128, .f32⟩
  | .hbm, ⟨14, _⟩ => ⟨S4x4096x8, .f32⟩
  | .hbm, ⟨15, _⟩ => ⟨S1x1x8, .f32⟩
  | .hbm, ⟨16, _⟩ => ⟨S4x4096x8, .f32⟩
  | .hbm, ⟨17, _⟩ => ⟨S4x4096x8, .f32⟩
  | .hbm, ⟨18, _⟩ => ⟨S4x4096x8, .f32⟩
  | .hbm, ⟨19, _⟩ => ⟨S_, .f32⟩
  | .hbm, ⟨20, _⟩ => ⟨S4x4096x8, .f32⟩
  | .hbm, ⟨21, _⟩ => ⟨S4x4096x8, .f32⟩
  | .hbm, ⟨22, _⟩ => ⟨S4x4096x8, .f32⟩
  | .hbm, ⟨23, _⟩ => ⟨S4x4096x8, .f32⟩
  | .hbm, ⟨24, _⟩ => ⟨S4x4096x8, .i1⟩
  | .hbm, ⟨25, _⟩ => ⟨S4x4096x8, .f32⟩
  | .hbm, ⟨26, _⟩ => ⟨S4x4096x8, .f32⟩
  | .hbm, ⟨27, _⟩ => ⟨S4x4096x8, .f32⟩
  | .hbm, ⟨28, _⟩ => ⟨S4x4096x8, .f32⟩
  | .hbm, ⟨29, _⟩ => ⟨S4x4096x8, .f32⟩
  | .hbm, ⟨30, _⟩ => ⟨S4x4096x8, .f32⟩
  | .hbm, ⟨31, _⟩ => ⟨S4x4096x8, .f32⟩
  | .hbm, ⟨32, _⟩ => ⟨S4x4096x8, .f32⟩
  | .hbm, ⟨33, _⟩ => ⟨S4x4096x8, .f32⟩
  | .hbm, ⟨34, _⟩ => ⟨S_, .f32⟩
  | .hbm, ⟨35, _⟩ => ⟨S_, .f32⟩
  | .hbm, ⟨36, _⟩ => ⟨S4x4096x8, .f32⟩
  | .hbm, ⟨37, _⟩ => ⟨S4x8x4096, .f32⟩
  | .hbm, ⟨38, _⟩ => ⟨S4x8x4096x4096, .f32⟩
  | .hbm, ⟨39, _⟩ => ⟨S_, .f32⟩
  | .hbm, ⟨40, _⟩ => ⟨S_, .f32⟩
  | .hbm, ⟨41, _⟩ => ⟨S4x8x4096x4096, .f32⟩
  | .hbm, ⟨42, _⟩ => ⟨S4x8x4096x4096, .f32⟩
  | .hbm, ⟨43, _⟩ => ⟨S4x8x4096x1, .f32⟩
  | .hbm, ⟨44, _⟩ => ⟨S4x8x4096x4096, .f32⟩
  | .hbm, ⟨45, _⟩ => ⟨S4x8x4096x4096, .f32⟩
  | .hbm, ⟨46, _⟩ => ⟨S4x8x1x4096, .f32⟩
  | .hbm, ⟨47, _⟩ => ⟨S4x8x4096x4096, .f32⟩
  | .hbm, ⟨48, _⟩ => ⟨S4x8x4096x4096, .f32⟩
  | .hbm, ⟨49, _⟩ => ⟨S4096, .i32⟩
  | .hbm, ⟨50, _⟩ => ⟨S1x4096, .i32⟩
  | .hbm, ⟨51, _⟩ => ⟨S4096x1, .i32⟩
  | .hbm, ⟨52, _⟩ => ⟨S4096x4096, .i32⟩
  | .hbm, ⟨53, _⟩ => ⟨S4096x4096, .i32⟩
  | .hbm, ⟨54, _⟩ => ⟨S4096x4096, .i1⟩
  | .hbm, ⟨55, _⟩ => ⟨S1x1x4096x4096, .i1⟩
  | .hbm, ⟨56, _⟩ => ⟨S_, .f32⟩
  | .hbm, ⟨57, _⟩ => ⟨S_, .f32⟩
  | .hbm, ⟨58, _⟩ => ⟨S4x8x4096x4096, .i1⟩
  | .hbm, ⟨59, _⟩ => ⟨S4x8x4096x4096, .f32⟩
  | .hbm, ⟨60, _⟩ => ⟨S4x8x4096x4096, .f32⟩
  | .hbm, ⟨61, _⟩ => ⟨S_, .f32⟩
  | .hbm, ⟨62, _⟩ => ⟨S4x8x4096, .f32⟩
  | .hbm, ⟨63, _⟩ => ⟨S_, .f32⟩
  | .hbm, ⟨64, _⟩ => ⟨S4x8x4096, .f32⟩
  | .hbm, ⟨65, _⟩ => ⟨S4x8x4096, .f32⟩
  | .hbm, ⟨66, _⟩ => ⟨S4x8x4096x1, .f32⟩
  | .hbm, ⟨67, _⟩ => ⟨S4x8x4096x4096, .f32⟩
  | .hbm, ⟨68, _⟩ => ⟨S4x8x4096x4096, .f32⟩
  | .hbm, ⟨69, _⟩ => ⟨S4x8x4096x4096, .f32⟩
  | .hbm, ⟨70, _⟩ => ⟨S_, .f32⟩
  | .hbm, ⟨71, _⟩ => ⟨S4x8x4096, .f32⟩
  | .hbm, ⟨72, _⟩ => ⟨S4x8x4096x1, .f32⟩
  | .hbm, ⟨73, _⟩ => ⟨S4x8x4096x4096, .f32⟩
  | .hbm, ⟨74, _⟩ => ⟨S4x8x4096x4096, .f32⟩
  | .hbm, ⟨75, _⟩ => ⟨S4x8x128x4096, .f32⟩
  | .hbm, ⟨76, _⟩ => ⟨S4x4096x8x128, .f32⟩
  | .hbm, ⟨77, _⟩ => ⟨S16384x1024, .f32⟩
  | .hbm, ⟨78, _⟩ => ⟨S16384x1024, .bf16⟩
  | .hbm, ⟨79, _⟩ => ⟨S2048x2048, .f32⟩
  | .hbm, ⟨80, _⟩ => ⟨S2048x2048, .f32⟩
  | .hbm, ⟨81, _⟩ => ⟨S2048x2048, .bf16⟩
  | .hbm, ⟨82, _⟩ => ⟨S2048x8192, .bf16⟩
  | .hbm, ⟨83, _⟩ => ⟨S8192x2048, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_call0_v0 : Ref sig .tc := ⟨.hbm, 18, rfl⟩
abbrev main_call0_call0_cst : Ref sig .tc := ⟨.hbm, 19, rfl⟩
abbrev main_call0_call0_v0 : Ref sig .tc := ⟨.hbm, 20, rfl⟩
abbrev main_call0_call0_v1 : Ref sig .tc := ⟨.hbm, 21, rfl⟩
abbrev main_call0_call0_v2 : Ref sig .tc := ⟨.hbm, 22, rfl⟩
abbrev main_call0_call0_v3 : Ref sig .tc := ⟨.hbm, 23, rfl⟩
abbrev main_call0_call0_v4 : Ref sig .tc := ⟨.hbm, 24, rfl⟩
abbrev main_call0_call0_v5 : Ref sig .tc := ⟨.hbm, 25, rfl⟩
abbrev main_call0_call0_v6 : Ref sig .tc := ⟨.hbm, 26, rfl⟩
abbrev main_call0_call0_v7 : Ref sig .tc := ⟨.hbm, 27, rfl⟩
abbrev main_call0_call0_v8 : Ref sig .tc := ⟨.hbm, 28, rfl⟩
abbrev main_call0_call0_v9 : Ref sig .tc := ⟨.hbm, 29, rfl⟩
abbrev main_call0_call0_v10 : Ref sig .tc := ⟨.hbm, 30, rfl⟩
abbrev main_call0_call0_v11 : Ref sig .tc := ⟨.hbm, 31, rfl⟩
abbrev main_call0_v1 : Ref sig .tc := ⟨.hbm, 32, rfl⟩
abbrev main_v7 : Ref sig .tc := ⟨.hbm, 33, rfl⟩
abbrev main_call1_call0_cst : Ref sig .tc := ⟨.hbm, 34, rfl⟩
abbrev main_call1_call0_v0 : Ref sig .tc := ⟨.hbm, 35, rfl⟩
abbrev main_v8 : Ref sig .tc := ⟨.hbm, 36, rfl⟩
abbrev main_v9 : Ref sig .tc := ⟨.hbm, 37, rfl⟩
abbrev main_v10 : Ref sig .tc := ⟨.hbm, 38, rfl⟩
abbrev main_cst : Ref sig .tc := ⟨.hbm, 39, rfl⟩
abbrev main_v11 : Ref sig .tc := ⟨.hbm, 40, rfl⟩
abbrev main_v12 : Ref sig .tc := ⟨.hbm, 41, rfl⟩
abbrev main_v13 : Ref sig .tc := ⟨.hbm, 42, rfl⟩
abbrev main_v14 : Ref sig .tc := ⟨.hbm, 43, rfl⟩
abbrev main_v15 : Ref sig .tc := ⟨.hbm, 44, rfl⟩
abbrev main_v16 : Ref sig .tc := ⟨.hbm, 45, rfl⟩
abbrev main_v17 : Ref sig .tc := ⟨.hbm, 46, rfl⟩
abbrev main_v18 : Ref sig .tc := ⟨.hbm, 47, rfl⟩
abbrev main_v19 : Ref sig .tc := ⟨.hbm, 48, rfl⟩
abbrev main_v20 : Ref sig .tc := ⟨.hbm, 49, rfl⟩
abbrev main_v21 : Ref sig .tc := ⟨.hbm, 50, rfl⟩
abbrev main_v22 : Ref sig .tc := ⟨.hbm, 51, rfl⟩
abbrev main_v23 : Ref sig .tc := ⟨.hbm, 52, rfl⟩
abbrev main_v24 : Ref sig .tc := ⟨.hbm, 53, rfl⟩
abbrev main_v25 : Ref sig .tc := ⟨.hbm, 54, rfl⟩
abbrev main_v26 : Ref sig .tc := ⟨.hbm, 55, rfl⟩
abbrev main_cst_0 : Ref sig .tc := ⟨.hbm, 56, rfl⟩
abbrev main_call2_v0 : Ref sig .tc := ⟨.hbm, 57, rfl⟩
abbrev main_call2_v1 : Ref sig .tc := ⟨.hbm, 58, rfl⟩
abbrev main_call2_v2 : Ref sig .tc := ⟨.hbm, 59, rfl⟩
abbrev main_v27 : Ref sig .tc := ⟨.hbm, 60, rfl⟩
abbrev main_cst_1 : Ref sig .tc := ⟨.hbm, 61, rfl⟩
abbrev main_v28 : Ref sig .tc := ⟨.hbm, 62, rfl⟩
abbrev main_cst_2 : Ref sig .tc := ⟨.hbm, 63, rfl⟩
abbrev main_v29 : Ref sig .tc := ⟨.hbm, 64, rfl⟩
abbrev main_v30 : Ref sig .tc := ⟨.hbm, 65, rfl⟩
abbrev main_v31 : Ref sig .tc := ⟨.hbm, 66, rfl⟩
abbrev main_v32 : Ref sig .tc := ⟨.hbm, 67, rfl⟩
abbrev main_v33 : Ref sig .tc := ⟨.hbm, 68, rfl⟩
abbrev main_v34 : Ref sig .tc := ⟨.hbm, 69, rfl⟩
abbrev main_cst_3 : Ref sig .tc := ⟨.hbm, 70, rfl⟩
abbrev main_v35 : Ref sig .tc := ⟨.hbm, 71, rfl⟩
abbrev main_v36 : Ref sig .tc := ⟨.hbm, 72, rfl⟩
abbrev main_v37 : Ref sig .tc := ⟨.hbm, 73, rfl⟩
abbrev main_v38 : Ref sig .tc := ⟨.hbm, 74, rfl⟩
abbrev main_v39 : Ref sig .tc := ⟨.hbm, 75, rfl⟩
abbrev main_v40 : Ref sig .tc := ⟨.hbm, 76, rfl⟩
abbrev main_v41 : Ref sig .tc := ⟨.hbm, 77, rfl⟩
abbrev main_v42 : Ref sig .tc := ⟨.hbm, 78, rfl⟩
abbrev main_v43 : Ref sig .tc := ⟨.hbm, 79, rfl⟩
abbrev main_v44 : Ref sig .tc := ⟨.hbm, 80, rfl⟩
abbrev main_v45 : Ref sig .tc := ⟨.hbm, 81, rfl⟩
abbrev main_v46 : Ref sig .tc := ⟨.hbm, 82, rfl⟩
abbrev main_v47 : Ref sig .tc := ⟨.hbm, 83, rfl⟩

abbrev nD : Nat := 1
abbrev τ : Topo := Topo.v7x

variable {F : FTy → Type} [FloatOps F]
-- ==== Kernel2.lean ====
abbrev S16384x2048 : Shape := ⟨2, ![16384, 2048]⟩
abbrev S1x2048 : Shape := ⟨2, ![1, 2048]⟩
abbrev S2048x8192 : Shape := ⟨2, ![2048, 8192]⟩
abbrev S8192x2048 : Shape := ⟨2, ![8192, 2048]⟩
abbrev S1024x2048 : Shape := ⟨2, ![1024, 2048]⟩
abbrev S2048x1024 : Shape := ⟨2, ![2048, 1024]⟩
abbrev S16x2048 : Shape := ⟨2, ![16, 2048]⟩
abbrev S16 : Shape := ⟨1, ![16]⟩
abbrev S16x1 : Shape := ⟨2, ![16, 1]⟩
abbrev S1024x1024 : Shape := ⟨2, ![1024, 1024]⟩
abbrev S256x2048 : Shape := ⟨2, ![256, 2048]⟩
abbrev S256x1024 : Shape := ⟨2, ![256, 1024]⟩

abbrev nBuf : Space → Nat
  | .hbm => 8
  | .vmem => 11
  | .smem => 0
  | _ => 0

abbrev bufTy : (tb : Table) → Fin (tcTables nBuf tb) → BufTy
  | .hbm, ⟨0, _⟩ => ⟨S16384x2048, .f32⟩
  | .hbm, ⟨1, _⟩ => ⟨S1x2048, .f32⟩
  | .hbm, ⟨2, _⟩ => ⟨S2048x8192, .f32⟩
  | .hbm, ⟨3, _⟩ => ⟨S8192x2048, .f32⟩
  | .hbm, ⟨4, _⟩ => ⟨S1x2048, .f32⟩
  | .hbm, ⟨5, _⟩ => ⟨S2048x8192, .bf16⟩
  | .hbm, ⟨6, _⟩ => ⟨S8192x2048, .bf16⟩
  | .hbm, ⟨7, _⟩ => ⟨S16384x2048, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x1024, .bf16⟩
  | .local _ .vmem, ⟨4, _⟩ => ⟨S2048x1024, .bf16⟩
  | .local _ .vmem, ⟨5, _⟩ => ⟨S1024x2048, .bf16⟩
  | .local _ .vmem, ⟨6, _⟩ => ⟨S1024x2048, .bf16⟩
  | .local _ .vmem, ⟨7, _⟩ => ⟨S1x2048, .f32⟩
  | .local _ .vmem, ⟨8, _⟩ => ⟨S1024x2048, .f32⟩
  | .local _ .vmem, ⟨9, _⟩ => ⟨S1024x2048, .f32⟩
  | .local _ .vmem, ⟨10, _⟩ => ⟨S1024x2048, .bf16⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![16, 8], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg1 : BitVec 32 := BitVec.ofNat 32 (i 1).val
  let c0_i32_1 : BitVec 32 := 0#32
  let v3 : BitVec 1 := Scalar.cmpi .sgt arg1 c0_i32_1
  let c7_i32 : BitVec 32 := 7#32
  let v4 : BitVec 1 := Scalar.cmpi .slt arg1 c7_i32
  let v5 : BitVec 1 := Scalar.andi v3 v4
  let v6 : BitVec 32 := Scalar.extui v5
  let c0_i32_2 : BitVec 32 := 0#32
  let v7 : BitVec 1 := Scalar.cmpi .ne v6 c0_i32_2
  v7

def k0_cond3 (i : grid0.Coords) : BitVec 1 :=
  let arg1 : BitVec 32 := BitVec.ofNat 32 (i 1).val
  let c7_i32_3 : BitVec 32 := 7#32
  let v8 : BitVec 1 := Scalar.cmpi .eq arg1 c7_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1024x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== Reference2Ideal.lean ====
abbrev S16384x2048 : Shape := ⟨2, ![16384, 2048]⟩
abbrev S1x2048 : Shape := ⟨2, ![1, 2048]⟩
abbrev S2048x8192 : Shape := ⟨2, ![2048, 8192]⟩
abbrev S8192x2048 : Shape := ⟨2, ![8192, 2048]⟩
abbrev S_ : Shape := ⟨0, ![]⟩
abbrev S16384 : Shape := ⟨1, ![16384]⟩
abbrev S16384x1 : Shape := ⟨2, ![16384, 1]⟩
abbrev S16384x8192 : Shape := ⟨2, ![16384, 8192]⟩

abbrev nBuf : Space → Nat
  | .hbm => 42
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S1x2048, .f32⟩
  | .hbm, ⟨2, _⟩ => ⟨S2048x8192, .f32⟩
  | .hbm, ⟨3, _⟩ => ⟨S8192x2048, .f32⟩
  | .hbm, ⟨4, _⟩ => ⟨S1x2048, .f32⟩
  | .hbm, ⟨5, _⟩ => ⟨S16384x2048, .f32⟩
  | .hbm, ⟨6, _⟩ => ⟨S_, .f32⟩
  | .hbm, ⟨7, _⟩ => ⟨S16384, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S16384x1, .f32⟩
  | .hbm, ⟨16, _⟩ => ⟨S16384x2048, .f32⟩
  | .hbm, ⟨17, _⟩ => ⟨S16384x2048, .f32⟩
  | .hbm, ⟨18, _⟩ => ⟨S16384x2048, .f32⟩
  | .hbm, ⟨19, _⟩ => ⟨S16384x2048, .f32⟩
  | .hbm, ⟨20, _⟩ => ⟨S16384x8192, .f32⟩
  | .hbm, ⟨21, _⟩ => ⟨S_, .f32⟩
  | .hbm, ⟨22, _⟩ => ⟨S16384x8192, .f32⟩
  | .hbm, ⟨23, _⟩ => ⟨S16384x8192, .f32⟩
  | .hbm, ⟨24, _⟩ => ⟨S16384x8192, .f32⟩
  | .hbm, ⟨25, _⟩ => ⟨S16384x2048, .f32⟩
  | .hbm, ⟨26, _⟩ => ⟨S16384x2048, .f32⟩
  | .hbm, ⟨27, _⟩ => ⟨S16384x2048, .f32⟩
  | .hbm, ⟨28, _⟩ => ⟨S_, .f32⟩
  | .hbm, ⟨29, _⟩ => ⟨S16384, .f32⟩
  | .hbm, ⟨30, _⟩ => ⟨S16384x1, .f32⟩
  | .hbm, ⟨31, _⟩ => ⟨S_, .f32⟩
  | .hbm, ⟨32, _⟩ => ⟨S16384x1, .f32⟩
  | .hbm, ⟨33, _⟩ => ⟨S16384x1, .f32⟩
  | .hbm, ⟨34, _⟩ => ⟨S_, .f32⟩
  | .hbm, ⟨35, _⟩ => ⟨S16384x1, .f32⟩
  | .hbm, ⟨36, _⟩ => ⟨S16384x1, .f32⟩
  | .hbm, ⟨37, _⟩ => ⟨S16384x1, .f32⟩
  | .hbm, ⟨38, _⟩ => ⟨S16384x2048, .f32⟩
  | .hbm, ⟨39, _⟩ => ⟨S16384x2048, .f32⟩
  | .hbm, ⟨40, _⟩ => ⟨S16384x2048, .f32⟩
  | .hbm, ⟨41, _⟩ => ⟨S16384x2048, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_cst_4 : Ref sig .tc := ⟨.hbm, 31, rfl⟩
abbrev main_v21 : Ref sig .tc := ⟨.hbm, 32, rfl⟩
abbrev main_v22 : Ref sig .tc := ⟨.hbm, 33, rfl⟩
abbrev main_cst_5 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩

abbrev nD : Nat := 1
abbrev τ : Topo := Topo.v7x

variable {F : FTy → Type} [FloatOps F]
-- ==== Proof.DecayRun.lean ====
/- The run of the decay kernel's body at one grid point. -/
module

public import proofs.«01_k».proof.Proof.Gen.KernelIdeal.Launch
public import proofs.«01_k».proof.Proof.Gen.KernelIdeal.Points
public import proofs.«01_k».proof.Proof.Gen.KernelIdeal.Skeleton
public import Idealize.ShloMosaic.Lib.Pipeline.Frame
public import Idealize.ShloMosaic.Lib.Tactic
public import Idealize.ShloMosaic.Lib.Pipeline.FrameBody

@[expose] public section

set_option maxRecDepth 16384

noncomputable section

namespace Cert.KernelIdeal.Decay

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F] [Named F]

local notation "𝕄" => MT nD τ sig Unit (Elt F) ℕ (UR sig nD τ) ℕ

/-- The point is the first of its sequence. -/
abbrev first (i : grid0.Coords) : Prop :=
  Scalar.cmpi .ne (Scalar.extui (Scalar.cmpi .eq (BitVec.ofNat 32 (i 1).val) 0#32) : BitVec 32) 0#32 = 1#1

set_option maxHeartbeats 8000000 in
/-- What the body leaves in its outputs and in the carried row, at the first of a sequence. -/
noncomputable def runA (c : Dev nD) (i : grid0.Coords) (arg2 : Memref sig .tc .vmem S2048x128 .f32) (harg2 : arg2.IsWhole) (arg3 : Memref sig .tc .vmem S1x128 .f32) (harg3 : arg3.IsWhole) (arg4 : Memref sig .tc .vmem S2048x128 .bf16) (harg4 : arg4.IsWhole) (arg5 : Memref sig .tc .vmem S2048x128 .bf16) (harg5 : arg5.IsWhole) (arg6 : Memref sig .tc .vmem S2048x128 .f32) (harg6 : arg6.IsWhole) (arg7 : Memref sig .tc .vmem S1x128 .f32) (harg7 : arg7.IsWhole)
    (x0 : Vec F S2048x128 .f32) (x1 : Vec F S1x128 .f32) (hc : first i) :
    Σ' (L4 : List (View.Piece (Elt F) S2048x128 .bf16)) (L5 : List (View.Piece (Elt F) S2048x128 .bf16)), { L7 : List (View.Piece (Elt F) S1x128 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d)
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L4) ∗ (∃ f, arg5.view.loc (c : Thread nD τ) ↦[arg5.view.set]{fullShare} arg5.view.writes (Elt F) f L5) ∗ (∃ d, owns (c : Thread nD τ) arg6 fullShare d) ∗ (∃ f, arg7.view.loc (c : Thread nD τ) ↦[arg7.view.set]{fullShare} arg7.view.writes (Elt F) f L7)) -∗ K ⟨⟩))
          ⊢ wp frame (wpE (defs₀ (F := F)) Variants.none c none) E (cc0_decay i arg2 harg2 arg3 harg3 arg4 harg4 arg5 harg5 arg6 harg6 arg7 harg7) K } := by
  refine ⟨?_, ?_, ?_, fun E K => ?run⟩
  case run =>
    simp only [cc0_decay_eq_skeleton]; unfold cc0_decay_skel
    simp only [k0_part1_eq_skeleton, k0_part2_eq_skeleton, k0_part3_eq_skeleton, k0_part4_eq_skeleton, k0_part5_eq_skeleton, k0_part6_eq_skeleton, k0_part7_eq_skeleton]
    unfold owns
    iintro ⟨⟨%f0, %hf0, H0⟩, ⟨%f1, %hf1, H1⟩, ⟨%d4, %f4, -, H4⟩, ⟨%d5, %f5, -, H5⟩, ⟨%d6, %f6, -, H6⟩, ⟨%d7, %f7, -, H7⟩, Hk⟩
    obtain rfl := harg2.eq_unread hf0; obtain rfl := harg3.eq_unread hf1
    sl_exec (disch := sl_exact hc)
    sl_step
    iapply Hk
    isplitl [H0]
    · iexists _; isplitr; · ipureintro; exact harg2.read_unread _
      iexact H0
    isplitl [H1]
    · iexists _; isplitr; · ipureintro; exact harg3.read_unread _
      iexact H1
    isplitl [H4]; · iexists _; iexact H4
    isplitl [H5]; · iexists _; iexact H5
    isplitl [H6]
    · iexists _, _; isplitr; swap; · iexact H6
      ipureintro; rfl
    iexists _; iexact H7

set_option maxHeartbeats 8000000 in
/-- What the body leaves in its outputs and in the carried row, at a later step. -/
noncomputable def runB (c : Dev nD) (i : grid0.Coords) (arg2 : Memref sig .tc .vmem S2048x128 .f32) (harg2 : arg2.IsWhole) (arg3 : Memref sig .tc .vmem S1x128 .f32) (harg3 : arg3.IsWhole) (arg4 : Memref sig .tc .vmem S2048x128 .bf16) (harg4 : arg4.IsWhole) (arg5 : Memref sig .tc .vmem S2048x128 .bf16) (harg5 : arg5.IsWhole) (arg6 : Memref sig .tc .vmem S2048x128 .f32) (harg6 : arg6.IsWhole) (arg7 : Memref sig .tc .vmem S1x128 .f32) (harg7 : arg7.IsWhole)
    (x0 : Vec F S2048x128 .f32) (x1 : Vec F S1x128 .f32) (xs : Vec F S1x128 .f32) (hc : ¬ first i) :
    Σ' (L4 : List (View.Piece (Elt F) S2048x128 .bf16)) (L5 : List (View.Piece (Elt F) S2048x128 .bf16)), { L7 : List (View.Piece (Elt F) S1x128 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ (∃ d, owns (c : Thread nD τ) arg5 fullShare d) ∗ (∃ d, owns (c : Thread nD τ) arg6 fullShare d) ∗ owns (c : Thread nD τ) arg7 fullShare xs
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L4) ∗ (∃ f, arg5.view.loc (c : Thread nD τ) ↦[arg5.view.set]{fullShare} arg5.view.writes (Elt F) f L5) ∗ (∃ d, owns (c : Thread nD τ) arg6 fullShare d) ∗ (∃ f, arg7.view.loc (c : Thread nD τ) ↦[arg7.view.set]{fullShare} arg7.view.writes (Elt F) f L7)) -∗ K ⟨⟩))
          ⊢ wp frame (wpE (defs₀ (F := F)) Variants.none c none) E (cc0_decay i arg2 harg2 arg3 harg3 arg4 harg4 arg5 harg5 arg6 harg6 arg7 harg7) K } := by
  refine ⟨?_, ?_, ?_, fun E K => ?run⟩
  case run =>
    simp only [cc0_decay_eq_skeleton]; unfold cc0_decay_skel
    simp only [k0_part1_eq_skeleton, k0_part2_eq_skeleton, k0_part3_eq_skeleton, k0_part4_eq_skeleton, k0_part5_eq_skeleton, k0_part6_eq_skeleton, k0_part7_eq_skeleton]
    unfold owns
    iintro ⟨⟨%f0, %hf0, H0⟩, ⟨%f1, %hf1, H1⟩, ⟨%d4, %f4, -, H4⟩, ⟨%d5, %f5, -, H5⟩, ⟨%d6, %f6, -, H6⟩, ⟨%f7, %hf7, H7⟩, Hk⟩
    obtain rfl := harg2.eq_unread hf0; obtain rfl := harg3.eq_unread hf1; obtain rfl := harg7.eq_unread hf7
    sl_exec (disch := sl_exact hc)
    sl_step
    iapply Hk
    isplitl [H0]
    · iexists _; isplitr; · ipureintro; exact harg2.read_unread _
      iexact H0
    isplitl [H1]
    · iexists _; isplitr; · ipureintro; exact harg3.read_unread _
      iexact H1
    isplitl [H4]; · iexists _; iexact H4
    isplitl [H5]; · iexists _; iexact H5
    isplitl [H6]
    · iexists _, _; isplitr; swap; · iexact H6
      ipureintro; rfl
    iexists _; iexact H7

end Cert.KernelIdeal.Decay

end
-- ==== Proof.DecayVal.lean ====
/- What the decay kernel's body leaves, in the running sums. -/
module

public import proofs.«01_k».proof.Proof.DecayRun
public import Idealize.ShloMosaic.Lib.Pipeline.ReadBack
public import Idealize.ShloMosaic.Lib.Pipeline.ValueKit.Tiles
public import Idealize.ShloMosaic.Lib.Pipeline.Value

@[expose] public section

set_option maxRecDepth 16384

noncomputable section

namespace Cert.KernelIdeal.Decay

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F] [Named F]

local notation "𝕄" => MT nD τ sig Unit (Elt F) ℕ (UR sig nD τ) ℕ

/-- Block `k` of 256 rows lies in the window. -/
theorem blk_inb (k : ℕ) : ∀ a, (![256 * (k % 8), 0] : Fin 2 → ℕ) a + S256x128.size a ≤ S2048x128.size a := by
  intro a; have := Nat.mod_lt k (show 0 < 8 by omega); fin_cases a <;> simp [S256x128, S2048x128] <;> omega

/-- Block `k` of 256 rows of a window. -/
def blk (x : Vec F S2048x128 .f32) (k : ℕ) : Vec F S256x128 .f32 :=
  View.ld x (Rect.unit (s := S2048x128) ![256 * (k % 8), 0] S256x128.size (blk_inb k))

/-- The log of the sigmoid of the logits of 256 rows. -/
def logf (x : Vec F S256x128 .f32) (b : Vec F S1x128 .f32) : FVec F S256x128 .f32 :=
  have y := addf (shapeCast S256x128 x shapeCasts_S256x128_S256x128) (broadcastTo S256x128 (shapeCast S1x128 b shapeCasts_S1x128_S1x128) broadcasts_S1x128_S256x128)
  subf (minimumf y (broadcast S256x128 (Scalar.ofBits .f32 0x00000000#32)))
    (log1p (exp (subf (broadcast S256x128 (Scalar.ofBits .f32 0x00000000#32)) (absf y))))

/-- The lower triangle of ones. -/
def tri : FVec F S256x256 .bf16 :=
  truncf .bf16 (sitofp .f32 (extui 32 (cmpi .sle (iota .tc S256x256 32 [1] iota_S256x256_d1_w32) (iota .tc S256x256 32 [0] iota_S256x256_d0_w32)) natLt_1_32)) bitsLt_bf16_f32

/-- The running sums down 256 rows of `l`, from `carry` on, `l` in three pieces. -/
def cum (l : FVec F S256x128 .f32) (carry : Vec F S1x128 .f32) : FVec F S256x128 .f32 :=
  have hi := truncf .bf16 l bitsLt_bf16_f32
  have r1 := subf l (extf .f32 hi bitsLt_bf16_f32)
  have mid := truncf .bf16 r1 bitsLt_bf16_f32
  have lo := truncf .bf16 (subf r1 (extf .f32 mid bitsLt_bf16_f32)) bitsLt_bf16_f32
  addf (addf (addf (matmul dot_S256x256_S256x128_S256x128_1_0_0_1_n_n none tri hi (constant S256x128 .f32 0x00000000#32))
      (matmul dot_S256x256_S256x128_S256x128_1_0_0_1_n_n none tri mid (constant S256x128 .f32 0x00000000#32)))
      (matmul dot_S256x256_S256x128_S256x128_1_0_0_1_n_n none tri lo (constant S256x128 .f32 0x00000000#32)))
    (broadcastTo S256x128 carry broadcasts_S1x128_S256x128)

/-- The last row of 256. -/
def lastRow (x : FVec F S256x128 .f32) : FVec F S1x128 .f32 :=
  extractStridedSlice S1x128 ![255, 0] x slices_S256x128_o255_0_S1x128

/-- The running sums of block `r`. -/
def chain (y : ℕ → Vec F S256x128 .f32) (b : Vec F S1x128 .f32) (c0 : Vec F S1x128 .f32) : ℕ → FVec F S256x128 .f32
  | 0 => cum (logf (y 0) b) c0
  | r + 1 => cum (logf (y (r + 1)) b) (lastRow (chain y b c0 r))

/-- The row and lane of block `j 0 / 256`. -/
def inBlk (j : S2048x128.Idx) : S256x128.Idx :=
  fun a => ⟨(![(j 0).val % 256, (j 1).val] : Fin 2 → ℕ) a, by
    have h1 : (j 1).val < 128 := (j 1).isLt
    have h0 := Nat.mod_lt (j 0).val (show 0 < 256 by decide)
    revert a; exact Fin.forall_fin_two.mpr ⟨h0, h1⟩⟩

/-- The running sums of all 2048 rows. -/
def sums (x0 : Vec F S2048x128 .f32) (b : Vec F S1x128 .f32) (c0 : Vec F S1x128 .f32) : Vec F S2048x128 .f32 :=
  fun j => chain (blk x0) b c0 ((j 0).val / 256) (inBlk j)

/-- The carried row at the start of a sequence. -/
def zeroRow : Vec F S1x128 .f32 := broadcast S1x128 (Scalar.ofBits .f32 0x00000000#32)

/-- The row carried to the next step. -/
def carryOut (x0 : Vec F S2048x128 .f32) (b : Vec F S1x128 .f32) (c0 : Vec F S1x128 .f32) : Vec F S1x128 .f32 :=
  lastRow (chain (blk x0) b c0 7)

/-- The queries' decay lanes from the running sums. -/
def qaOf (f : Vec F S2048x128 .f32) : Vec F S2048x128 .bf16 := k0_pay2 k0_pay42 k0_pay43 (k0_pay44 f) k0_pay45 k0_pay46 k0_pay47

/-- The keys' decay lanes from the running sums. -/
def kaOf (f : Vec F S2048x128 .f32) : Vec F S2048x128 .bf16 := k0_pay3 k0_pay42 k0_pay43 (k0_pay44 f) k0_pay45 k0_pay46 k0_pay47

/-- A load of the row window. -/
theorem row_read {m : Memref sig .tc .vmem S1x128 .f32} (hm : m.IsWhole) (x : Vec F S1x128 .f32) (h) :
    View.readAt (Elt F) m.view (Rect.unit (s := S1x128) ![0, 0] S1x128.size h).toLoadRect (hm.unread x) = x := by
  rw [View.readAt_eq_ld, hm.read_unread]
  exact View.ld_unit_zero (S := S1x128) (by decide) h x

/-- A load of 256 rows. -/
theorem blk_read {m : Memref sig .tc .vmem S2048x128 .f32} (hm : m.IsWhole) (x : Vec F S2048x128 .f32) (k : ℕ) :
    View.readAt (Elt F) m.view (Rect.unit (s := S2048x128) ![256 * (k % 8), 0] S256x128.size (blk_inb k)).toLoadRect (hm.unread x) = blk x k := by
  rw [View.readAt_eq_ld, hm.read_unread]; rfl

/-- The eight stored blocks of a chain of sums. -/
def blocks (y : ℕ → Vec F S256x128 .f32) (b c0 : Vec F S1x128 .f32) : List (View.Piece (Elt F) S2048x128 .f32) :=
  [⟨Rect.unit (s := S2048x128) ![1792, 0] S256x128.size inb_S2048x128_S256x128_1792_0, shapeCast S256x128 (chain y b c0 7) shapeCasts_S256x128_S256x128⟩, ⟨Rect.unit (s := S2048x128) ![1536, 0] S256x128.size inb_S2048x128_S256x128_1536_0, shapeCast S256x128 (chain y b c0 6) shapeCasts_S256x128_S256x128⟩, ⟨Rect.unit (s := S2048x128) ![1280, 0] S256x128.size inb_S2048x128_S256x128_1280_0, shapeCast S256x128 (chain y b c0 5) shapeCasts_S256x128_S256x128⟩, ⟨Rect.unit (s := S2048x128) ![1024, 0] S256x128.size inb_S2048x128_S256x128_1024_0, shapeCast S256x128 (chain y b c0 4) shapeCasts_S256x128_S256x128⟩, ⟨Rect.unit (s := S2048x128) ![768, 0] S256x128.size inb_S2048x128_S256x128_768_0, shapeCast S256x128 (chain y b c0 3) shapeCasts_S256x128_S256x128⟩, ⟨Rect.unit (s := S2048x128) ![512, 0] S256x128.size inb_S2048x128_S256x128_512_0, shapeCast S256x128 (chain y b c0 2) shapeCasts_S256x128_S256x128⟩, ⟨Rect.unit (s := S2048x128) ![256, 0] S256x128.size inb_S2048x128_S256x128_256_0, shapeCast S256x128 (chain y b c0 1) shapeCasts_S256x128_S256x128⟩, ⟨Rect.unit (s := S2048x128) ![0, 0] S256x128.size inb_S2048x128_S256x128_0_0, shapeCast S256x128 (chain y b c0 0) shapeCasts_S256x128_S256x128⟩]

theorem piece_eq (x0 : Vec F S2048x128 .f32) (b c0 : Vec F S1x128 .f32) (k : ℕ) (x : S256x128.Idx) :
    shapeCast S256x128 (chain (blk x0) b c0 (k % 8)) shapeCasts_S256x128_S256x128 x = sums x0 b c0 ((Rect.unit (s := S2048x128) ![256 * (k % 8), 0] S256x128.size (blk_inb k)).emb x) := by
  have h0 : (x 0).val < 256 := (x 0).isLt
  rw [shapeCast_self]
  have e0 : (((Rect.unit (s := S2048x128) ![256 * (k % 8), 0] S256x128.size (blk_inb k)).emb x) 0).val = 256 * (k % 8) + (x 0).val := Rect.idx_unit_val (s := S2048x128) ![256 * (k % 8), 0] S256x128.size (blk_inb k) x 0
  have e1 : (((Rect.unit (s := S2048x128) ![256 * (k % 8), 0] S256x128.size (blk_inb k)).emb x) 1).val = (x 1).val := (Rect.idx_unit_val (s := S2048x128) ![256 * (k % 8), 0] S256x128.size (blk_inb k) x 1).trans (Nat.zero_add _)
  unfold sums
  have hd : (256 * (k % 8) + (x 0).val) / 256 = k % 8 := by omega
  rw [e0, hd]
  refine congrArg _ (funext (Fin.forall_fin_two.mpr ⟨Fin.ext ?_, Fin.ext ?_⟩))
  · show (x 0).val = (((Rect.unit (s := S2048x128) ![256 * (k % 8), 0] S256x128.size (blk_inb k)).emb x) 0).val % 256
    rw [e0]; omega
  · exact e1.symm

theorem blocks_canon (x0 : Vec F S2048x128 .f32) (b c0 : Vec F S1x128 .f32) : View.canon (blocks (blk x0) b c0) = sums x0 b c0 := by
  funext j
  have hj : (j 0).val < 2048 := (j 0).isLt
  have h := View.canon_append_of_piecesOf (sums x0 b c0) [] (blocks (blk x0) b c0) (by
    refine ⟨fun x => piece_eq x0 b c0 7 x, fun x => piece_eq x0 b c0 6 x, fun x => piece_eq x0 b c0 5 x, fun x => piece_eq x0 b c0 4 x, fun x => piece_eq x0 b c0 3 x, fun x => piece_eq x0 b c0 2 x, fun x => piece_eq x0 b c0 1 x, fun x => piece_eq x0 b c0 0 x, trivial⟩) j (by
    have : ∀ k, k < 8 → (j 0).val / 256 = k → j ∈ (Rect.unit (s := S2048x128) ![256 * (k % 8), 0] S256x128.size (blk_inb k)).set := by
      intro k hk hjk
      have h1 : (j 1).val < 128 := (j 1).isLt
      refine Rect.mem_set_unit.mpr (Fin.forall_fin_two.mpr ⟨⟨?_, ?_⟩, ⟨?_, ?_⟩⟩)
      · show 256 * (k % 8) ≤ (j 0).val; omega
      · show (j 0).val < 256 * (k % 8) + 256; omega
      · exact Nat.zero_le _
      · show (j 1).val < 0 + 128; omega
    have h8 : (j 0).val / 256 < 8 := by omega
    generalize hq : (j 0).val / 256 = q at *
    interval_cases q
    · exact ⟨_, List.mem_of_getElem? (i := 7) rfl, this 0 (by decide) rfl⟩
    · exact ⟨_, List.mem_of_getElem? (i := 6) rfl, this 1 (by decide) rfl⟩
    · exact ⟨_, List.mem_of_getElem? (i := 5) rfl, this 2 (by decide) rfl⟩
    · exact ⟨_, List.mem_of_getElem? (i := 4) rfl, this 3 (by decide) rfl⟩
    · exact ⟨_, List.mem_of_getElem? (i := 3) rfl, this 4 (by decide) rfl⟩
    · exact ⟨_, List.mem_of_getElem? (i := 2) rfl, this 5 (by decide) rfl⟩
    · exact ⟨_, List.mem_of_getElem? (i := 1) rfl, this 6 (by decide) rfl⟩
    · exact ⟨_, List.mem_of_getElem? (i := 0) rfl, this 7 (by decide) rfl⟩)
  rwa [List.append_nil] at h

theorem runA_v9 (c : Dev nD) (arg7 : Memref sig .tc .vmem S1x128 .f32) : runA.sl.v9 (F := F) c arg7 = zeroRow := by
  rw [runA.sl.v9, runA.sl.H7_1, View.readCov_cons_toLoadRect, k0_pay4]; exact shapeCast_self _ _

theorem runA_H6 (c : Dev nD) (i : grid0.Coords) (arg2 : Memref sig .tc .vmem S2048x128 .f32) (harg2 : arg2.IsWhole) (arg3 : Memref sig .tc .vmem S1x128 .f32) (harg3 : arg3.IsWhole) (arg4 : Memref sig .tc .vmem S2048x128 .bf16) (harg4 : arg4.IsWhole) (arg5 : Memref sig .tc .vmem S2048x128 .bf16) (harg5 : arg5.IsWhole) (arg6 : Memref sig .tc .vmem S2048x128 .f32) (harg6 : arg6.IsWhole) (arg7 : Memref sig .tc .vmem S1x128 .f32) (harg7 : arg7.IsWhole) (x0 : Vec F S2048x128 .f32) (x1 : Vec F S1x128 .f32) : runA.sl.H6_8 (F := F) c arg2 harg2 arg3 harg3 arg7 x0 x1 = blocks (blk x0) x1 zeroRow := by
  have h : runA.sl.H6_8 (F := F) c arg2 harg2 arg3 harg3 arg7 x0 x1 = blocks (fun k => View.readAt (Elt F) arg2.view (Rect.unit (s := S2048x128) ![256 * (k % 8), 0] S256x128.size (blk_inb k)).toLoadRect (harg2.unread x0)) (View.readAt (Elt F) arg3.view (Rect.unit (s := S1x128) ![0, 0] S1x128.size inb_S1x128_S1x128_0_0).toLoadRect (harg3.unread x1)) (runA.sl.v9 (F := F) c arg7) := rfl
  rw [h, runA_v9 c arg7, row_read harg3 x1]
  congr 1
  funext k; exact blk_read harg2 x0 k

theorem runA_v269 (c : Dev nD) (i : grid0.Coords) (arg2 : Memref sig .tc .vmem S2048x128 .f32) (harg2 : arg2.IsWhole) (arg3 : Memref sig .tc .vmem S1x128 .f32) (harg3 : arg3.IsWhole) (arg4 : Memref sig .tc .vmem S2048x128 .bf16) (harg4 : arg4.IsWhole) (arg5 : Memref sig .tc .vmem S2048x128 .bf16) (harg5 : arg5.IsWhole) (arg6 : Memref sig .tc .vmem S2048x128 .f32) (harg6 : arg6.IsWhole) (arg7 : Memref sig .tc .vmem S1x128 .f32) (harg7 : arg7.IsWhole) (x0 : Vec F S2048x128 .f32) (x1 : Vec F S1x128 .f32) : runA.sl.v269 (F := F) c arg2 harg2 arg3 harg3 arg6 arg7 x0 x1 = sums x0 x1 zeroRow := by
  rw [runA.sl.v269, runA_H6 c i arg2 harg2 arg3 harg3 arg4 harg4 arg5 harg5 arg6 harg6 arg7 harg7 x0 x1, View.readCov_eq_canon', blocks_canon]
  exact View.ld_unit_zero (S := S2048x128) (by decide) _ _

theorem runA_c7 (c : Dev nD) (i : grid0.Coords) (arg2 : Memref sig .tc .vmem S2048x128 .f32) (harg2 : arg2.IsWhole) (arg3 : Memref sig .tc .vmem S1x128 .f32) (harg3 : arg3.IsWhole) (arg4 : Memref sig .tc .vmem S2048x128 .bf16) (harg4 : arg4.IsWhole) (arg5 : Memref sig .tc .vmem S2048x128 .bf16) (harg5 : arg5.IsWhole) (arg6 : Memref sig .tc .vmem S2048x128 .f32) (harg6 : arg6.IsWhole) (arg7 : Memref sig .tc .vmem S1x128 .f32) (harg7 : arg7.IsWhole) (x0 : Vec F S2048x128 .f32) (x1 : Vec F S1x128 .f32) : k0_pay41 (runA.sl.r_13 (F := F) c arg2 harg2 arg3 harg3 arg7 x0 x1) (runA.sl.r_14 c arg2 harg2 arg3 harg3 x0 x1) = carryOut x0 x1 zeroRow := by
  have h : k0_pay41 (runA.sl.r_13 (F := F) c arg2 harg2 arg3 harg3 arg7 x0 x1) (runA.sl.r_14 c arg2 harg2 arg3 harg3 x0 x1)
    = shapeCast S1x128 (lastRow (chain (fun k => View.readAt (Elt F) arg2.view (Rect.unit (s := S2048x128) ![256 * (k % 8), 0] S256x128.size (blk_inb k)).toLoadRect (harg2.unread x0)) (View.readAt (Elt F) arg3.view (Rect.unit (s := S1x128) ![0, 0] S1x128.size inb_S1x128_S1x128_0_0).toLoadRect (harg3.unread x1)) (runA.sl.v9 (F := F) c arg7) 7)) shapeCasts_S1x128_S1x128 := rfl
  rw [h, runA_v9 c arg7, row_read harg3 x1, shapeCast_self]
  congr 3
  funext k; exact blk_read harg2 x0 k

theorem runA_L (c : Dev nD) (i : grid0.Coords) (arg2 : Memref sig .tc .vmem S2048x128 .f32) (harg2 : arg2.IsWhole) (arg3 : Memref sig .tc .vmem S1x128 .f32) (harg3 : arg3.IsWhole) (arg4 : Memref sig .tc .vmem S2048x128 .bf16) (harg4 : arg4.IsWhole) (arg5 : Memref sig .tc .vmem S2048x128 .bf16) (harg5 : arg5.IsWhole) (arg6 : Memref sig .tc .vmem S2048x128 .f32) (harg6 : arg6.IsWhole) (arg7 : Memref sig .tc .vmem S1x128 .f32) (harg7 : arg7.IsWhole) (x0 : Vec F S2048x128 .f32) (x1 : Vec F S1x128 .f32) (hc : first i) : View.canon (runA c i arg2 harg2 arg3 harg3 arg4 harg4 arg5 harg5 arg6 harg6 arg7 harg7 x0 x1 hc).1 = qaOf (sums x0 x1 zeroRow)
    ∧ View.canon (runA c i arg2 harg2 arg3 harg3 arg4 harg4 arg5 harg5 arg6 harg6 arg7 harg7 x0 x1 hc).2.1 = kaOf (sums x0 x1 zeroRow) ∧ View.canon (runA c i arg2 harg2 arg3 harg3 arg4 harg4 arg5 harg5 arg6 harg6 arg7 harg7 x0 x1 hc).2.2.1 = carryOut x0 x1 zeroRow := by
  refine ⟨?_, ?_, ?_⟩
  · rw [← runA_v269 c i arg2 harg2 arg3 harg3 arg4 harg4 arg5 harg5 arg6 harg6 arg7 harg7 x0 x1]; exact View.canon_cons_unit_lit (S := S2048x128) _ _ _ (by decide)
  · rw [← runA_v269 c i arg2 harg2 arg3 harg3 arg4 harg4 arg5 harg5 arg6 harg6 arg7 harg7 x0 x1]; exact View.canon_cons_unit_lit (S := S2048x128) _ _ _ (by decide)
  · rw [← runA_c7 c i arg2 harg2 arg3 harg3 arg4 harg4 arg5 harg5 arg6 harg6 arg7 harg7 x0 x1]; exact View.canon_cons_unit_lit (S := S1x128) _ _ _ (by decide)

theorem runB_H6 (c : Dev nD) (i : grid0.Coords) (arg2 : Memref sig .tc .vmem S2048x128 .f32) (harg2 : arg2.IsWhole) (arg3 : Memref sig .tc .vmem S1x128 .f32) (harg3 : arg3.IsWhole) (arg4 : Memref sig .tc .vmem S2048x128 .bf16) (harg4 : arg4.IsWhole) (arg5 : Memref sig .tc .vmem S2048x128 .bf16) (harg5 : arg5.IsWhole) (arg6 : Memref sig .tc .vmem S2048x128 .f32) (harg6 : arg6.IsWhole) (arg7 : Memref sig .tc .vmem S1x128 .f32) (harg7 : arg7.IsWhole) (x0 : Vec F S2048x128 .f32) (x1 : Vec F S1x128 .f32) (xs : Vec F S1x128 .f32) : runB.sl.H6_8 (F := F) c arg2 harg2 arg3 harg3 arg7 harg7 x0 x1 xs = blocks (blk x0) x1 xs := by
  have h : runB.sl.H6_8 (F := F) c arg2 harg2 arg3 harg3 arg7 harg7 x0 x1 xs = blocks (fun k => View.readAt (Elt F) arg2.view (Rect.unit (s := S2048x128) ![256 * (k % 8), 0] S256x128.size (blk_inb k)).toLoadRect (harg2.unread x0)) (View.readAt (Elt F) arg3.view (Rect.unit (s := S1x128) ![0, 0] S1x128.size inb_S1x128_S1x128_0_0).toLoadRect (harg3.unread x1)) (View.readAt (Elt F) arg7.view (Rect.unit (s := S1x128) ![0, 0] S1x128.size inb_S1x128_S1x128_0_0).toLoadRect (harg7.unread xs)) := rfl
  rw [h, row_read harg7 xs, row_read harg3 x1]
  congr 1
  funext k; exact blk_read harg2 x0 k

theorem runB_v269 (c : Dev nD) (i : grid0.Coords) (arg2 : Memref sig .tc .vmem S2048x128 .f32) (harg2 : arg2.IsWhole) (arg3 : Memref sig .tc .vmem S1x128 .f32) (harg3 : arg3.IsWhole) (arg4 : Memref sig .tc .vmem S2048x128 .bf16) (harg4 : arg4.IsWhole) (arg5 : Memref sig .tc .vmem S2048x128 .bf16) (harg5 : arg5.IsWhole) (arg6 : Memref sig .tc .vmem S2048x128 .f32) (harg6 : arg6.IsWhole) (arg7 : Memref sig .tc .vmem S1x128 .f32) (harg7 : arg7.IsWhole) (x0 : Vec F S2048x128 .f32) (x1 : Vec F S1x128 .f32) (xs : Vec F S1x128 .f32) : runB.sl.v269 (F := F) c arg2 harg2 arg3 harg3 arg6 arg7 harg7 x0 x1 xs = sums x0 x1 xs := by
  rw [runB.sl.v269, runB_H6 c i arg2 harg2 arg3 harg3 arg4 harg4 arg5 harg5 arg6 harg6 arg7 harg7 x0 x1 xs, View.readCov_eq_canon', blocks_canon]
  exact View.ld_unit_zero (S := S2048x128) (by decide) _ _

theorem runB_c7 (c : Dev nD) (i : grid0.Coords) (arg2 : Memref sig .tc .vmem S2048x128 .f32) (harg2 : arg2.IsWhole) (arg3 : Memref sig .tc .vmem S1x128 .f32) (harg3 : arg3.IsWhole) (arg4 : Memref sig .tc .vmem S2048x128 .bf16) (harg4 : arg4.IsWhole) (arg5 : Memref sig .tc .vmem S2048x128 .bf16) (harg5 : arg5.IsWhole) (arg6 : Memref sig .tc .vmem S2048x128 .f32) (harg6 : arg6.IsWhole) (arg7 : Memref sig .tc .vmem S1x128 .f32) (harg7 : arg7.IsWhole) (x0 : Vec F S2048x128 .f32) (x1 : Vec F S1x128 .f32) (xs : Vec F S1x128 .f32) : k0_pay41 (runB.sl.r_13 (F := F) c arg2 harg2 arg3 harg3 arg7 harg7 x0 x1 xs) (runB.sl.r_14 c arg2 harg2 arg3 harg3 x0 x1) = carryOut x0 x1 xs := by
  have h : k0_pay41 (runB.sl.r_13 (F := F) c arg2 harg2 arg3 harg3 arg7 harg7 x0 x1 xs) (runB.sl.r_14 c arg2 harg2 arg3 harg3 x0 x1)
    = shapeCast S1x128 (lastRow (chain (fun k => View.readAt (Elt F) arg2.view (Rect.unit (s := S2048x128) ![256 * (k % 8), 0] S256x128.size (blk_inb k)).toLoadRect (harg2.unread x0)) (View.readAt (Elt F) arg3.view (Rect.unit (s := S1x128) ![0, 0] S1x128.size inb_S1x128_S1x128_0_0).toLoadRect (harg3.unread x1)) (View.readAt (Elt F) arg7.view (Rect.unit (s := S1x128) ![0, 0] S1x128.size inb_S1x128_S1x128_0_0).toLoadRect (harg7.unread xs)) 7)) shapeCasts_S1x128_S1x128 := rfl
  rw [h, row_read harg7 xs, row_read harg3 x1, shapeCast_self]
  congr 3
  funext k; exact blk_read harg2 x0 k

theorem runB_L (c : Dev nD) (i : grid0.Coords) (arg2 : Memref sig .tc .vmem S2048x128 .f32) (harg2 : arg2.IsWhole) (arg3 : Memref sig .tc .vmem S1x128 .f32) (harg3 : arg3.IsWhole) (arg4 : Memref sig .tc .vmem S2048x128 .bf16) (harg4 : arg4.IsWhole) (arg5 : Memref sig .tc .vmem S2048x128 .bf16) (harg5 : arg5.IsWhole) (arg6 : Memref sig .tc .vmem S2048x128 .f32) (harg6 : arg6.IsWhole) (arg7 : Memref sig .tc .vmem S1x128 .f32) (harg7 : arg7.IsWhole) (x0 : Vec F S2048x128 .f32) (x1 : Vec F S1x128 .f32) (xs : Vec F S1x128 .f32) (hc : ¬ first i) : View.canon (runB c i arg2 harg2 arg3 harg3 arg4 harg4 arg5 harg5 arg6 harg6 arg7 harg7 x0 x1 xs hc).1 = qaOf (sums x0 x1 xs)
    ∧ View.canon (runB c i arg2 harg2 arg3 harg3 arg4 harg4 arg5 harg5 arg6 harg6 arg7 harg7 x0 x1 xs hc).2.1 = kaOf (sums x0 x1 xs) ∧ View.canon (runB c i arg2 harg2 arg3 harg3 arg4 harg4 arg5 harg5 arg6 harg6 arg7 harg7 x0 x1 xs hc).2.2.1 = carryOut x0 x1 xs := by
  refine ⟨?_, ?_, ?_⟩
  · rw [← runB_v269 c i arg2 harg2 arg3 harg3 arg4 harg4 arg5 harg5 arg6 harg6 arg7 harg7 x0 x1 xs]; exact View.canon_cons_unit_lit (S := S2048x128) _ _ _ (by decide)
  · rw [← runB_v269 c i arg2 harg2 arg3 harg3 arg4 harg4 arg5 harg5 arg6 harg6 arg7 harg7 x0 x1 xs]; exact View.canon_cons_unit_lit (S := S2048x128) _ _ _ (by decide)
  · rw [← runB_c7 c i arg2 harg2 arg3 harg3 arg4 harg4 arg5 harg5 arg6 harg6 arg7 harg7 x0 x1 xs]; exact View.canon_cons_unit_lit (S := S1x128) _ _ _ (by decide)

end Cert.KernelIdeal.Decay

end
-- ==== Proof.Region.lean ====
/- A region of the program between two contents of the device's buffers. -/
module

public import proofs.«01_k».proof.Proof.Gen.KernelIdeal.Regions
public import Idealize.ShloMosaic.Lib.Tactic
public import Idealize.ShloMosaic.Lib.Pipeline.Frame
public import Idealize.ShloMosaic.Lib.Pipeline.FrameBody
public import Idealize.ShloMosaic.Lib.Pipeline.RegionsLoop

@[expose] public section

set_option maxRecDepth 16384

noncomputable section

namespace Cert.KernelIdeal.Host

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

/-- Nothing is owed to another core: no level is assigned. -/
abbrev noLevels : GSem nD τ sig → Finset Unit := fun _ => ∅
abbrev level : GSem nD τ sig → Unit → ℕ := fun _ _ => 0

/-- What rides beside the buffers between the regions: the generator register, and that nothing is owed. -/
abbrev beside (c : Dev nD) : sProp 𝕄 := iprop((∃ r, prngReg c r) ∗ ∃ W, owes (c.tc : Thread nD τ) (0 : CellTallies nD τ sig Unit) W)

set_option backward.isDefEq.respectTransparency.types false in
/-- A region entered from the device's buffers at `V` and left with them at `V'`. -/
def regionOf (pdats : (p : Fin 2) → (c : Dev nD) → Dat τ (Elt F) Unit ℕ (UR sig nD τ) ℕ (cfgs p) c) (p : Fin 2)
    (kit : Pipeline.LaunchFacts₀ (nD := nD) (τ := τ) cfgs p) (hbody : ∀ c, Pipeline.BodyObligationLoose (pdats p c) (defs₀ (F := F)) Variants.none () Set.univ)
    (howed : ∀ c t, (pdats p c).owed t = 0) (hrec : ∀ c, (pdats p c).recorded 0 = Set.univ)
    (hq : ∀ c w, ((cfgs p).spec w).isOut = false → (pdats p c).q w = Pipeline.shareOf (cfgs p).spec w)
    (hin : ∀ c, Pipeline.ΦA (cfgs p).spec c ⊢ (pdats p c).Φ 0) (hout : ∀ c, (pdats p c).Φ (Fin.last (cfgs p).N) ⊢ Pipeline.ΦA (cfgs p).spec c)
    (V V' : Dev nD → Valuation τ sig (Elt F))
    (hA : ∀ c w, (pdats p c).A w = V c (Proc.devRef .tc (Pipeline.arrRef (cfgs p).spec w)))
    (hV' : ∀ c w, (pdats p c).arrAt w (cfgs p).N = V' c (Proc.devRef .tc (Pipeline.arrRef (cfgs p).spec w)))
    (hrest : ∀ c (b : Ref sig .tc), (∀ w, b ≠ Pipeline.arrRef (cfgs p).spec w) → V' c (Proc.devRef .tc b) = V c (Proc.devRef .tc b)) :
    Pipeline.RegionSeg (pcfgs (F := F)) adm pdats () defs₀ Variants.none noLevels level p where
  win := kit.win
  block_pos := kit.block_pos
  stage_whole := kit.stage_whole
  K := PEmpty
  osem := fun k => k.elim
  ho := Pipeline.OwnSemFacts.none _
  hbody := hbody
  hwaits := Pipeline.hwaits_of_owed_zero (pcfgs (F := F)) adm pdats () noLevels level p howed
  pre := fun c => iprop(StableHlo.held (c.tc : Thread nD τ) (Pipeline.ucRefs τ sig) (V c) ∗ beside c)
  post := fun c => iprop(StableHlo.held (c.tc : Thread nD τ) (Pipeline.ucRefs τ sig) (V' c) ∗ beside c)
  X := fun c => iprop(∃ r, prngReg c r)
  Y := fun c => iprop(∃ r, prngReg c r)
  Z := fun c => Pipeline.unscopedRest (Ix := Unit) (Name := ℕ) (U := UR sig nD τ) (Lvl := ℕ) (cfgs p).spec c (fun b => V c (Proc.devRef .tc b))
  hentry := fun c => by
    rw [Pipeline.ownSems0_none,
      show StableHlo.held (c.tc : Thread nD τ) (Pipeline.ucRefs τ sig) (V c) = unscopedBufs c (fun b => V c (Proc.devRef .tc b))
        from (Pipeline.unscopedBufs_held (Ix := Unit) (Name := ℕ) (U := UR sig nD τ) (Lvl := ℕ) c (V c)).symm]
    have hsplit := Pipeline.arrays_of_unscopedBufs_shared (p := p) (pcfgs (F := F)) adm pdats kit.win kit.sharedIn kit.arr_whole c (hq c)
      (fun b => V c (Proc.devRef .tc b)) (fun w => hA c w)
    iintro ⟨⟨Hub, Hp, HO⟩, -, -⟩
    ihave H := hsplit $$ Hub
    icases H with ⟨Ha, Hrest⟩
    imodintro
    isplitl [Ha]; · iexact Ha
    isplitr
    · unfold Pipeline.prefHeld; rw [show (Finset.univ : Finset (Fin 0)) = ∅ from rfl, BI.bigSep_empty]; iempintro
    isplitl [HO]
    · unfold Pipeline.Dat.owesAt Pipeline.owesWithin
      unfold Pipeline.Dat.bound; rw [howed c 0, hrec c]
      icases HO with ⟨%W, HO⟩; iexists W; isplitr; · ipureintro; exact fun _ _ => Or.inl trivial
      iexact HO
    isplitl [Hp]; · iexact Hp
    iexact Hrest
  hin := fun c => (show _ ⊢ Pipeline.ΦA (cfgs p).spec c from by
    unfold Pipeline.ΦA; iintro ⟨Hp, -, Hr⟩
    isplitl [Hr] <;> iassumption).trans (hin c)
  hout := fun c => (hout c).trans (by
    rw [Pipeline.ownSems0_none]; unfold Pipeline.ΦA
    iintro ⟨Hr, Hp⟩
    isplitl [Hp]; · iexact Hp
    isplitr; · iempintro
    iexact Hr)
  hexit := fun c => by
    have hjoin := Pipeline.unscopedBufs_of_arrays_shared (p := p) (pcfgs (F := F)) adm (Ix := Unit) (Name := ℕ) (U := UR sig nD τ) (Lvl := ℕ)
      kit.win kit.sharedIn kit.arr_whole c pdats (hq c)
      (fun b => V c (Proc.devRef .tc b)) (fun b => V' c (Proc.devRef .tc b)) ((pdats p c).arrAt · (cfgs p).N)
      (fun w => hV' c w)
      (fun b hb => hrest c b fun w h => hb (h ▸ Finset.mem_image.mpr ⟨w, Finset.mem_univ _, rfl⟩))
    rw [show StableHlo.held (c.tc : Thread nD τ) (Pipeline.ucRefs τ sig) (V' c) = unscopedBufs c (fun b => V' c (Proc.devRef .tc b))
        from (Pipeline.unscopedBufs_held (Ix := Unit) (Name := ℕ) (U := UR sig nD τ) (Lvl := ℕ) c (V' c)).symm]
    iintro ⟨Ha, HO, Hp, Hrest⟩
    imodintro
    isplitl [Ha Hrest]
    · iapply hjoin; isplitl [Ha] <;> iassumption
    isplitl [Hp]; · iexact Hp
    unfold Pipeline.Dat.owesAt Pipeline.owesWithin
    rw [howed c (Fin.last _)]
    icases HO with ⟨%W, -, HO⟩; iexists W; iexact HO

end Cert.KernelIdeal.Host

end
-- ==== Proof.DecayRegion.lean ====
/- The decay call, at every point of its grid. -/
module

public import proofs.«01_k».proof.Proof.DecayVal
public import proofs.«01_k».proof.Proof.Region

@[expose] public section

set_option maxRecDepth 16384

noncomputable section

namespace Cert.KernelIdeal.Decay

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

variable (V : Dev nD → Valuation τ sig (Elt F))

/-- Window `w`'s block at point `t`. -/
def iblk (c : Dev nD) (w : Fin cfg0.W) (t : Fin cfg0.N) : ((cfg0.win w).xblock (cfg0.grid.coords t)).Idx → Elt F (cfg0.win w).elt :=
  ((cfg0.win w).blk t).view.read (Elt F) (V c (Proc.devRef .tc (Pipeline.arrRef spec0 w)))

theorem before0_of {c : Dev nD} (dat : Dat τ (Elt F) Unit ℕ (UR sig nD τ) ℕ cfg0 c) (hA : dat.A 0 = V c (Proc.devRef .tc (Pipeline.arrRef spec0 0)))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before1_of {c : Dev nD} (dat : Dat τ (Elt F) Unit ℕ (UR sig nD τ) ℕ cfg0 c) (hA : dat.A 1 = V c (Proc.devRef .tc (Pipeline.arrRef spec0 1)))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- The row carried into point `n`: zero at the first of a sequence. -/
def carryIn (c : Dev nD) (n : ℕ) (h : n < cfg0.N) : Vec F S1x128 .f32 :=
  if n % 2 = 0 then zeroRow else carryOut (iblk V c 0 ⟨n - 1, by omega⟩) (iblk V c 1 ⟨n - 1, by omega⟩) zeroRow

/-- The running sums of point `t`'s rows. -/
def sumsAt (c : Dev nD) (t : Fin cfg0.N) : Vec F S2048x128 .f32 := sums (iblk V c 0 t) (iblk V c 1 t) (carryIn V c t.val t.isLt)

/-- What the scratches hold before point `n`. -/
def inv (c : Dev nD) : (n : ℕ) → n ≤ cfg0.N → sProp 𝕄
  | 0, _ => Pipeline.ΦA spec0 c
  | n + 1, hn => iprop(iprop(iprop((∃ d, owns (c : Thread nD τ) (Memref.whole cc0_scratch0) fullShare d)
      ∗ owns (c : Thread nD τ) (Memref.whole cc0_scratch1) fullShare (carryOut (iblk V c 0 ⟨n, hn⟩) (iblk V c 1 ⟨n, hn⟩) (carryIn V c n hn)))
      ∗ Pipeline.scopedRestBut (Ix := Unit) (Name := ℕ) (U := UR sig nD τ) (Lvl := ℕ) (Val := Elt F) spec0 c [cc0_scratch0, cc0_scratch1]) ∗ (∃ r, prngReg c r))

theorem PhiA_eq (c : Dev nD) : (Pipeline.ΦA spec0 c : sProp 𝕄)
    = iprop(iprop(iprop((∃ d, owns (c : Thread nD τ) (Memref.whole cc0_scratch0) fullShare d)
      ∗ (∃ d, owns (c : Thread nD τ) (Memref.whole cc0_scratch1) fullShare d))
      ∗ Pipeline.scopedRestBut (Ix := Unit) (Name := ℕ) (U := UR sig nD τ) (Lvl := ℕ) (Val := Elt F) spec0 c [cc0_scratch0, cc0_scratch1]) ∗ (∃ r, prngReg c r)) := by
  unfold Pipeline.ΦA; rw [scopedRest0_split]; simp only [owns_whole]; try rfl

theorem inv_any (c : Dev nD) (n : ℕ) (h : n ≤ cfg0.N) : inv V c n h ⊢ Pipeline.ΦA spec0 c := by
  cases n with
  | zero => exact .rfl
  | succ n =>
    rw [PhiA_eq]; unfold inv
    iintro ⟨⟨⟨H0, H1⟩, Hr⟩, Hg⟩
    isplitr [Hg]
    · isplitr [Hr]
      · isplitl [H0]; · iexact H0
        iexists _; iexact H1
      iexact Hr
    iexact Hg

/-- The region's proof data. -/
def dat (c : Dev nD) : Dat τ (Elt F) Unit ℕ (UR sig nD τ) ℕ cfg0 c where
  A w := V c (Proc.devRef .tc (Pipeline.arrRef spec0 w))
  after w t := match w with
    | ⟨0, _⟩ => iblk V c 0 t
    | ⟨1, _⟩ => iblk V c 1 t
    | ⟨2, _⟩ => qaOf (sumsAt V c t)
    | ⟨3, _⟩ => kaOf (sumsAt V c t)
  Φ t := inv V c t.val (Nat.le_of_lt_succ t.isLt)
  q w := Pipeline.shareOf spec0 w
  owed _ := 0

theorem A_eq (c : Dev nD) (w : Fin cfg0.W) : (dat V c).A w = V c (Proc.devRef .tc (Pipeline.arrRef spec0 w)) := by dsimp only [dat]
theorem after0 (c : Dev nD) (t : Fin cfg0.N) : (dat V c).after 0 t = iblk V c 0 t := by dsimp only [dat]
theorem after1 (c : Dev nD) (t : Fin cfg0.N) : (dat V c).after 1 t = iblk V c 1 t := by dsimp only [dat]
theorem after2 (c : Dev nD) (t : Fin cfg0.N) : (dat V c).after 2 t = qaOf (sumsAt V c t) := by dsimp only [dat]
theorem after3 (c : Dev nD) (t : Fin cfg0.N) : (dat V c).after 3 t = kaOf (sumsAt V c t) := by dsimp only [dat]
theorem before0 (c : Dev nD) (t : Fin cfg0.N) (d) : (dat V c).before 0 t d = iblk V c 0 t := before0_of V (dat V c) (A_eq V c 0) (after0 V c) t d
theorem before1 (c : Dev nD) (t : Fin cfg0.N) (d) : (dat V c).before 1 t d = iblk V c 1 t := before1_of V (dat V c) (A_eq V c 1) (after1 V c) t d

theorem first_iff (t : Fin cfg0.N) : first (grid0.coords t) ↔ t.val % 2 = 0 := by
  have h : ∀ t : Fin grid0.N, first (grid0.coords t) ↔ t.val % 2 = 0 := by
    intro t
    rcases fin_N0 t with rfl | rfl | rfl | rfl | rfl | rfl | rfl | rfl <;> decide
  exact h t

/-- What the body is called with at point `t`, -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d))
    ∗ (∃ d, owns (c : Thread nD τ) (st0_3 t) fullShare ((dat V c).before 3 t d)))

/-- and what it returns. -/
def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t)
    ∗ owns (c : Thread nD τ) (st0_3 t) fullShare ((dat V c).after 3 t))

/-- A buffer written over wholly by pieces holds their contents. -/
theorem owns_written (c : Dev nD) {S : Shape} {e : EltTy} (m : Memref sig .tc .vmem S e) (f) (L : List (View.Piece (Elt F) S e)) (G : S.Idx → Elt F e)
    (hcov : ∀ y, ∃ p ∈ L, y ∈ p.1.set) (hG : View.canon L = G) :
    (m.view.loc (c : Thread nD τ) ↦[m.view.set]{fullShare} m.view.writes (Elt F) f L : sProp 𝕄) ⊢ owns (c : Thread nD τ) m fullShare G := by
  unfold owns
  iintro H
  iexists _; isplitr
  swap; · iexact H
  ipureintro; rw [View.read_writes_eq_canon _ _ _ hcov]; exact hG

/-- A first piece over the whole buffer covers it. -/
theorem cover_first {S : Shape} {e : EltTy} {off : Fin S.rank → ℕ} (h0 : ∀ a, off a = 0) (h) (w : S.Idx → Elt F e) (L : List (View.Piece (Elt F) S e)) :
    ∀ y, ∃ p ∈ (⟨Rect.unit (s := S) off S.size h, w⟩ : View.Piece (Elt F) S e) :: L, y ∈ p.1.set :=
  fun y => ⟨_, List.mem_cons_self, (Rect.mem_set_unit (off := off) (size := S.size) (inb := h)).mpr fun a => ⟨by rw [h0 a]; exact Nat.zero_le _, by rw [h0 a, Nat.zero_add]; exact (y a).isLt⟩⟩

theorem inv_succ (c : Dev nD) (n : ℕ) (hn : n + 1 ≤ cfg0.N) : inv V c (n + 1) hn = iprop(iprop(iprop((∃ d, owns (c : Thread nD τ) (Memref.whole cc0_scratch0) fullShare d)
      ∗ owns (c : Thread nD τ) (Memref.whole cc0_scratch1) fullShare (carryOut (iblk V c 0 ⟨n, hn⟩) (iblk V c 1 ⟨n, hn⟩) (carryIn V c n hn)))
      ∗ Pipeline.scopedRestBut (Ix := Unit) (Name := ℕ) (U := UR sig nD τ) (Lvl := ℕ) (Val := Elt F) spec0 c [cc0_scratch0, cc0_scratch1]) ∗ (∃ r, prngReg c r)) := rfl

set_option maxHeartbeats 4000000 in
theorem body_A (c : Dev nD) (t : Fin cfg0.N) (hc : first (grid0.coords t)) :
    bodyPre V c t ⊢ wp frame (wpE (defs₀ (F := F)) Variants.none c none) Set.univ (bodyAt0 t) (fun _ => bodyPost V c t) := by
  have h2 := (first_iff t).mp hc
  unfold bodyPre bodyPost bodyAt0
  simp only [before0, before1, after0, after1, after2, after3]
  rw [show (dat V c).owesAt () t.succ = (dat V c).owesAt () t.castSucc from rfl]
  rw [show (dat V c).Φ t.succ = inv V c (t.val + 1) t.isLt from rfl, show (dat V c).Φ t.castSucc = inv V c t.val (Nat.le_of_lt t.isLt) from rfl]
  refine (sep_mono (inv_any V c _ _) .rfl).trans ?_
  rw [PhiA_eq, inv_succ]
  have hs : carryIn V c t.val t.isLt = zeroRow := by unfold carryIn; rw [if_pos h2]
  have hL := runA_L c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (Memref.whole cc0_scratch0) (Memref.isWhole_whole _) (Memref.whole cc0_scratch1) (Memref.isWhole_whole _) (iblk V c 0 t) (iblk V c 1 t) hc
  rw [show sumsAt V c t = sums (iblk V c 0 t) (iblk V c 1 t) zeroRow from by unfold sumsAt; rw [hs], hs]
  iintro ⟨⟨⟨⟨HS0, HS1⟩, Hr⟩, Hg⟩, Ho, ⟨%d0, H0⟩, ⟨%d1, H1⟩, ⟨%d2, H2⟩, ⟨%d3, H3⟩⟩
  iapply ((runA c (grid0.coords t) _ _ _ _ _ _ _ _ _ _ _ _ (iblk V c 0 t) (iblk V c 1 t) hc).2.2.2 Set.univ _)
  isplitl [H0]; · iexact H0
  isplitl [H1]; · iexact H1
  isplitl [H2]; · iexists _; iexact H2
  isplitl [H3]; · iexists _; iexact H3
  isplitl [HS0]; · iexact HS0
  isplitl [HS1]; · iexact HS1
  iintro ⟨H0, H1, ⟨%e2, H2⟩, ⟨%e3, H3⟩, HS0, ⟨%es, HS1⟩⟩
  isplitl [HS0 HS1 Hr Hg]
  · isplitr [Hg]
    · isplitr [Hr]
      · isplitl [HS0]; · iexact HS0
        iapply (owns_written c _ _ _ _ (cover_first (S := S1x128) (off := ![0, 0]) (by decide) _ _ _) hL.2.2); iexact HS1
      iexact Hr
    iexact Hg
  isplitl [Ho]; · iexact Ho
  isplitl [H0]; · iexact H0
  isplitl [H1]; · iexact H1
  isplitl [H2]
  · iapply (owns_written c _ _ _ _ (cover_first (S := S2048x128) (off := ![0, 0]) (by decide) _ _ _) hL.1); iexact H2
  iapply (owns_written c _ _ _ _ (cover_first (S := S2048x128) (off := ![0, 0]) (by decide) _ _ _) hL.2.1); iexact H3

theorem inv_pos (c : Dev nD) (n : ℕ) (h : n ≤ cfg0.N) (h0 : n ≠ 0) (h2 : ¬ n % 2 = 0) : inv V c n h
    = iprop(iprop(iprop((∃ d, owns (c : Thread nD τ) (Memref.whole cc0_scratch0) fullShare d)
      ∗ owns (c : Thread nD τ) (Memref.whole cc0_scratch1) fullShare (if hn : n < cfg0.N then carryIn V c n hn else zeroRow))
      ∗ Pipeline.scopedRestBut (Ix := Unit) (Name := ℕ) (U := UR sig nD τ) (Lvl := ℕ) (Val := Elt F) spec0 c [cc0_scratch0, cc0_scratch1]) ∗ (∃ r, prngReg c r)) := by
  have hN : cfg0.N = 8 := N_0
  rw [dif_pos (show n < cfg0.N by omega)]
  cases n with
  | zero => exact absurd rfl h0
  | succ n =>
    unfold inv
    rw [show carryIn V c (n + 1) (by omega) = carryOut (iblk V c 0 ⟨n, h⟩) (iblk V c 1 ⟨n, h⟩) (carryIn V c n h) from by
      unfold carryIn; rw [if_neg h2, if_pos (show n % 2 = 0 by omega)]; rfl]

set_option maxHeartbeats 4000000 in
theorem body_B (c : Dev nD) (t : Fin cfg0.N) (hc : ¬ first (grid0.coords t)) :
    bodyPre V c t ⊢ wp frame (wpE (defs₀ (F := F)) Variants.none c none) Set.univ (bodyAt0 t) (fun _ => bodyPost V c t) := by
  have h2 : ¬ t.val % 2 = 0 := fun h => hc ((first_iff t).mpr h)
  have h0 : t.val ≠ 0 := fun h => h2 (by rw [h])
  unfold bodyPre bodyPost bodyAt0
  simp only [before0, before1, after0, after1, after2, after3]
  rw [show (dat V c).owesAt () t.succ = (dat V c).owesAt () t.castSucc from rfl]
  rw [show (dat V c).Φ t.succ = inv V c (t.val + 1) t.isLt from rfl, show (dat V c).Φ t.castSucc = inv V c t.val (Nat.le_of_lt t.isLt) from rfl]
  rw [inv_pos V c t.val (Nat.le_of_lt t.isLt) h0 h2, dif_pos t.isLt, inv_succ]
  have hL := runB_L c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (Memref.whole cc0_scratch0) (Memref.isWhole_whole _) (Memref.whole cc0_scratch1) (Memref.isWhole_whole _) (iblk V c 0 t) (iblk V c 1 t) (carryIn V c t.val t.isLt) hc
  rw [show sumsAt V c t = sums (iblk V c 0 t) (iblk V c 1 t) (carryIn V c t.val t.isLt) from rfl]
  iintro ⟨⟨⟨⟨HS0, HS1⟩, Hr⟩, Hg⟩, Ho, ⟨%d0, H0⟩, ⟨%d1, H1⟩, ⟨%d2, H2⟩, ⟨%d3, H3⟩⟩
  iapply ((runB c (grid0.coords t) _ _ _ _ _ _ _ _ _ _ _ _ (iblk V c 0 t) (iblk V c 1 t) (carryIn V c t.val t.isLt) hc).2.2.2 Set.univ _)
  isplitl [H0]; · iexact H0
  isplitl [H1]; · iexact H1
  isplitl [H2]; · iexists _; iexact H2
  isplitl [H3]; · iexists _; iexact H3
  isplitl [HS0]; · iexact HS0
  isplitl [HS1]; · iexact HS1
  iintro ⟨H0, H1, ⟨%e2, H2⟩, ⟨%e3, H3⟩, HS0, ⟨%es, HS1⟩⟩
  isplitl [HS0 HS1 Hr Hg]
  · isplitr [Hg]
    · isplitr [Hr]
      · isplitl [HS0]; · iexact HS0
        iapply (owns_written c _ _ _ _ (cover_first (S := S1x128) (off := ![0, 0]) (by decide) _ _ _) hL.2.2); iexact HS1
      iexact Hr
    iexact Hg
  isplitl [Ho]; · iexact Ho
  isplitl [H0]; · iexact H0
  isplitl [H1]; · iexact H1
  isplitl [H2]
  · iapply (owns_written c _ _ _ _ (cover_first (S := S2048x128) (off := ![0, 0]) (by decide) _ _ _) hL.1); iexact H2
  iapply (owns_written c _ _ _ _ (cover_first (S := S2048x128) (off := ![0, 0]) (by decide) _ _ _) hL.2.1); iexact H3

theorem body (c : Dev nD) (t : Fin cfg0.N) :
    bodyPre V c t ⊢ wp frame (wpE (defs₀ (F := F)) Variants.none c none) Set.univ (bodyAt0 t) (fun _ => bodyPost V c t) := by
  by_cases hc : first (grid0.coords t)
  · exact body_A V c t hc
  · exact body_B V c t hc

/-- The body table's row at point `t`'s slots is the body as `bodyAt0` spells it. -/
theorem row_eq (t : Fin cfg0.N) : defs₀ (F := F) .tc cfg0.body (cfg0.bodyArgs t (cfg0.slots t)) = bodyAt0 t := by
  unfold defs₀; rw [Defs.onTc_tc]

/-- The body's obligation, at every point. -/
theorem obligation (c : Dev nD) : BodyObligation (dat V c) (defs₀ (F := F)) Variants.none () Set.univ := fun t => by
  rw [bigSep_W0, bigSep_W0, row_eq]
  exact triple_restated (body V c t) rfl .rfl fun _ => .rfl

theorem hin (c : Dev nD) : Pipeline.ΦA spec0 c ⊢ (dat V c).Φ 0 := .rfl
theorem hout (c : Dev nD) : (dat V c).Φ (Fin.last cfg0.N) ⊢ Pipeline.ΦA spec0 c := inv_any V c cfg0.N le_rfl

end Cert.KernelIdeal.Decay

end
-- ==== Proof.AttnRun.lean ====
/- The run of the attention kernel's body at one grid point, the pieces of its outputs named. -/
module

public import proofs.«01_k».proof.Proof.Gen.KernelIdeal.Launch
public import proofs.«01_k».proof.Proof.Gen.KernelIdeal.Points
public import proofs.«01_k».proof.Proof.Gen.KernelIdeal.Skeleton
public import Idealize.ShloMosaic.Lib.Pipeline.Frame
public import Idealize.ShloMosaic.Lib.Tactic
public import Idealize.ShloMosaic.Lib.Pipeline.FrameBody

@[expose] public section

set_option maxRecDepth 16384

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F] [Named F]

local notation "𝕄" => MT nD τ sig Unit (Elt F) ℕ (UR sig nD τ) ℕ

set_option maxHeartbeats 8000000 in
/-- What the body's stores leave in its four outputs, as pieces (last first), with the body's triple. -/
noncomputable def run (c : Dev nD) (i : grid1.Coords) (arg2 : Memref sig .tc .vmem S4096x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S4096x128 .bf16) (harg5 : arg5.IsWhole) (arg6 : Memref sig .tc .vmem S4096x128 .bf16) (harg6 : arg6.IsWhole) (arg7 : Memref sig .tc .vmem S64x2048 .f32) (harg7 : arg7.IsWhole) (arg8 : Memref sig .tc .vmem S64x8192 .f32) (harg8 : arg8.IsWhole) (arg9 : Memref sig .tc .vmem S256x2048 .f32) (harg9 : arg9.IsWhole) (arg10 : Memref sig .tc .vmem S64x1 .f32) (harg10 : arg10.IsWhole) (arg11 : Memref sig .tc .vmem S4096x128 .bf16) (harg11 : arg11.IsWhole) (arg12 : Memref sig .tc .vmem S64x2048 .bf16) (harg12 : arg12.IsWhole) (arg13 : Memref sig .tc .vmem S64x8192 .bf16) (harg13 : arg13.IsWhole) (arg14 : Memref sig .tc .vmem S256x2048 .bf16) (harg14 : arg14.IsWhole) (arg15 : Memref sig .tc .vmem S4096x128 .bf16) (harg15 : arg15.IsWhole) (arg16 : Memref sig .tc .vmem S4096x128 .f32) (harg16 : arg16.IsWhole) (arg17 : Memref sig .tc .vmem S4096x256 .f32) (harg17 : arg17.IsWhole) (arg18 : Memref sig .tc .vmem S4x512x512 .f32) (harg18 : arg18.IsWhole) (arg19 : Memref sig .tc .vmem S4x512x128 .f32) (harg19 : arg19.IsWhole) (arg20 : Memref sig .tc .vmem S4x512x128 .f32) (harg20 : arg20.IsWhole)
    (x0 : Vec F S4096x128 .bf16) (x1 : Vec F S4096x128 .bf16) (x2 : Vec F S4096x128 .bf16) (x3 : Vec F S4096x128 .bf16) (x4 : Vec F S4096x128 .bf16) (x5 : Vec F S64x2048 .f32) (x6 : Vec F S64x8192 .f32) (x7 : Vec F S256x2048 .f32) (x8 : Vec F S64x1 .f32) :
    Σ' (L11 : List (View.Piece (Elt F) S4096x128 .bf16)) (L12 : List (View.Piece (Elt F) S64x2048 .bf16)) (L13 : List (View.Piece (Elt F) S64x8192 .bf16)), { L14 : List (View.Piece (Elt F) S256x2048 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ f, arg11.view.loc (c : Thread nD τ) ↦[arg11.view.set]{fullShare} arg11.view.writes (Elt F) f L11) ∗ (∃ f, arg12.view.loc (c : Thread nD τ) ↦[arg12.view.set]{fullShare} arg12.view.writes (Elt F) f L12) ∗ (∃ f, arg13.view.loc (c : Thread nD τ) ↦[arg13.view.set]{fullShare} arg13.view.writes (Elt F) f L13) ∗ (∃ f, arg14.view.loc (c : Thread nD τ) ↦[arg14.view.set]{fullShare} arg14.view.writes (Elt F) f L14) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d)) -∗ K ⟨⟩))
          ⊢ wp frame (wpE (defs₀ (F := F)) Variants.none c none) E (cc1_attention i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K } := by
  refine ⟨?_, ?_, ?_, ?_, fun E K => ?run⟩
  case run =>
    simp only [cc1_attention_eq_skeleton]; unfold cc1_attention_skel
    simp only [k1_part59_eq_skeleton, k1_part1_eq_skeleton, k1_part2_eq_skeleton, k1_part3_eq_skeleton, k1_part4_eq_skeleton, k1_part5_eq_skeleton, k1_part6_eq_skeleton, k1_part7_eq_skeleton, k1_part8_eq_skeleton, k1_part9_eq_skeleton, k1_part10_eq_skeleton, k1_part11_eq_skeleton, k1_part12_eq_skeleton, k1_part13_eq_skeleton, k1_part14_eq_skeleton, k1_part15_eq_skeleton, k1_part16_eq_skeleton, k1_part17_eq_skeleton, k1_part18_eq_skeleton, k1_part19_eq_skeleton, k1_part20_eq_skeleton, k1_part21_eq_skeleton, k1_part22_eq_skeleton, k1_part23_eq_skeleton, k1_part24_eq_skeleton, k1_part25_eq_skeleton, k1_part26_eq_skeleton, k1_part27_eq_skeleton, k1_part28_eq_skeleton, k1_part29_eq_skeleton, k1_part30_eq_skeleton, k1_part31_eq_skeleton, k1_part32_eq_skeleton, k1_part33_eq_skeleton, k1_part34_eq_skeleton, k1_part35_eq_skeleton, k1_part36_eq_skeleton, k1_part37_eq_skeleton, k1_part38_eq_skeleton, k1_part39_eq_skeleton, k1_part40_eq_skeleton, k1_part41_eq_skeleton, k1_part42_eq_skeleton, k1_part43_eq_skeleton, k1_part44_eq_skeleton, k1_part45_eq_skeleton, k1_part46_eq_skeleton, k1_part47_eq_skeleton, k1_part48_eq_skeleton, k1_part49_eq_skeleton, k1_part50_eq_skeleton, k1_part51_eq_skeleton, k1_part52_eq_skeleton, k1_part53_eq_skeleton, k1_part54_eq_skeleton, k1_part55_eq_skeleton, k1_part56_eq_skeleton, k1_part57_eq_skeleton, k1_part58_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H11]; · iexists _; iexact H11
    isplitl [H12]; · iexists _; iexact H12
    isplitl [H13]; · iexists _; iexact H13
    isplitl [H14]; · iexists _; iexact H14
    isplitl [H15]
    · iexists _, _; isplitr; swap; · iexact H15
      ipureintro; rfl
    isplitl [H16]
    · iexists _, _; isplitr; swap; · iexact H16
      ipureintro; rfl
    isplitl [H17]
    · iexists _, _; isplitr; swap; · iexact H17
      ipureintro; rfl
    isplitl [H18]
    · iexists _, _; isplitr; swap; · iexact H18
      ipureintro; rfl
    isplitl [H19]
    · iexists _, _; isplitr; swap; · iexact H19
      ipureintro; rfl
    iexists _, _; isplitr; swap; · iexact H20
    ipureintro; rfl

end Cert.KernelIdeal.Attn

end
-- ==== Proof.AttnStage.lean ====
/- The stages of the attention kernel, block by block. -/
module

public import proofs.«01_k».proof.Proof.AttnRun
public import Idealize.ShloMosaic.Lib.Pipeline.ReadBack
public import Idealize.ShloMosaic.Lib.Pipeline.Value

@[expose] public section

set_option maxRecDepth 16384

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F] [Named F]

/-- Block `k`'s rows lie in the window. -/
theorem blk_inb (k : ℕ) : ∀ a, (![512 * (k % 8), 0] : Fin 2 → ℕ) a + S512x128.size a ≤ S4096x128.size a := by
  intro a; have := Nat.mod_lt k (show 0 < 8 by omega); fin_cases a <;> simp [S512x128, S4096x128] <;> omega

/-- Block `k` of 512 rows of a window. -/
def blk {e : EltTy} (x : Vec F S4096x128 e) (k : ℕ) : Vec F S512x128 e :=
  View.ld x (Rect.unit (s := S4096x128) ![512 * (k % 8), 0] S512x128.size (blk_inb k))

/-- The decay lanes of the queries, those of the other heads zeroed. -/
def qam (i : grid1.Coords) (x1 : Vec F S4096x128 .bf16) : Vec F S4096x128 .bf16 :=
  select (andi (cmpi .sge (iota .tc S4096x128 32 [1] iota_S4096x128_d1_w32) (broadcast S4096x128 (Scalar.muli (BitVec.ofNat 32 (i 1)) 8#32)))
    (cmpi .slt (iota .tc S4096x128 32 [1] iota_S4096x128_d1_w32) (broadcast S4096x128 (Scalar.addi (Scalar.muli (BitVec.ofNat 32 (i 1)) 8#32) 8#32))))
    x1 (broadcast S4096x128 (FloatOps.ofBits .bf16 0#16))

/-- The scores of query block `a` against key block `b`, no key masked. -/
def score (i : grid1.Coords) (x0 x1 x2 x3 : Vec F S4096x128 .bf16) (a b : ℕ) : FVec F S512x512 .f32 :=
  matmul dot_S512x256_S512x256_S512x512_1_1_0_0_n_n none
    (concatenate S512x256 1 [⟨S512x128, blk x0 a⟩, ⟨S512x128, blk (qam i x1) a⟩] concatenates_S512x128_S512x128_S512x256_d1)
    (concatenate S512x256 1 [⟨S512x128, blk x2 b⟩, ⟨S512x128, blk x3 b⟩] concatenates_S512x128_S512x128_S512x256_d1)
    (constant S512x512 .f32 0x00000000#32)

/-- The same with the keys after the query masked where the blocks are the same. -/
def S (i : grid1.Coords) (x0 x1 x2 x3 : Vec F S4096x128 .bf16) (a b : ℕ) : FVec F S512x512 .f32 :=
  if a = b then
    select (cmpi .sle (iota .tc S512x512 32 [1] iota_S512x512_d1_w32) (iota .tc S512x512 32 [0] iota_S512x512_d0_w32)) (score i x0 x1 x2 x3 a b)
      (broadcast S512x512 (FloatOps.ofBits .f32 0xFF800000#32))
  else score i x0 x1 x2 x3 a b

/-- Each row's greatest score, along the lanes. -/
def rowMax (s : FVec F S512x512 .f32) : FVec F S512x128 .f32 :=
  broadcastTo S512x128 (shapeCast S512x1 (multiReduction .maximumf [1] S512 s 0xFF800000#32 reduces_S512x512_S512 (.inl rfl) rfl)
    shapeCasts_S512_S512x1) broadcasts_S512x1_S512x128

/-- The running maximum of query block `a` after key blocks `0 … n`. -/
def M (i : grid1.Coords) (x0 x1 x2 x3 : Vec F S4096x128 .bf16) (a : ℕ) : ℕ → FVec F S512x128 .f32
  | 0 => rowMax (S i x0 x1 x2 x3 a 0)
  | n + 1 => maximumf (M i x0 x1 x2 x3 a n) (rowMax (S i x0 x1 x2 x3 a (n + 1)))

/-- What key block `n + 1` rescales the sums by. -/
def alpha (i : grid1.Coords) (x0 x1 x2 x3 : Vec F S4096x128 .bf16) (a n : ℕ) : FVec F S512x128 .f32 :=
  exp2 (subf (M i x0 x1 x2 x3 a n) (M i x0 x1 x2 x3 a (n + 1)))

/-- A key block's weights times its values and ones. -/
def pv (s : FVec F S512x512 .f32) (m : FVec F S512x128 .f32) (v : Vec F S512x128 .bf16) : FVec F S512x256 .f32 :=
  matmul dot_S512x512_S512x256_S512x256_1_0_0_1_n_n none
    (truncf .bf16 (exp2 (subf s (concatenate S512x512 1 [⟨S512x128, m⟩, ⟨S512x128, m⟩, ⟨S512x128, m⟩, ⟨S512x128, m⟩] concatenates_S512x128_S512x128_S512x128_S512x128_S512x512_d1))) bitsLt_bf16_f32)
    (concatenate S512x256 1 [⟨S512x128, v⟩, ⟨S512x128, broadcast S512x128 (FloatOps.ofBits .bf16 0x3F80#16)⟩] concatenates_S512x128_S512x128_S512x256_d1)
    (constant S512x256 .f32 0x00000000#32)

/-- The running sums of query block `a` after key blocks `0 … n`: the weighted values, then the weights. -/
def acc (i : grid1.Coords) (x0 x1 x2 x3 x4 : Vec F S4096x128 .bf16) (a : ℕ) : ℕ → FVec F S512x256 .f32
  | 0 => pv (S i x0 x1 x2 x3 a 0) (M i x0 x1 x2 x3 a 0) (blk x4 0)
  | n + 1 => addf (mulf (acc i x0 x1 x2 x3 x4 a n)
      (concatenate S512x256 1 [⟨S512x128, alpha i x0 x1 x2 x3 a n⟩, ⟨S512x128, alpha i x0 x1 x2 x3 a n⟩] concatenates_S512x128_S512x128_S512x256_d1))
      (pv (S i x0 x1 x2 x3 a (n + 1)) (M i x0 x1 x2 x3 a (n + 1)) (blk x4 (n + 1)))

/-- The block of the output: the weighted values over the weights. -/
def out (i : grid1.Coords) (x0 x1 x2 x3 x4 : Vec F S4096x128 .bf16) (a : ℕ) : FVec F S512x128 .bf16 :=
  truncf .bf16 (divf (extractStridedSlice S512x128 ![0, 0] (acc i x0 x1 x2 x3 x4 a a) slices_S512x256_o0_0_S512x128)
    (extractStridedSlice S512x128 ![0, 128] (acc i x0 x1 x2 x3 x4 a a) slices_S512x256_o0_128_S512x128)) bitsLt_bf16_f32

variable {m2 m4 m5 m6 : Memref sig .tc .vmem S4096x128 .bf16} (h2 : m2.IsWhole) (h4 : m4.IsWhole) (h5 : m5.IsWhole) (h6 : m6.IsWhole)
  (i : grid1.Coords) (x0 x1 x2 x3 x4 : Vec F S4096x128 .bf16)

/-- A load of 512 rows of a window that holds `x`. -/
theorem blk_read {e : EltTy} {m : Memref sig .tc .vmem S4096x128 e} (hm : m.IsWhole) (x : Vec F S4096x128 e) (a : ℕ) :
    (shapeCast S512x128 (View.readAt (Elt F) m.view (Rect.unit (s := S4096x128) ![512 * (a % 8), 0] S512x128.size (blk_inb a)).toLoadRect (hm.unread x)) shapeCasts_S512x128_S512x128) = blk x a := by
  refine (shapeCast_self (s := S512x128) _ _).trans ?_
  rw [View.readAt_eq_ld, hm.read_unread]; rfl

/-- A load of a whole window that holds `x`. -/
theorem whole_read {e : EltTy} {m : Memref sig .tc .vmem S4096x128 e} (hm : m.IsWhole) (x : Vec F S4096x128 e) (h) (h') :
    shapeCast S4096x128 (View.readAt (Elt F) m.view (Rect.unit (s := S4096x128) ![0, 0] S4096x128.size h).toLoadRect (hm.unread x)) h' = x := by
  refine (shapeCast_self (s := S4096x128) _ h').trans ?_
  rw [View.readAt_eq_ld, hm.read_unread]
  exact View.ld_unit_zero (S := S4096x128) (by decide) h x

theorem whole_read' {e : EltTy} {m : Memref sig .tc .vmem S4096x128 e} (hm : m.IsWhole) (x : Vec F S4096x128 e) (h) :
    View.readAt (Elt F) m.view (Rect.unit (s := S4096x128) ![0, 0] S4096x128.size h).toLoadRect (hm.unread x) = x := by
  rw [View.readAt_eq_ld, hm.read_unread]
  exact View.ld_unit_zero (S := S4096x128) (by decide) h x

theorem t_off (a b : ℕ) (hab : a ≠ b) {r : Vec F S512x128 .bf16} (hr : r = blk (qam i x1) a) :
    shapeCast S1x512x512 (matmul dot_S512x256_S512x256_S512x512_1_1_0_0_n_n none
      (concatenate S512x256 1 [⟨S512x128, (shapeCast S512x128 (View.readAt (Elt F) m2.view (Rect.unit (s := S4096x128) ![512 * (a % 8), 0] S512x128.size (blk_inb a)).toLoadRect (h2.unread x0)) shapeCasts_S512x128_S512x128)⟩, ⟨S512x128, r⟩] concatenates_S512x128_S512x128_S512x256_d1)
      (concatenate S512x256 1 [⟨S512x128, (shapeCast S512x128 (View.readAt (Elt F) m4.view (Rect.unit (s := S4096x128) ![512 * (b % 8), 0] S512x128.size (blk_inb b)).toLoadRect (h4.unread x2)) shapeCasts_S512x128_S512x128)⟩, ⟨S512x128, (shapeCast S512x128 (View.readAt (Elt F) m5.view (Rect.unit (s := S4096x128) ![512 * (b % 8), 0] S512x128.size (blk_inb b)).toLoadRect (h5.unread x3)) shapeCasts_S512x128_S512x128)⟩] concatenates_S512x128_S512x128_S512x256_d1)
      (constant S512x512 .f32 0x00000000#32)) shapeCasts_S512x512_S1x512x512 = shapeCast S1x512x512 (S i x0 x1 x2 x3 a b) shapeCasts_S512x512_S1x512x512 := by
  rw [blk_read, blk_read, blk_read, hr, S, if_neg hab]; rfl

theorem t_diag (a : ℕ) {r : Vec F S512x128 .bf16} (hr : r = blk (qam i x1) a) :
    shapeCast S1x512x512 (select (cmpi .sle (iota .tc S512x512 32 [1] iota_S512x512_d1_w32) (iota .tc S512x512 32 [0] iota_S512x512_d0_w32)) (matmul dot_S512x256_S512x256_S512x512_1_1_0_0_n_n none
      (concatenate S512x256 1 [⟨S512x128, (shapeCast S512x128 (View.readAt (Elt F) m2.view (Rect.unit (s := S4096x128) ![512 * (a % 8), 0] S512x128.size (blk_inb a)).toLoadRect (h2.unread x0)) shapeCasts_S512x128_S512x128)⟩, ⟨S512x128, r⟩] concatenates_S512x128_S512x128_S512x256_d1)
      (concatenate S512x256 1 [⟨S512x128, (shapeCast S512x128 (View.readAt (Elt F) m4.view (Rect.unit (s := S4096x128) ![512 * (a % 8), 0] S512x128.size (blk_inb a)).toLoadRect (h4.unread x2)) shapeCasts_S512x128_S512x128)⟩, ⟨S512x128, (shapeCast S512x128 (View.readAt (Elt F) m5.view (Rect.unit (s := S4096x128) ![512 * (a % 8), 0] S512x128.size (blk_inb a)).toLoadRect (h5.unread x3)) shapeCasts_S512x128_S512x128)⟩] concatenates_S512x128_S512x128_S512x256_d1)
      (constant S512x512 .f32 0x00000000#32))
      (broadcast S512x512 (FloatOps.ofBits .f32 0xFF800000#32))) shapeCasts_S512x512_S1x512x512 = shapeCast S1x512x512 (S i x0 x1 x2 x3 a a) shapeCasts_S512x512_S1x512x512 := by
  rw [blk_read, blk_read, blk_read, hr, S, if_pos rfl]; rfl

theorem t_M0 (a : ℕ) {r : Vec F S1x512x512 .f32} (hr : r = shapeCast S1x512x512 (S i x0 x1 x2 x3 a 0) shapeCasts_S512x512_S1x512x512) : (broadcastTo S512x128 (shapeCast S512x1 (shapeCast S512x1 (multiReduction .maximumf [1] S512 (shapeCast S512x512 r shapeCasts_S1x512x512_S512x512) 0xFF800000#32 reduces_S512x512_S512 (.inl rfl) rfl) shapeCasts_S512_S512x1) shapeCasts_S512x1_S512x1) broadcasts_S512x1_S512x128) = M i x0 x1 x2 x3 a 0 := by
  rw [hr, shapeCast_shapeCast, shapeCast_self]; rfl

theorem t_Mn (a n : ℕ) {r6 : Vec F S512x128 .f32} {r : Vec F S1x512x512 .f32} (hm : r6 = M i x0 x1 x2 x3 a n) (hr : r = shapeCast S1x512x512 (S i x0 x1 x2 x3 a (n + 1)) shapeCasts_S512x512_S1x512x512) :
    maximumf r6 (broadcastTo S512x128 (shapeCast S512x1 (multiReduction .maximumf [1] S512 (shapeCast S512x512 r shapeCasts_S1x512x512_S512x512) 0xFF800000#32 reduces_S512x512_S512 (.inl rfl) rfl) shapeCasts_S512_S512x1) broadcasts_S512x1_S512x128) = M i x0 x1 x2 x3 a (n + 1) := by
  rw [hr, shapeCast_shapeCast, hm]; rfl

theorem t_MN0 (a : ℕ) {r : Vec F S1x512x512 .f32} (hr : r = shapeCast S1x512x512 (S i x0 x1 x2 x3 a 0) shapeCasts_S512x512_S1x512x512) :
    shapeCast S1x512x128 (broadcastTo S512x128 (shapeCast S512x1 (shapeCast S512x1 (multiReduction .maximumf [1] S512 (shapeCast S512x512 r shapeCasts_S1x512x512_S512x512) 0xFF800000#32 reduces_S512x512_S512 (.inl rfl) rfl) shapeCasts_S512_S512x1) shapeCasts_S512x1_S512x1) broadcasts_S512x1_S512x128) shapeCasts_S512x128_S1x512x128 = shapeCast S1x512x128 (M i x0 x1 x2 x3 a 0) shapeCasts_S512x128_S1x512x128 := congrArg (shapeCast S1x512x128 · shapeCasts_S512x128_S1x512x128) (t_M0 i x0 x1 x2 x3 a hr)

theorem t_MNn (a n : ℕ) {r6 : Vec F S512x128 .f32} {r : Vec F S1x512x512 .f32} (hm : r6 = M i x0 x1 x2 x3 a n) (hr : r = shapeCast S1x512x512 (S i x0 x1 x2 x3 a (n + 1)) shapeCasts_S512x512_S1x512x512) :
    shapeCast S1x512x128 (maximumf r6 (broadcastTo S512x128 (shapeCast S512x1 (multiReduction .maximumf [1] S512 (shapeCast S512x512 r shapeCasts_S1x512x512_S512x512) 0xFF800000#32 reduces_S512x512_S512 (.inl rfl) rfl) shapeCasts_S512_S512x1) broadcasts_S512x1_S512x128)) shapeCasts_S512x128_S1x512x128 = shapeCast S1x512x128 (M i x0 x1 x2 x3 a (n + 1)) shapeCasts_S512x128_S1x512x128 := congrArg (shapeCast S1x512x128 · shapeCasts_S512x128_S1x512x128) (t_Mn i x0 x1 x2 x3 a n hm hr)

theorem t_MM0 (a : ℕ) {r : Vec F S1x512x512 .f32} (hr : r = shapeCast S1x512x512 (S i x0 x1 x2 x3 a 0) shapeCasts_S512x512_S1x512x512) :
    shapeCast S512x128 (broadcastTo S512x128 (shapeCast S512x1 (shapeCast S512x1 (multiReduction .maximumf [1] S512 (shapeCast S512x512 r shapeCasts_S1x512x512_S512x512) 0xFF800000#32 reduces_S512x512_S512 (.inl rfl) rfl) shapeCasts_S512_S512x1) shapeCasts_S512x1_S512x1) broadcasts_S512x1_S512x128) shapeCasts_S512x128_S512x128 = M i x0 x1 x2 x3 a 0 := by
  rw [shapeCast_self]; exact t_M0 i x0 x1 x2 x3 a hr

theorem t_MMn (a n : ℕ) {r6 : Vec F S512x128 .f32} {r : Vec F S1x512x512 .f32} (hm : r6 = M i x0 x1 x2 x3 a n) (hr : r = shapeCast S1x512x512 (S i x0 x1 x2 x3 a (n + 1)) shapeCasts_S512x512_S1x512x512) :
    shapeCast S512x128 (maximumf r6 (broadcastTo S512x128 (shapeCast S512x1 (multiReduction .maximumf [1] S512 (shapeCast S512x512 r shapeCasts_S1x512x512_S512x512) 0xFF800000#32 reduces_S512x512_S512 (.inl rfl) rfl) shapeCasts_S512_S512x1) broadcasts_S512x1_S512x128)) shapeCasts_S512x128_S512x128 = M i x0 x1 x2 x3 a (n + 1) := by
  rw [shapeCast_self]; exact t_Mn i x0 x1 x2 x3 a n hm hr

theorem t_A (a n : ℕ) {r6 : Vec F S512x128 .f32} {r : Vec F S1x512x512 .f32} (hm : r6 = M i x0 x1 x2 x3 a n) (hr : r = shapeCast S1x512x512 (S i x0 x1 x2 x3 a (n + 1)) shapeCasts_S512x512_S1x512x512) :
    shapeCast S1x512x128 (exp2 (subf r6 (maximumf r6 (broadcastTo S512x128 (shapeCast S512x1 (multiReduction .maximumf [1] S512 (shapeCast S512x512 r shapeCasts_S1x512x512_S512x512) 0xFF800000#32 reduces_S512x512_S512 (.inl rfl) rfl) shapeCasts_S512_S512x1) broadcasts_S512x1_S512x128)))) shapeCasts_S512x128_S1x512x128 = shapeCast S1x512x128 (alpha i x0 x1 x2 x3 a n) shapeCasts_S512x128_S1x512x128 := by
  rw [t_Mn i x0 x1 x2 x3 a n hm hr, hm]; rfl

theorem t_acc0 (a : ℕ) {r : Vec F S1x512x512 .f32} {r9 : Vec F S1x512x128 .f32} (hr : r = shapeCast S1x512x512 (S i x0 x1 x2 x3 a 0) shapeCasts_S512x512_S1x512x512) (h9 : r9 = shapeCast S1x512x128 (M i x0 x1 x2 x3 a 0) shapeCasts_S512x128_S1x512x128) :
    (matmul dot_S512x512_S512x256_S512x256_1_0_0_1_n_n none
      (truncf .bf16 (exp2 (subf (shapeCast S512x512 r shapeCasts_S1x512x512_S512x512) (concatenate S512x512 1 [⟨S512x128, shapeCast S512x128 r9 shapeCasts_S1x512x128_S512x128⟩, ⟨S512x128, shapeCast S512x128 r9 shapeCasts_S1x512x128_S512x128⟩, ⟨S512x128, shapeCast S512x128 r9 shapeCasts_S1x512x128_S512x128⟩, ⟨S512x128, shapeCast S512x128 r9 shapeCasts_S1x512x128_S512x128⟩] concatenates_S512x128_S512x128_S512x128_S512x128_S512x512_d1))) bitsLt_bf16_f32)
      (concatenate S512x256 1 [⟨S512x128, (shapeCast S512x128 (View.readAt (Elt F) m6.view (Rect.unit (s := S4096x128) ![512 * (0 % 8), 0] S512x128.size (blk_inb 0)).toLoadRect (h6.unread x4)) shapeCasts_S512x128_S512x128)⟩, ⟨S512x128, broadcast S512x128 (FloatOps.ofBits .bf16 0x3F80#16)⟩] concatenates_S512x128_S512x128_S512x256_d1)
      (constant S512x256 .f32 0x00000000#32)) = acc i x0 x1 x2 x3 x4 a 0 := by
  rw [blk_read, hr, h9, shapeCast_shapeCast, shapeCast_shapeCast]; rfl

theorem t_accn (a n : ℕ) {r : Vec F S1x512x512 .f32} {r9 r0 : Vec F S1x512x128 .f32} {r7 : Vec F S512x256 .f32} (hr : r = shapeCast S1x512x512 (S i x0 x1 x2 x3 a (n + 1)) shapeCasts_S512x512_S1x512x512) (h9 : r9 = shapeCast S1x512x128 (M i x0 x1 x2 x3 a (n + 1)) shapeCasts_S512x128_S1x512x128)
    (h0 : r0 = shapeCast S1x512x128 (alpha i x0 x1 x2 x3 a n) shapeCasts_S512x128_S1x512x128) (h7 : r7 = acc i x0 x1 x2 x3 x4 a n) :
    (addf (mulf r7 (concatenate S512x256 1 [⟨S512x128, shapeCast S512x128 r0 shapeCasts_S1x512x128_S512x128⟩, ⟨S512x128, shapeCast S512x128 r0 shapeCasts_S1x512x128_S512x128⟩] concatenates_S512x128_S512x128_S512x256_d1))
      (matmul dot_S512x512_S512x256_S512x256_1_0_0_1_n_n none
      (truncf .bf16 (exp2 (subf (shapeCast S512x512 r shapeCasts_S1x512x512_S512x512) (concatenate S512x512 1 [⟨S512x128, shapeCast S512x128 r9 shapeCasts_S1x512x128_S512x128⟩, ⟨S512x128, shapeCast S512x128 r9 shapeCasts_S1x512x128_S512x128⟩, ⟨S512x128, shapeCast S512x128 r9 shapeCasts_S1x512x128_S512x128⟩, ⟨S512x128, shapeCast S512x128 r9 shapeCasts_S1x512x128_S512x128⟩] concatenates_S512x128_S512x128_S512x128_S512x128_S512x512_d1))) bitsLt_bf16_f32)
      (concatenate S512x256 1 [⟨S512x128, (shapeCast S512x128 (View.readAt (Elt F) m6.view (Rect.unit (s := S4096x128) ![512 * ((n + 1) % 8), 0] S512x128.size (blk_inb (n + 1))).toLoadRect (h6.unread x4)) shapeCasts_S512x128_S512x128)⟩, ⟨S512x128, broadcast S512x128 (FloatOps.ofBits .bf16 0x3F80#16)⟩] concatenates_S512x128_S512x128_S512x256_d1)
      (constant S512x256 .f32 0x00000000#32))) = acc i x0 x1 x2 x3 x4 a (n + 1) := by
  rw [blk_read, hr, h9, h0, h7, shapeCast_shapeCast, shapeCast_shapeCast, shapeCast_shapeCast]; rfl

theorem t_AC0 (a : ℕ) {r : Vec F S1x512x512 .f32} {r9 : Vec F S1x512x128 .f32} (hr : r = shapeCast S1x512x512 (S i x0 x1 x2 x3 a 0) shapeCasts_S512x512_S1x512x512) (h9 : r9 = shapeCast S1x512x128 (M i x0 x1 x2 x3 a 0) shapeCasts_S512x128_S1x512x128) :
    shapeCast S512x256 (matmul dot_S512x512_S512x256_S512x256_1_0_0_1_n_n none
      (truncf .bf16 (exp2 (subf (shapeCast S512x512 r shapeCasts_S1x512x512_S512x512) (concatenate S512x512 1 [⟨S512x128, shapeCast S512x128 r9 shapeCasts_S1x512x128_S512x128⟩, ⟨S512x128, shapeCast S512x128 r9 shapeCasts_S1x512x128_S512x128⟩, ⟨S512x128, shapeCast S512x128 r9 shapeCasts_S1x512x128_S512x128⟩, ⟨S512x128, shapeCast S512x128 r9 shapeCasts_S1x512x128_S512x128⟩] concatenates_S512x128_S512x128_S512x128_S512x128_S512x512_d1))) bitsLt_bf16_f32)
      (concatenate S512x256 1 [⟨S512x128, (shapeCast S512x128 (View.readAt (Elt F) m6.view (Rect.unit (s := S4096x128) ![512 * (0 % 8), 0] S512x128.size (blk_inb 0)).toLoadRect (h6.unread x4)) shapeCasts_S512x128_S512x128)⟩, ⟨S512x128, broadcast S512x128 (FloatOps.ofBits .bf16 0x3F80#16)⟩] concatenates_S512x128_S512x128_S512x256_d1)
      (constant S512x256 .f32 0x00000000#32)) shapeCasts_S512x256_S512x256 = acc i x0 x1 x2 x3 x4 a 0 := by
  rw [shapeCast_self]; exact t_acc0 h6 i x0 x1 x2 x3 x4 a hr h9

theorem t_ACn (a n : ℕ) {r : Vec F S1x512x512 .f32} {r9 r0 : Vec F S1x512x128 .f32} {r7 : Vec F S512x256 .f32} (hr : r = shapeCast S1x512x512 (S i x0 x1 x2 x3 a (n + 1)) shapeCasts_S512x512_S1x512x512) (h9 : r9 = shapeCast S1x512x128 (M i x0 x1 x2 x3 a (n + 1)) shapeCasts_S512x128_S1x512x128)
    (h0 : r0 = shapeCast S1x512x128 (alpha i x0 x1 x2 x3 a n) shapeCasts_S512x128_S1x512x128) (h7 : r7 = acc i x0 x1 x2 x3 x4 a n) :
    shapeCast S512x256 (addf (mulf r7 (concatenate S512x256 1 [⟨S512x128, shapeCast S512x128 r0 shapeCasts_S1x512x128_S512x128⟩, ⟨S512x128, shapeCast S512x128 r0 shapeCasts_S1x512x128_S512x128⟩] concatenates_S512x128_S512x128_S512x256_d1))
      (matmul dot_S512x512_S512x256_S512x256_1_0_0_1_n_n none
      (truncf .bf16 (exp2 (subf (shapeCast S512x512 r shapeCasts_S1x512x512_S512x512) (concatenate S512x512 1 [⟨S512x128, shapeCast S512x128 r9 shapeCasts_S1x512x128_S512x128⟩, ⟨S512x128, shapeCast S512x128 r9 shapeCasts_S1x512x128_S512x128⟩, ⟨S512x128, shapeCast S512x128 r9 shapeCasts_S1x512x128_S512x128⟩, ⟨S512x128, shapeCast S512x128 r9 shapeCasts_S1x512x128_S512x128⟩] concatenates_S512x128_S512x128_S512x128_S512x128_S512x512_d1))) bitsLt_bf16_f32)
      (concatenate S512x256 1 [⟨S512x128, (shapeCast S512x128 (View.readAt (Elt F) m6.view (Rect.unit (s := S4096x128) ![512 * ((n + 1) % 8), 0] S512x128.size (blk_inb (n + 1))).toLoadRect (h6.unread x4)) shapeCasts_S512x128_S512x128)⟩, ⟨S512x128, broadcast S512x128 (FloatOps.ofBits .bf16 0x3F80#16)⟩] concatenates_S512x128_S512x128_S512x256_d1)
      (constant S512x256 .f32 0x00000000#32))) shapeCasts_S512x256_S512x256 = acc i x0 x1 x2 x3 x4 a (n + 1) := by
  rw [shapeCast_self]; exact t_accn h6 i x0 x1 x2 x3 x4 a n hr h9 h0 h7

theorem t_O0 {r : Vec F S1x512x512 .f32} {r9 : Vec F S1x512x128 .f32} (hr : r = shapeCast S1x512x512 (S i x0 x1 x2 x3 0 0) shapeCasts_S512x512_S1x512x512) (h9 : r9 = shapeCast S1x512x128 (M i x0 x1 x2 x3 0 0) shapeCasts_S512x128_S1x512x128) :
    truncf .bf16 (divf (extractStridedSlice S512x128 ![0, 0] (matmul dot_S512x512_S512x256_S512x256_1_0_0_1_n_n none
      (truncf .bf16 (exp2 (subf (shapeCast S512x512 r shapeCasts_S1x512x512_S512x512) (concatenate S512x512 1 [⟨S512x128, shapeCast S512x128 r9 shapeCasts_S1x512x128_S512x128⟩, ⟨S512x128, shapeCast S512x128 r9 shapeCasts_S1x512x128_S512x128⟩, ⟨S512x128, shapeCast S512x128 r9 shapeCasts_S1x512x128_S512x128⟩, ⟨S512x128, shapeCast S512x128 r9 shapeCasts_S1x512x128_S512x128⟩] concatenates_S512x128_S512x128_S512x128_S512x128_S512x512_d1))) bitsLt_bf16_f32)
      (concatenate S512x256 1 [⟨S512x128, (shapeCast S512x128 (View.readAt (Elt F) m6.view (Rect.unit (s := S4096x128) ![512 * (0 % 8), 0] S512x128.size (blk_inb 0)).toLoadRect (h6.unread x4)) shapeCasts_S512x128_S512x128)⟩, ⟨S512x128, broadcast S512x128 (FloatOps.ofBits .bf16 0x3F80#16)⟩] concatenates_S512x128_S512x128_S512x256_d1)
      (constant S512x256 .f32 0x00000000#32)) slices_S512x256_o0_0_S512x128)
    (extractStridedSlice S512x128 ![0, 128] (matmul dot_S512x512_S512x256_S512x256_1_0_0_1_n_n none
      (truncf .bf16 (exp2 (subf (shapeCast S512x512 r shapeCasts_S1x512x512_S512x512) (concatenate S512x512 1 [⟨S512x128, shapeCast S512x128 r9 shapeCasts_S1x512x128_S512x128⟩, ⟨S512x128, shapeCast S512x128 r9 shapeCasts_S1x512x128_S512x128⟩, ⟨S512x128, shapeCast S512x128 r9 shapeCasts_S1x512x128_S512x128⟩, ⟨S512x128, shapeCast S512x128 r9 shapeCasts_S1x512x128_S512x128⟩] concatenates_S512x128_S512x128_S512x128_S512x128_S512x512_d1))) bitsLt_bf16_f32)
      (concatenate S512x256 1 [⟨S512x128, (shapeCast S512x128 (View.readAt (Elt F) m6.view (Rect.unit (s := S4096x128) ![512 * (0 % 8), 0] S512x128.size (blk_inb 0)).toLoadRect (h6.unread x4)) shapeCasts_S512x128_S512x128)⟩, ⟨S512x128, broadcast S512x128 (FloatOps.ofBits .bf16 0x3F80#16)⟩] concatenates_S512x128_S512x128_S512x256_d1)
      (constant S512x256 .f32 0x00000000#32)) slices_S512x256_o0_128_S512x128)) bitsLt_bf16_f32 = out i x0 x1 x2 x3 x4 0 := by
  rw [t_acc0 h6 i x0 x1 x2 x3 x4 0 hr h9]; rfl

theorem t_On (a n : ℕ) (ha : a = n + 1) {r : Vec F S1x512x512 .f32} {r9 r0 : Vec F S1x512x128 .f32} {r7 : Vec F S512x256 .f32} (hr : r = shapeCast S1x512x512 (S i x0 x1 x2 x3 a (n + 1)) shapeCasts_S512x512_S1x512x512) (h9 : r9 = shapeCast S1x512x128 (M i x0 x1 x2 x3 a (n + 1)) shapeCasts_S512x128_S1x512x128)
    (h0 : r0 = shapeCast S1x512x128 (alpha i x0 x1 x2 x3 a n) shapeCasts_S512x128_S1x512x128) (h7 : r7 = acc i x0 x1 x2 x3 x4 a n) :
    truncf .bf16 (divf (extractStridedSlice S512x128 ![0, 0] (addf (mulf r7 (concatenate S512x256 1 [⟨S512x128, shapeCast S512x128 r0 shapeCasts_S1x512x128_S512x128⟩, ⟨S512x128, shapeCast S512x128 r0 shapeCasts_S1x512x128_S512x128⟩] concatenates_S512x128_S512x128_S512x256_d1))
      (matmul dot_S512x512_S512x256_S512x256_1_0_0_1_n_n none
      (truncf .bf16 (exp2 (subf (shapeCast S512x512 r shapeCasts_S1x512x512_S512x512) (concatenate S512x512 1 [⟨S512x128, shapeCast S512x128 r9 shapeCasts_S1x512x128_S512x128⟩, ⟨S512x128, shapeCast S512x128 r9 shapeCasts_S1x512x128_S512x128⟩, ⟨S512x128, shapeCast S512x128 r9 shapeCasts_S1x512x128_S512x128⟩, ⟨S512x128, shapeCast S512x128 r9 shapeCasts_S1x512x128_S512x128⟩] concatenates_S512x128_S512x128_S512x128_S512x128_S512x512_d1))) bitsLt_bf16_f32)
      (concatenate S512x256 1 [⟨S512x128, (shapeCast S512x128 (View.readAt (Elt F) m6.view (Rect.unit (s := S4096x128) ![512 * ((n + 1) % 8), 0] S512x128.size (blk_inb (n + 1))).toLoadRect (h6.unread x4)) shapeCasts_S512x128_S512x128)⟩, ⟨S512x128, broadcast S512x128 (FloatOps.ofBits .bf16 0x3F80#16)⟩] concatenates_S512x128_S512x128_S512x256_d1)
      (constant S512x256 .f32 0x00000000#32))) slices_S512x256_o0_0_S512x128)
    (extractStridedSlice S512x128 ![0, 128] (addf (mulf r7 (concatenate S512x256 1 [⟨S512x128, shapeCast S512x128 r0 shapeCasts_S1x512x128_S512x128⟩, ⟨S512x128, shapeCast S512x128 r0 shapeCasts_S1x512x128_S512x128⟩] concatenates_S512x128_S512x128_S512x256_d1))
      (matmul dot_S512x512_S512x256_S512x256_1_0_0_1_n_n none
      (truncf .bf16 (exp2 (subf (shapeCast S512x512 r shapeCasts_S1x512x512_S512x512) (concatenate S512x512 1 [⟨S512x128, shapeCast S512x128 r9 shapeCasts_S1x512x128_S512x128⟩, ⟨S512x128, shapeCast S512x128 r9 shapeCasts_S1x512x128_S512x128⟩, ⟨S512x128, shapeCast S512x128 r9 shapeCasts_S1x512x128_S512x128⟩, ⟨S512x128, shapeCast S512x128 r9 shapeCasts_S1x512x128_S512x128⟩] concatenates_S512x128_S512x128_S512x128_S512x128_S512x512_d1))) bitsLt_bf16_f32)
      (concatenate S512x256 1 [⟨S512x128, (shapeCast S512x128 (View.readAt (Elt F) m6.view (Rect.unit (s := S4096x128) ![512 * ((n + 1) % 8), 0] S512x128.size (blk_inb (n + 1))).toLoadRect (h6.unread x4)) shapeCasts_S512x128_S512x128)⟩, ⟨S512x128, broadcast S512x128 (FloatOps.ofBits .bf16 0x3F80#16)⟩] concatenates_S512x128_S512x128_S512x256_d1)
      (constant S512x256 .f32 0x00000000#32))) slices_S512x256_o0_128_S512x128)) bitsLt_bf16_f32 = out i x0 x1 x2 x3 x4 a := by
  rw [t_accn h6 i x0 x1 x2 x3 x4 a n hr h9 h0 h7]; subst ha; rfl

end Cert.KernelIdeal.Attn
-- ==== Proof.AttnRead1.lean ====
/- What each stored vector of the attention kernel is, in the stages (part 1). -/
module

public import proofs.«01_k».proof.Proof.AttnStage

@[expose] public section

set_option maxRecDepth 16384

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F] [Named F]

theorem p_v26 (c : Dev nD) (i : grid1.Coords) (arg3 : Memref sig .tc .vmem S4096x128 .bf16) (harg3 : arg3.IsWhole) (x1 : Vec F S4096x128 .bf16) : run.sl.v26 (F := F) c i arg3 harg3 x1 = qam i x1 :=
  (congrArg (fun z => shapeCast S4096x128 (select _ z _) _) (whole_read harg3 x1 _ _)).trans (shapeCast_self _ _)

theorem r_v1381 (c : Dev nD) (i : grid1.Coords) (arg3 : Memref sig .tc .vmem S4096x128 .bf16) (harg3 : arg3.IsWhole) (arg15 : Memref sig .tc .vmem S4096x128 .bf16) (x1 : Vec F S4096x128 .bf16) : run.sl.v1381 (F := F) c i arg3 harg3 arg15 x1 = blk (qam i x1) 0 := by
  rw [run.sl.v1381, run.sl.H15_1, View.readCov_fill _ _ _ _ _ (by decide), p_v26]; rfl

theorem p_v1396 (c : Dev nD) (i : grid1.Coords) (arg2 : Memref sig .tc .vmem S4096x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S4096x128 .bf16) (harg5 : arg5.IsWhole) (arg15 : Memref sig .tc .vmem S4096x128 .bf16) (x0 : Vec F S4096x128 .bf16) (x1 : Vec F S4096x128 .bf16) (x2 : Vec F S4096x128 .bf16) (x3 : Vec F S4096x128 .bf16) : run.sl.v1396 (F := F) c i arg2 harg2 arg3 harg3 arg4 harg4 arg5 harg5 arg15 x0 x1 x2 x3 = shapeCast S1x512x512 (S i x0 x1 x2 x3 0 0) shapeCasts_S512x512_S1x512x512 :=
  t_diag harg2 harg4 harg5 i x0 x1 x2 x3 0 (r_v1381 c i arg3 harg3 arg15 x1)

theorem r_v1450 (c : Dev nD) (i : grid1.Coords) (arg2 : Memref sig .tc .vmem S4096x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S4096x128 .bf16) (harg5 : arg5.IsWhole) (arg15 : Memref sig .tc .vmem S4096x128 .bf16) (arg18 : Memref sig .tc .vmem S4x512x512 .f32) (x0 : Vec F S4096x128 .bf16) (x1 : Vec F S4096x128 .bf16) (x2 : Vec F S4096x128 .bf16) (x3 : Vec F S4096x128 .bf16) : run.sl.v1450 (F := F) c i arg2 harg2 arg3 harg3 arg4 harg4 arg5 harg5 arg15 arg18 x0 x1 x2 x3 = shapeCast S1x512x512 (S i x0 x1 x2 x3 0 0) shapeCasts_S512x512_S1x512x512 := by
  rw [run.sl.v1450, run.sl.H18_30, View.readCov_skip _ _ _ _ _ (by decide), run.sl.H18_29, View.readCov_cons_toLoadRect, p_v1396]

theorem r_v1418 (c : Dev nD) (i : grid1.Coords) (arg2 : Memref sig .tc .vmem S4096x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S4096x128 .bf16) (harg5 : arg5.IsWhole) (arg15 : Memref sig .tc .vmem S4096x128 .bf16) (arg18 : Memref sig .tc .vmem S4x512x512 .f32) (x0 : Vec F S4096x128 .bf16) (x1 : Vec F S4096x128 .bf16) (x2 : Vec F S4096x128 .bf16) (x3 : Vec F S4096x128 .bf16) : run.sl.v1418 (F := F) c i arg2 harg2 arg3 harg3 arg4 harg4 arg5 harg5 arg15 arg18 x0 x1 x2 x3 = shapeCast S1x512x512 (S i x0 x1 x2 x3 0 0) shapeCasts_S512x512_S1x512x512 := by
  rw [run.sl.v1418, run.sl.H18_29, View.readCov_cons_toLoadRect, p_v1396]

theorem p_v1426 (c : Dev nD) (i : grid1.Coords) (arg2 : Memref sig .tc .vmem S4096x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S4096x128 .bf16) (harg5 : arg5.IsWhole) (arg15 : Memref sig .tc .vmem S4096x128 .bf16) (arg18 : Memref sig .tc .vmem S4x512x512 .f32) (x0 : Vec F S4096x128 .bf16) (x1 : Vec F S4096x128 .bf16) (x2 : Vec F S4096x128 .bf16) (x3 : Vec F S4096x128 .bf16) : run.sl.v1426 (F := F) c i arg2 harg2 arg3 harg3 arg4 harg4 arg5 harg5 arg15 arg18 x0 x1 x2 x3 = shapeCast S1x512x128 (M i x0 x1 x2 x3 0 0) shapeCasts_S512x128_S1x512x128 :=
  t_MN0 i x0 x1 x2 x3 0 (r_v1418 c i arg2 harg2 arg3 harg3 arg4 harg4 arg5 harg5 arg15 arg18 x0 x1 x2 x3)

theorem r_v1448 (c : Dev nD) (i : grid1.Coords) (arg2 : Memref sig .tc .vmem S4096x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S4096x128 .bf16) (harg5 : arg5.IsWhole) (arg15 : Memref sig .tc .vmem S4096x128 .bf16) (arg16 : Memref sig .tc .vmem S4096x128 .f32) (arg18 : Memref sig .tc .vmem S4x512x512 .f32) (arg19 : Memref sig .tc .vmem S4x512x128 .f32) (x0 : Vec F S4096x128 .bf16) (x1 : Vec F S4096x128 .bf16) (x2 : Vec F S4096x128 .bf16) (x3 : Vec F S4096x128 .bf16) : run.sl.v1448 (F := F) c i arg2 harg2 arg3 harg3 arg4 harg4 arg5 harg5 arg15 arg16 arg18 arg19 x0 x1 x2 x3 = shapeCast S1x512x128 (M i x0 x1 x2 x3 0 0) shapeCasts_S512x128_S1x512x128 := by
  rw [run.sl.v1448, run.sl.H19_29, View.readCov_cons_toLoadRect, p_v1426]

theorem p_v1463 (c : Dev nD) (i : grid1.Coords) (arg2 : Memref sig .tc .vmem S4096x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S4096x128 .bf16) (harg5 : arg5.IsWhole) (arg6 : Memref sig .tc .vmem S4096x128 .bf16) (harg6 : arg6.IsWhole) (arg15 : Memref sig .tc .vmem S4096x128 .bf16) (arg16 : Memref sig .tc .vmem S4096x128 .f32) (arg18 : Memref sig .tc .vmem S4x512x512 .f32) (arg19 : Memref sig .tc .vmem S4x512x128 .f32) (x0 : Vec F S4096x128 .bf16) (x1 : Vec F S4096x128 .bf16) (x2 : Vec F S4096x128 .bf16) (x3 : Vec F S4096x128 .bf16) (x4 : Vec F S4096x128 .bf16) : run.sl.v1463 (F := F) c i arg2 harg2 arg3 harg3 arg4 harg4 arg5 harg5 arg6 harg6 arg15 arg16 arg18 arg19 x0 x1 x2 x3 x4 = out i x0 x1 x2 x3 x4 0 :=
  t_O0 harg6 i x0 x1 x2 x3 x4 (r_v1450 c i arg2 harg2 arg3 harg3 arg4 harg4 arg5 harg5 arg15 arg18 x0 x1 x2 x3) (r_v1448 c i arg2 harg2 arg3 harg3 arg4 harg4 arg5 harg5 arg15 arg16 arg18 arg19 x0 x1 x2 x3)

theorem r_v30 (c : Dev nD) (i : grid1.Coords) (arg3 : Memref sig .tc .vmem S4096x128 .bf16) (harg3 : arg3.IsWhole) (arg15 : Memref sig .tc .vmem S4096x128 .bf16) (x1 : Vec F S4096x128 .bf16) : run.sl.v30 (F := F) c i arg3 harg3 arg15 x1 = blk (qam i x1) 1 := by
  rw [run.sl.v30, run.sl.H15_1, View.readCov_fill _ _ _ _ _ (by decide), p_v26]; rfl

theorem p_v40 (c : Dev nD) (i : grid1.Coords) (arg2 : Memref sig .tc .vmem S4096x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S4096x128 .bf16) (harg5 : arg5.IsWhole) (arg15 : Memref sig .tc .vmem S4096x128 .bf16) (x0 : Vec F S4096x128 .bf16) (x1 : Vec F S4096x128 .bf16) (x2 : Vec F S4096x128 .bf16) (x3 : Vec F S4096x128 .bf16) : run.sl.v40 (F := F) c i arg2 harg2 arg3 harg3 arg4 harg4 arg5 harg5 arg15 x0 x1 x2 x3 = shapeCast S1x512x512 (S i x0 x1 x2 x3 1 0) shapeCasts_S512x512_S1x512x512 :=
  t_off harg2 harg4 harg5 i x0 x1 x2 x3 1 0 (by decide) (r_v30 c i arg3 harg3 arg15 x1)

theorem r_v68 (c : Dev nD) (i : grid1.Coords) (arg2 : Memref sig .tc .vmem S4096x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S4096x128 .bf16) (harg5 : arg5.IsWhole) (arg15 : Memref sig .tc .vmem S4096x128 .bf16) (arg18 : Memref sig .tc .vmem S4x512x512 .f32) (x0 : Vec F S4096x128 .bf16) (x1 : Vec F S4096x128 .bf16) (x2 : Vec F S4096x128 .bf16) (x3 : Vec F S4096x128 .bf16) : run.sl.v68 (F := F) c i arg2 harg2 arg3 harg3 arg4 harg4 arg5 harg5 arg15 arg18 x0 x1 x2 x3 = shapeCast S1x512x512 (S i x0 x1 x2 x3 1 0) shapeCasts_S512x512_S1x512x512 := by
  rw [run.sl.v68, run.sl.H18_2, View.readCov_skip _ _ _ _ _ (by decide), run.sl.H18_1, View.readCov_cons_toLoadRect, p_v40]

theorem r_v41 (c : Dev nD) (i : grid1.Coords) (arg2 : Memref sig .tc .vmem S4096x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S4096x128 .bf16) (harg5 : arg5.IsWhole) (arg15 : Memref sig .tc .vmem S4096x128 .bf16) (arg18 : Memref sig .tc .vmem S4x512x512 .f32) (x0 : Vec F S4096x128 .bf16) (x1 : Vec F S4096x128 .bf16) (x2 : Vec F S4096x128 .bf16) (x3 : Vec F S4096x128 .bf16) : run.sl.v41 (F := F) c i arg2 harg2 arg3 harg3 arg4 harg4 arg5 harg5 arg15 arg18 x0 x1 x2 x3 = shapeCast S1x512x512 (S i x0 x1 x2 x3 1 0) shapeCasts_S512x512_S1x512x512 := by
  rw [run.sl.v41, run.sl.H18_1, View.readCov_cons_toLoadRect, p_v40]

theorem p_v49 (c : Dev nD) (i : grid1.Coords) (arg2 : Memref sig .tc .vmem S4096x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S4096x128 .bf16) (harg5 : arg5.IsWhole) (arg15 : Memref sig .tc .vmem S4096x128 .bf16) (arg18 : Memref sig .tc .vmem S4x512x512 .f32) (x0 : Vec F S4096x128 .bf16) (x1 : Vec F S4096x128 .bf16) (x2 : Vec F S4096x128 .bf16) (x3 : Vec F S4096x128 .bf16) : run.sl.v49 (F := F) c i arg2 harg2 arg3 harg3 arg4 harg4 arg5 harg5 arg15 arg18 x0 x1 x2 x3 = shapeCast S1x512x128 (M i x0 x1 x2 x3 1 0) shapeCasts_S512x128_S1x512x128 :=
  t_MN0 i x0 x1 x2 x3 1 (r_v41 c i arg2 harg2 arg3 harg3 arg4 harg4 arg5 harg5 arg15 arg18 x0 x1 x2 x3)

theorem r_v66 (c : Dev nD) (i : grid1.Coords) (arg2 : Memref sig .tc .vmem S4096x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S4096x128 .bf16) (harg5 : arg5.IsWhole) (arg15 : Memref sig .tc .vmem S4096x128 .bf16) (arg18 : Memref sig .tc .vmem S4x512x512 .f32) (arg19 : Memref sig .tc .vmem S4x512x128 .f32) (x0 : Vec F S4096x128 .bf16) (x1 : Vec F S4096x128 .bf16) (x2 : Vec F S4096x128 .bf16) (x3 : Vec F S4096x128 .bf16) : run.sl.v66 (F := F) c i arg2 harg2 arg3 harg3 arg4 harg4 arg5 harg5 arg15 arg18 arg19 x0 x1 x2 x3 = shapeCast S1x512x128 (M i x0 x1 x2 x3 1 0) shapeCasts_S512x128_S1x512x128 := by
  rw [run.sl.v66, run.sl.H19_1, View.readCov_cons_toLoadRect, p_v49]

theorem p_v80 (c : Dev nD) (i : grid1.Coords) (arg2 : Memref sig .tc .vmem S4096x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S4096x128 .bf16) (harg5 : arg5.IsWhole) (arg6 : Memref sig .tc .vmem S4096x128 .bf16) (harg6 : arg6.IsWhole) (arg15 : Memref sig .tc .vmem S4096x128 .bf16) (arg18 : Memref sig .tc .vmem S4x512x512 .f32) (arg19 : Memref sig .tc .vmem S4x512x128 .f32) (x0 : Vec F S4096x128 .bf16) (x1 : Vec F S4096x128 .bf16) (x2 : Vec F S4096x128 .bf16) (x3 : Vec F S4096x128 .bf16) (x4 : Vec F S4096x128 .bf16) : run.sl.v80 (F := F) c i arg2 harg2 arg3 harg3 arg4 harg4 arg5 harg5 arg6 harg6 arg15 arg18 arg19 x0 x1 x2 x3 x4 = acc i x0 x1 x2 x3 x4 1 0 :=
  t_AC0 harg6 i x0 x1 x2 x3 x4 1 (r_v68 c i arg2 harg2 arg3 harg3 arg4 harg4 arg5 harg5 arg15 arg18 x0 x1 x2 x3) (r_v66 c i arg2 harg2 arg3 harg3 arg4 harg4 arg5 harg5 arg15 arg18 arg19 x0 x1 x2 x3)

theorem r_v1515 (c : Dev nD) (i : grid1.Coords) (arg2 : Memref sig .tc .vmem S4096x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S4096x128 .bf16) (harg5 : arg5.IsWhole) (arg6 : Memref sig .tc .vmem S4096x128 .bf16) (harg6 : arg6.IsWhole) (arg15 : Memref sig .tc .vmem S4096x128 .bf16) (arg16 : Memref sig .tc .vmem S4096x128 .f32) (arg17 : Memref sig .tc .vmem S4096x256 .f32) (arg18 : Memref sig .tc .vmem S4x512x512 .f32) (arg19 : Memref sig .tc .vmem S4x512x128 .f32) (arg20 : Memref sig .tc .vmem S4x512x128 .f32) (x0 : Vec F S4096x128 .bf16) (x1 : Vec F S4096x128 .bf16) (x2 : Vec F S4096x128 .bf16) (x3 : Vec F S4096x128 .bf16) (x4 : Vec F S4096x128 .bf16) : run.sl.v1515 (F := F) c i arg2 harg2 arg3 harg3 arg4 harg4 arg5 harg5 arg6 harg6 arg15 arg16 arg17 arg18 arg19 arg20 x0 x1 x2 x3 x4 = acc i x0 x1 x2 x3 x4 1 0 := by
  rw [run.sl.v1515, run.sl.H17_28, View.readCov_skip _ _ _ _ _ (by decide), run.sl.H17_27, View.readCov_skip _ _ _ _ _ (by decide), run.sl.H17_26, View.readCov_skip _ _ _ _ _ (by decide), run.sl.H17_25, View.readCov_skip _ _ _ _ _ (by decide), run.sl.H17_24, View.readCov_skip _ _ _ _ _ (by decide), run.sl.H17_23, View.readCov_skip _ _ _ _ _ (by decide), run.sl.H17_22, View.readCov_skip _ _ _ _ _ (by decide), View.readCov_skip _ _ _ _ _ (by decide), run.sl.H17_20, View.readCov_skip _ _ _ _ _ (by decide), run.sl.H17_19, View.readCov_skip _ _ _ _ _ (by decide), run.sl.H17_18, View.readCov_skip _ _ _ _ _ (by decide), run.sl.H17_17, View.readCov_skip _ _ _ _ _ (by decide), run.sl.H17_16, View.readCov_skip _ _ _ _ _ (by decide), View.readCov_skip _ _ _ _ _ (by decide), run.sl.H17_14, View.readCov_skip _ _ _ _ _ (by decide), run.sl.H17_13, View.readCov_skip _ _ _ _ _ (by decide), run.sl.H17_12, View.readCov_skip _ _ _ _ _ (by decide), run.sl.H17_11, View.readCov_skip _ _ _ _ _ (by decide), View.readCov_skip _ _ _ _ _ (by decide), run.sl.H17_9, View.readCov_skip _ _ _ _ _ (by decide), run.sl.H17_8, View.readCov_skip _ _ _ _ _ (by decide), run.sl.H17_7, View.readCov_skip _ _ _ _ _ (by decide), View.readCov_skip _ _ _ _ _ (by decide), run.sl.H17_5, View.readCov_skip _ _ _ _ _ (by decide), run.sl.H17_4, View.readCov_skip _ _ _ _ _ (by decide), View.readCov_skip _ _ _ _ _ (by decide), run.sl.H17_2, View.readCov_skip _ _ _ _ _ (by decide), View.readCov_cons_toLoadRect, p_v80]

theorem p_v52 (c : Dev nD) (i : grid1.Coords) (arg2 : Memref sig .tc .vmem S4096x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S4096x128 .bf16) (harg5 : arg5.IsWhole) (arg15 : Memref sig .tc .vmem S4096x128 .bf16) (arg18 : Memref sig .tc .vmem S4x512x512 .f32) (x0 : Vec F S4096x128 .bf16) (x1 : Vec F S4096x128 .bf16) (x2 : Vec F S4096x128 .bf16) (x3 : Vec F S4096x128 .bf16) : run.sl.v52 (F := F) c i arg2 harg2 arg3 harg3 arg4 harg4 arg5 harg5 arg15 arg18 x0 x1 x2 x3 = M i x0 x1 x2 x3 1 0 :=
  t_MM0 i x0 x1 x2 x3 1 (r_v41 c i arg2 harg2 arg3 harg3 arg4 harg4 arg5 harg5 arg15 arg18 x0 x1 x2 x3)

theorem r_v1469 (c : Dev nD) (i : grid1.Coords) (arg2 : Memref sig .tc .vmem S4096x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S4096x128 .bf16) (harg5 : arg5.IsWhole) (arg15 : Memref sig .tc .vmem S4096x128 .bf16) (arg16 : Memref sig .tc .vmem S4096x128 .f32) (arg18 : Memref sig .tc .vmem S4x512x512 .f32) (x0 : Vec F S4096x128 .bf16) (x1 : Vec F S4096x128 .bf16) (x2 : Vec F S4096x128 .bf16) (x3 : Vec F S4096x128 .bf16) : run.sl.v1469 (F := F) c i arg2 harg2 arg3 harg3 arg4 harg4 arg5 harg5 arg15 arg16 arg18 x0 x1 x2 x3 = M i x0 x1 x2 x3 1 0 := by
  rw [run.sl.v1469, run.sl.H16_29, View.readCov_skip _ _ _ _ _ (by decide), View.readCov_skip _ _ _ _ _ (by decide), run.sl.H16_27, View.readCov_skip _ _ _ _ _ (by decide), run.sl.H16_26, View.readCov_skip _ _ _ _ _ (by decide), run.sl.H16_25, View.readCov_skip _ _ _ _ _ (by decide), run.sl.H16_24, View.readCov_skip _ _ _ _ _ (by decide), run.sl.H16_23, View.readCov_skip _ _ _ _ _ (by decide), run.sl.H16_22, View.readCov_skip _ _ _ _ _ (by decide), View.readCov_skip _ _ _ _ _ (by decide), run.sl.H16_20, View.readCov_skip _ _ _ _ _ (by decide), run.sl.H16_19, View.readCov_skip _ _ _ _ _ (by decide), run.sl.H16_18, View.readCov_skip _ _ _ _ _ (by decide), run.sl.H16_17, View.readCov_skip _ _ _ _ _ (by decide), run.sl.H16_16, View.readCov_skip _ _ _ _ _ (by decide), View.readCov_skip _ _ _ _ _ (by decide), run.sl.H16_14, View.readCov_skip _ _ _ _ _ (by decide), run.sl.H16_13, View.readCov_skip _ _ _ _ _ (by decide), run.sl.H16_12, View.readCov_skip _ _ _ _ _ (by decide), run.sl.H16_11, View.readCov_skip _ _ _ _ _ (by decide), View.readCov_skip _ _ _ _ _ (by decide), run.sl.H16_9, View.readCov_skip _ _ _ _ _ (by decide), run.sl.H16_8, View.readCov_skip _ _ _ _ _ (by decide), run.sl.H16_7, View.readCov_skip _ _ _ _ _ (by decide), View.readCov_skip _ _ _ _ _ (by decide), run.sl.H16_5, View.readCov_skip _ _ _ _ _ (by decide), run.sl.H16_4, View.readCov_skip _ _ _ _ _ (by decide), View.readCov_skip _ _ _ _ _ (by decide), run.sl.H16_2, View.readCov_skip _ _ _ _ _ (by decide), View.readCov_cons_toLoadRect, p_v52]

theorem p_v1447 (c : Dev nD) (i : grid1.Coords) (arg2 : Memref sig .tc .vmem S4096x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S4096x128 .bf16) (harg5 : arg5.IsWhole) (arg15 : Memref sig .tc .vmem S4096x128 .bf16) (x0 : Vec F S4096x128 .bf16) (x1 : Vec F S4096x128 .bf16) (x2 : Vec F S4096x128 .bf16) (x3 : Vec F S4096x128 .bf16) : run.sl.v1447 (F := F) c i arg2 harg2 arg3 harg3 arg4 harg4 arg5 harg5 arg15 x0 x1 x2 x3 = shapeCast S1x512x512 (S i x0 x1 x2 x3 1 1) shapeCasts_S512x512_S1x512x512 :=
  t_diag harg2 harg4 harg5 i x0 x1 x2 x3 1 (r_v30 c i arg3 harg3 arg15 x1)

theorem r_v1465 (c : Dev nD) (i : grid1.Coords) (arg2 : Memref sig .tc .vmem S4096x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S4096x128 .bf16) (harg5 : arg5.IsWhole) (arg15 : Memref sig .tc .vmem S4096x128 .bf16) (arg18 : Memref sig .tc .vmem S4x512x512 .f32) (x0 : Vec F S4096x128 .bf16) (x1 : Vec F S4096x128 .bf16) (x2 : Vec F S4096x128 .bf16) (x3 : Vec F S4096x128 .bf16) : run.sl.v1465 (F := F) c i arg2 harg2 arg3 harg3 arg4 harg4 arg5 harg5 arg15 arg18 x0 x1 x2 x3 = shapeCast S1x512x512 (S i x0 x1 x2 x3 1 1) shapeCasts_S512x512_S1x512x512 := by
  rw [run.sl.v1465, run.sl.H18_30, View.readCov_cons_toLoadRect, p_v1447]

theorem p_v1476 (c : Dev nD) (i : grid1.Coords) (arg2 : Memref sig .tc .vmem S4096x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S4096x128 .bf16) (harg5 : arg5.IsWhole) (arg15 : Memref sig .tc .vmem S4096x128 .bf16) (arg16 : Memref sig .tc .vmem S4096x128 .f32) (arg18 : Memref sig .tc .vmem S4x512x512 .f32) (x0 : Vec F S4096x128 .bf16) (x1 : Vec F S4096x128 .bf16) (x2 : Vec F S4096x128 .bf16) (x3 : Vec F S4096x128 .bf16) : run.sl.v1476 (F := F) c i arg2 harg2 arg3 harg3 arg4 harg4 arg5 harg5 arg15 arg16 arg18 x0 x1 x2 x3 = shapeCast S1x512x128 (alpha i x0 x1 x2 x3 1 0) shapeCasts_S512x128_S1x512x128 :=
  t_A i x0 x1 x2 x3 1 0 (r_v1469 c i arg2 harg2 arg3 harg3 arg4 harg4 arg5 harg5 arg15 arg16 arg18 x0 x1 x2 x3) (r_v1465 c i arg2 harg2 arg3 harg3 arg4 harg4 arg5 harg5 arg15 arg18 x0 x1 x2 x3)

theorem r_v1513 (c : Dev nD) (i : grid1.Coords) (arg2 : Memref sig .tc .vmem S4096x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S4096x128 .bf16) (harg5 : arg5.IsWhole) (arg15 : Memref sig .tc .vmem S4096x128 .bf16) (arg16 : Memref sig .tc .vmem S4096x128 .f32) (arg18 : Memref sig .tc .vmem S4x512x512 .f32) (arg20 : Memref sig .tc .vmem S4x512x128 .f32) (x0 : Vec F S4096x128 .bf16) (x1 : Vec F S4096x128 .bf16) (x2 : Vec F S4096x128 .bf16) (x3 : Vec F S4096x128 .bf16) : run.sl.v1513 (F := F) c i arg2 harg2 arg3 harg3 arg4 harg4 arg5 harg5 arg15 arg16 arg18 arg20 x0 x1 x2 x3 = shapeCast S1x512x128 (alpha i x0 x1 x2 x3 1 0) shapeCasts_S512x128_S1x512x128 := by
  rw [run.sl.v1513, run.sl.H20_22, View.readCov_cons_toLoadRect, p_v1476]

theorem r_v1503 (c : Dev nD) (i : grid1.Coords) (arg2 : Memref sig .tc .vmem S4096x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S4096x128 .bf16) (harg5 : arg5.IsWhole) (arg15 : Memref sig .tc .vmem S4096x128 .bf16) (arg18 : Memref sig .tc .vmem S4x512x512 .f32) (x0 : Vec F S4096x128 .bf16) (x1 : Vec F S4096x128 .bf16) (x2 : Vec F S4096x128 .bf16) (x3 : Vec F S4096x128 .bf16) : run.sl.v1503 (F := F) c i arg2 harg2 arg3 harg3 arg4 harg4 arg5 harg5 arg15 arg18 x0 x1 x2 x3 = shapeCast S1x512x512 (S i x0 x1 x2 x3 1 1) shapeCasts_S512x512_S1x512x512 := by
  rw [run.sl.v1503, run.sl.H18_31, View.readCov_skip _ _ _ _ _ (by decide), run.sl.H18_30, View.readCov_cons_toLoadRect, p_v1447]

theorem p_v1479 (c : Dev nD) (i : grid1.Coords) (arg2 : Memref sig .tc .vmem S4096x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S4096x128 .bf16) (harg5 : arg5.IsWhole) (arg15 : Memref sig .tc .vmem S4096x128 .bf16) (arg16 : Memref sig .tc .vmem S4096x128 .f32) (arg18 : Memref sig .tc .vmem S4x512x512 .f32) (x0 : Vec F S4096x128 .bf16) (x1 : Vec F S4096x128 .bf16) (x2 : Vec F S4096x128 .bf16) (x3 : Vec F S4096x128 .bf16) : run.sl.v1479 (F := F) c i arg2 harg2 arg3 harg3 arg4 harg4 arg5 harg5 arg15 arg16 arg18 x0 x1 x2 x3 = shapeCast S1x512x128 (M i x0 x1 x2 x3 1 1) shapeCasts_S512x128_S1x512x128 :=
  t_MNn i x0 x1 x2 x3 1 0 (r_v1469 c i arg2 harg2 arg3 harg3 arg4 harg4 arg5 harg5 arg15 arg16 arg18 x0 x1 x2 x3) (r_v1465 c i arg2 harg2 arg3 harg3 arg4 harg4 arg5 harg5 arg15 arg18 x0 x1 x2 x3)

theorem r_v1501 (c : Dev nD) (i : grid1.Coords) (arg2 : Memref sig .tc .vmem S4096x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S4096x128 .bf16) (harg5 : arg5.IsWhole) (arg15 : Memref sig .tc .vmem S4096x128 .bf16) (arg16 : Memref sig .tc .vmem S4096x128 .f32) (arg18 : Memref sig .tc .vmem S4x512x512 .f32) (arg19 : Memref sig .tc .vmem S4x512x128 .f32) (x0 : Vec F S4096x128 .bf16) (x1 : Vec F S4096x128 .bf16) (x2 : Vec F S4096x128 .bf16) (x3 : Vec F S4096x128 .bf16) : run.sl.v1501 (F := F) c i arg2 harg2 arg3 harg3 arg4 harg4 arg5 harg5 arg15 arg16 arg18 arg19 x0 x1 x2 x3 = shapeCast S1x512x128 (M i x0 x1 x2 x3 1 1) shapeCasts_S512x128_S1x512x128 := by
  rw [run.sl.v1501, run.sl.H19_30, View.readCov_cons_toLoadRect, p_v1479]

theorem p_v1522 (c : Dev nD) (i : grid1.Coords) (arg2 : Memref sig .tc .vmem S4096x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S4096x128 .bf16) (harg5 : arg5.IsWhole) (arg6 : Memref sig .tc .vmem S4096x128 .bf16) (harg6 : arg6.IsWhole) (arg15 : Memref sig .tc .vmem S4096x128 .bf16) (arg16 : Memref sig .tc .vmem S4096x128 .f32) (arg17 : Memref sig .tc .vmem S4096x256 .f32) (arg18 : Memref sig .tc .vmem S4x512x512 .f32) (arg19 : Memref sig .tc .vmem S4x512x128 .f32) (arg20 : Memref sig .tc .vmem S4x512x128 .f32) (x0 : Vec F S4096x128 .bf16) (x1 : Vec F S4096x128 .bf16) (x2 : Vec F S4096x128 .bf16) (x3 : Vec F S4096x128 .bf16) (x4 : Vec F S4096x128 .bf16) : run.sl.v1522 (F := F) c i arg2 harg2 arg3 harg3 arg4 harg4 arg5 harg5 arg6 harg6 arg15 arg16 arg17 arg18 arg19 arg20 x0 x1 x2 x3 x4 = out i x0 x1 x2 x3 x4 1 :=
  t_On harg6 i x0 x1 x2 x3 x4 1 0 rfl (r_v1503 c i arg2 harg2 arg3 harg3 arg4 harg4 arg5 harg5 arg15 arg18 x0 x1 x2 x3) (r_v1501 c i arg2 harg2 arg3 harg3 arg4 harg4 arg5 harg5 arg15 arg16 arg18 arg19 x0 x1 x2 x3) (r_v1513 c i arg2 harg2 arg3 harg3 arg4 harg4 arg5 harg5 arg15 arg16 arg18 arg20 x0 x1 x2 x3) (r_v1515 c i arg2 harg2 arg3 harg3 arg4 harg4 arg5 harg5 arg6 harg6 arg15 arg16 arg17 arg18 arg19 arg20 x0 x1 x2 x3 x4)

theorem r_v55 (c : Dev nD) (i : grid1.Coords) (arg3 : Memref sig .tc .vmem S4096x128 .bf16) (harg3 : arg3.IsWhole) (arg15 : Memref sig .tc .vmem S4096x128 .bf16) (x1 : Vec F S4096x128 .bf16) : run.sl.v55 (F := F) c i arg3 harg3 arg15 x1 = blk (qam i x1) 2 := by
  rw [run.sl.v55, run.sl.H15_1, View.readCov_fill _ _ _ _ _ (by decide), p_v26]; rfl

theorem p_v65 (c : Dev nD) (i : grid1.Coords) (arg2 : Memref sig .tc .vmem S4096x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S4096x128 .bf16) (harg5 : arg5.IsWhole) (arg15 : Memref sig .tc .vmem S4096x128 .bf16) (x0 : Vec F S4096x128 .bf16) (x1 : Vec F S4096x128 .bf16) (x2 : Vec F S4096x128 .bf16) (x3 : Vec F S4096x128 .bf16) : run.sl.v65 (F := F) c i arg2 harg2 arg3 harg3 arg4 harg4 arg5 harg5 arg15 x0 x1 x2 x3 = shapeCast S1x512x512 (S i x0 x1 x2 x3 2 0) shapeCasts_S512x512_S1x512x512 :=
  t_off harg2 harg4 harg5 i x0 x1 x2 x3 2 0 (by decide) (r_v55 c i arg3 harg3 arg15 x1)

theorem r_v108 (c : Dev nD) (i : grid1.Coords) (arg2 : Memref sig .tc .vmem S4096x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S4096x128 .bf16) (harg5 : arg5.IsWhole) (arg15 : Memref sig .tc .vmem S4096x128 .bf16) (arg18 : Memref sig .tc .vmem S4x512x512 .f32) (x0 : Vec F S4096x128 .bf16) (x1 : Vec F S4096x128 .bf16) (x2 : Vec F S4096x128 .bf16) (x3 : Vec F S4096x128 .bf16) : run.sl.v108 (F := F) c i arg2 harg2 arg3 harg3 arg4 harg4 arg5 harg5 arg15 arg18 x0 x1 x2 x3 = shapeCast S1x512x512 (S i x0 x1 x2 x3 2 0) shapeCasts_S512x512_S1x512x512 := by
  rw [run.sl.v108, run.sl.H18_3, View.readCov_skip _ _ _ _ _ (by decide), run.sl.H18_2, View.readCov_cons_toLoadRect, p_v65]

theorem r_v81 (c : Dev nD) (i : grid1.Coords) (arg2 : Memref sig .tc .vmem S4096x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S4096x128 .bf16) (harg5 : arg5.IsWhole) (arg15 : Memref sig .tc .vmem S4096x128 .bf16) (arg18 : Memref sig .tc .vmem S4x512x512 .f32) (x0 : Vec F S4096x128 .bf16) (x1 : Vec F S4096x128 .bf16) (x2 : Vec F S4096x128 .bf16) (x3 : Vec F S4096x128 .bf16) : run.sl.v81 (F := F) c i arg2 harg2 arg3 harg3 arg4 harg4 arg5 harg5 arg15 arg18 x0 x1 x2 x3 = shapeCast S1x512x512 (S i x0 x1 x2 x3 2 0) shapeCasts_S512x512_S1x512x512 := by
  rw [run.sl.v81, run.sl.H18_2, View.readCov_cons_toLoadRect, p_v65]

theorem p_v89 (c : Dev nD) (i : grid1.Coords) (arg2 : Memref sig .tc .vmem S4096x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S4096x128 .bf16) (harg5 : arg5.IsWhole) (arg15 : Memref sig .tc .vmem S4096x128 .bf16) (arg18 : Memref sig .tc .vmem S4x512x512 .f32) (x0 : Vec F S4096x128 .bf16) (x1 : Vec F S4096x128 .bf16) (x2 : Vec F S4096x128 .bf16) (x3 : Vec F S4096x128 .bf16) : run.sl.v89 (F := F) c i arg2 harg2 arg3 harg3 arg4 harg4 arg5 harg5 arg15 arg18 x0 x1 x2 x3 = shapeCast S1x512x128 (M i x0 x1 x2 x3 2 0) shapeCasts_S512x128_S1x512x128 :=
  t_MN0 i x0 x1 x2 x3 2 (r_v81 c i arg2 harg2 arg3 harg3 arg4 harg4 arg5 harg5 arg15 arg18 x0 x1 x2 x3)

theorem r_v106 (c : Dev nD) (i : grid1.Coords) (arg2 : Memref sig .tc .vmem S4096x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S4096x128 .bf16) (harg5 : arg5.IsWhole) (arg15 : Memref sig .tc .vmem S4096x128 .bf16) (arg18 : Memref sig .tc .vmem S4x512x512 .f32) (arg19 : Memref sig .tc .vmem S4x512x128 .f32) (x0 : Vec F S4096x128 .bf16) (x1 : Vec F S4096x128 .bf16) (x2 : Vec F S4096x128 .bf16) (x3 : Vec F S4096x128 .bf16) : run.sl.v106 (F := F) c i arg2 harg2 arg3 harg3 arg4 harg4 arg5 harg5 arg15 arg18 arg19 x0 x1 x2 x3 = shapeCast S1x512x128 (M i x0 x1 x2 x3 2 0) shapeCasts_S512x128_S1x512x128 := by
  rw [run.sl.v106, run.sl.H19_2, View.readCov_cons_toLoadRect, p_v89]

theorem p_v120 (c : Dev nD) (i : grid1.Coords) (arg2 : Memref sig .tc .vmem S4096x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S4096x128 .bf16) (harg5 : arg5.IsWhole) (arg6 : Memref sig .tc .vmem S4096x128 .bf16) (harg6 : arg6.IsWhole) (arg15 : Memref sig .tc .vmem S4096x128 .bf16) (arg18 : Memref sig .tc .vmem S4x512x512 .f32) (arg19 : Memref sig .tc .vmem S4x512x128 .f32) (x0 : Vec F S4096x128 .bf16) (x1 : Vec F S4096x128 .bf16) (x2 : Vec F S4096x128 .bf16) (x3 : Vec F S4096x128 .bf16) (x4 : Vec F S4096x128 .bf16) : run.sl.v120 (F := F) c i arg2 harg2 arg3 harg3 arg4 harg4 arg5 harg5 arg6 harg6 arg15 arg18 arg19 x0 x1 x2 x3 x4 = acc i x0 x1 x2 x3 x4 2 0 :=
  t_AC0 harg6 i x0 x1 x2 x3 x4 2 (r_v108 c i arg2 harg2 arg3 harg3 arg4 harg4 arg5 harg5 arg15 arg18 x0 x1 x2 x3) (r_v106 c i arg2 harg2 arg3 harg3 arg4 harg4 arg5 harg5 arg15 arg18 arg19 x0 x1 x2 x3)

theorem r_v166 (c : Dev nD) (i : grid1.Coords) (arg2 : Memref sig .tc .vmem S4096x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S4096x128 .bf16) (harg5 : arg5.IsWhole) (arg6 : Memref sig .tc .vmem S4096x128 .bf16) (harg6 : arg6.IsWhole) (arg15 : Memref sig .tc .vmem S4096x128 .bf16) (arg17 : Memref sig .tc .vmem S4096x256 .f32) (arg18 : Memref sig .tc .vmem S4x512x512 .f32) (arg19 : Memref sig .tc .vmem S4x512x128 .f32) (x0 : Vec F S4096x128 .bf16) (x1 : Vec F S4096x128 .bf16) (x2 : Vec F S4096x128 .bf16) (x3 : Vec F S4096x128 .bf16) (x4 : Vec F S4096x128 .bf16) : run.sl.v166 (F := F) c i arg2 harg2 arg3 harg3 arg4 harg4 arg5 harg5 arg6 harg6 arg15 arg17 arg18 arg19 x0 x1 x2 x3 x4 = acc i x0 x1 x2 x3 x4 2 0 := by
  rw [run.sl.v166, run.sl.H17_2, View.readCov_cons_toLoadRect, p_v120]

theorem p_v92 (c : Dev nD) (i : grid1.Coords) (arg2 : Memref sig .tc .vmem S4096x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S4096x128 .bf16) (harg5 : arg5.IsWhole) (arg15 : Memref sig .tc .vmem S4096x128 .bf16) (arg18 : Memref sig .tc .vmem S4x512x512 .f32) (x0 : Vec F S4096x128 .bf16) (x1 : Vec F S4096x128 .bf16) (x2 : Vec F S4096x128 .bf16) (x3 : Vec F S4096x128 .bf16) : run.sl.v92 (F := F) c i arg2 harg2 arg3 harg3 arg4 harg4 arg5 harg5 arg15 arg18 x0 x1 x2 x3 = M i x0 x1 x2 x3 2 0 :=
  t_MM0 i x0 x1 x2 x3 2 (r_v81 c i arg2 harg2 arg3 harg3 arg4 harg4 arg5 harg5 arg15 arg18 x0 x1 x2 x3)

theorem r_v125 (c : Dev nD) (i : grid1.Coords) (arg2 : Memref sig .tc .vmem S4096x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S4096x128 .bf16) (harg5 : arg5.IsWhole) (arg15 : Memref sig .tc .vmem S4096x128 .bf16) (arg16 : Memref sig .tc .vmem S4096x128 .f32) (arg18 : Memref sig .tc .vmem S4x512x512 .f32) (x0 : Vec F S4096x128 .bf16) (x1 : Vec F S4096x128 .bf16) (x2 : Vec F S4096x128 .bf16) (x3 : Vec F S4096x128 .bf16) : run.sl.v125 (F := F) c i arg2 harg2 arg3 harg3 arg4 harg4 arg5 harg5 arg15 arg16 arg18 x0 x1 x2 x3 = M i x0 x1 x2 x3 2 0 := by
  rw [run.sl.v125, run.sl.H16_2, View.readCov_cons_toLoadRect, p_v92]

theorem p_v105 (c : Dev nD) (i : grid1.Coords) (arg2 : Memref sig .tc .vmem S4096x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S4096x128 .bf16) (harg5 : arg5.IsWhole) (arg15 : Memref sig .tc .vmem S4096x128 .bf16) (x0 : Vec F S4096x128 .bf16) (x1 : Vec F S4096x128 .bf16) (x2 : Vec F S4096x128 .bf16) (x3 : Vec F S4096x128 .bf16) : run.sl.v105 (F := F) c i arg2 harg2 arg3 harg3 arg4 harg4 arg5 harg5 arg15 x0 x1 x2 x3 = shapeCast S1x512x512 (S i x0 x1 x2 x3 2 1) shapeCasts_S512x512_S1x512x512 :=
  t_off harg2 harg4 harg5 i x0 x1 x2 x3 2 1 (by decide) (r_v55 c i arg3 harg3 arg15 x1)

theorem r_v121 (c : Dev nD) (i : grid1.Coords) (arg2 : Memref sig .tc .vmem S4096x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S4096x128 .bf16) (harg5 : arg5.IsWhole) (arg15 : Memref sig .tc .vmem S4096x128 .bf16) (arg18 : Memref sig .tc .vmem S4x512x512 .f32) (x0 : Vec F S4096x128 .bf16) (x1 : Vec F S4096x128 .bf16) (x2 : Vec F S4096x128 .bf16) (x3 : Vec F S4096x128 .bf16) : run.sl.v121 (F := F) c i arg2 harg2 arg3 harg3 arg4 harg4 arg5 harg5 arg15 arg18 x0 x1 x2 x3 = shapeCast S1x512x512 (S i x0 x1 x2 x3 2 1) shapeCasts_S512x512_S1x512x512 := by
  rw [run.sl.v121, run.sl.H18_3, View.readCov_cons_toLoadRect, p_v105]

theorem p_v132 (c : Dev nD) (i : grid1.Coords) (arg2 : Memref sig .tc .vmem S4096x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S4096x128 .bf16) (harg5 : arg5.IsWhole) (arg15 : Memref sig .tc .vmem S4096x128 .bf16) (arg16 : Memref sig .tc .vmem S4096x128 .f32) (arg18 : Memref sig .tc .vmem S4x512x512 .f32) (x0 : Vec F S4096x128 .bf16) (x1 : Vec F S4096x128 .bf16) (x2 : Vec F S4096x128 .bf16) (x3 : Vec F S4096x128 .bf16) : run.sl.v132 (F := F) c i arg2 harg2 arg3 harg3 arg4 harg4 arg5 harg5 arg15 arg16 arg18 x0 x1 x2 x3 = shapeCast S1x512x128 (alpha i x0 x1 x2 x3 2 0) shapeCasts_S512x128_S1x512x128 :=
  t_A i x0 x1 x2 x3 2 0 (r_v125 c i arg2 harg2 arg3 harg3 arg4 harg4 arg5 harg5 arg15 arg16 arg18 x0 x1 x2 x3) (r_v121 c i arg2 harg2 arg3 harg3 arg4 harg4 arg5 harg5 arg15 arg18 x0 x1 x2 x3)

theorem r_v164 (c : Dev nD) (i : grid1.Coords) (arg2 : Memref sig .tc .vmem S4096x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S4096x128 .bf16) (harg5 : arg5.IsWhole) (arg15 : Memref sig .tc .vmem S4096x128 .bf16) (arg16 : Memref sig .tc .vmem S4096x128 .f32) (arg18 : Memref sig .tc .vmem S4x512x512 .f32) (arg20 : Memref sig .tc .vmem S4x512x128 .f32) (x0 : Vec F S4096x128 .bf16) (x1 : Vec F S4096x128 .bf16) (x2 : Vec F S4096x128 .bf16) (x3 : Vec F S4096x128 .bf16) : run.sl.v164 (F := F) c i arg2 harg2 arg3 harg3 arg4 harg4 arg5 harg5 arg15 arg16 arg18 arg20 x0 x1 x2 x3 = shapeCast S1x512x128 (alpha i x0 x1 x2 x3 2 0) shapeCasts_S512x128_S1x512x128 := by
  rw [run.sl.v164, run.sl.H20_1, View.readCov_cons_toLoadRect, p_v132]

theorem r_v154 (c : Dev nD) (i : grid1.Coords) (arg2 : Memref sig .tc .vmem S4096x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S4096x128 .bf16) (harg5 : arg5.IsWhole) (arg15 : Memref sig .tc .vmem S4096x128 .bf16) (arg18 : Memref sig .tc .vmem S4x512x512 .f32) (x0 : Vec F S4096x128 .bf16) (x1 : Vec F S4096x128 .bf16) (x2 : Vec F S4096x128 .bf16) (x3 : Vec F S4096x128 .bf16) : run.sl.v154 (F := F) c i arg2 harg2 arg3 harg3 arg4 harg4 arg5 harg5 arg15 arg18 x0 x1 x2 x3 = shapeCast S1x512x512 (S i x0 x1 x2 x3 2 1) shapeCasts_S512x512_S1x512x512 := by
  rw [run.sl.v154, run.sl.H18_4, View.readCov_skip _ _ _ _ _ (by decide), run.sl.H18_3, View.readCov_cons_toLoadRect, p_v105]

theorem p_v135 (c : Dev nD) (i : grid1.Coords) (arg2 : Memref sig .tc .vmem S4096x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S4096x128 .bf16) (harg5 : arg5.IsWhole) (arg15 : Memref sig .tc .vmem S4096x128 .bf16) (arg16 : Memref sig .tc .vmem S4096x128 .f32) (arg18 : Memref sig .tc .vmem S4x512x512 .f32) (x0 : Vec F S4096x128 .bf16) (x1 : Vec F S4096x128 .bf16) (x2 : Vec F S4096x128 .bf16) (x3 : Vec F S4096x128 .bf16) : run.sl.v135 (F := F) c i arg2 harg2 arg3 harg3 arg4 harg4 arg5 harg5 arg15 arg16 arg18 x0 x1 x2 x3 = shapeCast S1x512x128 (M i x0 x1 x2 x3 2 1) shapeCasts_S512x128_S1x512x128 :=
  t_MNn i x0 x1 x2 x3 2 0 (r_v125 c i arg2 harg2 arg3 harg3 arg4 harg4 arg5 harg5 arg15 arg16 arg18 x0 x1 x2 x3) (r_v121 c i arg2 harg2 arg3 harg3 arg4 harg4 arg5 harg5 arg15 arg18 x0 x1 x2 x3)

theorem r_v152 (c : Dev nD) (i : grid1.Coords) (arg2 : Memref sig .tc .vmem S4096x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S4096x128 .bf16) (harg5 : arg5.IsWhole) (arg15 : Memref sig .tc .vmem S4096x128 .bf16) (arg16 : Memref sig .tc .vmem S4096x128 .f32) (arg18 : Memref sig .tc .vmem S4x512x512 .f32) (arg19 : Memref sig .tc .vmem S4x512x128 .f32) (x0 : Vec F S4096x128 .bf16) (x1 : Vec F S4096x128 .bf16) (x2 : Vec F S4096x128 .bf16) (x3 : Vec F S4096x128 .bf16) : run.sl.v152 (F := F) c i arg2 harg2 arg3 harg3 arg4 harg4 arg5 harg5 arg15 arg16 arg18 arg19 x0 x1 x2 x3 = shapeCast S1x512x128 (M i x0 x1 x2 x3 2 1) shapeCasts_S512x128_S1x512x128 := by
  rw [run.sl.v152, run.sl.H19_3, View.readCov_cons_toLoadRect, p_v135]

theorem p_v172 (c : Dev nD) (i : grid1.Coords) (arg2 : Memref sig .tc .vmem S4096x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S4096x128 .bf16) (harg5 : arg5.IsWhole) (arg6 : Memref sig .tc .vmem S4096x128 .bf16) (harg6 : arg6.IsWhole) (arg15 : Memref sig .tc .vmem S4096x128 .bf16) (arg16 : Memref sig .tc .vmem S4096x128 .f32) (arg17 : Memref sig .tc .vmem S4096x256 .f32) (arg18 : Memref sig .tc .vmem S4x512x512 .f32) (arg19 : Memref sig .tc .vmem S4x512x128 .f32) (arg20 : Memref sig .tc .vmem S4x512x128 .f32) (x0 : Vec F S4096x128 .bf16) (x1 : Vec F S4096x128 .bf16) (x2 : Vec F S4096x128 .bf16) (x3 : Vec F S4096x128 .bf16) (x4 : Vec F S4096x128 .bf16) : run.sl.v172 (F := F) c i arg2 harg2 arg3 harg3 arg4 harg4 arg5 harg5 arg6 harg6 arg15 arg16 arg17 arg18 arg19 arg20 x0 x1 x2 x3 x4 = acc i x0 x1 x2 x3 x4 2 1 :=
  t_ACn harg6 i x0 x1 x2 x3 x4 2 0 (r_v154 c i arg2 harg2 arg3 harg3 arg4 harg4 arg5 harg5 arg15 arg18 x0 x1 x2 x3) (r_v152 c i arg2 harg2 arg3 harg3 arg4 harg4 arg5 harg5 arg15 arg16 arg18 arg19 x0 x1 x2 x3) (r_v164 c i arg2 harg2 arg3 harg3 arg4 harg4 arg5 harg5 arg15 arg16 arg18 arg20 x0 x1 x2 x3) (r_v166 c i arg2 harg2 arg3 harg3 arg4 harg4 arg5 harg5 arg6 harg6 arg15 arg17 arg18 arg19 x0 x1 x2 x3 x4)

theorem r_v1574 (c : Dev nD) (i : grid1.Coords) (arg2 : Memref sig .tc .vmem S4096x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S4096x128 .bf16) (harg5 : arg5.IsWhole) (arg6 : Memref sig .tc .vmem S4096x128 .bf16) (harg6 : arg6.IsWhole) (arg15 : Memref sig .tc .vmem S4096x128 .bf16) (arg16 : Memref sig .tc .vmem S4096x128 .f32) (arg17 : Memref sig .tc .vmem S4096x256 .f32) (arg18 : Memref sig .tc .vmem S4x512x512 .f32) (arg19 : Memref sig .tc .vmem S4x512x128 .f32) (arg20 : Memref sig .tc .vmem S4x512x128 .f32) (x0 : Vec F S4096x128 .bf16) (x1 : Vec F S4096x128 .bf16) (x2 : Vec F S4096x128 .bf16) (x3 : Vec F S4096x128 .bf16) (x4 : Vec F S4096x128 .bf16) : run.sl.v1574 (F := F) c i arg2 harg2 arg3 harg3 arg4 harg4 arg5 harg5 arg6 harg6 arg15 arg16 arg17 arg18 arg19 arg20 x0 x1 x2 x3 x4 = acc i x0 x1 x2 x3 x4 2 1 := by
  rw [run.sl.v1574, run.sl.H17_28, View.readCov_skip _ _ _ _ _ (by decide), run.sl.H17_27, View.readCov_skip _ _ _ _ _ (by decide), run.sl.H17_26, View.readCov_skip _ _ _ _ _ (by decide), run.sl.H17_25, View.readCov_skip _ _ _ _ _ (by decide), run.sl.H17_24, View.readCov_skip _ _ _ _ _ (by decide), run.sl.H17_23, View.readCov_skip _ _ _ _ _ (by decide), run.sl.H17_22, View.readCov_skip _ _ _ _ _ (by decide), View.readCov_skip _ _ _ _ _ (by decide), run.sl.H17_20, View.readCov_skip _ _ _ _ _ (by decide), run.sl.H17_19, View.readCov_skip _ _ _ _ _ (by decide), run.sl.H17_18, View.readCov_skip _ _ _ _ _ (by decide), run.sl.H17_17, View.readCov_skip _ _ _ _ _ (by decide), run.sl.H17_16, View.readCov_skip _ _ _ _ _ (by decide), View.readCov_skip _ _ _ _ _ (by decide), run.sl.H17_14, View.readCov_skip _ _ _ _ _ (by decide), run.sl.H17_13, View.readCov_skip _ _ _ _ _ (by decide), run.sl.H17_12, View.readCov_skip _ _ _ _ _ (by decide), run.sl.H17_11, View.readCov_skip _ _ _ _ _ (by decide), View.readCov_skip _ _ _ _ _ (by decide), run.sl.H17_9, View.readCov_skip _ _ _ _ _ (by decide), run.sl.H17_8, View.readCov_skip _ _ _ _ _ (by decide), run.sl.H17_7, View.readCov_skip _ _ _ _ _ (by decide), View.readCov_skip _ _ _ _ _ (by decide), run.sl.H17_5, View.readCov_skip _ _ _ _ _ (by decide), run.sl.H17_4, View.readCov_skip _ _ _ _ _ (by decide), View.readCov_cons_toLoadRect, p_v172]

theorem p_v138 (c : Dev nD) (i : grid1.Coords) (arg2 : Memref sig .tc .vmem S4096x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S4096x128 .bf16) (harg5 : arg5.IsWhole) (arg15 : Memref sig .tc .vmem S4096x128 .bf16) (arg16 : Memref sig .tc .vmem S4096x128 .f32) (arg18 : Memref sig .tc .vmem S4x512x512 .f32) (x0 : Vec F S4096x128 .bf16) (x1 : Vec F S4096x128 .bf16) (x2 : Vec F S4096x128 .bf16) (x3 : Vec F S4096x128 .bf16) : run.sl.v138 (F := F) c i arg2 harg2 arg3 harg3 arg4 harg4 arg5 harg5 arg15 arg16 arg18 x0 x1 x2 x3 = M i x0 x1 x2 x3 2 1 :=
  t_MMn i x0 x1 x2 x3 2 0 (r_v125 c i arg2 harg2 arg3 harg3 arg4 harg4 arg5 harg5 arg15 arg16 arg18 x0 x1 x2 x3) (r_v121 c i arg2 harg2 arg3 harg3 arg4 harg4 arg5 harg5 arg15 arg18 x0 x1 x2 x3)

theorem r_v1528 (c : Dev nD) (i : grid1.Coords) (arg2 : Memref sig .tc .vmem S4096x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S4096x128 .bf16) (harg5 : arg5.IsWhole) (arg15 : Memref sig .tc .vmem S4096x128 .bf16) (arg16 : Memref sig .tc .vmem S4096x128 .f32) (arg18 : Memref sig .tc .vmem S4x512x512 .f32) (x0 : Vec F S4096x128 .bf16) (x1 : Vec F S4096x128 .bf16) (x2 : Vec F S4096x128 .bf16) (x3 : Vec F S4096x128 .bf16) : run.sl.v1528 (F := F) c i arg2 harg2 arg3 harg3 arg4 harg4 arg5 harg5 arg15 arg16 arg18 x0 x1 x2 x3 = M i x0 x1 x2 x3 2 1 := by
  rw [run.sl.v1528, run.sl.H16_30, View.readCov_skip _ _ _ _ _ (by decide), run.sl.H16_29, View.readCov_skip _ _ _ _ _ (by decide), View.readCov_skip _ _ _ _ _ (by decide), run.sl.H16_27, View.readCov_skip _ _ _ _ _ (by decide), run.sl.H16_26, View.readCov_skip _ _ _ _ _ (by decide), run.sl.H16_25, View.readCov_skip _ _ _ _ _ (by decide), run.sl.H16_24, View.readCov_skip _ _ _ _ _ (by decide), run.sl.H16_23, View.readCov_skip _ _ _ _ _ (by decide), run.sl.H16_22, View.readCov_skip _ _ _ _ _ (by decide), View.readCov_skip _ _ _ _ _ (by decide), run.sl.H16_20, View.readCov_skip _ _ _ _ _ (by decide), run.sl.H16_19, View.readCov_skip _ _ _ _ _ (by decide), run.sl.H16_18, View.readCov_skip _ _ _ _ _ (by decide), run.sl.H16_17, View.readCov_skip _ _ _ _ _ (by decide), run.sl.H16_16, View.readCov_skip _ _ _ _ _ (by decide), View.readCov_skip _ _ _ _ _ (by decide), run.sl.H16_14, View.readCov_skip _ _ _ _ _ (by decide), run.sl.H16_13, View.readCov_skip _ _ _ _ _ (by decide), run.sl.H16_12, View.readCov_skip _ _ _ _ _ (by decide), run.sl.H16_11, View.readCov_skip _ _ _ _ _ (by decide), View.readCov_skip _ _ _ _ _ (by decide), run.sl.H16_9, View.readCov_skip _ _ _ _ _ (by decide), run.sl.H16_8, View.readCov_skip _ _ _ _ _ (by decide), run.sl.H16_7, View.readCov_skip _ _ _ _ _ (by decide), View.readCov_skip _ _ _ _ _ (by decide), run.sl.H16_5, View.readCov_skip _ _ _ _ _ (by decide), run.sl.H16_4, View.readCov_skip _ _ _ _ _ (by decide), View.readCov_cons_toLoadRect, p_v138]

theorem p_v1500 (c : Dev nD) (i : grid1.Coords) (arg2 : Memref sig .tc .vmem S4096x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S4096x128 .bf16) (harg5 : arg5.IsWhole) (arg15 : Memref sig .tc .vmem S4096x128 .bf16) (x0 : Vec F S4096x128 .bf16) (x1 : Vec F S4096x128 .bf16) (x2 : Vec F S4096x128 .bf16) (x3 : Vec F S4096x128 .bf16) : run.sl.v1500 (F := F) c i arg2 harg2 arg3 harg3 arg4 harg4 arg5 harg5 arg15 x0 x1 x2 x3 = shapeCast S1x512x512 (S i x0 x1 x2 x3 2 2) shapeCasts_S512x512_S1x512x512 :=
  t_diag harg2 harg4 harg5 i x0 x1 x2 x3 2 (r_v55 c i arg3 harg3 arg15 x1)

theorem r_v1524 (c : Dev nD) (i : grid1.Coords) (arg2 : Memref sig .tc .vmem S4096x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S4096x128 .bf16) (harg5 : arg5.IsWhole) (arg15 : Memref sig .tc .vmem S4096x128 .bf16) (arg18 : Memref sig .tc .vmem S4x512x512 .f32) (x0 : Vec F S4096x128 .bf16) (x1 : Vec F S4096x128 .bf16) (x2 : Vec F S4096x128 .bf16) (x3 : Vec F S4096x128 .bf16) : run.sl.v1524 (F := F) c i arg2 harg2 arg3 harg3 arg4 harg4 arg5 harg5 arg15 arg18 x0 x1 x2 x3 = shapeCast S1x512x512 (S i x0 x1 x2 x3 2 2) shapeCasts_S512x512_S1x512x512 := by
  rw [run.sl.v1524, run.sl.H18_31, View.readCov_cons_toLoadRect, p_v1500]

theorem p_v1535 (c : Dev nD) (i : grid1.Coords) (arg2 : Memref sig .tc .vmem S4096x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S4096x128 .bf16) (harg5 : arg5.IsWhole) (arg15 : Memref sig .tc .vmem S4096x128 .bf16) (arg16 : Memref sig .tc .vmem S4096x128 .f32) (arg18 : Memref sig .tc .vmem S4x512x512 .f32) (x0 : Vec F S4096x128 .bf16) (x1 : Vec F S4096x128 .bf16) (x2 : Vec F S4096x128 .bf16) (x3 : Vec F S4096x128 .bf16) : run.sl.v1535 (F := F) c i arg2 harg2 arg3 harg3 arg4 harg4 arg5 harg5 arg15 arg16 arg18 x0 x1 x2 x3 = shapeCast S1x512x128 (alpha i x0 x1 x2 x3 2 1) shapeCasts_S512x128_S1x512x128 :=
  t_A i x0 x1 x2 x3 2 1 (r_v1528 c i arg2 harg2 arg3 harg3 arg4 harg4 arg5 harg5 arg15 arg16 arg18 x0 x1 x2 x3) (r_v1524 c i arg2 harg2 arg3 harg3 arg4 harg4 arg5 harg5 arg15 arg18 x0 x1 x2 x3)

theorem r_v1572 (c : Dev nD) (i : grid1.Coords) (arg2 : Memref sig .tc .vmem S4096x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S4096x128 .bf16) (harg5 : arg5.IsWhole) (arg15 : Memref sig .tc .vmem S4096x128 .bf16) (arg16 : Memref sig .tc .vmem S4096x128 .f32) (arg18 : Memref sig .tc .vmem S4x512x512 .f32) (arg20 : Memref sig .tc .vmem S4x512x128 .f32) (x0 : Vec F S4096x128 .bf16) (x1 : Vec F S4096x128 .bf16) (x2 : Vec F S4096x128 .bf16) (x3 : Vec F S4096x128 .bf16) : run.sl.v1572 (F := F) c i arg2 harg2 arg3 harg3 arg4 harg4 arg5 harg5 arg15 arg16 arg18 arg20 x0 x1 x2 x3 = shapeCast S1x512x128 (alpha i x0 x1 x2 x3 2 1) shapeCasts_S512x128_S1x512x128 := by
  rw [run.sl.v1572, run.sl.H20_23, View.readCov_cons_toLoadRect, p_v1535]

theorem r_v1562 (c : Dev nD) (i : grid1.Coords) (arg2 : Memref sig .tc .vmem S4096x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S4096x128 .bf16) (harg5 : arg5.IsWhole) (arg15 : Memref sig .tc .vmem S4096x128 .bf16) (arg18 : Memref sig .tc .vmem S4x512x512 .f32) (x0 : Vec F S4096x128 .bf16) (x1 : Vec F S4096x128 .bf16) (x2 : Vec F S4096x128 .bf16) (x3 : Vec F S4096x128 .bf16) : run.sl.v1562 (F := F) c i arg2 harg2 arg3 harg3 arg4 harg4 arg5 harg5 arg15 arg18 x0 x1 x2 x3 = shapeCast S1x512x512 (S i x0 x1 x2 x3 2 2) shapeCasts_S512x512_S1x512x512 := by
  rw [run.sl.v1562, run.sl.H18_32, View.readCov_skip _ _ _ _ _ (by decide), run.sl.H18_31, View.readCov_cons_toLoadRect, p_v1500]

theorem p_v1538 (c : Dev nD) (i : grid1.Coords) (arg2 : Memref sig .tc .vmem S4096x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S4096x128 .bf16) (harg5 : arg5.IsWhole) (arg15 : Memref sig .tc .vmem S4096x128 .bf16) (arg16 : Memref sig .tc .vmem S4096x128 .f32) (arg18 : Memref sig .tc .vmem S4x512x512 .f32) (x0 : Vec F S4096x128 .bf16) (x1 : Vec F S4096x128 .bf16) (x2 : Vec F S4096x128 .bf16) (x3 : Vec F S4096x128 .bf16) : run.sl.v1538 (F := F) c i arg2 harg2 arg3 harg3 arg4 harg4 arg5 harg5 arg15 arg16 arg18 x0 x1 x2 x3 = shapeCast S1x512x128 (M i x0 x1 x2 x3 2 2) shapeCasts_S512x128_S1x512x128 :=
  t_MNn i x0 x1 x2 x3 2 1 (r_v1528 c i arg2 harg2 arg3 harg3 arg4 harg4 arg5 harg5 arg15 arg16 arg18 x0 x1 x2 x3) (r_v1524 c i arg2 harg2 arg3 harg3 arg4 harg4 arg5 harg5 arg15 arg18 x0 x1 x2 x3)

theorem r_v1560 (c : Dev nD) (i : grid1.Coords) (arg2 : Memref sig .tc .vmem S4096x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S4096x128 .bf16) (harg5 : arg5.IsWhole) (arg15 : Memref sig .tc .vmem S4096x128 .bf16) (arg16 : Memref sig .tc .vmem S4096x128 .f32) (arg18 : Memref sig .tc .vmem S4x512x512 .f32) (arg19 : Memref sig .tc .vmem S4x512x128 .f32) (x0 : Vec F S4096x128 .bf16) (x1 : Vec F S4096x128 .bf16) (x2 : Vec F S4096x128 .bf16) (x3 : Vec F S4096x128 .bf16) : run.sl.v1560 (F := F) c i arg2 harg2 arg3 harg3 arg4 harg4 arg5 harg5 arg15 arg16 arg18 arg19 x0 x1 x2 x3 = shapeCast S1x512x128 (M i x0 x1 x2 x3 2 2) shapeCasts_S512x128_S1x512x128 := by
  rw [run.sl.v1560, run.sl.H19_31, View.readCov_cons_toLoadRect, p_v1538]

theorem p_v1581 (c : Dev nD) (i : grid1.Coords) (arg2 : Memref sig .tc .vmem S4096x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S4096x128 .bf16) (harg5 : arg5.IsWhole) (arg6 : Memref sig .tc .vmem S4096x128 .bf16) (harg6 : arg6.IsWhole) (arg15 : Memref sig .tc .vmem S4096x128 .bf16) (arg16 : Memref sig .tc .vmem S4096x128 .f32) (arg17 : Memref sig .tc .vmem S4096x256 .f32) (arg18 : Memref sig .tc .vmem S4x512x512 .f32) (arg19 : Memref sig .tc .vmem S4x512x128 .f32) (arg20 : Memref sig .tc .vmem S4x512x128 .f32) (x0 : Vec F S4096x128 .bf16) (x1 : Vec F S4096x128 .bf16) (x2 : Vec F S4096x128 .bf16) (x3 : Vec F S4096x128 .bf16) (x4 : Vec F S4096x128 .bf16) : run.sl.v1581 (F := F) c i arg2 harg2 arg3 harg3 arg4 harg4 arg5 harg5 arg6 harg6 arg15 arg16 arg17 arg18 arg19 arg20 x0 x1 x2 x3 x4 = out i x0 x1 x2 x3 x4 2 :=
  t_On harg6 i x0 x1 x2 x3 x4 2 1 rfl (r_v1562 c i arg2 harg2 arg3 harg3 arg4 harg4 arg5 harg5 arg15 arg18 x0 x1 x2 x3) (r_v1560 c i arg2 harg2 arg3 harg3 arg4 harg4 arg5 harg5 arg15 arg16 arg18 arg19 x0 x1 x2 x3) (r_v1572 c i arg2 harg2 arg3 harg3 arg4 harg4 arg5 harg5 arg15 arg16 arg18 arg20 x0 x1 x2 x3) (r_v1574 c i arg2 harg2 arg3 harg3 arg4 harg4 arg5 harg5 arg6 harg6 arg15 arg16 arg17 arg18 arg19 arg20 x0 x1 x2 x3 x4)

theorem r_v141 (c : Dev nD) (i : grid1.Coords) (arg3 : Memref sig .tc .vmem S4096x128 .bf16) (harg3 : arg3.IsWhole) (arg15 : Memref sig .tc .vmem S4096x128 .bf16) (x1 : Vec F S4096x128 .bf16) : run.sl.v141 (F := F) c i arg3 harg3 arg15 x1 = blk (qam i x1) 3 := by
  rw [run.sl.v141, run.sl.H15_1, View.readCov_fill _ _ _ _ _ (by decide), p_v26]; rfl

theorem p_v151 (c : Dev nD) (i : grid1.Coords) (arg2 : Memref sig .tc .vmem S4096x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S4096x128 .bf16) (harg5 : arg5.IsWhole) (arg15 : Memref sig .tc .vmem S4096x128 .bf16) (x0 : Vec F S4096x128 .bf16) (x1 : Vec F S4096x128 .bf16) (x2 : Vec F S4096x128 .bf16) (x3 : Vec F S4096x128 .bf16) : run.sl.v151 (F := F) c i arg2 harg2 arg3 harg3 arg4 harg4 arg5 harg5 arg15 x0 x1 x2 x3 = shapeCast S1x512x512 (S i x0 x1 x2 x3 3 0) shapeCasts_S512x512_S1x512x512 :=
  t_off harg2 harg4 harg5 i x0 x1 x2 x3 3 0 (by decide) (r_v141 c i arg3 harg3 arg15 x1)

theorem r_v200 (c : Dev nD) (i : grid1.Coords) (arg2 : Memref sig .tc .vmem S4096x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S4096x128 .bf16) (harg5 : arg5.IsWhole) (arg15 : Memref sig .tc .vmem S4096x128 .bf16) (arg18 : Memref sig .tc .vmem S4x512x512 .f32) (x0 : Vec F S4096x128 .bf16) (x1 : Vec F S4096x128 .bf16) (x2 : Vec F S4096x128 .bf16) (x3 : Vec F S4096x128 .bf16) : run.sl.v200 (F := F) c i arg2 harg2 arg3 harg3 arg4 harg4 arg5 harg5 arg15 arg18 x0 x1 x2 x3 = shapeCast S1x512x512 (S i x0 x1 x2 x3 3 0) shapeCasts_S512x512_S1x512x512 := by
  rw [run.sl.v200, run.sl.H18_5, View.readCov_skip _ _ _ _ _ (by decide), run.sl.H18_4, View.readCov_cons_toLoadRect, p_v151]

theorem r_v173 (c : Dev nD) (i : grid1.Coords) (arg2 : Memref sig .tc .vmem S4096x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S4096x128 .bf16) (harg5 : arg5.IsWhole) (arg15 : Memref sig .tc .vmem S4096x128 .bf16) (arg18 : Memref sig .tc .vmem S4x512x512 .f32) (x0 : Vec F S4096x128 .bf16) (x1 : Vec F S4096x128 .bf16) (x2 : Vec F S4096x128 .bf16) (x3 : Vec F S4096x128 .bf16) : run.sl.v173 (F := F) c i arg2 harg2 arg3 harg3 arg4 harg4 arg5 harg5 arg15 arg18 x0 x1 x2 x3 = shapeCast S1x512x512 (S i x0 x1 x2 x3 3 0) shapeCasts_S512x512_S1x512x512 := by
  rw [run.sl.v173, run.sl.H18_4, View.readCov_cons_toLoadRect, p_v151]

theorem p_v181 (c : Dev nD) (i : grid1.Coords) (arg2 : Memref sig .tc .vmem S4096x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S4096x128 .bf16) (harg5 : arg5.IsWhole) (arg15 : Memref sig .tc .vmem S4096x128 .bf16) (arg18 : Memref sig .tc .vmem S4x512x512 .f32) (x0 : Vec F S4096x128 .bf16) (x1 : Vec F S4096x128 .bf16) (x2 : Vec F S4096x128 .bf16) (x3 : Vec F S4096x128 .bf16) : run.sl.v181 (F := F) c i arg2 harg2 arg3 harg3 arg4 harg4 arg5 harg5 arg15 arg18 x0 x1 x2 x3 = shapeCast S1x512x128 (M i x0 x1 x2 x3 3 0) shapeCasts_S512x128_S1x512x128 :=
  t_MN0 i x0 x1 x2 x3 3 (r_v173 c i arg2 harg2 arg3 harg3 arg4 harg4 arg5 harg5 arg15 arg18 x0 x1 x2 x3)

theorem r_v198 (c : Dev nD) (i : grid1.Coords) (arg2 : Memref sig .tc .vmem S4096x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S4096x128 .bf16) (harg5 : arg5.IsWhole) (arg15 : Memref sig .tc .vmem S4096x128 .bf16) (arg16 : Memref sig .tc .vmem S4096x128 .f32) (arg18 : Memref sig .tc .vmem S4x512x512 .f32) (arg19 : Memref sig .tc .vmem S4x512x128 .f32) (x0 : Vec F S4096x128 .bf16) (x1 : Vec F S4096x128 .bf16) (x2 : Vec F S4096x128 .bf16) (x3 : Vec F S4096x128 .bf16) : run.sl.v198 (F := F) c i arg2 harg2 arg3 harg3 arg4 harg4 arg5 harg5 arg15 arg16 arg18 arg19 x0 x1 x2 x3 = shapeCast S1x512x128 (M i x0 x1 x2 x3 3 0) shapeCasts_S512x128_S1x512x128 := by
  rw [run.sl.v198, run.sl.H19_4, View.readCov_cons_toLoadRect, p_v181]

theorem p_v212 (c : Dev nD) (i : grid1.Coords) (arg2 : Memref sig .tc .vmem S4096x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S4096x128 .bf16) (harg5 : arg5.IsWhole) (arg6 : Memref sig .tc .vmem S4096x128 .bf16) (harg6 : arg6.IsWhole) (arg15 : Memref sig .tc .vmem S4096x128 .bf16) (arg16 : Memref sig .tc .vmem S4096x128 .f32) (arg18 : Memref sig .tc .vmem S4x512x512 .f32) (arg19 : Memref sig .tc .vmem S4x512x128 .f32) (x0 : Vec F S4096x128 .bf16) (x1 : Vec F S4096x128 .bf16) (x2 : Vec F S4096x128 .bf16) (x3 : Vec F S4096x128 .bf16) (x4 : Vec F S4096x128 .bf16) : run.sl.v212 (F := F) c i arg2 harg2 arg3 harg3 arg4 harg4 arg5 harg5 arg6 harg6 arg15 arg16 arg18 arg19 x0 x1 x2 x3 x4 = acc i x0 x1 x2 x3 x4 3 0 :=
  t_AC0 harg6 i x0 x1 x2 x3 x4 3 (r_v200 c i arg2 harg2 arg3 harg3 arg4 harg4 arg5 harg5 arg15 arg18 x0 x1 x2 x3) (r_v198 c i arg2 harg2 arg3 harg3 arg4 harg4 arg5 harg5 arg15 arg16 arg18 arg19 x0 x1 x2 x3)

theorem r_v258 (c : Dev nD) (i : grid1.Coords) (arg2 : Memref sig .tc .vmem S4096x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S4096x128 .bf16) (harg5 : arg5.IsWhole) (arg6 : Memref sig .tc .vmem S4096x128 .bf16) (harg6 : arg6.IsWhole) (arg15 : Memref sig .tc .vmem S4096x128 .bf16) (arg16 : Memref sig .tc .vmem S4096x128 .f32) (arg17 : Memref sig .tc .vmem S4096x256 .f32) (arg18 : Memref sig .tc .vmem S4x512x512 .f32) (arg19 : Memref sig .tc .vmem S4x512x128 .f32) (arg20 : Memref sig .tc .vmem S4x512x128 .f32) (x0 : Vec F S4096x128 .bf16) (x1 : Vec F S4096x128 .bf16) (x2 : Vec F S4096x128 .bf16) (x3 : Vec F S4096x128 .bf16) (x4 : Vec F S4096x128 .bf16) : run.sl.v258 (F := F) c i arg2 harg2 arg3 harg3 arg4 harg4 arg5 harg5 arg6 harg6 arg15 arg16 arg17 arg18 arg19 arg20 x0 x1 x2 x3 x4 = acc i x0 x1 x2 x3 x4 3 0 := by
  rw [run.sl.v258, run.sl.H17_4, View.readCov_cons_toLoadRect, p_v212]

theorem p_v184 (c : Dev nD) (i : grid1.Coords) (arg2 : Memref sig .tc .vmem S4096x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S4096x128 .bf16) (harg5 : arg5.IsWhole) (arg15 : Memref sig .tc .vmem S4096x128 .bf16) (arg18 : Memref sig .tc .vmem S4x512x512 .f32) (x0 : Vec F S4096x128 .bf16) (x1 : Vec F S4096x128 .bf16) (x2 : Vec F S4096x128 .bf16) (x3 : Vec F S4096x128 .bf16) : run.sl.v184 (F := F) c i arg2 harg2 arg3 harg3 arg4 harg4 arg5 harg5 arg15 arg18 x0 x1 x2 x3 = M i x0 x1 x2 x3 3 0 :=
  t_MM0 i x0 x1 x2 x3 3 (r_v173 c i arg2 harg2 arg3 harg3 arg4 harg4 arg5 harg5 arg15 arg18 x0 x1 x2 x3)

theorem r_v217 (c : Dev nD) (i : grid1.Coords) (arg2 : Memref sig .tc .vmem S4096x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S4096x128 .bf16) (harg5 : arg5.IsWhole) (arg15 : Memref sig .tc .vmem S4096x128 .bf16) (arg16 : Memref sig .tc .vmem S4096x128 .f32) (arg18 : Memref sig .tc .vmem S4x512x512 .f32) (x0 : Vec F S4096x128 .bf16) (x1 : Vec F S4096x128 .bf16) (x2 : Vec F S4096x128 .bf16) (x3 : Vec F S4096x128 .bf16) : run.sl.v217 (F := F) c i arg2 harg2 arg3 harg3 arg4 harg4 arg5 harg5 arg15 arg16 arg18 x0 x1 x2 x3 = M i x0 x1 x2 x3 3 0 := by
  rw [run.sl.v217, run.sl.H16_4, View.readCov_cons_toLoadRect, p_v184]

theorem p_v197 (c : Dev nD) (i : grid1.Coords) (arg2 : Memref sig .tc .vmem S4096x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S4096x128 .bf16) (harg5 : arg5.IsWhole) (arg15 : Memref sig .tc .vmem S4096x128 .bf16) (x0 : Vec F S4096x128 .bf16) (x1 : Vec F S4096x128 .bf16) (x2 : Vec F S4096x128 .bf16) (x3 : Vec F S4096x128 .bf16) : run.sl.v197 (F := F) c i arg2 harg2 arg3 harg3 arg4 harg4 arg5 harg5 arg15 x0 x1 x2 x3 = shapeCast S1x512x512 (S i x0 x1 x2 x3 3 1) shapeCasts_S512x512_S1x512x512 :=
  t_off harg2 harg4 harg5 i x0 x1 x2 x3 3 1 (by decide) (r_v141 c i arg3 harg3 arg15 x1)

theorem r_v213 (c : Dev nD) (i : grid1.Coords) (arg2 : Memref sig .tc .vmem S4096x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S4096x128 .bf16) (harg5 : arg5.IsWhole) (arg15 : Memref sig .tc .vmem S4096x128 .bf16) (arg18 : Memref sig .tc .vmem S4x512x512 .f32) (x0 : Vec F S4096x128 .bf16) (x1 : Vec F S4096x128 .bf16) (x2 : Vec F S4096x128 .bf16) (x3 : Vec F S4096x128 .bf16) : run.sl.v213 (F := F) c i arg2 harg2 arg3 harg3 arg4 harg4 arg5 harg5 arg15 arg18 x0 x1 x2 x3 = shapeCast S1x512x512 (S i x0 x1 x2 x3 3 1) shapeCasts_S512x512_S1x512x512 := by
  rw [run.sl.v213, run.sl.H18_5, View.readCov_cons_toLoadRect, p_v197]

theorem p_v224 (c : Dev nD) (i : grid1.Coords) (arg2 : Memref sig .tc .vmem S4096x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S4096x128 .bf16) (harg5 : arg5.IsWhole) (arg15 : Memref sig .tc .vmem S4096x128 .bf16) (arg16 : Memref sig .tc .vmem S4096x128 .f32) (arg18 : Memref sig .tc .vmem S4x512x512 .f32) (x0 : Vec F S4096x128 .bf16) (x1 : Vec F S4096x128 .bf16) (x2 : Vec F S4096x128 .bf16) (x3 : Vec F S4096x128 .bf16) : run.sl.v224 (F := F) c i arg2 harg2 arg3 harg3 arg4 harg4 arg5 harg5 arg15 arg16 arg18 x0 x1 x2 x3 = shapeCast S1x512x128 (alpha i x0 x1 x2 x3 3 0) shapeCasts_S512x128_S1x512x128 :=
  t_A i x0 x1 x2 x3 3 0 (r_v217 c i arg2 harg2 arg3 harg3 arg4 harg4 arg5 harg5 arg15 arg16 arg18 x0 x1 x2 x3) (r_v213 c i arg2 harg2 arg3 harg3 arg4 harg4 arg5 harg5 arg15 arg18 x0 x1 x2 x3)

theorem r_v256 (c : Dev nD) (i : grid1.Coords) (arg2 : Memref sig .tc .vmem S4096x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S4096x128 .bf16) (harg5 : arg5.IsWhole) (arg15 : Memref sig .tc .vmem S4096x128 .bf16) (arg16 : Memref sig .tc .vmem S4096x128 .f32) (arg18 : Memref sig .tc .vmem S4x512x512 .f32) (arg20 : Memref sig .tc .vmem S4x512x128 .f32) (x0 : Vec F S4096x128 .bf16) (x1 : Vec F S4096x128 .bf16) (x2 : Vec F S4096x128 .bf16) (x3 : Vec F S4096x128 .bf16) : run.sl.v256 (F := F) c i arg2 harg2 arg3 harg3 arg4 harg4 arg5 harg5 arg15 arg16 arg18 arg20 x0 x1 x2 x3 = shapeCast S1x512x128 (alpha i x0 x1 x2 x3 3 0) shapeCasts_S512x128_S1x512x128 := by
  rw [run.sl.v256, run.sl.H20_2, View.readCov_cons_toLoadRect, p_v224]

theorem r_v246 (c : Dev nD) (i : grid1.Coords) (arg2 : Memref sig .tc .vmem S4096x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S4096x128 .bf16) (harg5 : arg5.IsWhole) (arg15 : Memref sig .tc .vmem S4096x128 .bf16) (arg18 : Memref sig .tc .vmem S4x512x512 .f32) (x0 : Vec F S4096x128 .bf16) (x1 : Vec F S4096x128 .bf16) (x2 : Vec F S4096x128 .bf16) (x3 : Vec F S4096x128 .bf16) : run.sl.v246 (F := F) c i arg2 harg2 arg3 harg3 arg4 harg4 arg5 harg5 arg15 arg18 x0 x1 x2 x3 = shapeCast S1x512x512 (S i x0 x1 x2 x3 3 1) shapeCasts_S512x512_S1x512x512 := by
  rw [run.sl.v246, run.sl.H18_6, View.readCov_skip _ _ _ _ _ (by decide), run.sl.H18_5, View.readCov_cons_toLoadRect, p_v197]

theorem p_v227 (c : Dev nD) (i : grid1.Coords) (arg2 : Memref sig .tc .vmem S4096x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S4096x128 .bf16) (harg5 : arg5.IsWhole) (arg15 : Memref sig .tc .vmem S4096x128 .bf16) (arg16 : Memref sig .tc .vmem S4096x128 .f32) (arg18 : Memref sig .tc .vmem S4x512x512 .f32) (x0 : Vec F S4096x128 .bf16) (x1 : Vec F S4096x128 .bf16) (x2 : Vec F S4096x128 .bf16) (x3 : Vec F S4096x128 .bf16) : run.sl.v227 (F := F) c i arg2 harg2 arg3 harg3 arg4 harg4 arg5 harg5 arg15 arg16 arg18 x0 x1 x2 x3 = shapeCast S1x512x128 (M i x0 x1 x2 x3 3 1) shapeCasts_S512x128_S1x512x128 :=
  t_MNn i x0 x1 x2 x3 3 0 (r_v217 c i arg2 harg2 arg3 harg3 arg4 harg4 arg5 harg5 arg15 arg16 arg18 x0 x1 x2 x3) (r_v213 c i arg2 harg2 arg3 harg3 arg4 harg4 arg5 harg5 arg15 arg18 x0 x1 x2 x3)

theorem r_v244 (c : Dev nD) (i : grid1.Coords) (arg2 : Memref sig .tc .vmem S4096x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S4096x128 .bf16) (harg5 : arg5.IsWhole) (arg15 : Memref sig .tc .vmem S4096x128 .bf16) (arg16 : Memref sig .tc .vmem S4096x128 .f32) (arg18 : Memref sig .tc .vmem S4x512x512 .f32) (arg19 : Memref sig .tc .vmem S4x512x128 .f32) (x0 : Vec F S4096x128 .bf16) (x1 : Vec F S4096x128 .bf16) (x2 : Vec F S4096x128 .bf16) (x3 : Vec F S4096x128 .bf16) : run.sl.v244 (F := F) c i arg2 harg2 arg3 harg3 arg4 harg4 arg5 harg5 arg15 arg16 arg18 arg19 x0 x1 x2 x3 = shapeCast S1x512x128 (M i x0 x1 x2 x3 3 1) shapeCasts_S512x128_S1x512x128 := by
  rw [run.sl.v244, run.sl.H19_5, View.readCov_cons_toLoadRect, p_v227]

theorem p_v264 (c : Dev nD) (i : grid1.Coords) (arg2 : Memref sig .tc .vmem S4096x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S4096x128 .bf16) (harg5 : arg5.IsWhole) (arg6 : Memref sig .tc .vmem S4096x128 .bf16) (harg6 : arg6.IsWhole) (arg15 : Memref sig .tc .vmem S4096x128 .bf16) (arg16 : Memref sig .tc .vmem S4096x128 .f32) (arg17 : Memref sig .tc .vmem S4096x256 .f32) (arg18 : Memref sig .tc .vmem S4x512x512 .f32) (arg19 : Memref sig .tc .vmem S4x512x128 .f32) (arg20 : Memref sig .tc .vmem S4x512x128 .f32) (x0 : Vec F S4096x128 .bf16) (x1 : Vec F S4096x128 .bf16) (x2 : Vec F S4096x128 .bf16) (x3 : Vec F S4096x128 .bf16) (x4 : Vec F S4096x128 .bf16) : run.sl.v264 (F := F) c i arg2 harg2 arg3 harg3 arg4 harg4 arg5 harg5 arg6 harg6 arg15 arg16 arg17 arg18 arg19 arg20 x0 x1 x2 x3 x4 = acc i x0 x1 x2 x3 x4 3 1 :=
  t_ACn harg6 i x0 x1 x2 x3 x4 3 0 (r_v246 c i arg2 harg2 arg3 harg3 arg4 harg4 arg5 harg5 arg15 arg18 x0 x1 x2 x3) (r_v244 c i arg2 harg2 arg3 harg3 arg4 harg4 arg5 harg5 arg15 arg16 arg18 arg19 x0 x1 x2 x3) (r_v256 c i arg2 harg2 arg3 harg3 arg4 harg4 arg5 harg5 arg15 arg16 arg18 arg20 x0 x1 x2 x3) (r_v258 c i arg2 harg2 arg3 harg3 arg4 harg4 arg5 harg5 arg6 harg6 arg15 arg16 arg17 arg18 arg19 arg20 x0 x1 x2 x3 x4)

theorem r_v310 (c : Dev nD) (i : grid1.Coords) (arg2 : Memref sig .tc .vmem S4096x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S4096x128 .bf16) (harg5 : arg5.IsWhole) (arg6 : Memref sig .tc .vmem S4096x128 .bf16) (harg6 : arg6.IsWhole) (arg15 : Memref sig .tc .vmem S4096x128 .bf16) (arg16 : Memref sig .tc .vmem S4096x128 .f32) (arg17 : Memref sig .tc .vmem S4096x256 .f32) (arg18 : Memref sig .tc .vmem S4x512x512 .f32) (arg19 : Memref sig .tc .vmem S4x512x128 .f32) (arg20 : Memref sig .tc .vmem S4x512x128 .f32) (x0 : Vec F S4096x128 .bf16) (x1 : Vec F S4096x128 .bf16) (x2 : Vec F S4096x128 .bf16) (x3 : Vec F S4096x128 .bf16) (x4 : Vec F S4096x128 .bf16) : run.sl.v310 (F := F) c i arg2 harg2 arg3 harg3 arg4 harg4 arg5 harg5 arg6 harg6 arg15 arg16 arg17 arg18 arg19 arg20 x0 x1 x2 x3 x4 = acc i x0 x1 x2 x3 x4 3 1 := by
  rw [run.sl.v310, run.sl.H17_5, View.readCov_cons_toLoadRect, p_v264]

theorem p_v230 (c : Dev nD) (i : grid1.Coords) (arg2 : Memref sig .tc .vmem S4096x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S4096x128 .bf16) (harg5 : arg5.IsWhole) (arg15 : Memref sig .tc .vmem S4096x128 .bf16) (arg16 : Memref sig .tc .vmem S4096x128 .f32) (arg18 : Memref sig .tc .vmem S4x512x512 .f32) (x0 : Vec F S4096x128 .bf16) (x1 : Vec F S4096x128 .bf16) (x2 : Vec F S4096x128 .bf16) (x3 : Vec F S4096x128 .bf16) : run.sl.v230 (F := F) c i arg2 harg2 arg3 harg3 arg4 harg4 arg5 harg5 arg15 arg16 arg18 x0 x1 x2 x3 = M i x0 x1 x2 x3 3 1 :=
  t_MMn i x0 x1 x2 x3 3 0 (r_v217 c i arg2 harg2 arg3 harg3 arg4 harg4 arg5 harg5 arg15 arg16 arg18 x0 x1 x2 x3) (r_v213 c i arg2 harg2 arg3 harg3 arg4 harg4 arg5 harg5 arg15 arg18 x0 x1 x2 x3)

theorem r_v269 (c : Dev nD) (i : grid1.Coords) (arg2 : Memref sig .tc .vmem S4096x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S4096x128 .bf16) (harg5 : arg5.IsWhole) (arg15 : Memref sig .tc .vmem S4096x128 .bf16) (arg16 : Memref sig .tc .vmem S4096x128 .f32) (arg18 : Memref sig .tc .vmem S4x512x512 .f32) (x0 : Vec F S4096x128 .bf16) (x1 : Vec F S4096x128 .bf16) (x2 : Vec F S4096x128 .bf16) (x3 : Vec F S4096x128 .bf16) : run.sl.v269 (F := F) c i arg2 harg2 arg3 harg3 arg4 harg4 arg5 harg5 arg15 arg16 arg18 x0 x1 x2 x3 = M i x0 x1 x2 x3 3 1 := by
  rw [run.sl.v269, run.sl.H16_5, View.readCov_cons_toLoadRect, p_v230]

theorem p_v243 (c : Dev nD) (i : grid1.Coords) (arg2 : Memref sig .tc .vmem S4096x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S4096x128 .bf16) (harg5 : arg5.IsWhole) (arg15 : Memref sig .tc .vmem S4096x128 .bf16) (x0 : Vec F S4096x128 .bf16) (x1 : Vec F S4096x128 .bf16) (x2 : Vec F S4096x128 .bf16) (x3 : Vec F S4096x128 .bf16) : run.sl.v243 (F := F) c i arg2 harg2 arg3 harg3 arg4 harg4 arg5 harg5 arg15 x0 x1 x2 x3 = shapeCast S1x512x512 (S i x0 x1 x2 x3 3 2) shapeCasts_S512x512_S1x512x512 :=
  t_off harg2 harg4 harg5 i x0 x1 x2 x3 3 2 (by decide) (r_v141 c i arg3 harg3 arg15 x1)

theorem r_v265 (c : Dev nD) (i : grid1.Coords) (arg2 : Memref sig .tc .vmem S4096x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S4096x128 .bf16) (harg5 : arg5.IsWhole) (arg15 : Memref sig .tc .vmem S4096x128 .bf16) (arg18 : Memref sig .tc .vmem S4x512x512 .f32) (x0 : Vec F S4096x128 .bf16) (x1 : Vec F S4096x128 .bf16) (x2 : Vec F S4096x128 .bf16) (x3 : Vec F S4096x128 .bf16) : run.sl.v265 (F := F) c i arg2 harg2 arg3 harg3 arg4 harg4 arg5 harg5 arg15 arg18 x0 x1 x2 x3 = shapeCast S1x512x512 (S i x0 x1 x2 x3 3 2) shapeCasts_S512x512_S1x512x512 := by
  rw [run.sl.v265, run.sl.H18_6, View.readCov_cons_toLoadRect, p_v243]

theorem p_v276 (c : Dev nD) (i : grid1.Coords) (arg2 : Memref sig .tc .vmem S4096x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S4096x128 .bf16) (harg5 : arg5.IsWhole) (arg15 : Memref sig .tc .vmem S4096x128 .bf16) (arg16 : Memref sig .tc .vmem S4096x128 .f32) (arg18 : Memref sig .tc .vmem S4x512x512 .f32) (x0 : Vec F S4096x128 .bf16) (x1 : Vec F S4096x128 .bf16) (x2 : Vec F S4096x128 .bf16) (x3 : Vec F S4096x128 .bf16) : run.sl.v276 (F := F) c i arg2 harg2 arg3 harg3 arg4 harg4 arg5 harg5 arg15 arg16 arg18 x0 x1 x2 x3 = shapeCast S1x512x128 (alpha i x0 x1 x2 x3 3 1) shapeCasts_S512x128_S1x512x128 :=
  t_A i x0 x1 x2 x3 3 1 (r_v269 c i arg2 harg2 arg3 harg3 arg4 harg4 arg5 harg5 arg15 arg16 arg18 x0 x1 x2 x3) (r_v265 c i arg2 harg2 arg3 harg3 arg4 harg4 arg5 harg5 arg15 arg18 x0 x1 x2 x3)

theorem r_v308 (c : Dev nD) (i : grid1.Coords) (arg2 : Memref sig .tc .vmem S4096x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S4096x128 .bf16) (harg5 : arg5.IsWhole) (arg15 : Memref sig .tc .vmem S4096x128 .bf16) (arg16 : Memref sig .tc .vmem S4096x128 .f32) (arg18 : Memref sig .tc .vmem S4x512x512 .f32) (arg20 : Memref sig .tc .vmem S4x512x128 .f32) (x0 : Vec F S4096x128 .bf16) (x1 : Vec F S4096x128 .bf16) (x2 : Vec F S4096x128 .bf16) (x3 : Vec F S4096x128 .bf16) : run.sl.v308 (F := F) c i arg2 harg2 arg3 harg3 arg4 harg4 arg5 harg5 arg15 arg16 arg18 arg20 x0 x1 x2 x3 = shapeCast S1x512x128 (alpha i x0 x1 x2 x3 3 1) shapeCasts_S512x128_S1x512x128 := by
  rw [run.sl.v308, run.sl.H20_3, View.readCov_cons_toLoadRect, p_v276]

theorem r_v298 (c : Dev nD) (i : grid1.Coords) (arg2 : Memref sig .tc .vmem S4096x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S4096x128 .bf16) (harg5 : arg5.IsWhole) (arg15 : Memref sig .tc .vmem S4096x128 .bf16) (arg18 : Memref sig .tc .vmem S4x512x512 .f32) (x0 : Vec F S4096x128 .bf16) (x1 : Vec F S4096x128 .bf16) (x2 : Vec F S4096x128 .bf16) (x3 : Vec F S4096x128 .bf16) : run.sl.v298 (F := F) c i arg2 harg2 arg3 harg3 arg4 harg4 arg5 harg5 arg15 arg18 x0 x1 x2 x3 = shapeCast S1x512x512 (S i x0 x1 x2 x3 3 2) shapeCasts_S512x512_S1x512x512 := by
  rw [run.sl.v298, run.sl.H18_7, View.readCov_skip _ _ _ _ _ (by decide), run.sl.H18_6, View.readCov_cons_toLoadRect, p_v243]

theorem p_v279 (c : Dev nD) (i : grid1.Coords) (arg2 : Memref sig .tc .vmem S4096x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S4096x128 .bf16) (harg5 : arg5.IsWhole) (arg15 : Memref sig .tc .vmem S4096x128 .bf16) (arg16 : Memref sig .tc .vmem S4096x128 .f32) (arg18 : Memref sig .tc .vmem S4x512x512 .f32) (x0 : Vec F S4096x128 .bf16) (x1 : Vec F S4096x128 .bf16) (x2 : Vec F S4096x128 .bf16) (x3 : Vec F S4096x128 .bf16) : run.sl.v279 (F := F) c i arg2 harg2 arg3 harg3 arg4 harg4 arg5 harg5 arg15 arg16 arg18 x0 x1 x2 x3 = shapeCast S1x512x128 (M i x0 x1 x2 x3 3 2) shapeCasts_S512x128_S1x512x128 :=
  t_MNn i x0 x1 x2 x3 3 1 (r_v269 c i arg2 harg2 arg3 harg3 arg4 harg4 arg5 harg5 arg15 arg16 arg18 x0 x1 x2 x3) (r_v265 c i arg2 harg2 arg3 harg3 arg4 harg4 arg5 harg5 arg15 arg18 x0 x1 x2 x3)

theorem r_v296 (c : Dev nD) (i : grid1.Coords) (arg2 : Memref sig .tc .vmem S4096x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S4096x128 .bf16) (harg5 : arg5.IsWhole) (arg15 : Memref sig .tc .vmem S4096x128 .bf16) (arg16 : Memref sig .tc .vmem S4096x128 .f32) (arg18 : Memref sig .tc .vmem S4x512x512 .f32) (arg19 : Memref sig .tc .vmem S4x512x128 .f32) (x0 : Vec F S4096x128 .bf16) (x1 : Vec F S4096x128 .bf16) (x2 : Vec F S4096x128 .bf16) (x3 : Vec F S4096x128 .bf16) : run.sl.v296 (F := F) c i arg2 harg2 arg3 harg3 arg4 harg4 arg5 harg5 arg15 arg16 arg18 arg19 x0 x1 x2 x3 = shapeCast S1x512x128 (M i x0 x1 x2 x3 3 2) shapeCasts_S512x128_S1x512x128 := by
  rw [run.sl.v296, run.sl.H19_6, View.readCov_cons_toLoadRect, p_v279]

theorem p_v316 (c : Dev nD) (i : grid1.Coords) (arg2 : Memref sig .tc .vmem S4096x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S4096x128 .bf16) (harg5 : arg5.IsWhole) (arg6 : Memref sig .tc .vmem S4096x128 .bf16) (harg6 : arg6.IsWhole) (arg15 : Memref sig .tc .vmem S4096x128 .bf16) (arg16 : Memref sig .tc .vmem S4096x128 .f32) (arg17 : Memref sig .tc .vmem S4096x256 .f32) (arg18 : Memref sig .tc .vmem S4x512x512 .f32) (arg19 : Memref sig .tc .vmem S4x512x128 .f32) (arg20 : Memref sig .tc .vmem S4x512x128 .f32) (x0 : Vec F S4096x128 .bf16) (x1 : Vec F S4096x128 .bf16) (x2 : Vec F S4096x128 .bf16) (x3 : Vec F S4096x128 .bf16) (x4 : Vec F S4096x128 .bf16) : run.sl.v316 (F := F) c i arg2 harg2 arg3 harg3 arg4 harg4 arg5 harg5 arg6 harg6 arg15 arg16 arg17 arg18 arg19 arg20 x0 x1 x2 x3 x4 = acc i x0 x1 x2 x3 x4 3 2 :=
  t_ACn harg6 i x0 x1 x2 x3 x4 3 1 (r_v298 c i arg2 harg2 arg3 harg3 arg4 harg4 arg5 harg5 arg15 arg18 x0 x1 x2 x3) (r_v296 c i arg2 harg2 arg3 harg3 arg4 harg4 arg5 harg5 arg15 arg16 arg18 arg19 x0 x1 x2 x3) (r_v308 c i arg2 harg2 arg3 harg3 arg4 harg4 arg5 harg5 arg15 arg16 arg18 arg20 x0 x1 x2 x3) (r_v310 c i arg2 harg2 arg3 harg3 arg4 harg4 arg5 harg5 arg6 harg6 arg15 arg16 arg17 arg18 arg19 arg20 x0 x1 x2 x3 x4)

theorem r_v1633 (c : Dev nD) (i : grid1.Coords) (arg2 : Memref sig .tc .vmem S4096x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S4096x128 .bf16) (harg5 : arg5.IsWhole) (arg6 : Memref sig .tc .vmem S4096x128 .bf16) (harg6 : arg6.IsWhole) (arg15 : Memref sig .tc .vmem S4096x128 .bf16) (arg16 : Memref sig .tc .vmem S4096x128 .f32) (arg17 : Memref sig .tc .vmem S4096x256 .f32) (arg18 : Memref sig .tc .vmem S4x512x512 .f32) (arg19 : Memref sig .tc .vmem S4x512x128 .f32) (arg20 : Memref sig .tc .vmem S4x512x128 .f32) (x0 : Vec F S4096x128 .bf16) (x1 : Vec F S4096x128 .bf16) (x2 : Vec F S4096x128 .bf16) (x3 : Vec F S4096x128 .bf16) (x4 : Vec F S4096x128 .bf16) : run.sl.v1633 (F := F) c i arg2 harg2 arg3 harg3 arg4 harg4 arg5 harg5 arg6 harg6 arg15 arg16 arg17 arg18 arg19 arg20 x0 x1 x2 x3 x4 = acc i x0 x1 x2 x3 x4 3 2 := by
  rw [run.sl.v1633, run.sl.H17_28, View.readCov_skip _ _ _ _ _ (by decide), run.sl.H17_27, View.readCov_skip _ _ _ _ _ (by decide), run.sl.H17_26, View.readCov_skip _ _ _ _ _ (by decide), run.sl.H17_25, View.readCov_skip _ _ _ _ _ (by decide), run.sl.H17_24, View.readCov_skip _ _ _ _ _ (by decide), run.sl.H17_23, View.readCov_skip _ _ _ _ _ (by decide), run.sl.H17_22, View.readCov_skip _ _ _ _ _ (by decide), View.readCov_skip _ _ _ _ _ (by decide), run.sl.H17_20, View.readCov_skip _ _ _ _ _ (by decide), run.sl.H17_19, View.readCov_skip _ _ _ _ _ (by decide), run.sl.H17_18, View.readCov_skip _ _ _ _ _ (by decide), run.sl.H17_17, View.readCov_skip _ _ _ _ _ (by decide), run.sl.H17_16, View.readCov_skip _ _ _ _ _ (by decide), View.readCov_skip _ _ _ _ _ (by decide), run.sl.H17_14, View.readCov_skip _ _ _ _ _ (by decide), run.sl.H17_13, View.readCov_skip _ _ _ _ _ (by decide), run.sl.H17_12, View.readCov_skip _ _ _ _ _ (by decide), run.sl.H17_11, View.readCov_skip _ _ _ _ _ (by decide), View.readCov_skip _ _ _ _ _ (by decide), run.sl.H17_9, View.readCov_skip _ _ _ _ _ (by decide), run.sl.H17_8, View.readCov_skip _ _ _ _ _ (by decide), run.sl.H17_7, View.readCov_skip _ _ _ _ _ (by decide), View.readCov_cons_toLoadRect, p_v316]

theorem p_v282 (c : Dev nD) (i : grid1.Coords) (arg2 : Memref sig .tc .vmem S4096x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S4096x128 .bf16) (harg5 : arg5.IsWhole) (arg15 : Memref sig .tc .vmem S4096x128 .bf16) (arg16 : Memref sig .tc .vmem S4096x128 .f32) (arg18 : Memref sig .tc .vmem S4x512x512 .f32) (x0 : Vec F S4096x128 .bf16) (x1 : Vec F S4096x128 .bf16) (x2 : Vec F S4096x128 .bf16) (x3 : Vec F S4096x128 .bf16) : run.sl.v282 (F := F) c i arg2 harg2 arg3 harg3 arg4 harg4 arg5 harg5 arg15 arg16 arg18 x0 x1 x2 x3 = M i x0 x1 x2 x3 3 2 :=
  t_MMn i x0 x1 x2 x3 3 1 (r_v269 c i arg2 harg2 arg3 harg3 arg4 harg4 arg5 harg5 arg15 arg16 arg18 x0 x1 x2 x3) (r_v265 c i arg2 harg2 arg3 harg3 arg4 harg4 arg5 harg5 arg15 arg18 x0 x1 x2 x3)

theorem r_v1587 (c : Dev nD) (i : grid1.Coords) (arg2 : Memref sig .tc .vmem S4096x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S4096x128 .bf16) (harg5 : arg5.IsWhole) (arg15 : Memref sig .tc .vmem S4096x128 .bf16) (arg16 : Memref sig .tc .vmem S4096x128 .f32) (arg18 : Memref sig .tc .vmem S4x512x512 .f32) (x0 : Vec F S4096x128 .bf16) (x1 : Vec F S4096x128 .bf16) (x2 : Vec F S4096x128 .bf16) (x3 : Vec F S4096x128 .bf16) : run.sl.v1587 (F := F) c i arg2 harg2 arg3 harg3 arg4 harg4 arg5 harg5 arg15 arg16 arg18 x0 x1 x2 x3 = M i x0 x1 x2 x3 3 2 := by
  rw [run.sl.v1587, run.sl.H16_31, View.readCov_skip _ _ _ _ _ (by decide), run.sl.H16_30, View.readCov_skip _ _ _ _ _ (by decide), run.sl.H16_29, View.readCov_skip _ _ _ _ _ (by decide), View.readCov_skip _ _ _ _ _ (by decide), run.sl.H16_27, View.readCov_skip _ _ _ _ _ (by decide), run.sl.H16_26, View.readCov_skip _ _ _ _ _ (by decide), run.sl.H16_25, View.readCov_skip _ _ _ _ _ (by decide), run.sl.H16_24, View.readCov_skip _ _ _ _ _ (by decide), run.sl.H16_23, View.readCov_skip _ _ _ _ _ (by decide), run.sl.H16_22, View.readCov_skip _ _ _ _ _ (by decide), View.readCov_skip _ _ _ _ _ (by decide), run.sl.H16_20, View.readCov_skip _ _ _ _ _ (by decide), run.sl.H16_19, View.readCov_skip _ _ _ _ _ (by decide), run.sl.H16_18, View.readCov_skip _ _ _ _ _ (by decide), run.sl.H16_17, View.readCov_skip _ _ _ _ _ (by decide), run.sl.H16_16, View.readCov_skip _ _ _ _ _ (by decide), View.readCov_skip _ _ _ _ _ (by decide), run.sl.H16_14, View.readCov_skip _ _ _ _ _ (by decide), run.sl.H16_13, View.readCov_skip _ _ _ _ _ (by decide), run.sl.H16_12, View.readCov_skip _ _ _ _ _ (by decide), run.sl.H16_11, View.readCov_skip _ _ _ _ _ (by decide), View.readCov_skip _ _ _ _ _ (by decide), run.sl.H16_9, View.readCov_skip _ _ _ _ _ (by decide), run.sl.H16_8, View.readCov_skip _ _ _ _ _ (by decide), run.sl.H16_7, View.readCov_skip _ _ _ _ _ (by decide), View.readCov_cons_toLoadRect, p_v282]

theorem p_v1559 (c : Dev nD) (i : grid1.Coords) (arg2 : Memref sig .tc .vmem S4096x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S4096x128 .bf16) (harg5 : arg5.IsWhole) (arg15 : Memref sig .tc .vmem S4096x128 .bf16) (x0 : Vec F S4096x128 .bf16) (x1 : Vec F S4096x128 .bf16) (x2 : Vec F S4096x128 .bf16) (x3 : Vec F S4096x128 .bf16) : run.sl.v1559 (F := F) c i arg2 harg2 arg3 harg3 arg4 harg4 arg5 harg5 arg15 x0 x1 x2 x3 = shapeCast S1x512x512 (S i x0 x1 x2 x3 3 3) shapeCasts_S512x512_S1x512x512 :=
  t_diag harg2 harg4 harg5 i x0 x1 x2 x3 3 (r_v141 c i arg3 harg3 arg15 x1)

theorem r_v1583 (c : Dev nD) (i : grid1.Coords) (arg2 : Memref sig .tc .vmem S4096x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S4096x128 .bf16) (harg5 : arg5.IsWhole) (arg15 : Memref sig .tc .vmem S4096x128 .bf16) (arg18 : Memref sig .tc .vmem S4x512x512 .f32) (x0 : Vec F S4096x128 .bf16) (x1 : Vec F S4096x128 .bf16) (x2 : Vec F S4096x128 .bf16) (x3 : Vec F S4096x128 .bf16) : run.sl.v1583 (F := F) c i arg2 harg2 arg3 harg3 arg4 harg4 arg5 harg5 arg15 arg18 x0 x1 x2 x3 = shapeCast S1x512x512 (S i x0 x1 x2 x3 3 3) shapeCasts_S512x512_S1x512x512 := by
  rw [run.sl.v1583, run.sl.H18_32, View.readCov_cons_toLoadRect, p_v1559]

theorem p_v1594 (c : Dev nD) (i : grid1.Coords) (arg2 : Memref sig .tc .vmem S4096x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S4096x128 .bf16) (harg5 : arg5.IsWhole) (arg15 : Memref sig .tc .vmem S4096x128 .bf16) (arg16 : Memref sig .tc .vmem S4096x128 .f32) (arg18 : Memref sig .tc .vmem S4x512x512 .f32) (x0 : Vec F S4096x128 .bf16) (x1 : Vec F S4096x128 .bf16) (x2 : Vec F S4096x128 .bf16) (x3 : Vec F S4096x128 .bf16) : run.sl.v1594 (F := F) c i arg2 harg2 arg3 harg3 arg4 harg4 arg5 harg5 arg15 arg16 arg18 x0 x1 x2 x3 = shapeCast S1x512x128 (alpha i x0 x1 x2 x3 3 2) shapeCasts_S512x128_S1x512x128 :=
  t_A i x0 x1 x2 x3 3 2 (r_v1587 c i arg2 harg2 arg3 harg3 arg4 harg4 arg5 harg5 arg15 arg16 arg18 x0 x1 x2 x3) (r_v1583 c i arg2 harg2 arg3 harg3 arg4 harg4 arg5 harg5 arg15 arg18 x0 x1 x2 x3)

theorem r_v1631 (c : Dev nD) (i : grid1.Coords) (arg2 : Memref sig .tc .vmem S4096x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S4096x128 .bf16) (harg5 : arg5.IsWhole) (arg15 : Memref sig .tc .vmem S4096x128 .bf16) (arg16 : Memref sig .tc .vmem S4096x128 .f32) (arg18 : Memref sig .tc .vmem S4x512x512 .f32) (arg20 : Memref sig .tc .vmem S4x512x128 .f32) (x0 : Vec F S4096x128 .bf16) (x1 : Vec F S4096x128 .bf16) (x2 : Vec F S4096x128 .bf16) (x3 : Vec F S4096x128 .bf16) : run.sl.v1631 (F := F) c i arg2 harg2 arg3 harg3 arg4 harg4 arg5 harg5 arg15 arg16 arg18 arg20 x0 x1 x2 x3 = shapeCast S1x512x128 (alpha i x0 x1 x2 x3 3 2) shapeCasts_S512x128_S1x512x128 := by
  rw [run.sl.v1631, run.sl.H20_24, View.readCov_cons_toLoadRect, p_v1594]

theorem r_v1621 (c : Dev nD) (i : grid1.Coords) (arg2 : Memref sig .tc .vmem S4096x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S4096x128 .bf16) (harg5 : arg5.IsWhole) (arg15 : Memref sig .tc .vmem S4096x128 .bf16) (arg18 : Memref sig .tc .vmem S4x512x512 .f32) (x0 : Vec F S4096x128 .bf16) (x1 : Vec F S4096x128 .bf16) (x2 : Vec F S4096x128 .bf16) (x3 : Vec F S4096x128 .bf16) : run.sl.v1621 (F := F) c i arg2 harg2 arg3 harg3 arg4 harg4 arg5 harg5 arg15 arg18 x0 x1 x2 x3 = shapeCast S1x512x512 (S i x0 x1 x2 x3 3 3) shapeCasts_S512x512_S1x512x512 := by
  rw [run.sl.v1621, run.sl.H18_33, View.readCov_skip _ _ _ _ _ (by decide), run.sl.H18_32, View.readCov_cons_toLoadRect, p_v1559]

theorem p_v1597 (c : Dev nD) (i : grid1.Coords) (arg2 : Memref sig .tc .vmem S4096x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S4096x128 .bf16) (harg5 : arg5.IsWhole) (arg15 : Memref sig .tc .vmem S4096x128 .bf16) (arg16 : Memref sig .tc .vmem S4096x128 .f32) (arg18 : Memref sig .tc .vmem S4x512x512 .f32) (x0 : Vec F S4096x128 .bf16) (x1 : Vec F S4096x128 .bf16) (x2 : Vec F S4096x128 .bf16) (x3 : Vec F S4096x128 .bf16) : run.sl.v1597 (F := F) c i arg2 harg2 arg3 harg3 arg4 harg4 arg5 harg5 arg15 arg16 arg18 x0 x1 x2 x3 = shapeCast S1x512x128 (M i x0 x1 x2 x3 3 3) shapeCasts_S512x128_S1x512x128 :=
  t_MNn i x0 x1 x2 x3 3 2 (r_v1587 c i arg2 harg2 arg3 harg3 arg4 harg4 arg5 harg5 arg15 arg16 arg18 x0 x1 x2 x3) (r_v1583 c i arg2 harg2 arg3 harg3 arg4 harg4 arg5 harg5 arg15 arg18 x0 x1 x2 x3)

theorem r_v1619 (c : Dev nD) (i : grid1.Coords) (arg2 : Memref sig .tc .vmem S4096x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S4096x128 .bf16) (harg5 : arg5.IsWhole) (arg15 : Memref sig .tc .vmem S4096x128 .bf16) (arg16 : Memref sig .tc .vmem S4096x128 .f32) (arg18 : Memref sig .tc .vmem S4x512x512 .f32) (arg19 : Memref sig .tc .vmem S4x512x128 .f32) (x0 : Vec F S4096x128 .bf16) (x1 : Vec F S4096x128 .bf16) (x2 : Vec F S4096x128 .bf16) (x3 : Vec F S4096x128 .bf16) : run.sl.v1619 (F := F) c i arg2 harg2 arg3 harg3 arg4 harg4 arg5 harg5 arg15 arg16 arg18 arg19 x0 x1 x2 x3 = shapeCast S1x512x128 (M i x0 x1 x2 x3 3 3) shapeCasts_S512x128_S1x512x128 := by
  rw [run.sl.v1619, run.sl.H19_32, View.readCov_cons_toLoadRect, p_v1597]

theorem p_v1640 (c : Dev nD) (i : grid1.Coords) (arg2 : Memref sig .tc .vmem S4096x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S4096x128 .bf16) (harg5 : arg5.IsWhole) (arg6 : Memref sig .tc .vmem S4096x128 .bf16) (harg6 : arg6.IsWhole) (arg15 : Memref sig .tc .vmem S4096x128 .bf16) (arg16 : Memref sig .tc .vmem S4096x128 .f32) (arg17 : Memref sig .tc .vmem S4096x256 .f32) (arg18 : Memref sig .tc .vmem S4x512x512 .f32) (arg19 : Memref sig .tc .vmem S4x512x128 .f32) (arg20 : Memref sig .tc .vmem S4x512x128 .f32) (x0 : Vec F S4096x128 .bf16) (x1 : Vec F S4096x128 .bf16) (x2 : Vec F S4096x128 .bf16) (x3 : Vec F S4096x128 .bf16) (x4 : Vec F S4096x128 .bf16) : run.sl.v1640 (F := F) c i arg2 harg2 arg3 harg3 arg4 harg4 arg5 harg5 arg6 harg6 arg15 arg16 arg17 arg18 arg19 arg20 x0 x1 x2 x3 x4 = out i x0 x1 x2 x3 x4 3 :=
  t_On harg6 i x0 x1 x2 x3 x4 3 2 rfl (r_v1621 c i arg2 harg2 arg3 harg3 arg4 harg4 arg5 harg5 arg15 arg18 x0 x1 x2 x3) (r_v1619 c i arg2 harg2 arg3 harg3 arg4 harg4 arg5 harg5 arg15 arg16 arg18 arg19 x0 x1 x2 x3) (r_v1631 c i arg2 harg2 arg3 harg3 arg4 harg4 arg5 harg5 arg15 arg16 arg18 arg20 x0 x1 x2 x3) (r_v1633 c i arg2 harg2 arg3 harg3 arg4 harg4 arg5 harg5 arg6 harg6 arg15 arg16 arg17 arg18 arg19 arg20 x0 x1 x2 x3 x4)

theorem r_v285 (c : Dev nD) (i : grid1.Coords) (arg3 : Memref sig .tc .vmem S4096x128 .bf16) (harg3 : arg3.IsWhole) (arg15 : Memref sig .tc .vmem S4096x128 .bf16) (x1 : Vec F S4096x128 .bf16) : run.sl.v285 (F := F) c i arg3 harg3 arg15 x1 = blk (qam i x1) 4 := by
  rw [run.sl.v285, run.sl.H15_1, View.readCov_fill _ _ _ _ _ (by decide), p_v26]; rfl

theorem p_v295 (c : Dev nD) (i : grid1.Coords) (arg2 : Memref sig .tc .vmem S4096x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S4096x128 .bf16) (harg5 : arg5.IsWhole) (arg15 : Memref sig .tc .vmem S4096x128 .bf16) (x0 : Vec F S4096x128 .bf16) (x1 : Vec F S4096x128 .bf16) (x2 : Vec F S4096x128 .bf16) (x3 : Vec F S4096x128 .bf16) : run.sl.v295 (F := F) c i arg2 harg2 arg3 harg3 arg4 harg4 arg5 harg5 arg15 x0 x1 x2 x3 = shapeCast S1x512x512 (S i x0 x1 x2 x3 4 0) shapeCasts_S512x512_S1x512x512 :=
  t_off harg2 harg4 harg5 i x0 x1 x2 x3 4 0 (by decide) (r_v285 c i arg3 harg3 arg15 x1)

theorem r_v344 (c : Dev nD) (i : grid1.Coords) (arg2 : Memref sig .tc .vmem S4096x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S4096x128 .bf16) (harg5 : arg5.IsWhole) (arg15 : Memref sig .tc .vmem S4096x128 .bf16) (arg18 : Memref sig .tc .vmem S4x512x512 .f32) (x0 : Vec F S4096x128 .bf16) (x1 : Vec F S4096x128 .bf16) (x2 : Vec F S4096x128 .bf16) (x3 : Vec F S4096x128 .bf16) : run.sl.v344 (F := F) c i arg2 harg2 arg3 harg3 arg4 harg4 arg5 harg5 arg15 arg18 x0 x1 x2 x3 = shapeCast S1x512x512 (S i x0 x1 x2 x3 4 0) shapeCasts_S512x512_S1x512x512 := by
  rw [run.sl.v344, run.sl.H18_8, View.readCov_skip _ _ _ _ _ (by decide), run.sl.H18_7, View.readCov_cons_toLoadRect, p_v295]

theorem r_v317 (c : Dev nD) (i : grid1.Coords) (arg2 : Memref sig .tc .vmem S4096x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S4096x128 .bf16) (harg5 : arg5.IsWhole) (arg15 : Memref sig .tc .vmem S4096x128 .bf16) (arg18 : Memref sig .tc .vmem S4x512x512 .f32) (x0 : Vec F S4096x128 .bf16) (x1 : Vec F S4096x128 .bf16) (x2 : Vec F S4096x128 .bf16) (x3 : Vec F S4096x128 .bf16) : run.sl.v317 (F := F) c i arg2 harg2 arg3 harg3 arg4 harg4 arg5 harg5 arg15 arg18 x0 x1 x2 x3 = shapeCast S1x512x512 (S i x0 x1 x2 x3 4 0) shapeCasts_S512x512_S1x512x512 := by
  rw [run.sl.v317, run.sl.H18_7, View.readCov_cons_toLoadRect, p_v295]

theorem p_v325 (c : Dev nD) (i : grid1.Coords) (arg2 : Memref sig .tc .vmem S4096x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S4096x128 .bf16) (harg5 : arg5.IsWhole) (arg15 : Memref sig .tc .vmem S4096x128 .bf16) (arg18 : Memref sig .tc .vmem S4x512x512 .f32) (x0 : Vec F S4096x128 .bf16) (x1 : Vec F S4096x128 .bf16) (x2 : Vec F S4096x128 .bf16) (x3 : Vec F S4096x128 .bf16) : run.sl.v325 (F := F) c i arg2 harg2 arg3 harg3 arg4 harg4 arg5 harg5 arg15 arg18 x0 x1 x2 x3 = shapeCast S1x512x128 (M i x0 x1 x2 x3 4 0) shapeCasts_S512x128_S1x512x128 :=
  t_MN0 i x0 x1 x2 x3 4 (r_v317 c i arg2 harg2 arg3 harg3 arg4 harg4 arg5 harg5 arg15 arg18 x0 x1 x2 x3)

theorem r_v (c : Dev nD) (i : grid1.Coords) (arg2 : Memref sig .tc .vmem S4096x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S4096x128 .bf16) (harg5 : arg5.IsWhole) (arg15 : Memref sig .tc .vmem S4096x128 .bf16) (arg16 : Memref sig .tc .vmem S4096x128 .f32) (arg18 : Memref sig .tc .vmem S4x512x512 .f32) (arg19 : Memref sig .tc .vmem S4x512x128 .f32) (x0 : Vec F S4096x128 .bf16) (x1 : Vec F S4096x128 .bf16) (x2 : Vec F S4096x128 .bf16) (x3 : Vec F S4096x128 .bf16) : run.sl.v (F := F) c i arg2 harg2 arg3 harg3 arg4 harg4 arg5 harg5 arg15 arg16 arg18 arg19 x0 x1 x2 x3 = shapeCast S1x512x128 (M i x0 x1 x2 x3 4 0) shapeCasts_S512x128_S1x512x128 := by
  rw [run.sl.v, run.sl.H19_7, View.readCov_cons_toLoadRect, p_v325]

theorem p_v356 (c : Dev nD) (i : grid1.Coords) (arg2 : Memref sig .tc .vmem S4096x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S4096x128 .bf16) (harg5 : arg5.IsWhole) (arg6 : Memref sig .tc .vmem S4096x128 .bf16) (harg6 : arg6.IsWhole) (arg15 : Memref sig .tc .vmem S4096x128 .bf16) (arg16 : Memref sig .tc .vmem S4096x128 .f32) (arg18 : Memref sig .tc .vmem S4x512x512 .f32) (arg19 : Memref sig .tc .vmem S4x512x128 .f32) (x0 : Vec F S4096x128 .bf16) (x1 : Vec F S4096x128 .bf16) (x2 : Vec F S4096x128 .bf16) (x3 : Vec F S4096x128 .bf16) (x4 : Vec F S4096x128 .bf16) : run.sl.v356 (F := F) c i arg2 harg2 arg3 harg3 arg4 harg4 arg5 harg5 arg6 harg6 arg15 arg16 arg18 arg19 x0 x1 x2 x3 x4 = acc i x0 x1 x2 x3 x4 4 0 :=
  t_AC0 harg6 i x0 x1 x2 x3 x4 4 (r_v344 c i arg2 harg2 arg3 harg3 arg4 harg4 arg5 harg5 arg15 arg18 x0 x1 x2 x3) (r_v c i arg2 harg2 arg3 harg3 arg4 harg4 arg5 harg5 arg15 arg16 arg18 arg19 x0 x1 x2 x3)

theorem r_v402 (c : Dev nD) (i : grid1.Coords) (arg2 : Memref sig .tc .vmem S4096x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S4096x128 .bf16) (harg5 : arg5.IsWhole) (arg6 : Memref sig .tc .vmem S4096x128 .bf16) (harg6 : arg6.IsWhole) (arg15 : Memref sig .tc .vmem S4096x128 .bf16) (arg16 : Memref sig .tc .vmem S4096x128 .f32) (arg17 : Memref sig .tc .vmem S4096x256 .f32) (arg18 : Memref sig .tc .vmem S4x512x512 .f32) (arg19 : Memref sig .tc .vmem S4x512x128 .f32) (arg20 : Memref sig .tc .vmem S4x512x128 .f32) (x0 : Vec F S4096x128 .bf16) (x1 : Vec F S4096x128 .bf16) (x2 : Vec F S4096x128 .bf16) (x3 : Vec F S4096x128 .bf16) (x4 : Vec F S4096x128 .bf16) : run.sl.v402 (F := F) c i arg2 harg2 arg3 harg3 arg4 harg4 arg5 harg5 arg6 harg6 arg15 arg16 arg17 arg18 arg19 arg20 x0 x1 x2 x3 x4 = acc i x0 x1 x2 x3 x4 4 0 := by
  rw [run.sl.v402, run.sl.H17_7, View.readCov_cons_toLoadRect, p_v356]

theorem p_v328 (c : Dev nD) (i : grid1.Coords) (arg2 : Memref sig .tc .vmem S4096x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S4096x128 .bf16) (harg5 : arg5.IsWhole) (arg15 : Memref sig .tc .vmem S4096x128 .bf16) (arg18 : Memref sig .tc .vmem S4x512x512 .f32) (x0 : Vec F S4096x128 .bf16) (x1 : Vec F S4096x128 .bf16) (x2 : Vec F S4096x128 .bf16) (x3 : Vec F S4096x128 .bf16) : run.sl.v328 (F := F) c i arg2 harg2 arg3 harg3 arg4 harg4 arg5 harg5 arg15 arg18 x0 x1 x2 x3 = M i x0 x1 x2 x3 4 0 :=
  t_MM0 i x0 x1 x2 x3 4 (r_v317 c i arg2 harg2 arg3 harg3 arg4 harg4 arg5 harg5 arg15 arg18 x0 x1 x2 x3)

theorem r_v361 (c : Dev nD) (i : grid1.Coords) (arg2 : Memref sig .tc .vmem S4096x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S4096x128 .bf16) (harg5 : arg5.IsWhole) (arg15 : Memref sig .tc .vmem S4096x128 .bf16) (arg16 : Memref sig .tc .vmem S4096x128 .f32) (arg18 : Memref sig .tc .vmem S4x512x512 .f32) (x0 : Vec F S4096x128 .bf16) (x1 : Vec F S4096x128 .bf16) (x2 : Vec F S4096x128 .bf16) (x3 : Vec F S4096x128 .bf16) : run.sl.v361 (F := F) c i arg2 harg2 arg3 harg3 arg4 harg4 arg5 harg5 arg15 arg16 arg18 x0 x1 x2 x3 = M i x0 x1 x2 x3 4 0 := by
  rw [run.sl.v361, run.sl.H16_7, View.readCov_cons_toLoadRect, p_v328]

theorem p_v341 (c : Dev nD) (i : grid1.Coords) (arg2 : Memref sig .tc .vmem S4096x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S4096x128 .bf16) (harg5 : arg5.IsWhole) (arg15 : Memref sig .tc .vmem S4096x128 .bf16) (x0 : Vec F S4096x128 .bf16) (x1 : Vec F S4096x128 .bf16) (x2 : Vec F S4096x128 .bf16) (x3 : Vec F S4096x128 .bf16) : run.sl.v341 (F := F) c i arg2 harg2 arg3 harg3 arg4 harg4 arg5 harg5 arg15 x0 x1 x2 x3 = shapeCast S1x512x512 (S i x0 x1 x2 x3 4 1) shapeCasts_S512x512_S1x512x512 :=
  t_off harg2 harg4 harg5 i x0 x1 x2 x3 4 1 (by decide) (r_v285 c i arg3 harg3 arg15 x1)

theorem r_v357 (c : Dev nD) (i : grid1.Coords) (arg2 : Memref sig .tc .vmem S4096x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S4096x128 .bf16) (harg5 : arg5.IsWhole) (arg15 : Memref sig .tc .vmem S4096x128 .bf16) (arg18 : Memref sig .tc .vmem S4x512x512 .f32) (x0 : Vec F S4096x128 .bf16) (x1 : Vec F S4096x128 .bf16) (x2 : Vec F S4096x128 .bf16) (x3 : Vec F S4096x128 .bf16) : run.sl.v357 (F := F) c i arg2 harg2 arg3 harg3 arg4 harg4 arg5 harg5 arg15 arg18 x0 x1 x2 x3 = shapeCast S1x512x512 (S i x0 x1 x2 x3 4 1) shapeCasts_S512x512_S1x512x512 := by
  rw [run.sl.v357, run.sl.H18_8, View.readCov_cons_toLoadRect, p_v341]

theorem p_v368 (c : Dev nD) (i : grid1.Coords) (arg2 : Memref sig .tc .vmem S4096x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S4096x128 .bf16) (harg5 : arg5.IsWhole) (arg15 : Memref sig .tc .vmem S4096x128 .bf16) (arg16 : Memref sig .tc .vmem S4096x128 .f32) (arg18 : Memref sig .tc .vmem S4x512x512 .f32) (x0 : Vec F S4096x128 .bf16) (x1 : Vec F S4096x128 .bf16) (x2 : Vec F S4096x128 .bf16) (x3 : Vec F S4096x128 .bf16) : run.sl.v368 (F := F) c i arg2 harg2 arg3 harg3 arg4 harg4 arg5 harg5 arg15 arg16 arg18 x0 x1 x2 x3 = shapeCast S1x512x128 (alpha i x0 x1 x2 x3 4 0) shapeCasts_S512x128_S1x512x128 :=
  t_A i x0 x1 x2 x3 4 0 (r_v361 c i arg2 harg2 arg3 harg3 arg4 harg4 arg5 harg5 arg15 arg16 arg18 x0 x1 x2 x3) (r_v357 c i arg2 harg2 arg3 harg3 arg4 harg4 arg5 harg5 arg15 arg18 x0 x1 x2 x3)

theorem r_v400 (c : Dev nD) (i : grid1.Coords) (arg2 : Memref sig .tc .vmem S4096x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S4096x128 .bf16) (harg5 : arg5.IsWhole) (arg15 : Memref sig .tc .vmem S4096x128 .bf16) (arg16 : Memref sig .tc .vmem S4096x128 .f32) (arg18 : Memref sig .tc .vmem S4x512x512 .f32) (arg20 : Memref sig .tc .vmem S4x512x128 .f32) (x0 : Vec F S4096x128 .bf16) (x1 : Vec F S4096x128 .bf16) (x2 : Vec F S4096x128 .bf16) (x3 : Vec F S4096x128 .bf16) : run.sl.v400 (F := F) c i arg2 harg2 arg3 harg3 arg4 harg4 arg5 harg5 arg15 arg16 arg18 arg20 x0 x1 x2 x3 = shapeCast S1x512x128 (alpha i x0 x1 x2 x3 4 0) shapeCasts_S512x128_S1x512x128 := by
  rw [run.sl.v400, run.sl.H20_4, View.readCov_cons_toLoadRect, p_v368]

theorem r_v390 (c : Dev nD) (i : grid1.Coords) (arg2 : Memref sig .tc .vmem S4096x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S4096x128 .bf16) (harg5 : arg5.IsWhole) (arg15 : Memref sig .tc .vmem S4096x128 .bf16) (arg18 : Memref sig .tc .vmem S4x512x512 .f32) (x0 : Vec F S4096x128 .bf16) (x1 : Vec F S4096x128 .bf16) (x2 : Vec F S4096x128 .bf16) (x3 : Vec F S4096x128 .bf16) : run.sl.v390 (F := F) c i arg2 harg2 arg3 harg3 arg4 harg4 arg5 harg5 arg15 arg18 x0 x1 x2 x3 = shapeCast S1x512x512 (S i x0 x1 x2 x3 4 1) shapeCasts_S512x512_S1x512x512 := by
  rw [run.sl.v390, run.sl.H18_9, View.readCov_skip _ _ _ _ _ (by decide), run.sl.H18_8, View.readCov_cons_toLoadRect, p_v341]

theorem p_v371 (c : Dev nD) (i : grid1.Coords) (arg2 : Memref sig .tc .vmem S4096x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S4096x128 .bf16) (harg5 : arg5.IsWhole) (arg15 : Memref sig .tc .vmem S4096x128 .bf16) (arg16 : Memref sig .tc .vmem S4096x128 .f32) (arg18 : Memref sig .tc .vmem S4x512x512 .f32) (x0 : Vec F S4096x128 .bf16) (x1 : Vec F S4096x128 .bf16) (x2 : Vec F S4096x128 .bf16) (x3 : Vec F S4096x128 .bf16) : run.sl.v371 (F := F) c i arg2 harg2 arg3 harg3 arg4 harg4 arg5 harg5 arg15 arg16 arg18 x0 x1 x2 x3 = shapeCast S1x512x128 (M i x0 x1 x2 x3 4 1) shapeCasts_S512x128_S1x512x128 :=
  t_MNn i x0 x1 x2 x3 4 0 (r_v361 c i arg2 harg2 arg3 harg3 arg4 harg4 arg5 harg5 arg15 arg16 arg18 x0 x1 x2 x3) (r_v357 c i arg2 harg2 arg3 harg3 arg4 harg4 arg5 harg5 arg15 arg18 x0 x1 x2 x3)

theorem r_v388 (c : Dev nD) (i : grid1.Coords) (arg2 : Memref sig .tc .vmem S4096x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S4096x128 .bf16) (harg5 : arg5.IsWhole) (arg15 : Memref sig .tc .vmem S4096x128 .bf16) (arg16 : Memref sig .tc .vmem S4096x128 .f32) (arg18 : Memref sig .tc .vmem S4x512x512 .f32) (arg19 : Memref sig .tc .vmem S4x512x128 .f32) (x0 : Vec F S4096x128 .bf16) (x1 : Vec F S4096x128 .bf16) (x2 : Vec F S4096x128 .bf16) (x3 : Vec F S4096x128 .bf16) : run.sl.v388 (F := F) c i arg2 harg2 arg3 harg3 arg4 harg4 arg5 harg5 arg15 arg16 arg18 arg19 x0 x1 x2 x3 = shapeCast S1x512x128 (M i x0 x1 x2 x3 4 1) shapeCasts_S512x128_S1x512x128 := by
  rw [run.sl.v388, run.sl.H19_8, View.readCov_cons_toLoadRect, p_v371]

theorem p_v408 (c : Dev nD) (i : grid1.Coords) (arg2 : Memref sig .tc .vmem S4096x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S4096x128 .bf16) (harg5 : arg5.IsWhole) (arg6 : Memref sig .tc .vmem S4096x128 .bf16) (harg6 : arg6.IsWhole) (arg15 : Memref sig .tc .vmem S4096x128 .bf16) (arg16 : Memref sig .tc .vmem S4096x128 .f32) (arg17 : Memref sig .tc .vmem S4096x256 .f32) (arg18 : Memref sig .tc .vmem S4x512x512 .f32) (arg19 : Memref sig .tc .vmem S4x512x128 .f32) (arg20 : Memref sig .tc .vmem S4x512x128 .f32) (x0 : Vec F S4096x128 .bf16) (x1 : Vec F S4096x128 .bf16) (x2 : Vec F S4096x128 .bf16) (x3 : Vec F S4096x128 .bf16) (x4 : Vec F S4096x128 .bf16) : run.sl.v408 (F := F) c i arg2 harg2 arg3 harg3 arg4 harg4 arg5 harg5 arg6 harg6 arg15 arg16 arg17 arg18 arg19 arg20 x0 x1 x2 x3 x4 = acc i x0 x1 x2 x3 x4 4 1 :=
  t_ACn harg6 i x0 x1 x2 x3 x4 4 0 (r_v390 c i arg2 harg2 arg3 harg3 arg4 harg4 arg5 harg5 arg15 arg18 x0 x1 x2 x3) (r_v388 c i arg2 harg2 arg3 harg3 arg4 harg4 arg5 harg5 arg15 arg16 arg18 arg19 x0 x1 x2 x3) (r_v400 c i arg2 harg2 arg3 harg3 arg4 harg4 arg5 harg5 arg15 arg16 arg18 arg20 x0 x1 x2 x3) (r_v402 c i arg2 harg2 arg3 harg3 arg4 harg4 arg5 harg5 arg6 harg6 arg15 arg16 arg17 arg18 arg19 arg20 x0 x1 x2 x3 x4)

theorem r_v454 (c : Dev nD) (i : grid1.Coords) (arg2 : Memref sig .tc .vmem S4096x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S4096x128 .bf16) (harg5 : arg5.IsWhole) (arg6 : Memref sig .tc .vmem S4096x128 .bf16) (harg6 : arg6.IsWhole) (arg15 : Memref sig .tc .vmem S4096x128 .bf16) (arg16 : Memref sig .tc .vmem S4096x128 .f32) (arg17 : Memref sig .tc .vmem S4096x256 .f32) (arg18 : Memref sig .tc .vmem S4x512x512 .f32) (arg19 : Memref sig .tc .vmem S4x512x128 .f32) (arg20 : Memref sig .tc .vmem S4x512x128 .f32) (x0 : Vec F S4096x128 .bf16) (x1 : Vec F S4096x128 .bf16) (x2 : Vec F S4096x128 .bf16) (x3 : Vec F S4096x128 .bf16) (x4 : Vec F S4096x128 .bf16) : run.sl.v454 (F := F) c i arg2 harg2 arg3 harg3 arg4 harg4 arg5 harg5 arg6 harg6 arg15 arg16 arg17 arg18 arg19 arg20 x0 x1 x2 x3 x4 = acc i x0 x1 x2 x3 x4 4 1 := by
  rw [run.sl.v454, run.sl.H17_8, View.readCov_cons_toLoadRect, p_v408]

theorem p_v374 (c : Dev nD) (i : grid1.Coords) (arg2 : Memref sig .tc .vmem S4096x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S4096x128 .bf16) (harg5 : arg5.IsWhole) (arg15 : Memref sig .tc .vmem S4096x128 .bf16) (arg16 : Memref sig .tc .vmem S4096x128 .f32) (arg18 : Memref sig .tc .vmem S4x512x512 .f32) (x0 : Vec F S4096x128 .bf16) (x1 : Vec F S4096x128 .bf16) (x2 : Vec F S4096x128 .bf16) (x3 : Vec F S4096x128 .bf16) : run.sl.v374 (F := F) c i arg2 harg2 arg3 harg3 arg4 harg4 arg5 harg5 arg15 arg16 arg18 x0 x1 x2 x3 = M i x0 x1 x2 x3 4 1 :=
  t_MMn i x0 x1 x2 x3 4 0 (r_v361 c i arg2 harg2 arg3 harg3 arg4 harg4 arg5 harg5 arg15 arg16 arg18 x0 x1 x2 x3) (r_v357 c i arg2 harg2 arg3 harg3 arg4 harg4 arg5 harg5 arg15 arg18 x0 x1 x2 x3)

theorem r_v413 (c : Dev nD) (i : grid1.Coords) (arg2 : Memref sig .tc .vmem S4096x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S4096x128 .bf16) (harg5 : arg5.IsWhole) (arg15 : Memref sig .tc .vmem S4096x128 .bf16) (arg16 : Memref sig .tc .vmem S4096x128 .f32) (arg18 : Memref sig .tc .vmem S4x512x512 .f32) (x0 : Vec F S4096x128 .bf16) (x1 : Vec F S4096x128 .bf16) (x2 : Vec F S4096x128 .bf16) (x3 : Vec F S4096x128 .bf16) : run.sl.v413 (F := F) c i arg2 harg2 arg3 harg3 arg4 harg4 arg5 harg5 arg15 arg16 arg18 x0 x1 x2 x3 = M i x0 x1 x2 x3 4 1 := by
  rw [run.sl.v413, run.sl.H16_8, View.readCov_cons_toLoadRect, p_v374]

theorem p_v387 (c : Dev nD) (i : grid1.Coords) (arg2 : Memref sig .tc .vmem S4096x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S4096x128 .bf16) (harg5 : arg5.IsWhole) (arg15 : Memref sig .tc .vmem S4096x128 .bf16) (x0 : Vec F S4096x128 .bf16) (x1 : Vec F S4096x128 .bf16) (x2 : Vec F S4096x128 .bf16) (x3 : Vec F S4096x128 .bf16) : run.sl.v387 (F := F) c i arg2 harg2 arg3 harg3 arg4 harg4 arg5 harg5 arg15 x0 x1 x2 x3 = shapeCast S1x512x512 (S i x0 x1 x2 x3 4 2) shapeCasts_S512x512_S1x512x512 :=
  t_off harg2 harg4 harg5 i x0 x1 x2 x3 4 2 (by decide) (r_v285 c i arg3 harg3 arg15 x1)

theorem r_v409 (c : Dev nD) (i : grid1.Coords) (arg2 : Memref sig .tc .vmem S4096x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S4096x128 .bf16) (harg5 : arg5.IsWhole) (arg15 : Memref sig .tc .vmem S4096x128 .bf16) (arg18 : Memref sig .tc .vmem S4x512x512 .f32) (x0 : Vec F S4096x128 .bf16) (x1 : Vec F S4096x128 .bf16) (x2 : Vec F S4096x128 .bf16) (x3 : Vec F S4096x128 .bf16) : run.sl.v409 (F := F) c i arg2 harg2 arg3 harg3 arg4 harg4 arg5 harg5 arg15 arg18 x0 x1 x2 x3 = shapeCast S1x512x512 (S i x0 x1 x2 x3 4 2) shapeCasts_S512x512_S1x512x512 := by
  rw [run.sl.v409, run.sl.H18_9, View.readCov_cons_toLoadRect, p_v387]

theorem p_v420 (c : Dev nD) (i : grid1.Coords) (arg2 : Memref sig .tc .vmem S4096x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S4096x128 .bf16) (harg5 : arg5.IsWhole) (arg15 : Memref sig .tc .vmem S4096x128 .bf16) (arg16 : Memref sig .tc .vmem S4096x128 .f32) (arg18 : Memref sig .tc .vmem S4x512x512 .f32) (x0 : Vec F S4096x128 .bf16) (x1 : Vec F S4096x128 .bf16) (x2 : Vec F S4096x128 .bf16) (x3 : Vec F S4096x128 .bf16) : run.sl.v420 (F := F) c i arg2 harg2 arg3 harg3 arg4 harg4 arg5 harg5 arg15 arg16 arg18 x0 x1 x2 x3 = shapeCast S1x512x128 (alpha i x0 x1 x2 x3 4 1) shapeCasts_S512x128_S1x512x128 :=
  t_A i x0 x1 x2 x3 4 1 (r_v413 c i arg2 harg2 arg3 harg3 arg4 harg4 arg5 harg5 arg15 arg16 arg18 x0 x1 x2 x3) (r_v409 c i arg2 harg2 arg3 harg3 arg4 harg4 arg5 harg5 arg15 arg18 x0 x1 x2 x3)

theorem r_v452 (c : Dev nD) (i : grid1.Coords) (arg2 : Memref sig .tc .vmem S4096x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S4096x128 .bf16) (harg5 : arg5.IsWhole) (arg15 : Memref sig .tc .vmem S4096x128 .bf16) (arg16 : Memref sig .tc .vmem S4096x128 .f32) (arg18 : Memref sig .tc .vmem S4x512x512 .f32) (arg20 : Memref sig .tc .vmem S4x512x128 .f32) (x0 : Vec F S4096x128 .bf16) (x1 : Vec F S4096x128 .bf16) (x2 : Vec F S4096x128 .bf16) (x3 : Vec F S4096x128 .bf16) : run.sl.v452 (F := F) c i arg2 harg2 arg3 harg3 arg4 harg4 arg5 harg5 arg15 arg16 arg18 arg20 x0 x1 x2 x3 = shapeCast S1x512x128 (alpha i x0 x1 x2 x3 4 1) shapeCasts_S512x128_S1x512x128 := by
  rw [run.sl.v452, run.sl.H20_5, View.readCov_cons_toLoadRect, p_v420]

theorem r_v442 (c : Dev nD) (i : grid1.Coords) (arg2 : Memref sig .tc .vmem S4096x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S4096x128 .bf16) (harg5 : arg5.IsWhole) (arg15 : Memref sig .tc .vmem S4096x128 .bf16) (arg18 : Memref sig .tc .vmem S4x512x512 .f32) (x0 : Vec F S4096x128 .bf16) (x1 : Vec F S4096x128 .bf16) (x2 : Vec F S4096x128 .bf16) (x3 : Vec F S4096x128 .bf16) : run.sl.v442 (F := F) c i arg2 harg2 arg3 harg3 arg4 harg4 arg5 harg5 arg15 arg18 x0 x1 x2 x3 = shapeCast S1x512x512 (S i x0 x1 x2 x3 4 2) shapeCasts_S512x512_S1x512x512 := by
  rw [run.sl.v442, run.sl.H18_10, View.readCov_skip _ _ _ _ _ (by decide), run.sl.H18_9, View.readCov_cons_toLoadRect, p_v387]

theorem p_v423 (c : Dev nD) (i : grid1.Coords) (arg2 : Memref sig .tc .vmem S4096x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S4096x128 .bf16) (harg5 : arg5.IsWhole) (arg15 : Memref sig .tc .vmem S4096x128 .bf16) (arg16 : Memref sig .tc .vmem S4096x128 .f32) (arg18 : Memref sig .tc .vmem S4x512x512 .f32) (x0 : Vec F S4096x128 .bf16) (x1 : Vec F S4096x128 .bf16) (x2 : Vec F S4096x128 .bf16) (x3 : Vec F S4096x128 .bf16) : run.sl.v423 (F := F) c i arg2 harg2 arg3 harg3 arg4 harg4 arg5 harg5 arg15 arg16 arg18 x0 x1 x2 x3 = shapeCast S1x512x128 (M i x0 x1 x2 x3 4 2) shapeCasts_S512x128_S1x512x128 :=
  t_MNn i x0 x1 x2 x3 4 1 (r_v413 c i arg2 harg2 arg3 harg3 arg4 harg4 arg5 harg5 arg15 arg16 arg18 x0 x1 x2 x3) (r_v409 c i arg2 harg2 arg3 harg3 arg4 harg4 arg5 harg5 arg15 arg18 x0 x1 x2 x3)

end Cert.KernelIdeal.Attn
-- ==== Proof.AttnRead2.lean ====
/- What each stored vector of the attention kernel is, in the stages (part 2). -/
module

public import proofs.«01_k».proof.Proof.AttnRead1

@[expose] public section

set_option maxRecDepth 16384

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F] [Named F]

theorem r_v440 (c : Dev nD) (i : grid1.Coords) (arg2 : Memref sig .tc .vmem S4096x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S4096x128 .bf16) (harg5 : arg5.IsWhole) (arg15 : Memref sig .tc .vmem S4096x128 .bf16) (arg16 : Memref sig .tc .vmem S4096x128 .f32) (arg18 : Memref sig .tc .vmem S4x512x512 .f32) (arg19 : Memref sig .tc .vmem S4x512x128 .f32) (x0 : Vec F S4096x128 .bf16) (x1 : Vec F S4096x128 .bf16) (x2 : Vec F S4096x128 .bf16) (x3 : Vec F S4096x128 .bf16) : run.sl.v440 (F := F) c i arg2 harg2 arg3 harg3 arg4 harg4 arg5 harg5 arg15 arg16 arg18 arg19 x0 x1 x2 x3 = shapeCast S1x512x128 (M i x0 x1 x2 x3 4 2) shapeCasts_S512x128_S1x512x128 := by
  rw [run.sl.v440, run.sl.H19_9, View.readCov_cons_toLoadRect, p_v423]

theorem p_v460 (c : Dev nD) (i : grid1.Coords) (arg2 : Memref sig .tc .vmem S4096x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S4096x128 .bf16) (harg5 : arg5.IsWhole) (arg6 : Memref sig .tc .vmem S4096x128 .bf16) (harg6 : arg6.IsWhole) (arg15 : Memref sig .tc .vmem S4096x128 .bf16) (arg16 : Memref sig .tc .vmem S4096x128 .f32) (arg17 : Memref sig .tc .vmem S4096x256 .f32) (arg18 : Memref sig .tc .vmem S4x512x512 .f32) (arg19 : Memref sig .tc .vmem S4x512x128 .f32) (arg20 : Memref sig .tc .vmem S4x512x128 .f32) (x0 : Vec F S4096x128 .bf16) (x1 : Vec F S4096x128 .bf16) (x2 : Vec F S4096x128 .bf16) (x3 : Vec F S4096x128 .bf16) (x4 : Vec F S4096x128 .bf16) : run.sl.v460 (F := F) c i arg2 harg2 arg3 harg3 arg4 harg4 arg5 harg5 arg6 harg6 arg15 arg16 arg17 arg18 arg19 arg20 x0 x1 x2 x3 x4 = acc i x0 x1 x2 x3 x4 4 2 :=
  t_ACn harg6 i x0 x1 x2 x3 x4 4 1 (r_v442 c i arg2 harg2 arg3 harg3 arg4 harg4 arg5 harg5 arg15 arg18 x0 x1 x2 x3) (r_v440 c i arg2 harg2 arg3 harg3 arg4 harg4 arg5 harg5 arg15 arg16 arg18 arg19 x0 x1 x2 x3) (r_v452 c i arg2 harg2 arg3 harg3 arg4 harg4 arg5 harg5 arg15 arg16 arg18 arg20 x0 x1 x2 x3) (r_v454 c i arg2 harg2 arg3 harg3 arg4 harg4 arg5 harg5 arg6 harg6 arg15 arg16 arg17 arg18 arg19 arg20 x0 x1 x2 x3 x4)

theorem r_v506 (c : Dev nD) (i : grid1.Coords) (arg2 : Memref sig .tc .vmem S4096x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S4096x128 .bf16) (harg5 : arg5.IsWhole) (arg6 : Memref sig .tc .vmem S4096x128 .bf16) (harg6 : arg6.IsWhole) (arg15 : Memref sig .tc .vmem S4096x128 .bf16) (arg16 : Memref sig .tc .vmem S4096x128 .f32) (arg17 : Memref sig .tc .vmem S4096x256 .f32) (arg18 : Memref sig .tc .vmem S4x512x512 .f32) (arg19 : Memref sig .tc .vmem S4x512x128 .f32) (arg20 : Memref sig .tc .vmem S4x512x128 .f32) (x0 : Vec F S4096x128 .bf16) (x1 : Vec F S4096x128 .bf16) (x2 : Vec F S4096x128 .bf16) (x3 : Vec F S4096x128 .bf16) (x4 : Vec F S4096x128 .bf16) : run.sl.v506 (F := F) c i arg2 harg2 arg3 harg3 arg4 harg4 arg5 harg5 arg6 harg6 arg15 arg16 arg17 arg18 arg19 arg20 x0 x1 x2 x3 x4 = acc i x0 x1 x2 x3 x4 4 2 := by
  rw [run.sl.v506, run.sl.H17_9, View.readCov_cons_toLoadRect, p_v460]

theorem p_v426 (c : Dev nD) (i : grid1.Coords) (arg2 : Memref sig .tc .vmem S4096x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S4096x128 .bf16) (harg5 : arg5.IsWhole) (arg15 : Memref sig .tc .vmem S4096x128 .bf16) (arg16 : Memref sig .tc .vmem S4096x128 .f32) (arg18 : Memref sig .tc .vmem S4x512x512 .f32) (x0 : Vec F S4096x128 .bf16) (x1 : Vec F S4096x128 .bf16) (x2 : Vec F S4096x128 .bf16) (x3 : Vec F S4096x128 .bf16) : run.sl.v426 (F := F) c i arg2 harg2 arg3 harg3 arg4 harg4 arg5 harg5 arg15 arg16 arg18 x0 x1 x2 x3 = M i x0 x1 x2 x3 4 2 :=
  t_MMn i x0 x1 x2 x3 4 1 (r_v413 c i arg2 harg2 arg3 harg3 arg4 harg4 arg5 harg5 arg15 arg16 arg18 x0 x1 x2 x3) (r_v409 c i arg2 harg2 arg3 harg3 arg4 harg4 arg5 harg5 arg15 arg18 x0 x1 x2 x3)

theorem r_v465 (c : Dev nD) (i : grid1.Coords) (arg2 : Memref sig .tc .vmem S4096x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S4096x128 .bf16) (harg5 : arg5.IsWhole) (arg15 : Memref sig .tc .vmem S4096x128 .bf16) (arg16 : Memref sig .tc .vmem S4096x128 .f32) (arg18 : Memref sig .tc .vmem S4x512x512 .f32) (x0 : Vec F S4096x128 .bf16) (x1 : Vec F S4096x128 .bf16) (x2 : Vec F S4096x128 .bf16) (x3 : Vec F S4096x128 .bf16) : run.sl.v465 (F := F) c i arg2 harg2 arg3 harg3 arg4 harg4 arg5 harg5 arg15 arg16 arg18 x0 x1 x2 x3 = M i x0 x1 x2 x3 4 2 := by
  rw [run.sl.v465, run.sl.H16_9, View.readCov_cons_toLoadRect, p_v426]

theorem p_v439 (c : Dev nD) (i : grid1.Coords) (arg2 : Memref sig .tc .vmem S4096x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S4096x128 .bf16) (harg5 : arg5.IsWhole) (arg15 : Memref sig .tc .vmem S4096x128 .bf16) (x0 : Vec F S4096x128 .bf16) (x1 : Vec F S4096x128 .bf16) (x2 : Vec F S4096x128 .bf16) (x3 : Vec F S4096x128 .bf16) : run.sl.v439 (F := F) c i arg2 harg2 arg3 harg3 arg4 harg4 arg5 harg5 arg15 x0 x1 x2 x3 = shapeCast S1x512x512 (S i x0 x1 x2 x3 4 3) shapeCasts_S512x512_S1x512x512 :=
  t_off harg2 harg4 harg5 i x0 x1 x2 x3 4 3 (by decide) (r_v285 c i arg3 harg3 arg15 x1)

theorem r_v461 (c : Dev nD) (i : grid1.Coords) (arg2 : Memref sig .tc .vmem S4096x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S4096x128 .bf16) (harg5 : arg5.IsWhole) (arg15 : Memref sig .tc .vmem S4096x128 .bf16) (arg18 : Memref sig .tc .vmem S4x512x512 .f32) (x0 : Vec F S4096x128 .bf16) (x1 : Vec F S4096x128 .bf16) (x2 : Vec F S4096x128 .bf16) (x3 : Vec F S4096x128 .bf16) : run.sl.v461 (F := F) c i arg2 harg2 arg3 harg3 arg4 harg4 arg5 harg5 arg15 arg18 x0 x1 x2 x3 = shapeCast S1x512x512 (S i x0 x1 x2 x3 4 3) shapeCasts_S512x512_S1x512x512 := by
  rw [run.sl.v461, run.sl.H18_10, View.readCov_cons_toLoadRect, p_v439]

theorem p_v472 (c : Dev nD) (i : grid1.Coords) (arg2 : Memref sig .tc .vmem S4096x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S4096x128 .bf16) (harg5 : arg5.IsWhole) (arg15 : Memref sig .tc .vmem S4096x128 .bf16) (arg16 : Memref sig .tc .vmem S4096x128 .f32) (arg18 : Memref sig .tc .vmem S4x512x512 .f32) (x0 : Vec F S4096x128 .bf16) (x1 : Vec F S4096x128 .bf16) (x2 : Vec F S4096x128 .bf16) (x3 : Vec F S4096x128 .bf16) : run.sl.v472 (F := F) c i arg2 harg2 arg3 harg3 arg4 harg4 arg5 harg5 arg15 arg16 arg18 x0 x1 x2 x3 = shapeCast S1x512x128 (alpha i x0 x1 x2 x3 4 2) shapeCasts_S512x128_S1x512x128 :=
  t_A i x0 x1 x2 x3 4 2 (r_v465 c i arg2 harg2 arg3 harg3 arg4 harg4 arg5 harg5 arg15 arg16 arg18 x0 x1 x2 x3) (r_v461 c i arg2 harg2 arg3 harg3 arg4 harg4 arg5 harg5 arg15 arg18 x0 x1 x2 x3)

theorem r_v504 (c : Dev nD) (i : grid1.Coords) (arg2 : Memref sig .tc .vmem S4096x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S4096x128 .bf16) (harg5 : arg5.IsWhole) (arg15 : Memref sig .tc .vmem S4096x128 .bf16) (arg16 : Memref sig .tc .vmem S4096x128 .f32) (arg18 : Memref sig .tc .vmem S4x512x512 .f32) (arg20 : Memref sig .tc .vmem S4x512x128 .f32) (x0 : Vec F S4096x128 .bf16) (x1 : Vec F S4096x128 .bf16) (x2 : Vec F S4096x128 .bf16) (x3 : Vec F S4096x128 .bf16) : run.sl.v504 (F := F) c i arg2 harg2 arg3 harg3 arg4 harg4 arg5 harg5 arg15 arg16 arg18 arg20 x0 x1 x2 x3 = shapeCast S1x512x128 (alpha i x0 x1 x2 x3 4 2) shapeCasts_S512x128_S1x512x128 := by
  rw [run.sl.v504, run.sl.H20_6, View.readCov_cons_toLoadRect, p_v472]

theorem r_v494 (c : Dev nD) (i : grid1.Coords) (arg2 : Memref sig .tc .vmem S4096x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S4096x128 .bf16) (harg5 : arg5.IsWhole) (arg15 : Memref sig .tc .vmem S4096x128 .bf16) (arg18 : Memref sig .tc .vmem S4x512x512 .f32) (x0 : Vec F S4096x128 .bf16) (x1 : Vec F S4096x128 .bf16) (x2 : Vec F S4096x128 .bf16) (x3 : Vec F S4096x128 .bf16) : run.sl.v494 (F := F) c i arg2 harg2 arg3 harg3 arg4 harg4 arg5 harg5 arg15 arg18 x0 x1 x2 x3 = shapeCast S1x512x512 (S i x0 x1 x2 x3 4 3) shapeCasts_S512x512_S1x512x512 := by
  rw [run.sl.v494, run.sl.H18_11, View.readCov_skip _ _ _ _ _ (by decide), run.sl.H18_10, View.readCov_cons_toLoadRect, p_v439]

theorem p_v475 (c : Dev nD) (i : grid1.Coords) (arg2 : Memref sig .tc .vmem S4096x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S4096x128 .bf16) (harg5 : arg5.IsWhole) (arg15 : Memref sig .tc .vmem S4096x128 .bf16) (arg16 : Memref sig .tc .vmem S4096x128 .f32) (arg18 : Memref sig .tc .vmem S4x512x512 .f32) (x0 : Vec F S4096x128 .bf16) (x1 : Vec F S4096x128 .bf16) (x2 : Vec F S4096x128 .bf16) (x3 : Vec F S4096x128 .bf16) : run.sl.v475 (F := F) c i arg2 harg2 arg3 harg3 arg4 harg4 arg5 harg5 arg15 arg16 arg18 x0 x1 x2 x3 = shapeCast S1x512x128 (M i x0 x1 x2 x3 4 3) shapeCasts_S512x128_S1x512x128 :=
  t_MNn i x0 x1 x2 x3 4 2 (r_v465 c i arg2 harg2 arg3 harg3 arg4 harg4 arg5 harg5 arg15 arg16 arg18 x0 x1 x2 x3) (r_v461 c i arg2 harg2 arg3 harg3 arg4 harg4 arg5 harg5 arg15 arg18 x0 x1 x2 x3)

theorem r_v492 (c : Dev nD) (i : grid1.Coords) (arg2 : Memref sig .tc .vmem S4096x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S4096x128 .bf16) (harg5 : arg5.IsWhole) (arg15 : Memref sig .tc .vmem S4096x128 .bf16) (arg16 : Memref sig .tc .vmem S4096x128 .f32) (arg18 : Memref sig .tc .vmem S4x512x512 .f32) (arg19 : Memref sig .tc .vmem S4x512x128 .f32) (x0 : Vec F S4096x128 .bf16) (x1 : Vec F S4096x128 .bf16) (x2 : Vec F S4096x128 .bf16) (x3 : Vec F S4096x128 .bf16) : run.sl.v492 (F := F) c i arg2 harg2 arg3 harg3 arg4 harg4 arg5 harg5 arg15 arg16 arg18 arg19 x0 x1 x2 x3 = shapeCast S1x512x128 (M i x0 x1 x2 x3 4 3) shapeCasts_S512x128_S1x512x128 := by
  rw [run.sl.v492, run.sl.H19_10, View.readCov_cons_toLoadRect, p_v475]

theorem p_v512 (c : Dev nD) (i : grid1.Coords) (arg2 : Memref sig .tc .vmem S4096x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S4096x128 .bf16) (harg5 : arg5.IsWhole) (arg6 : Memref sig .tc .vmem S4096x128 .bf16) (harg6 : arg6.IsWhole) (arg15 : Memref sig .tc .vmem S4096x128 .bf16) (arg16 : Memref sig .tc .vmem S4096x128 .f32) (arg17 : Memref sig .tc .vmem S4096x256 .f32) (arg18 : Memref sig .tc .vmem S4x512x512 .f32) (arg19 : Memref sig .tc .vmem S4x512x128 .f32) (arg20 : Memref sig .tc .vmem S4x512x128 .f32) (x0 : Vec F S4096x128 .bf16) (x1 : Vec F S4096x128 .bf16) (x2 : Vec F S4096x128 .bf16) (x3 : Vec F S4096x128 .bf16) (x4 : Vec F S4096x128 .bf16) : run.sl.v512 (F := F) c i arg2 harg2 arg3 harg3 arg4 harg4 arg5 harg5 arg6 harg6 arg15 arg16 arg17 arg18 arg19 arg20 x0 x1 x2 x3 x4 = acc i x0 x1 x2 x3 x4 4 3 :=
  t_ACn harg6 i x0 x1 x2 x3 x4 4 2 (r_v494 c i arg2 harg2 arg3 harg3 arg4 harg4 arg5 harg5 arg15 arg18 x0 x1 x2 x3) (r_v492 c i arg2 harg2 arg3 harg3 arg4 harg4 arg5 harg5 arg15 arg16 arg18 arg19 x0 x1 x2 x3) (r_v504 c i arg2 harg2 arg3 harg3 arg4 harg4 arg5 harg5 arg15 arg16 arg18 arg20 x0 x1 x2 x3) (r_v506 c i arg2 harg2 arg3 harg3 arg4 harg4 arg5 harg5 arg6 harg6 arg15 arg16 arg17 arg18 arg19 arg20 x0 x1 x2 x3 x4)

theorem r_v1692 (c : Dev nD) (i : grid1.Coords) (arg2 : Memref sig .tc .vmem S4096x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S4096x128 .bf16) (harg5 : arg5.IsWhole) (arg6 : Memref sig .tc .vmem S4096x128 .bf16) (harg6 : arg6.IsWhole) (arg15 : Memref sig .tc .vmem S4096x128 .bf16) (arg16 : Memref sig .tc .vmem S4096x128 .f32) (arg17 : Memref sig .tc .vmem S4096x256 .f32) (arg18 : Memref sig .tc .vmem S4x512x512 .f32) (arg19 : Memref sig .tc .vmem S4x512x128 .f32) (arg20 : Memref sig .tc .vmem S4x512x128 .f32) (x0 : Vec F S4096x128 .bf16) (x1 : Vec F S4096x128 .bf16) (x2 : Vec F S4096x128 .bf16) (x3 : Vec F S4096x128 .bf16) (x4 : Vec F S4096x128 .bf16) : run.sl.v1692 (F := F) c i arg2 harg2 arg3 harg3 arg4 harg4 arg5 harg5 arg6 harg6 arg15 arg16 arg17 arg18 arg19 arg20 x0 x1 x2 x3 x4 = acc i x0 x1 x2 x3 x4 4 3 := by
  rw [run.sl.v1692, run.sl.H17_28, View.readCov_skip _ _ _ _ _ (by decide), run.sl.H17_27, View.readCov_skip _ _ _ _ _ (by decide), run.sl.H17_26, View.readCov_skip _ _ _ _ _ (by decide), run.sl.H17_25, View.readCov_skip _ _ _ _ _ (by decide), run.sl.H17_24, View.readCov_skip _ _ _ _ _ (by decide), run.sl.H17_23, View.readCov_skip _ _ _ _ _ (by decide), run.sl.H17_22, View.readCov_skip _ _ _ _ _ (by decide), View.readCov_skip _ _ _ _ _ (by decide), run.sl.H17_20, View.readCov_skip _ _ _ _ _ (by decide), run.sl.H17_19, View.readCov_skip _ _ _ _ _ (by decide), run.sl.H17_18, View.readCov_skip _ _ _ _ _ (by decide), run.sl.H17_17, View.readCov_skip _ _ _ _ _ (by decide), run.sl.H17_16, View.readCov_skip _ _ _ _ _ (by decide), View.readCov_skip _ _ _ _ _ (by decide), run.sl.H17_14, View.readCov_skip _ _ _ _ _ (by decide), run.sl.H17_13, View.readCov_skip _ _ _ _ _ (by decide), run.sl.H17_12, View.readCov_skip _ _ _ _ _ (by decide), run.sl.H17_11, View.readCov_skip _ _ _ _ _ (by decide), View.readCov_cons_toLoadRect, p_v512]

theorem p_v478 (c : Dev nD) (i : grid1.Coords) (arg2 : Memref sig .tc .vmem S4096x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S4096x128 .bf16) (harg5 : arg5.IsWhole) (arg15 : Memref sig .tc .vmem S4096x128 .bf16) (arg16 : Memref sig .tc .vmem S4096x128 .f32) (arg18 : Memref sig .tc .vmem S4x512x512 .f32) (x0 : Vec F S4096x128 .bf16) (x1 : Vec F S4096x128 .bf16) (x2 : Vec F S4096x128 .bf16) (x3 : Vec F S4096x128 .bf16) : run.sl.v478 (F := F) c i arg2 harg2 arg3 harg3 arg4 harg4 arg5 harg5 arg15 arg16 arg18 x0 x1 x2 x3 = M i x0 x1 x2 x3 4 3 :=
  t_MMn i x0 x1 x2 x3 4 2 (r_v465 c i arg2 harg2 arg3 harg3 arg4 harg4 arg5 harg5 arg15 arg16 arg18 x0 x1 x2 x3) (r_v461 c i arg2 harg2 arg3 harg3 arg4 harg4 arg5 harg5 arg15 arg18 x0 x1 x2 x3)

theorem r_v1646 (c : Dev nD) (i : grid1.Coords) (arg2 : Memref sig .tc .vmem S4096x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S4096x128 .bf16) (harg5 : arg5.IsWhole) (arg15 : Memref sig .tc .vmem S4096x128 .bf16) (arg16 : Memref sig .tc .vmem S4096x128 .f32) (arg18 : Memref sig .tc .vmem S4x512x512 .f32) (x0 : Vec F S4096x128 .bf16) (x1 : Vec F S4096x128 .bf16) (x2 : Vec F S4096x128 .bf16) (x3 : Vec F S4096x128 .bf16) : run.sl.v1646 (F := F) c i arg2 harg2 arg3 harg3 arg4 harg4 arg5 harg5 arg15 arg16 arg18 x0 x1 x2 x3 = M i x0 x1 x2 x3 4 3 := by
  rw [run.sl.v1646, run.sl.H16_32, View.readCov_skip _ _ _ _ _ (by decide), run.sl.H16_31, View.readCov_skip _ _ _ _ _ (by decide), run.sl.H16_30, View.readCov_skip _ _ _ _ _ (by decide), run.sl.H16_29, View.readCov_skip _ _ _ _ _ (by decide), View.readCov_skip _ _ _ _ _ (by decide), run.sl.H16_27, View.readCov_skip _ _ _ _ _ (by decide), run.sl.H16_26, View.readCov_skip _ _ _ _ _ (by decide), run.sl.H16_25, View.readCov_skip _ _ _ _ _ (by decide), run.sl.H16_24, View.readCov_skip _ _ _ _ _ (by decide), run.sl.H16_23, View.readCov_skip _ _ _ _ _ (by decide), run.sl.H16_22, View.readCov_skip _ _ _ _ _ (by decide), View.readCov_skip _ _ _ _ _ (by decide), run.sl.H16_20, View.readCov_skip _ _ _ _ _ (by decide), run.sl.H16_19, View.readCov_skip _ _ _ _ _ (by decide), run.sl.H16_18, View.readCov_skip _ _ _ _ _ (by decide), run.sl.H16_17, View.readCov_skip _ _ _ _ _ (by decide), run.sl.H16_16, View.readCov_skip _ _ _ _ _ (by decide), View.readCov_skip _ _ _ _ _ (by decide), run.sl.H16_14, View.readCov_skip _ _ _ _ _ (by decide), run.sl.H16_13, View.readCov_skip _ _ _ _ _ (by decide), run.sl.H16_12, View.readCov_skip _ _ _ _ _ (by decide), run.sl.H16_11, View.readCov_skip _ _ _ _ _ (by decide), View.readCov_cons_toLoadRect, p_v478]

theorem p_v1618 (c : Dev nD) (i : grid1.Coords) (arg2 : Memref sig .tc .vmem S4096x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S4096x128 .bf16) (harg5 : arg5.IsWhole) (arg15 : Memref sig .tc .vmem S4096x128 .bf16) (x0 : Vec F S4096x128 .bf16) (x1 : Vec F S4096x128 .bf16) (x2 : Vec F S4096x128 .bf16) (x3 : Vec F S4096x128 .bf16) : run.sl.v1618 (F := F) c i arg2 harg2 arg3 harg3 arg4 harg4 arg5 harg5 arg15 x0 x1 x2 x3 = shapeCast S1x512x512 (S i x0 x1 x2 x3 4 4) shapeCasts_S512x512_S1x512x512 :=
  t_diag harg2 harg4 harg5 i x0 x1 x2 x3 4 (r_v285 c i arg3 harg3 arg15 x1)

theorem r_v1642 (c : Dev nD) (i : grid1.Coords) (arg2 : Memref sig .tc .vmem S4096x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S4096x128 .bf16) (harg5 : arg5.IsWhole) (arg15 : Memref sig .tc .vmem S4096x128 .bf16) (arg18 : Memref sig .tc .vmem S4x512x512 .f32) (x0 : Vec F S4096x128 .bf16) (x1 : Vec F S4096x128 .bf16) (x2 : Vec F S4096x128 .bf16) (x3 : Vec F S4096x128 .bf16) : run.sl.v1642 (F := F) c i arg2 harg2 arg3 harg3 arg4 harg4 arg5 harg5 arg15 arg18 x0 x1 x2 x3 = shapeCast S1x512x512 (S i x0 x1 x2 x3 4 4) shapeCasts_S512x512_S1x512x512 := by
  rw [run.sl.v1642, run.sl.H18_33, View.readCov_cons_toLoadRect, p_v1618]

theorem p_v1653 (c : Dev nD) (i : grid1.Coords) (arg2 : Memref sig .tc .vmem S4096x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S4096x128 .bf16) (harg5 : arg5.IsWhole) (arg15 : Memref sig .tc .vmem S4096x128 .bf16) (arg16 : Memref sig .tc .vmem S4096x128 .f32) (arg18 : Memref sig .tc .vmem S4x512x512 .f32) (x0 : Vec F S4096x128 .bf16) (x1 : Vec F S4096x128 .bf16) (x2 : Vec F S4096x128 .bf16) (x3 : Vec F S4096x128 .bf16) : run.sl.v1653 (F := F) c i arg2 harg2 arg3 harg3 arg4 harg4 arg5 harg5 arg15 arg16 arg18 x0 x1 x2 x3 = shapeCast S1x512x128 (alpha i x0 x1 x2 x3 4 3) shapeCasts_S512x128_S1x512x128 :=
  t_A i x0 x1 x2 x3 4 3 (r_v1646 c i arg2 harg2 arg3 harg3 arg4 harg4 arg5 harg5 arg15 arg16 arg18 x0 x1 x2 x3) (r_v1642 c i arg2 harg2 arg3 harg3 arg4 harg4 arg5 harg5 arg15 arg18 x0 x1 x2 x3)

theorem r_v1690 (c : Dev nD) (i : grid1.Coords) (arg2 : Memref sig .tc .vmem S4096x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S4096x128 .bf16) (harg5 : arg5.IsWhole) (arg15 : Memref sig .tc .vmem S4096x128 .bf16) (arg16 : Memref sig .tc .vmem S4096x128 .f32) (arg18 : Memref sig .tc .vmem S4x512x512 .f32) (arg20 : Memref sig .tc .vmem S4x512x128 .f32) (x0 : Vec F S4096x128 .bf16) (x1 : Vec F S4096x128 .bf16) (x2 : Vec F S4096x128 .bf16) (x3 : Vec F S4096x128 .bf16) : run.sl.v1690 (F := F) c i arg2 harg2 arg3 harg3 arg4 harg4 arg5 harg5 arg15 arg16 arg18 arg20 x0 x1 x2 x3 = shapeCast S1x512x128 (alpha i x0 x1 x2 x3 4 3) shapeCasts_S512x128_S1x512x128 := by
  rw [run.sl.v1690, run.sl.H20_25, View.readCov_cons_toLoadRect, p_v1653]

theorem r_v1680 (c : Dev nD) (i : grid1.Coords) (arg2 : Memref sig .tc .vmem S4096x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S4096x128 .bf16) (harg5 : arg5.IsWhole) (arg15 : Memref sig .tc .vmem S4096x128 .bf16) (arg18 : Memref sig .tc .vmem S4x512x512 .f32) (x0 : Vec F S4096x128 .bf16) (x1 : Vec F S4096x128 .bf16) (x2 : Vec F S4096x128 .bf16) (x3 : Vec F S4096x128 .bf16) : run.sl.v1680 (F := F) c i arg2 harg2 arg3 harg3 arg4 harg4 arg5 harg5 arg15 arg18 x0 x1 x2 x3 = shapeCast S1x512x512 (S i x0 x1 x2 x3 4 4) shapeCasts_S512x512_S1x512x512 := by
  rw [run.sl.v1680, run.sl.H18_34, View.readCov_skip _ _ _ _ _ (by decide), run.sl.H18_33, View.readCov_cons_toLoadRect, p_v1618]

theorem p_v1656 (c : Dev nD) (i : grid1.Coords) (arg2 : Memref sig .tc .vmem S4096x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S4096x128 .bf16) (harg5 : arg5.IsWhole) (arg15 : Memref sig .tc .vmem S4096x128 .bf16) (arg16 : Memref sig .tc .vmem S4096x128 .f32) (arg18 : Memref sig .tc .vmem S4x512x512 .f32) (x0 : Vec F S4096x128 .bf16) (x1 : Vec F S4096x128 .bf16) (x2 : Vec F S4096x128 .bf16) (x3 : Vec F S4096x128 .bf16) : run.sl.v1656 (F := F) c i arg2 harg2 arg3 harg3 arg4 harg4 arg5 harg5 arg15 arg16 arg18 x0 x1 x2 x3 = shapeCast S1x512x128 (M i x0 x1 x2 x3 4 4) shapeCasts_S512x128_S1x512x128 :=
  t_MNn i x0 x1 x2 x3 4 3 (r_v1646 c i arg2 harg2 arg3 harg3 arg4 harg4 arg5 harg5 arg15 arg16 arg18 x0 x1 x2 x3) (r_v1642 c i arg2 harg2 arg3 harg3 arg4 harg4 arg5 harg5 arg15 arg18 x0 x1 x2 x3)

theorem r_v1678 (c : Dev nD) (i : grid1.Coords) (arg2 : Memref sig .tc .vmem S4096x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S4096x128 .bf16) (harg5 : arg5.IsWhole) (arg15 : Memref sig .tc .vmem S4096x128 .bf16) (arg16 : Memref sig .tc .vmem S4096x128 .f32) (arg18 : Memref sig .tc .vmem S4x512x512 .f32) (arg19 : Memref sig .tc .vmem S4x512x128 .f32) (x0 : Vec F S4096x128 .bf16) (x1 : Vec F S4096x128 .bf16) (x2 : Vec F S4096x128 .bf16) (x3 : Vec F S4096x128 .bf16) : run.sl.v1678 (F := F) c i arg2 harg2 arg3 harg3 arg4 harg4 arg5 harg5 arg15 arg16 arg18 arg19 x0 x1 x2 x3 = shapeCast S1x512x128 (M i x0 x1 x2 x3 4 4) shapeCasts_S512x128_S1x512x128 := by
  rw [run.sl.v1678, run.sl.H19_33, View.readCov_cons_toLoadRect, p_v1656]

theorem p_v1699 (c : Dev nD) (i : grid1.Coords) (arg2 : Memref sig .tc .vmem S4096x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S4096x128 .bf16) (harg5 : arg5.IsWhole) (arg6 : Memref sig .tc .vmem S4096x128 .bf16) (harg6 : arg6.IsWhole) (arg15 : Memref sig .tc .vmem S4096x128 .bf16) (arg16 : Memref sig .tc .vmem S4096x128 .f32) (arg17 : Memref sig .tc .vmem S4096x256 .f32) (arg18 : Memref sig .tc .vmem S4x512x512 .f32) (arg19 : Memref sig .tc .vmem S4x512x128 .f32) (arg20 : Memref sig .tc .vmem S4x512x128 .f32) (x0 : Vec F S4096x128 .bf16) (x1 : Vec F S4096x128 .bf16) (x2 : Vec F S4096x128 .bf16) (x3 : Vec F S4096x128 .bf16) (x4 : Vec F S4096x128 .bf16) : run.sl.v1699 (F := F) c i arg2 harg2 arg3 harg3 arg4 harg4 arg5 harg5 arg6 harg6 arg15 arg16 arg17 arg18 arg19 arg20 x0 x1 x2 x3 x4 = out i x0 x1 x2 x3 x4 4 :=
  t_On harg6 i x0 x1 x2 x3 x4 4 3 rfl (r_v1680 c i arg2 harg2 arg3 harg3 arg4 harg4 arg5 harg5 arg15 arg18 x0 x1 x2 x3) (r_v1678 c i arg2 harg2 arg3 harg3 arg4 harg4 arg5 harg5 arg15 arg16 arg18 arg19 x0 x1 x2 x3) (r_v1690 c i arg2 harg2 arg3 harg3 arg4 harg4 arg5 harg5 arg15 arg16 arg18 arg20 x0 x1 x2 x3) (r_v1692 c i arg2 harg2 arg3 harg3 arg4 harg4 arg5 harg5 arg6 harg6 arg15 arg16 arg17 arg18 arg19 arg20 x0 x1 x2 x3 x4)

theorem r_v481 (c : Dev nD) (i : grid1.Coords) (arg3 : Memref sig .tc .vmem S4096x128 .bf16) (harg3 : arg3.IsWhole) (arg15 : Memref sig .tc .vmem S4096x128 .bf16) (x1 : Vec F S4096x128 .bf16) : run.sl.v481 (F := F) c i arg3 harg3 arg15 x1 = blk (qam i x1) 5 := by
  rw [run.sl.v481, run.sl.H15_1, View.readCov_fill _ _ _ _ _ (by decide), p_v26]; rfl

theorem p_v491 (c : Dev nD) (i : grid1.Coords) (arg2 : Memref sig .tc .vmem S4096x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S4096x128 .bf16) (harg5 : arg5.IsWhole) (arg15 : Memref sig .tc .vmem S4096x128 .bf16) (x0 : Vec F S4096x128 .bf16) (x1 : Vec F S4096x128 .bf16) (x2 : Vec F S4096x128 .bf16) (x3 : Vec F S4096x128 .bf16) : run.sl.v491 (F := F) c i arg2 harg2 arg3 harg3 arg4 harg4 arg5 harg5 arg15 x0 x1 x2 x3 = shapeCast S1x512x512 (S i x0 x1 x2 x3 5 0) shapeCasts_S512x512_S1x512x512 :=
  t_off harg2 harg4 harg5 i x0 x1 x2 x3 5 0 (by decide) (r_v481 c i arg3 harg3 arg15 x1)

theorem r_v540 (c : Dev nD) (i : grid1.Coords) (arg2 : Memref sig .tc .vmem S4096x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S4096x128 .bf16) (harg5 : arg5.IsWhole) (arg15 : Memref sig .tc .vmem S4096x128 .bf16) (arg18 : Memref sig .tc .vmem S4x512x512 .f32) (x0 : Vec F S4096x128 .bf16) (x1 : Vec F S4096x128 .bf16) (x2 : Vec F S4096x128 .bf16) (x3 : Vec F S4096x128 .bf16) : run.sl.v540 (F := F) c i arg2 harg2 arg3 harg3 arg4 harg4 arg5 harg5 arg15 arg18 x0 x1 x2 x3 = shapeCast S1x512x512 (S i x0 x1 x2 x3 5 0) shapeCasts_S512x512_S1x512x512 := by
  rw [run.sl.v540, run.sl.H18_12, View.readCov_skip _ _ _ _ _ (by decide), run.sl.H18_11, View.readCov_cons_toLoadRect, p_v491]

theorem r_v513 (c : Dev nD) (i : grid1.Coords) (arg2 : Memref sig .tc .vmem S4096x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S4096x128 .bf16) (harg5 : arg5.IsWhole) (arg15 : Memref sig .tc .vmem S4096x128 .bf16) (arg18 : Memref sig .tc .vmem S4x512x512 .f32) (x0 : Vec F S4096x128 .bf16) (x1 : Vec F S4096x128 .bf16) (x2 : Vec F S4096x128 .bf16) (x3 : Vec F S4096x128 .bf16) : run.sl.v513 (F := F) c i arg2 harg2 arg3 harg3 arg4 harg4 arg5 harg5 arg15 arg18 x0 x1 x2 x3 = shapeCast S1x512x512 (S i x0 x1 x2 x3 5 0) shapeCasts_S512x512_S1x512x512 := by
  rw [run.sl.v513, run.sl.H18_11, View.readCov_cons_toLoadRect, p_v491]

theorem p_v521 (c : Dev nD) (i : grid1.Coords) (arg2 : Memref sig .tc .vmem S4096x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S4096x128 .bf16) (harg5 : arg5.IsWhole) (arg15 : Memref sig .tc .vmem S4096x128 .bf16) (arg18 : Memref sig .tc .vmem S4x512x512 .f32) (x0 : Vec F S4096x128 .bf16) (x1 : Vec F S4096x128 .bf16) (x2 : Vec F S4096x128 .bf16) (x3 : Vec F S4096x128 .bf16) : run.sl.v521 (F := F) c i arg2 harg2 arg3 harg3 arg4 harg4 arg5 harg5 arg15 arg18 x0 x1 x2 x3 = shapeCast S1x512x128 (M i x0 x1 x2 x3 5 0) shapeCasts_S512x128_S1x512x128 :=
  t_MN0 i x0 x1 x2 x3 5 (r_v513 c i arg2 harg2 arg3 harg3 arg4 harg4 arg5 harg5 arg15 arg18 x0 x1 x2 x3)

theorem r_v538 (c : Dev nD) (i : grid1.Coords) (arg2 : Memref sig .tc .vmem S4096x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S4096x128 .bf16) (harg5 : arg5.IsWhole) (arg15 : Memref sig .tc .vmem S4096x128 .bf16) (arg16 : Memref sig .tc .vmem S4096x128 .f32) (arg18 : Memref sig .tc .vmem S4x512x512 .f32) (arg19 : Memref sig .tc .vmem S4x512x128 .f32) (x0 : Vec F S4096x128 .bf16) (x1 : Vec F S4096x128 .bf16) (x2 : Vec F S4096x128 .bf16) (x3 : Vec F S4096x128 .bf16) : run.sl.v538 (F := F) c i arg2 harg2 arg3 harg3 arg4 harg4 arg5 harg5 arg15 arg16 arg18 arg19 x0 x1 x2 x3 = shapeCast S1x512x128 (M i x0 x1 x2 x3 5 0) shapeCasts_S512x128_S1x512x128 := by
  rw [run.sl.v538, run.sl.H19_11, View.readCov_cons_toLoadRect, p_v521]

theorem p_v552 (c : Dev nD) (i : grid1.Coords) (arg2 : Memref sig .tc .vmem S4096x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S4096x128 .bf16) (harg5 : arg5.IsWhole) (arg6 : Memref sig .tc .vmem S4096x128 .bf16) (harg6 : arg6.IsWhole) (arg15 : Memref sig .tc .vmem S4096x128 .bf16) (arg16 : Memref sig .tc .vmem S4096x128 .f32) (arg18 : Memref sig .tc .vmem S4x512x512 .f32) (arg19 : Memref sig .tc .vmem S4x512x128 .f32) (x0 : Vec F S4096x128 .bf16) (x1 : Vec F S4096x128 .bf16) (x2 : Vec F S4096x128 .bf16) (x3 : Vec F S4096x128 .bf16) (x4 : Vec F S4096x128 .bf16) : run.sl.v552 (F := F) c i arg2 harg2 arg3 harg3 arg4 harg4 arg5 harg5 arg6 harg6 arg15 arg16 arg18 arg19 x0 x1 x2 x3 x4 = acc i x0 x1 x2 x3 x4 5 0 :=
  t_AC0 harg6 i x0 x1 x2 x3 x4 5 (r_v540 c i arg2 harg2 arg3 harg3 arg4 harg4 arg5 harg5 arg15 arg18 x0 x1 x2 x3) (r_v538 c i arg2 harg2 arg3 harg3 arg4 harg4 arg5 harg5 arg15 arg16 arg18 arg19 x0 x1 x2 x3)

theorem r_v598 (c : Dev nD) (i : grid1.Coords) (arg2 : Memref sig .tc .vmem S4096x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S4096x128 .bf16) (harg5 : arg5.IsWhole) (arg6 : Memref sig .tc .vmem S4096x128 .bf16) (harg6 : arg6.IsWhole) (arg15 : Memref sig .tc .vmem S4096x128 .bf16) (arg16 : Memref sig .tc .vmem S4096x128 .f32) (arg17 : Memref sig .tc .vmem S4096x256 .f32) (arg18 : Memref sig .tc .vmem S4x512x512 .f32) (arg19 : Memref sig .tc .vmem S4x512x128 .f32) (arg20 : Memref sig .tc .vmem S4x512x128 .f32) (x0 : Vec F S4096x128 .bf16) (x1 : Vec F S4096x128 .bf16) (x2 : Vec F S4096x128 .bf16) (x3 : Vec F S4096x128 .bf16) (x4 : Vec F S4096x128 .bf16) : run.sl.v598 (F := F) c i arg2 harg2 arg3 harg3 arg4 harg4 arg5 harg5 arg6 harg6 arg15 arg16 arg17 arg18 arg19 arg20 x0 x1 x2 x3 x4 = acc i x0 x1 x2 x3 x4 5 0 := by
  rw [run.sl.v598, run.sl.H17_11, View.readCov_cons_toLoadRect, p_v552]

theorem p_v524 (c : Dev nD) (i : grid1.Coords) (arg2 : Memref sig .tc .vmem S4096x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S4096x128 .bf16) (harg5 : arg5.IsWhole) (arg15 : Memref sig .tc .vmem S4096x128 .bf16) (arg18 : Memref sig .tc .vmem S4x512x512 .f32) (x0 : Vec F S4096x128 .bf16) (x1 : Vec F S4096x128 .bf16) (x2 : Vec F S4096x128 .bf16) (x3 : Vec F S4096x128 .bf16) : run.sl.v524 (F := F) c i arg2 harg2 arg3 harg3 arg4 harg4 arg5 harg5 arg15 arg18 x0 x1 x2 x3 = M i x0 x1 x2 x3 5 0 :=
  t_MM0 i x0 x1 x2 x3 5 (r_v513 c i arg2 harg2 arg3 harg3 arg4 harg4 arg5 harg5 arg15 arg18 x0 x1 x2 x3)

theorem r_v557 (c : Dev nD) (i : grid1.Coords) (arg2 : Memref sig .tc .vmem S4096x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S4096x128 .bf16) (harg5 : arg5.IsWhole) (arg15 : Memref sig .tc .vmem S4096x128 .bf16) (arg16 : Memref sig .tc .vmem S4096x128 .f32) (arg18 : Memref sig .tc .vmem S4x512x512 .f32) (x0 : Vec F S4096x128 .bf16) (x1 : Vec F S4096x128 .bf16) (x2 : Vec F S4096x128 .bf16) (x3 : Vec F S4096x128 .bf16) : run.sl.v557 (F := F) c i arg2 harg2 arg3 harg3 arg4 harg4 arg5 harg5 arg15 arg16 arg18 x0 x1 x2 x3 = M i x0 x1 x2 x3 5 0 := by
  rw [run.sl.v557, run.sl.H16_11, View.readCov_cons_toLoadRect, p_v524]

theorem p_v537 (c : Dev nD) (i : grid1.Coords) (arg2 : Memref sig .tc .vmem S4096x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S4096x128 .bf16) (harg5 : arg5.IsWhole) (arg15 : Memref sig .tc .vmem S4096x128 .bf16) (x0 : Vec F S4096x128 .bf16) (x1 : Vec F S4096x128 .bf16) (x2 : Vec F S4096x128 .bf16) (x3 : Vec F S4096x128 .bf16) : run.sl.v537 (F := F) c i arg2 harg2 arg3 harg3 arg4 harg4 arg5 harg5 arg15 x0 x1 x2 x3 = shapeCast S1x512x512 (S i x0 x1 x2 x3 5 1) shapeCasts_S512x512_S1x512x512 :=
  t_off harg2 harg4 harg5 i x0 x1 x2 x3 5 1 (by decide) (r_v481 c i arg3 harg3 arg15 x1)

theorem r_v553 (c : Dev nD) (i : grid1.Coords) (arg2 : Memref sig .tc .vmem S4096x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S4096x128 .bf16) (harg5 : arg5.IsWhole) (arg15 : Memref sig .tc .vmem S4096x128 .bf16) (arg18 : Memref sig .tc .vmem S4x512x512 .f32) (x0 : Vec F S4096x128 .bf16) (x1 : Vec F S4096x128 .bf16) (x2 : Vec F S4096x128 .bf16) (x3 : Vec F S4096x128 .bf16) : run.sl.v553 (F := F) c i arg2 harg2 arg3 harg3 arg4 harg4 arg5 harg5 arg15 arg18 x0 x1 x2 x3 = shapeCast S1x512x512 (S i x0 x1 x2 x3 5 1) shapeCasts_S512x512_S1x512x512 := by
  rw [run.sl.v553, run.sl.H18_12, View.readCov_cons_toLoadRect, p_v537]

theorem p_v564 (c : Dev nD) (i : grid1.Coords) (arg2 : Memref sig .tc .vmem S4096x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S4096x128 .bf16) (harg5 : arg5.IsWhole) (arg15 : Memref sig .tc .vmem S4096x128 .bf16) (arg16 : Memref sig .tc .vmem S4096x128 .f32) (arg18 : Memref sig .tc .vmem S4x512x512 .f32) (x0 : Vec F S4096x128 .bf16) (x1 : Vec F S4096x128 .bf16) (x2 : Vec F S4096x128 .bf16) (x3 : Vec F S4096x128 .bf16) : run.sl.v564 (F := F) c i arg2 harg2 arg3 harg3 arg4 harg4 arg5 harg5 arg15 arg16 arg18 x0 x1 x2 x3 = shapeCast S1x512x128 (alpha i x0 x1 x2 x3 5 0) shapeCasts_S512x128_S1x512x128 :=
  t_A i x0 x1 x2 x3 5 0 (r_v557 c i arg2 harg2 arg3 harg3 arg4 harg4 arg5 harg5 arg15 arg16 arg18 x0 x1 x2 x3) (r_v553 c i arg2 harg2 arg3 harg3 arg4 harg4 arg5 harg5 arg15 arg18 x0 x1 x2 x3)

theorem r_v596 (c : Dev nD) (i : grid1.Coords) (arg2 : Memref sig .tc .vmem S4096x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S4096x128 .bf16) (harg5 : arg5.IsWhole) (arg15 : Memref sig .tc .vmem S4096x128 .bf16) (arg16 : Memref sig .tc .vmem S4096x128 .f32) (arg18 : Memref sig .tc .vmem S4x512x512 .f32) (arg20 : Memref sig .tc .vmem S4x512x128 .f32) (x0 : Vec F S4096x128 .bf16) (x1 : Vec F S4096x128 .bf16) (x2 : Vec F S4096x128 .bf16) (x3 : Vec F S4096x128 .bf16) : run.sl.v596 (F := F) c i arg2 harg2 arg3 harg3 arg4 harg4 arg5 harg5 arg15 arg16 arg18 arg20 x0 x1 x2 x3 = shapeCast S1x512x128 (alpha i x0 x1 x2 x3 5 0) shapeCasts_S512x128_S1x512x128 := by
  rw [run.sl.v596, run.sl.H20_7, View.readCov_cons_toLoadRect, p_v564]

theorem r_v586 (c : Dev nD) (i : grid1.Coords) (arg2 : Memref sig .tc .vmem S4096x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S4096x128 .bf16) (harg5 : arg5.IsWhole) (arg15 : Memref sig .tc .vmem S4096x128 .bf16) (arg18 : Memref sig .tc .vmem S4x512x512 .f32) (x0 : Vec F S4096x128 .bf16) (x1 : Vec F S4096x128 .bf16) (x2 : Vec F S4096x128 .bf16) (x3 : Vec F S4096x128 .bf16) : run.sl.v586 (F := F) c i arg2 harg2 arg3 harg3 arg4 harg4 arg5 harg5 arg15 arg18 x0 x1 x2 x3 = shapeCast S1x512x512 (S i x0 x1 x2 x3 5 1) shapeCasts_S512x512_S1x512x512 := by
  rw [run.sl.v586, run.sl.H18_13, View.readCov_skip _ _ _ _ _ (by decide), run.sl.H18_12, View.readCov_cons_toLoadRect, p_v537]

theorem p_v567 (c : Dev nD) (i : grid1.Coords) (arg2 : Memref sig .tc .vmem S4096x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S4096x128 .bf16) (harg5 : arg5.IsWhole) (arg15 : Memref sig .tc .vmem S4096x128 .bf16) (arg16 : Memref sig .tc .vmem S4096x128 .f32) (arg18 : Memref sig .tc .vmem S4x512x512 .f32) (x0 : Vec F S4096x128 .bf16) (x1 : Vec F S4096x128 .bf16) (x2 : Vec F S4096x128 .bf16) (x3 : Vec F S4096x128 .bf16) : run.sl.v567 (F := F) c i arg2 harg2 arg3 harg3 arg4 harg4 arg5 harg5 arg15 arg16 arg18 x0 x1 x2 x3 = shapeCast S1x512x128 (M i x0 x1 x2 x3 5 1) shapeCasts_S512x128_S1x512x128 :=
  t_MNn i x0 x1 x2 x3 5 0 (r_v557 c i arg2 harg2 arg3 harg3 arg4 harg4 arg5 harg5 arg15 arg16 arg18 x0 x1 x2 x3) (r_v553 c i arg2 harg2 arg3 harg3 arg4 harg4 arg5 harg5 arg15 arg18 x0 x1 x2 x3)

theorem r_v584 (c : Dev nD) (i : grid1.Coords) (arg2 : Memref sig .tc .vmem S4096x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S4096x128 .bf16) (harg5 : arg5.IsWhole) (arg15 : Memref sig .tc .vmem S4096x128 .bf16) (arg16 : Memref sig .tc .vmem S4096x128 .f32) (arg18 : Memref sig .tc .vmem S4x512x512 .f32) (arg19 : Memref sig .tc .vmem S4x512x128 .f32) (x0 : Vec F S4096x128 .bf16) (x1 : Vec F S4096x128 .bf16) (x2 : Vec F S4096x128 .bf16) (x3 : Vec F S4096x128 .bf16) : run.sl.v584 (F := F) c i arg2 harg2 arg3 harg3 arg4 harg4 arg5 harg5 arg15 arg16 arg18 arg19 x0 x1 x2 x3 = shapeCast S1x512x128 (M i x0 x1 x2 x3 5 1) shapeCasts_S512x128_S1x512x128 := by
  rw [run.sl.v584, run.sl.H19_12, View.readCov_cons_toLoadRect, p_v567]

theorem p_v604 (c : Dev nD) (i : grid1.Coords) (arg2 : Memref sig .tc .vmem S4096x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S4096x128 .bf16) (harg5 : arg5.IsWhole) (arg6 : Memref sig .tc .vmem S4096x128 .bf16) (harg6 : arg6.IsWhole) (arg15 : Memref sig .tc .vmem S4096x128 .bf16) (arg16 : Memref sig .tc .vmem S4096x128 .f32) (arg17 : Memref sig .tc .vmem S4096x256 .f32) (arg18 : Memref sig .tc .vmem S4x512x512 .f32) (arg19 : Memref sig .tc .vmem S4x512x128 .f32) (arg20 : Memref sig .tc .vmem S4x512x128 .f32) (x0 : Vec F S4096x128 .bf16) (x1 : Vec F S4096x128 .bf16) (x2 : Vec F S4096x128 .bf16) (x3 : Vec F S4096x128 .bf16) (x4 : Vec F S4096x128 .bf16) : run.sl.v604 (F := F) c i arg2 harg2 arg3 harg3 arg4 harg4 arg5 harg5 arg6 harg6 arg15 arg16 arg17 arg18 arg19 arg20 x0 x1 x2 x3 x4 = acc i x0 x1 x2 x3 x4 5 1 :=
  t_ACn harg6 i x0 x1 x2 x3 x4 5 0 (r_v586 c i arg2 harg2 arg3 harg3 arg4 harg4 arg5 harg5 arg15 arg18 x0 x1 x2 x3) (r_v584 c i arg2 harg2 arg3 harg3 arg4 harg4 arg5 harg5 arg15 arg16 arg18 arg19 x0 x1 x2 x3) (r_v596 c i arg2 harg2 arg3 harg3 arg4 harg4 arg5 harg5 arg15 arg16 arg18 arg20 x0 x1 x2 x3) (r_v598 c i arg2 harg2 arg3 harg3 arg4 harg4 arg5 harg5 arg6 harg6 arg15 arg16 arg17 arg18 arg19 arg20 x0 x1 x2 x3 x4)

theorem r_v650 (c : Dev nD) (i : grid1.Coords) (arg2 : Memref sig .tc .vmem S4096x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S4096x128 .bf16) (harg5 : arg5.IsWhole) (arg6 : Memref sig .tc .vmem S4096x128 .bf16) (harg6 : arg6.IsWhole) (arg15 : Memref sig .tc .vmem S4096x128 .bf16) (arg16 : Memref sig .tc .vmem S4096x128 .f32) (arg17 : Memref sig .tc .vmem S4096x256 .f32) (arg18 : Memref sig .tc .vmem S4x512x512 .f32) (arg19 : Memref sig .tc .vmem S4x512x128 .f32) (arg20 : Memref sig .tc .vmem S4x512x128 .f32) (x0 : Vec F S4096x128 .bf16) (x1 : Vec F S4096x128 .bf16) (x2 : Vec F S4096x128 .bf16) (x3 : Vec F S4096x128 .bf16) (x4 : Vec F S4096x128 .bf16) : run.sl.v650 (F := F) c i arg2 harg2 arg3 harg3 arg4 harg4 arg5 harg5 arg6 harg6 arg15 arg16 arg17 arg18 arg19 arg20 x0 x1 x2 x3 x4 = acc i x0 x1 x2 x3 x4 5 1 := by
  rw [run.sl.v650, run.sl.H17_12, View.readCov_cons_toLoadRect, p_v604]

theorem p_v570 (c : Dev nD) (i : grid1.Coords) (arg2 : Memref sig .tc .vmem S4096x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S4096x128 .bf16) (harg5 : arg5.IsWhole) (arg15 : Memref sig .tc .vmem S4096x128 .bf16) (arg16 : Memref sig .tc .vmem S4096x128 .f32) (arg18 : Memref sig .tc .vmem S4x512x512 .f32) (x0 : Vec F S4096x128 .bf16) (x1 : Vec F S4096x128 .bf16) (x2 : Vec F S4096x128 .bf16) (x3 : Vec F S4096x128 .bf16) : run.sl.v570 (F := F) c i arg2 harg2 arg3 harg3 arg4 harg4 arg5 harg5 arg15 arg16 arg18 x0 x1 x2 x3 = M i x0 x1 x2 x3 5 1 :=
  t_MMn i x0 x1 x2 x3 5 0 (r_v557 c i arg2 harg2 arg3 harg3 arg4 harg4 arg5 harg5 arg15 arg16 arg18 x0 x1 x2 x3) (r_v553 c i arg2 harg2 arg3 harg3 arg4 harg4 arg5 harg5 arg15 arg18 x0 x1 x2 x3)

theorem r_v609 (c : Dev nD) (i : grid1.Coords) (arg2 : Memref sig .tc .vmem S4096x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S4096x128 .bf16) (harg5 : arg5.IsWhole) (arg15 : Memref sig .tc .vmem S4096x128 .bf16) (arg16 : Memref sig .tc .vmem S4096x128 .f32) (arg18 : Memref sig .tc .vmem S4x512x512 .f32) (x0 : Vec F S4096x128 .bf16) (x1 : Vec F S4096x128 .bf16) (x2 : Vec F S4096x128 .bf16) (x3 : Vec F S4096x128 .bf16) : run.sl.v609 (F := F) c i arg2 harg2 arg3 harg3 arg4 harg4 arg5 harg5 arg15 arg16 arg18 x0 x1 x2 x3 = M i x0 x1 x2 x3 5 1 := by
  rw [run.sl.v609, run.sl.H16_12, View.readCov_cons_toLoadRect, p_v570]

theorem p_v583 (c : Dev nD) (i : grid1.Coords) (arg2 : Memref sig .tc .vmem S4096x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S4096x128 .bf16) (harg5 : arg5.IsWhole) (arg15 : Memref sig .tc .vmem S4096x128 .bf16) (x0 : Vec F S4096x128 .bf16) (x1 : Vec F S4096x128 .bf16) (x2 : Vec F S4096x128 .bf16) (x3 : Vec F S4096x128 .bf16) : run.sl.v583 (F := F) c i arg2 harg2 arg3 harg3 arg4 harg4 arg5 harg5 arg15 x0 x1 x2 x3 = shapeCast S1x512x512 (S i x0 x1 x2 x3 5 2) shapeCasts_S512x512_S1x512x512 :=
  t_off harg2 harg4 harg5 i x0 x1 x2 x3 5 2 (by decide) (r_v481 c i arg3 harg3 arg15 x1)

theorem r_v605 (c : Dev nD) (i : grid1.Coords) (arg2 : Memref sig .tc .vmem S4096x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S4096x128 .bf16) (harg5 : arg5.IsWhole) (arg15 : Memref sig .tc .vmem S4096x128 .bf16) (arg18 : Memref sig .tc .vmem S4x512x512 .f32) (x0 : Vec F S4096x128 .bf16) (x1 : Vec F S4096x128 .bf16) (x2 : Vec F S4096x128 .bf16) (x3 : Vec F S4096x128 .bf16) : run.sl.v605 (F := F) c i arg2 harg2 arg3 harg3 arg4 harg4 arg5 harg5 arg15 arg18 x0 x1 x2 x3 = shapeCast S1x512x512 (S i x0 x1 x2 x3 5 2) shapeCasts_S512x512_S1x512x512 := by
  rw [run.sl.v605, run.sl.H18_13, View.readCov_cons_toLoadRect, p_v583]

theorem p_v616 (c : Dev nD) (i : grid1.Coords) (arg2 : Memref sig .tc .vmem S4096x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S4096x128 .bf16) (harg5 : arg5.IsWhole) (arg15 : Memref sig .tc .vmem S4096x128 .bf16) (arg16 : Memref sig .tc .vmem S4096x128 .f32) (arg18 : Memref sig .tc .vmem S4x512x512 .f32) (x0 : Vec F S4096x128 .bf16) (x1 : Vec F S4096x128 .bf16) (x2 : Vec F S4096x128 .bf16) (x3 : Vec F S4096x128 .bf16) : run.sl.v616 (F := F) c i arg2 harg2 arg3 harg3 arg4 harg4 arg5 harg5 arg15 arg16 arg18 x0 x1 x2 x3 = shapeCast S1x512x128 (alpha i x0 x1 x2 x3 5 1) shapeCasts_S512x128_S1x512x128 :=
  t_A i x0 x1 x2 x3 5 1 (r_v609 c i arg2 harg2 arg3 harg3 arg4 harg4 arg5 harg5 arg15 arg16 arg18 x0 x1 x2 x3) (r_v605 c i arg2 harg2 arg3 harg3 arg4 harg4 arg5 harg5 arg15 arg18 x0 x1 x2 x3)

theorem r_v648 (c : Dev nD) (i : grid1.Coords) (arg2 : Memref sig .tc .vmem S4096x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S4096x128 .bf16) (harg5 : arg5.IsWhole) (arg15 : Memref sig .tc .vmem S4096x128 .bf16) (arg16 : Memref sig .tc .vmem S4096x128 .f32) (arg18 : Memref sig .tc .vmem S4x512x512 .f32) (arg20 : Memref sig .tc .vmem S4x512x128 .f32) (x0 : Vec F S4096x128 .bf16) (x1 : Vec F S4096x128 .bf16) (x2 : Vec F S4096x128 .bf16) (x3 : Vec F S4096x128 .bf16) : run.sl.v648 (F := F) c i arg2 harg2 arg3 harg3 arg4 harg4 arg5 harg5 arg15 arg16 arg18 arg20 x0 x1 x2 x3 = shapeCast S1x512x128 (alpha i x0 x1 x2 x3 5 1) shapeCasts_S512x128_S1x512x128 := by
  rw [run.sl.v648, run.sl.H20_8, View.readCov_cons_toLoadRect, p_v616]

theorem r_v638 (c : Dev nD) (i : grid1.Coords) (arg2 : Memref sig .tc .vmem S4096x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S4096x128 .bf16) (harg5 : arg5.IsWhole) (arg15 : Memref sig .tc .vmem S4096x128 .bf16) (arg18 : Memref sig .tc .vmem S4x512x512 .f32) (x0 : Vec F S4096x128 .bf16) (x1 : Vec F S4096x128 .bf16) (x2 : Vec F S4096x128 .bf16) (x3 : Vec F S4096x128 .bf16) : run.sl.v638 (F := F) c i arg2 harg2 arg3 harg3 arg4 harg4 arg5 harg5 arg15 arg18 x0 x1 x2 x3 = shapeCast S1x512x512 (S i x0 x1 x2 x3 5 2) shapeCasts_S512x512_S1x512x512 := by
  rw [run.sl.v638, run.sl.H18_14, View.readCov_skip _ _ _ _ _ (by decide), run.sl.H18_13, View.readCov_cons_toLoadRect, p_v583]

theorem p_v619 (c : Dev nD) (i : grid1.Coords) (arg2 : Memref sig .tc .vmem S4096x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S4096x128 .bf16) (harg5 : arg5.IsWhole) (arg15 : Memref sig .tc .vmem S4096x128 .bf16) (arg16 : Memref sig .tc .vmem S4096x128 .f32) (arg18 : Memref sig .tc .vmem S4x512x512 .f32) (x0 : Vec F S4096x128 .bf16) (x1 : Vec F S4096x128 .bf16) (x2 : Vec F S4096x128 .bf16) (x3 : Vec F S4096x128 .bf16) : run.sl.v619 (F := F) c i arg2 harg2 arg3 harg3 arg4 harg4 arg5 harg5 arg15 arg16 arg18 x0 x1 x2 x3 = shapeCast S1x512x128 (M i x0 x1 x2 x3 5 2) shapeCasts_S512x128_S1x512x128 :=
  t_MNn i x0 x1 x2 x3 5 1 (r_v609 c i arg2 harg2 arg3 harg3 arg4 harg4 arg5 harg5 arg15 arg16 arg18 x0 x1 x2 x3) (r_v605 c i arg2 harg2 arg3 harg3 arg4 harg4 arg5 harg5 arg15 arg18 x0 x1 x2 x3)

theorem r_v636 (c : Dev nD) (i : grid1.Coords) (arg2 : Memref sig .tc .vmem S4096x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S4096x128 .bf16) (harg5 : arg5.IsWhole) (arg15 : Memref sig .tc .vmem S4096x128 .bf16) (arg16 : Memref sig .tc .vmem S4096x128 .f32) (arg18 : Memref sig .tc .vmem S4x512x512 .f32) (arg19 : Memref sig .tc .vmem S4x512x128 .f32) (x0 : Vec F S4096x128 .bf16) (x1 : Vec F S4096x128 .bf16) (x2 : Vec F S4096x128 .bf16) (x3 : Vec F S4096x128 .bf16) : run.sl.v636 (F := F) c i arg2 harg2 arg3 harg3 arg4 harg4 arg5 harg5 arg15 arg16 arg18 arg19 x0 x1 x2 x3 = shapeCast S1x512x128 (M i x0 x1 x2 x3 5 2) shapeCasts_S512x128_S1x512x128 := by
  rw [run.sl.v636, run.sl.H19_13, View.readCov_cons_toLoadRect, p_v619]

theorem p_v656 (c : Dev nD) (i : grid1.Coords) (arg2 : Memref sig .tc .vmem S4096x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S4096x128 .bf16) (harg5 : arg5.IsWhole) (arg6 : Memref sig .tc .vmem S4096x128 .bf16) (harg6 : arg6.IsWhole) (arg15 : Memref sig .tc .vmem S4096x128 .bf16) (arg16 : Memref sig .tc .vmem S4096x128 .f32) (arg17 : Memref sig .tc .vmem S4096x256 .f32) (arg18 : Memref sig .tc .vmem S4x512x512 .f32) (arg19 : Memref sig .tc .vmem S4x512x128 .f32) (arg20 : Memref sig .tc .vmem S4x512x128 .f32) (x0 : Vec F S4096x128 .bf16) (x1 : Vec F S4096x128 .bf16) (x2 : Vec F S4096x128 .bf16) (x3 : Vec F S4096x128 .bf16) (x4 : Vec F S4096x128 .bf16) : run.sl.v656 (F := F) c i arg2 harg2 arg3 harg3 arg4 harg4 arg5 harg5 arg6 harg6 arg15 arg16 arg17 arg18 arg19 arg20 x0 x1 x2 x3 x4 = acc i x0 x1 x2 x3 x4 5 2 :=
  t_ACn harg6 i x0 x1 x2 x3 x4 5 1 (r_v638 c i arg2 harg2 arg3 harg3 arg4 harg4 arg5 harg5 arg15 arg18 x0 x1 x2 x3) (r_v636 c i arg2 harg2 arg3 harg3 arg4 harg4 arg5 harg5 arg15 arg16 arg18 arg19 x0 x1 x2 x3) (r_v648 c i arg2 harg2 arg3 harg3 arg4 harg4 arg5 harg5 arg15 arg16 arg18 arg20 x0 x1 x2 x3) (r_v650 c i arg2 harg2 arg3 harg3 arg4 harg4 arg5 harg5 arg6 harg6 arg15 arg16 arg17 arg18 arg19 arg20 x0 x1 x2 x3 x4)

theorem r_v702 (c : Dev nD) (i : grid1.Coords) (arg2 : Memref sig .tc .vmem S4096x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S4096x128 .bf16) (harg5 : arg5.IsWhole) (arg6 : Memref sig .tc .vmem S4096x128 .bf16) (harg6 : arg6.IsWhole) (arg15 : Memref sig .tc .vmem S4096x128 .bf16) (arg16 : Memref sig .tc .vmem S4096x128 .f32) (arg17 : Memref sig .tc .vmem S4096x256 .f32) (arg18 : Memref sig .tc .vmem S4x512x512 .f32) (arg19 : Memref sig .tc .vmem S4x512x128 .f32) (arg20 : Memref sig .tc .vmem S4x512x128 .f32) (x0 : Vec F S4096x128 .bf16) (x1 : Vec F S4096x128 .bf16) (x2 : Vec F S4096x128 .bf16) (x3 : Vec F S4096x128 .bf16) (x4 : Vec F S4096x128 .bf16) : run.sl.v702 (F := F) c i arg2 harg2 arg3 harg3 arg4 harg4 arg5 harg5 arg6 harg6 arg15 arg16 arg17 arg18 arg19 arg20 x0 x1 x2 x3 x4 = acc i x0 x1 x2 x3 x4 5 2 := by
  rw [run.sl.v702, run.sl.H17_13, View.readCov_cons_toLoadRect, p_v656]

theorem p_v622 (c : Dev nD) (i : grid1.Coords) (arg2 : Memref sig .tc .vmem S4096x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S4096x128 .bf16) (harg5 : arg5.IsWhole) (arg15 : Memref sig .tc .vmem S4096x128 .bf16) (arg16 : Memref sig .tc .vmem S4096x128 .f32) (arg18 : Memref sig .tc .vmem S4x512x512 .f32) (x0 : Vec F S4096x128 .bf16) (x1 : Vec F S4096x128 .bf16) (x2 : Vec F S4096x128 .bf16) (x3 : Vec F S4096x128 .bf16) : run.sl.v622 (F := F) c i arg2 harg2 arg3 harg3 arg4 harg4 arg5 harg5 arg15 arg16 arg18 x0 x1 x2 x3 = M i x0 x1 x2 x3 5 2 :=
  t_MMn i x0 x1 x2 x3 5 1 (r_v609 c i arg2 harg2 arg3 harg3 arg4 harg4 arg5 harg5 arg15 arg16 arg18 x0 x1 x2 x3) (r_v605 c i arg2 harg2 arg3 harg3 arg4 harg4 arg5 harg5 arg15 arg18 x0 x1 x2 x3)

theorem r_v661 (c : Dev nD) (i : grid1.Coords) (arg2 : Memref sig .tc .vmem S4096x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S4096x128 .bf16) (harg5 : arg5.IsWhole) (arg15 : Memref sig .tc .vmem S4096x128 .bf16) (arg16 : Memref sig .tc .vmem S4096x128 .f32) (arg18 : Memref sig .tc .vmem S4x512x512 .f32) (x0 : Vec F S4096x128 .bf16) (x1 : Vec F S4096x128 .bf16) (x2 : Vec F S4096x128 .bf16) (x3 : Vec F S4096x128 .bf16) : run.sl.v661 (F := F) c i arg2 harg2 arg3 harg3 arg4 harg4 arg5 harg5 arg15 arg16 arg18 x0 x1 x2 x3 = M i x0 x1 x2 x3 5 2 := by
  rw [run.sl.v661, run.sl.H16_13, View.readCov_cons_toLoadRect, p_v622]

theorem p_v635 (c : Dev nD) (i : grid1.Coords) (arg2 : Memref sig .tc .vmem S4096x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S4096x128 .bf16) (harg5 : arg5.IsWhole) (arg15 : Memref sig .tc .vmem S4096x128 .bf16) (x0 : Vec F S4096x128 .bf16) (x1 : Vec F S4096x128 .bf16) (x2 : Vec F S4096x128 .bf16) (x3 : Vec F S4096x128 .bf16) : run.sl.v635 (F := F) c i arg2 harg2 arg3 harg3 arg4 harg4 arg5 harg5 arg15 x0 x1 x2 x3 = shapeCast S1x512x512 (S i x0 x1 x2 x3 5 3) shapeCasts_S512x512_S1x512x512 :=
  t_off harg2 harg4 harg5 i x0 x1 x2 x3 5 3 (by decide) (r_v481 c i arg3 harg3 arg15 x1)

theorem r_v657 (c : Dev nD) (i : grid1.Coords) (arg2 : Memref sig .tc .vmem S4096x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S4096x128 .bf16) (harg5 : arg5.IsWhole) (arg15 : Memref sig .tc .vmem S4096x128 .bf16) (arg18 : Memref sig .tc .vmem S4x512x512 .f32) (x0 : Vec F S4096x128 .bf16) (x1 : Vec F S4096x128 .bf16) (x2 : Vec F S4096x128 .bf16) (x3 : Vec F S4096x128 .bf16) : run.sl.v657 (F := F) c i arg2 harg2 arg3 harg3 arg4 harg4 arg5 harg5 arg15 arg18 x0 x1 x2 x3 = shapeCast S1x512x512 (S i x0 x1 x2 x3 5 3) shapeCasts_S512x512_S1x512x512 := by
  rw [run.sl.v657, run.sl.H18_14, View.readCov_cons_toLoadRect, p_v635]

theorem p_v668 (c : Dev nD) (i : grid1.Coords) (arg2 : Memref sig .tc .vmem S4096x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S4096x128 .bf16) (harg5 : arg5.IsWhole) (arg15 : Memref sig .tc .vmem S4096x128 .bf16) (arg16 : Memref sig .tc .vmem S4096x128 .f32) (arg18 : Memref sig .tc .vmem S4x512x512 .f32) (x0 : Vec F S4096x128 .bf16) (x1 : Vec F S4096x128 .bf16) (x2 : Vec F S4096x128 .bf16) (x3 : Vec F S4096x128 .bf16) : run.sl.v668 (F := F) c i arg2 harg2 arg3 harg3 arg4 harg4 arg5 harg5 arg15 arg16 arg18 x0 x1 x2 x3 = shapeCast S1x512x128 (alpha i x0 x1 x2 x3 5 2) shapeCasts_S512x128_S1x512x128 :=
  t_A i x0 x1 x2 x3 5 2 (r_v661 c i arg2 harg2 arg3 harg3 arg4 harg4 arg5 harg5 arg15 arg16 arg18 x0 x1 x2 x3) (r_v657 c i arg2 harg2 arg3 harg3 arg4 harg4 arg5 harg5 arg15 arg18 x0 x1 x2 x3)

theorem r_v700 (c : Dev nD) (i : grid1.Coords) (arg2 : Memref sig .tc .vmem S4096x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S4096x128 .bf16) (harg5 : arg5.IsWhole) (arg15 : Memref sig .tc .vmem S4096x128 .bf16) (arg16 : Memref sig .tc .vmem S4096x128 .f32) (arg18 : Memref sig .tc .vmem S4x512x512 .f32) (arg20 : Memref sig .tc .vmem S4x512x128 .f32) (x0 : Vec F S4096x128 .bf16) (x1 : Vec F S4096x128 .bf16) (x2 : Vec F S4096x128 .bf16) (x3 : Vec F S4096x128 .bf16) : run.sl.v700 (F := F) c i arg2 harg2 arg3 harg3 arg4 harg4 arg5 harg5 arg15 arg16 arg18 arg20 x0 x1 x2 x3 = shapeCast S1x512x128 (alpha i x0 x1 x2 x3 5 2) shapeCasts_S512x128_S1x512x128 := by
  rw [run.sl.v700, run.sl.H20_9, View.readCov_cons_toLoadRect, p_v668]

theorem r_v690 (c : Dev nD) (i : grid1.Coords) (arg2 : Memref sig .tc .vmem S4096x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S4096x128 .bf16) (harg5 : arg5.IsWhole) (arg15 : Memref sig .tc .vmem S4096x128 .bf16) (arg18 : Memref sig .tc .vmem S4x512x512 .f32) (x0 : Vec F S4096x128 .bf16) (x1 : Vec F S4096x128 .bf16) (x2 : Vec F S4096x128 .bf16) (x3 : Vec F S4096x128 .bf16) : run.sl.v690 (F := F) c i arg2 harg2 arg3 harg3 arg4 harg4 arg5 harg5 arg15 arg18 x0 x1 x2 x3 = shapeCast S1x512x512 (S i x0 x1 x2 x3 5 3) shapeCasts_S512x512_S1x512x512 := by
  rw [run.sl.v690, run.sl.H18_15, View.readCov_skip _ _ _ _ _ (by decide), run.sl.H18_14, View.readCov_cons_toLoadRect, p_v635]

theorem p_v671 (c : Dev nD) (i : grid1.Coords) (arg2 : Memref sig .tc .vmem S4096x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S4096x128 .bf16) (harg5 : arg5.IsWhole) (arg15 : Memref sig .tc .vmem S4096x128 .bf16) (arg16 : Memref sig .tc .vmem S4096x128 .f32) (arg18 : Memref sig .tc .vmem S4x512x512 .f32) (x0 : Vec F S4096x128 .bf16) (x1 : Vec F S4096x128 .bf16) (x2 : Vec F S4096x128 .bf16) (x3 : Vec F S4096x128 .bf16) : run.sl.v671 (F := F) c i arg2 harg2 arg3 harg3 arg4 harg4 arg5 harg5 arg15 arg16 arg18 x0 x1 x2 x3 = shapeCast S1x512x128 (M i x0 x1 x2 x3 5 3) shapeCasts_S512x128_S1x512x128 :=
  t_MNn i x0 x1 x2 x3 5 2 (r_v661 c i arg2 harg2 arg3 harg3 arg4 harg4 arg5 harg5 arg15 arg16 arg18 x0 x1 x2 x3) (r_v657 c i arg2 harg2 arg3 harg3 arg4 harg4 arg5 harg5 arg15 arg18 x0 x1 x2 x3)

theorem r_v688 (c : Dev nD) (i : grid1.Coords) (arg2 : Memref sig .tc .vmem S4096x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S4096x128 .bf16) (harg5 : arg5.IsWhole) (arg15 : Memref sig .tc .vmem S4096x128 .bf16) (arg16 : Memref sig .tc .vmem S4096x128 .f32) (arg18 : Memref sig .tc .vmem S4x512x512 .f32) (arg19 : Memref sig .tc .vmem S4x512x128 .f32) (x0 : Vec F S4096x128 .bf16) (x1 : Vec F S4096x128 .bf16) (x2 : Vec F S4096x128 .bf16) (x3 : Vec F S4096x128 .bf16) : run.sl.v688 (F := F) c i arg2 harg2 arg3 harg3 arg4 harg4 arg5 harg5 arg15 arg16 arg18 arg19 x0 x1 x2 x3 = shapeCast S1x512x128 (M i x0 x1 x2 x3 5 3) shapeCasts_S512x128_S1x512x128 := by
  rw [run.sl.v688, run.sl.H19_14, View.readCov_cons_toLoadRect, p_v671]

theorem p_v708 (c : Dev nD) (i : grid1.Coords) (arg2 : Memref sig .tc .vmem S4096x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S4096x128 .bf16) (harg5 : arg5.IsWhole) (arg6 : Memref sig .tc .vmem S4096x128 .bf16) (harg6 : arg6.IsWhole) (arg15 : Memref sig .tc .vmem S4096x128 .bf16) (arg16 : Memref sig .tc .vmem S4096x128 .f32) (arg17 : Memref sig .tc .vmem S4096x256 .f32) (arg18 : Memref sig .tc .vmem S4x512x512 .f32) (arg19 : Memref sig .tc .vmem S4x512x128 .f32) (arg20 : Memref sig .tc .vmem S4x512x128 .f32) (x0 : Vec F S4096x128 .bf16) (x1 : Vec F S4096x128 .bf16) (x2 : Vec F S4096x128 .bf16) (x3 : Vec F S4096x128 .bf16) (x4 : Vec F S4096x128 .bf16) : run.sl.v708 (F := F) c i arg2 harg2 arg3 harg3 arg4 harg4 arg5 harg5 arg6 harg6 arg15 arg16 arg17 arg18 arg19 arg20 x0 x1 x2 x3 x4 = acc i x0 x1 x2 x3 x4 5 3 :=
  t_ACn harg6 i x0 x1 x2 x3 x4 5 2 (r_v690 c i arg2 harg2 arg3 harg3 arg4 harg4 arg5 harg5 arg15 arg18 x0 x1 x2 x3) (r_v688 c i arg2 harg2 arg3 harg3 arg4 harg4 arg5 harg5 arg15 arg16 arg18 arg19 x0 x1 x2 x3) (r_v700 c i arg2 harg2 arg3 harg3 arg4 harg4 arg5 harg5 arg15 arg16 arg18 arg20 x0 x1 x2 x3) (r_v702 c i arg2 harg2 arg3 harg3 arg4 harg4 arg5 harg5 arg6 harg6 arg15 arg16 arg17 arg18 arg19 arg20 x0 x1 x2 x3 x4)

theorem r_v754 (c : Dev nD) (i : grid1.Coords) (arg2 : Memref sig .tc .vmem S4096x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S4096x128 .bf16) (harg5 : arg5.IsWhole) (arg6 : Memref sig .tc .vmem S4096x128 .bf16) (harg6 : arg6.IsWhole) (arg15 : Memref sig .tc .vmem S4096x128 .bf16) (arg16 : Memref sig .tc .vmem S4096x128 .f32) (arg17 : Memref sig .tc .vmem S4096x256 .f32) (arg18 : Memref sig .tc .vmem S4x512x512 .f32) (arg19 : Memref sig .tc .vmem S4x512x128 .f32) (arg20 : Memref sig .tc .vmem S4x512x128 .f32) (x0 : Vec F S4096x128 .bf16) (x1 : Vec F S4096x128 .bf16) (x2 : Vec F S4096x128 .bf16) (x3 : Vec F S4096x128 .bf16) (x4 : Vec F S4096x128 .bf16) : run.sl.v754 (F := F) c i arg2 harg2 arg3 harg3 arg4 harg4 arg5 harg5 arg6 harg6 arg15 arg16 arg17 arg18 arg19 arg20 x0 x1 x2 x3 x4 = acc i x0 x1 x2 x3 x4 5 3 := by
  rw [run.sl.v754, run.sl.H17_14, View.readCov_cons_toLoadRect, p_v708]

theorem p_v674 (c : Dev nD) (i : grid1.Coords) (arg2 : Memref sig .tc .vmem S4096x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S4096x128 .bf16) (harg5 : arg5.IsWhole) (arg15 : Memref sig .tc .vmem S4096x128 .bf16) (arg16 : Memref sig .tc .vmem S4096x128 .f32) (arg18 : Memref sig .tc .vmem S4x512x512 .f32) (x0 : Vec F S4096x128 .bf16) (x1 : Vec F S4096x128 .bf16) (x2 : Vec F S4096x128 .bf16) (x3 : Vec F S4096x128 .bf16) : run.sl.v674 (F := F) c i arg2 harg2 arg3 harg3 arg4 harg4 arg5 harg5 arg15 arg16 arg18 x0 x1 x2 x3 = M i x0 x1 x2 x3 5 3 :=
  t_MMn i x0 x1 x2 x3 5 2 (r_v661 c i arg2 harg2 arg3 harg3 arg4 harg4 arg5 harg5 arg15 arg16 arg18 x0 x1 x2 x3) (r_v657 c i arg2 harg2 arg3 harg3 arg4 harg4 arg5 harg5 arg15 arg18 x0 x1 x2 x3)

theorem r_v713 (c : Dev nD) (i : grid1.Coords) (arg2 : Memref sig .tc .vmem S4096x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S4096x128 .bf16) (harg5 : arg5.IsWhole) (arg15 : Memref sig .tc .vmem S4096x128 .bf16) (arg16 : Memref sig .tc .vmem S4096x128 .f32) (arg18 : Memref sig .tc .vmem S4x512x512 .f32) (x0 : Vec F S4096x128 .bf16) (x1 : Vec F S4096x128 .bf16) (x2 : Vec F S4096x128 .bf16) (x3 : Vec F S4096x128 .bf16) : run.sl.v713 (F := F) c i arg2 harg2 arg3 harg3 arg4 harg4 arg5 harg5 arg15 arg16 arg18 x0 x1 x2 x3 = M i x0 x1 x2 x3 5 3 := by
  rw [run.sl.v713, run.sl.H16_14, View.readCov_cons_toLoadRect, p_v674]

theorem p_v687 (c : Dev nD) (i : grid1.Coords) (arg2 : Memref sig .tc .vmem S4096x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S4096x128 .bf16) (harg5 : arg5.IsWhole) (arg15 : Memref sig .tc .vmem S4096x128 .bf16) (x0 : Vec F S4096x128 .bf16) (x1 : Vec F S4096x128 .bf16) (x2 : Vec F S4096x128 .bf16) (x3 : Vec F S4096x128 .bf16) : run.sl.v687 (F := F) c i arg2 harg2 arg3 harg3 arg4 harg4 arg5 harg5 arg15 x0 x1 x2 x3 = shapeCast S1x512x512 (S i x0 x1 x2 x3 5 4) shapeCasts_S512x512_S1x512x512 :=
  t_off harg2 harg4 harg5 i x0 x1 x2 x3 5 4 (by decide) (r_v481 c i arg3 harg3 arg15 x1)

theorem r_v709 (c : Dev nD) (i : grid1.Coords) (arg2 : Memref sig .tc .vmem S4096x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S4096x128 .bf16) (harg5 : arg5.IsWhole) (arg15 : Memref sig .tc .vmem S4096x128 .bf16) (arg18 : Memref sig .tc .vmem S4x512x512 .f32) (x0 : Vec F S4096x128 .bf16) (x1 : Vec F S4096x128 .bf16) (x2 : Vec F S4096x128 .bf16) (x3 : Vec F S4096x128 .bf16) : run.sl.v709 (F := F) c i arg2 harg2 arg3 harg3 arg4 harg4 arg5 harg5 arg15 arg18 x0 x1 x2 x3 = shapeCast S1x512x512 (S i x0 x1 x2 x3 5 4) shapeCasts_S512x512_S1x512x512 := by
  rw [run.sl.v709, run.sl.H18_15, View.readCov_cons_toLoadRect, p_v687]

theorem p_v720 (c : Dev nD) (i : grid1.Coords) (arg2 : Memref sig .tc .vmem S4096x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S4096x128 .bf16) (harg5 : arg5.IsWhole) (arg15 : Memref sig .tc .vmem S4096x128 .bf16) (arg16 : Memref sig .tc .vmem S4096x128 .f32) (arg18 : Memref sig .tc .vmem S4x512x512 .f32) (x0 : Vec F S4096x128 .bf16) (x1 : Vec F S4096x128 .bf16) (x2 : Vec F S4096x128 .bf16) (x3 : Vec F S4096x128 .bf16) : run.sl.v720 (F := F) c i arg2 harg2 arg3 harg3 arg4 harg4 arg5 harg5 arg15 arg16 arg18 x0 x1 x2 x3 = shapeCast S1x512x128 (alpha i x0 x1 x2 x3 5 3) shapeCasts_S512x128_S1x512x128 :=
  t_A i x0 x1 x2 x3 5 3 (r_v713 c i arg2 harg2 arg3 harg3 arg4 harg4 arg5 harg5 arg15 arg16 arg18 x0 x1 x2 x3) (r_v709 c i arg2 harg2 arg3 harg3 arg4 harg4 arg5 harg5 arg15 arg18 x0 x1 x2 x3)

theorem r_v752 (c : Dev nD) (i : grid1.Coords) (arg2 : Memref sig .tc .vmem S4096x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S4096x128 .bf16) (harg5 : arg5.IsWhole) (arg15 : Memref sig .tc .vmem S4096x128 .bf16) (arg16 : Memref sig .tc .vmem S4096x128 .f32) (arg18 : Memref sig .tc .vmem S4x512x512 .f32) (arg20 : Memref sig .tc .vmem S4x512x128 .f32) (x0 : Vec F S4096x128 .bf16) (x1 : Vec F S4096x128 .bf16) (x2 : Vec F S4096x128 .bf16) (x3 : Vec F S4096x128 .bf16) : run.sl.v752 (F := F) c i arg2 harg2 arg3 harg3 arg4 harg4 arg5 harg5 arg15 arg16 arg18 arg20 x0 x1 x2 x3 = shapeCast S1x512x128 (alpha i x0 x1 x2 x3 5 3) shapeCasts_S512x128_S1x512x128 := by
  rw [run.sl.v752, run.sl.H20_10, View.readCov_cons_toLoadRect, p_v720]

theorem r_v742 (c : Dev nD) (i : grid1.Coords) (arg2 : Memref sig .tc .vmem S4096x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S4096x128 .bf16) (harg5 : arg5.IsWhole) (arg15 : Memref sig .tc .vmem S4096x128 .bf16) (arg18 : Memref sig .tc .vmem S4x512x512 .f32) (x0 : Vec F S4096x128 .bf16) (x1 : Vec F S4096x128 .bf16) (x2 : Vec F S4096x128 .bf16) (x3 : Vec F S4096x128 .bf16) : run.sl.v742 (F := F) c i arg2 harg2 arg3 harg3 arg4 harg4 arg5 harg5 arg15 arg18 x0 x1 x2 x3 = shapeCast S1x512x512 (S i x0 x1 x2 x3 5 4) shapeCasts_S512x512_S1x512x512 := by
  rw [run.sl.v742, run.sl.H18_16, View.readCov_skip _ _ _ _ _ (by decide), run.sl.H18_15, View.readCov_cons_toLoadRect, p_v687]

theorem p_v723 (c : Dev nD) (i : grid1.Coords) (arg2 : Memref sig .tc .vmem S4096x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S4096x128 .bf16) (harg5 : arg5.IsWhole) (arg15 : Memref sig .tc .vmem S4096x128 .bf16) (arg16 : Memref sig .tc .vmem S4096x128 .f32) (arg18 : Memref sig .tc .vmem S4x512x512 .f32) (x0 : Vec F S4096x128 .bf16) (x1 : Vec F S4096x128 .bf16) (x2 : Vec F S4096x128 .bf16) (x3 : Vec F S4096x128 .bf16) : run.sl.v723 (F := F) c i arg2 harg2 arg3 harg3 arg4 harg4 arg5 harg5 arg15 arg16 arg18 x0 x1 x2 x3 = shapeCast S1x512x128 (M i x0 x1 x2 x3 5 4) shapeCasts_S512x128_S1x512x128 :=
  t_MNn i x0 x1 x2 x3 5 3 (r_v713 c i arg2 harg2 arg3 harg3 arg4 harg4 arg5 harg5 arg15 arg16 arg18 x0 x1 x2 x3) (r_v709 c i arg2 harg2 arg3 harg3 arg4 harg4 arg5 harg5 arg15 arg18 x0 x1 x2 x3)

theorem r_v740 (c : Dev nD) (i : grid1.Coords) (arg2 : Memref sig .tc .vmem S4096x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S4096x128 .bf16) (harg5 : arg5.IsWhole) (arg15 : Memref sig .tc .vmem S4096x128 .bf16) (arg16 : Memref sig .tc .vmem S4096x128 .f32) (arg18 : Memref sig .tc .vmem S4x512x512 .f32) (arg19 : Memref sig .tc .vmem S4x512x128 .f32) (x0 : Vec F S4096x128 .bf16) (x1 : Vec F S4096x128 .bf16) (x2 : Vec F S4096x128 .bf16) (x3 : Vec F S4096x128 .bf16) : run.sl.v740 (F := F) c i arg2 harg2 arg3 harg3 arg4 harg4 arg5 harg5 arg15 arg16 arg18 arg19 x0 x1 x2 x3 = shapeCast S1x512x128 (M i x0 x1 x2 x3 5 4) shapeCasts_S512x128_S1x512x128 := by
  rw [run.sl.v740, run.sl.H19_15, View.readCov_cons_toLoadRect, p_v723]

theorem p_v760 (c : Dev nD) (i : grid1.Coords) (arg2 : Memref sig .tc .vmem S4096x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S4096x128 .bf16) (harg5 : arg5.IsWhole) (arg6 : Memref sig .tc .vmem S4096x128 .bf16) (harg6 : arg6.IsWhole) (arg15 : Memref sig .tc .vmem S4096x128 .bf16) (arg16 : Memref sig .tc .vmem S4096x128 .f32) (arg17 : Memref sig .tc .vmem S4096x256 .f32) (arg18 : Memref sig .tc .vmem S4x512x512 .f32) (arg19 : Memref sig .tc .vmem S4x512x128 .f32) (arg20 : Memref sig .tc .vmem S4x512x128 .f32) (x0 : Vec F S4096x128 .bf16) (x1 : Vec F S4096x128 .bf16) (x2 : Vec F S4096x128 .bf16) (x3 : Vec F S4096x128 .bf16) (x4 : Vec F S4096x128 .bf16) : run.sl.v760 (F := F) c i arg2 harg2 arg3 harg3 arg4 harg4 arg5 harg5 arg6 harg6 arg15 arg16 arg17 arg18 arg19 arg20 x0 x1 x2 x3 x4 = acc i x0 x1 x2 x3 x4 5 4 :=
  t_ACn harg6 i x0 x1 x2 x3 x4 5 3 (r_v742 c i arg2 harg2 arg3 harg3 arg4 harg4 arg5 harg5 arg15 arg18 x0 x1 x2 x3) (r_v740 c i arg2 harg2 arg3 harg3 arg4 harg4 arg5 harg5 arg15 arg16 arg18 arg19 x0 x1 x2 x3) (r_v752 c i arg2 harg2 arg3 harg3 arg4 harg4 arg5 harg5 arg15 arg16 arg18 arg20 x0 x1 x2 x3) (r_v754 c i arg2 harg2 arg3 harg3 arg4 harg4 arg5 harg5 arg6 harg6 arg15 arg16 arg17 arg18 arg19 arg20 x0 x1 x2 x3 x4)

theorem r_v1751 (c : Dev nD) (i : grid1.Coords) (arg2 : Memref sig .tc .vmem S4096x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S4096x128 .bf16) (harg5 : arg5.IsWhole) (arg6 : Memref sig .tc .vmem S4096x128 .bf16) (harg6 : arg6.IsWhole) (arg15 : Memref sig .tc .vmem S4096x128 .bf16) (arg16 : Memref sig .tc .vmem S4096x128 .f32) (arg17 : Memref sig .tc .vmem S4096x256 .f32) (arg18 : Memref sig .tc .vmem S4x512x512 .f32) (arg19 : Memref sig .tc .vmem S4x512x128 .f32) (arg20 : Memref sig .tc .vmem S4x512x128 .f32) (x0 : Vec F S4096x128 .bf16) (x1 : Vec F S4096x128 .bf16) (x2 : Vec F S4096x128 .bf16) (x3 : Vec F S4096x128 .bf16) (x4 : Vec F S4096x128 .bf16) : run.sl.v1751 (F := F) c i arg2 harg2 arg3 harg3 arg4 harg4 arg5 harg5 arg6 harg6 arg15 arg16 arg17 arg18 arg19 arg20 x0 x1 x2 x3 x4 = acc i x0 x1 x2 x3 x4 5 4 := by
  rw [run.sl.v1751, run.sl.H17_28, View.readCov_skip _ _ _ _ _ (by decide), run.sl.H17_27, View.readCov_skip _ _ _ _ _ (by decide), run.sl.H17_26, View.readCov_skip _ _ _ _ _ (by decide), run.sl.H17_25, View.readCov_skip _ _ _ _ _ (by decide), run.sl.H17_24, View.readCov_skip _ _ _ _ _ (by decide), run.sl.H17_23, View.readCov_skip _ _ _ _ _ (by decide), run.sl.H17_22, View.readCov_skip _ _ _ _ _ (by decide), View.readCov_skip _ _ _ _ _ (by decide), run.sl.H17_20, View.readCov_skip _ _ _ _ _ (by decide), run.sl.H17_19, View.readCov_skip _ _ _ _ _ (by decide), run.sl.H17_18, View.readCov_skip _ _ _ _ _ (by decide), run.sl.H17_17, View.readCov_skip _ _ _ _ _ (by decide), run.sl.H17_16, View.readCov_skip _ _ _ _ _ (by decide), View.readCov_cons_toLoadRect, p_v760]

theorem p_v726 (c : Dev nD) (i : grid1.Coords) (arg2 : Memref sig .tc .vmem S4096x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S4096x128 .bf16) (harg5 : arg5.IsWhole) (arg15 : Memref sig .tc .vmem S4096x128 .bf16) (arg16 : Memref sig .tc .vmem S4096x128 .f32) (arg18 : Memref sig .tc .vmem S4x512x512 .f32) (x0 : Vec F S4096x128 .bf16) (x1 : Vec F S4096x128 .bf16) (x2 : Vec F S4096x128 .bf16) (x3 : Vec F S4096x128 .bf16) : run.sl.v726 (F := F) c i arg2 harg2 arg3 harg3 arg4 harg4 arg5 harg5 arg15 arg16 arg18 x0 x1 x2 x3 = M i x0 x1 x2 x3 5 4 :=
  t_MMn i x0 x1 x2 x3 5 3 (r_v713 c i arg2 harg2 arg3 harg3 arg4 harg4 arg5 harg5 arg15 arg16 arg18 x0 x1 x2 x3) (r_v709 c i arg2 harg2 arg3 harg3 arg4 harg4 arg5 harg5 arg15 arg18 x0 x1 x2 x3)

theorem r_v1705 (c : Dev nD) (i : grid1.Coords) (arg2 : Memref sig .tc .vmem S4096x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S4096x128 .bf16) (harg5 : arg5.IsWhole) (arg15 : Memref sig .tc .vmem S4096x128 .bf16) (arg16 : Memref sig .tc .vmem S4096x128 .f32) (arg18 : Memref sig .tc .vmem S4x512x512 .f32) (x0 : Vec F S4096x128 .bf16) (x1 : Vec F S4096x128 .bf16) (x2 : Vec F S4096x128 .bf16) (x3 : Vec F S4096x128 .bf16) : run.sl.v1705 (F := F) c i arg2 harg2 arg3 harg3 arg4 harg4 arg5 harg5 arg15 arg16 arg18 x0 x1 x2 x3 = M i x0 x1 x2 x3 5 4 := by
  rw [run.sl.v1705, run.sl.H16_33, View.readCov_skip _ _ _ _ _ (by decide), run.sl.H16_32, View.readCov_skip _ _ _ _ _ (by decide), run.sl.H16_31, View.readCov_skip _ _ _ _ _ (by decide), run.sl.H16_30, View.readCov_skip _ _ _ _ _ (by decide), run.sl.H16_29, View.readCov_skip _ _ _ _ _ (by decide), View.readCov_skip _ _ _ _ _ (by decide), run.sl.H16_27, View.readCov_skip _ _ _ _ _ (by decide), run.sl.H16_26, View.readCov_skip _ _ _ _ _ (by decide), run.sl.H16_25, View.readCov_skip _ _ _ _ _ (by decide), run.sl.H16_24, View.readCov_skip _ _ _ _ _ (by decide), run.sl.H16_23, View.readCov_skip _ _ _ _ _ (by decide), run.sl.H16_22, View.readCov_skip _ _ _ _ _ (by decide), View.readCov_skip _ _ _ _ _ (by decide), run.sl.H16_20, View.readCov_skip _ _ _ _ _ (by decide), run.sl.H16_19, View.readCov_skip _ _ _ _ _ (by decide), run.sl.H16_18, View.readCov_skip _ _ _ _ _ (by decide), run.sl.H16_17, View.readCov_skip _ _ _ _ _ (by decide), run.sl.H16_16, View.readCov_skip _ _ _ _ _ (by decide), View.readCov_cons_toLoadRect, p_v726]

theorem p_v1677 (c : Dev nD) (i : grid1.Coords) (arg2 : Memref sig .tc .vmem S4096x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S4096x128 .bf16) (harg5 : arg5.IsWhole) (arg15 : Memref sig .tc .vmem S4096x128 .bf16) (x0 : Vec F S4096x128 .bf16) (x1 : Vec F S4096x128 .bf16) (x2 : Vec F S4096x128 .bf16) (x3 : Vec F S4096x128 .bf16) : run.sl.v1677 (F := F) c i arg2 harg2 arg3 harg3 arg4 harg4 arg5 harg5 arg15 x0 x1 x2 x3 = shapeCast S1x512x512 (S i x0 x1 x2 x3 5 5) shapeCasts_S512x512_S1x512x512 :=
  t_diag harg2 harg4 harg5 i x0 x1 x2 x3 5 (r_v481 c i arg3 harg3 arg15 x1)

theorem r_v1701 (c : Dev nD) (i : grid1.Coords) (arg2 : Memref sig .tc .vmem S4096x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S4096x128 .bf16) (harg5 : arg5.IsWhole) (arg15 : Memref sig .tc .vmem S4096x128 .bf16) (arg18 : Memref sig .tc .vmem S4x512x512 .f32) (x0 : Vec F S4096x128 .bf16) (x1 : Vec F S4096x128 .bf16) (x2 : Vec F S4096x128 .bf16) (x3 : Vec F S4096x128 .bf16) : run.sl.v1701 (F := F) c i arg2 harg2 arg3 harg3 arg4 harg4 arg5 harg5 arg15 arg18 x0 x1 x2 x3 = shapeCast S1x512x512 (S i x0 x1 x2 x3 5 5) shapeCasts_S512x512_S1x512x512 := by
  rw [run.sl.v1701, run.sl.H18_34, View.readCov_cons_toLoadRect, p_v1677]

theorem p_v1712 (c : Dev nD) (i : grid1.Coords) (arg2 : Memref sig .tc .vmem S4096x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S4096x128 .bf16) (harg5 : arg5.IsWhole) (arg15 : Memref sig .tc .vmem S4096x128 .bf16) (arg16 : Memref sig .tc .vmem S4096x128 .f32) (arg18 : Memref sig .tc .vmem S4x512x512 .f32) (x0 : Vec F S4096x128 .bf16) (x1 : Vec F S4096x128 .bf16) (x2 : Vec F S4096x128 .bf16) (x3 : Vec F S4096x128 .bf16) : run.sl.v1712 (F := F) c i arg2 harg2 arg3 harg3 arg4 harg4 arg5 harg5 arg15 arg16 arg18 x0 x1 x2 x3 = shapeCast S1x512x128 (alpha i x0 x1 x2 x3 5 4) shapeCasts_S512x128_S1x512x128 :=
  t_A i x0 x1 x2 x3 5 4 (r_v1705 c i arg2 harg2 arg3 harg3 arg4 harg4 arg5 harg5 arg15 arg16 arg18 x0 x1 x2 x3) (r_v1701 c i arg2 harg2 arg3 harg3 arg4 harg4 arg5 harg5 arg15 arg18 x0 x1 x2 x3)

theorem r_v1749 (c : Dev nD) (i : grid1.Coords) (arg2 : Memref sig .tc .vmem S4096x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S4096x128 .bf16) (harg5 : arg5.IsWhole) (arg15 : Memref sig .tc .vmem S4096x128 .bf16) (arg16 : Memref sig .tc .vmem S4096x128 .f32) (arg18 : Memref sig .tc .vmem S4x512x512 .f32) (arg20 : Memref sig .tc .vmem S4x512x128 .f32) (x0 : Vec F S4096x128 .bf16) (x1 : Vec F S4096x128 .bf16) (x2 : Vec F S4096x128 .bf16) (x3 : Vec F S4096x128 .bf16) : run.sl.v1749 (F := F) c i arg2 harg2 arg3 harg3 arg4 harg4 arg5 harg5 arg15 arg16 arg18 arg20 x0 x1 x2 x3 = shapeCast S1x512x128 (alpha i x0 x1 x2 x3 5 4) shapeCasts_S512x128_S1x512x128 := by
  rw [run.sl.v1749, run.sl.H20_26, View.readCov_cons_toLoadRect, p_v1712]

theorem r_v1739 (c : Dev nD) (i : grid1.Coords) (arg2 : Memref sig .tc .vmem S4096x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S4096x128 .bf16) (harg5 : arg5.IsWhole) (arg15 : Memref sig .tc .vmem S4096x128 .bf16) (arg18 : Memref sig .tc .vmem S4x512x512 .f32) (x0 : Vec F S4096x128 .bf16) (x1 : Vec F S4096x128 .bf16) (x2 : Vec F S4096x128 .bf16) (x3 : Vec F S4096x128 .bf16) : run.sl.v1739 (F := F) c i arg2 harg2 arg3 harg3 arg4 harg4 arg5 harg5 arg15 arg18 x0 x1 x2 x3 = shapeCast S1x512x512 (S i x0 x1 x2 x3 5 5) shapeCasts_S512x512_S1x512x512 := by
  rw [run.sl.v1739, run.sl.H18_35, View.readCov_skip _ _ _ _ _ (by decide), run.sl.H18_34, View.readCov_cons_toLoadRect, p_v1677]

theorem p_v1715 (c : Dev nD) (i : grid1.Coords) (arg2 : Memref sig .tc .vmem S4096x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S4096x128 .bf16) (harg5 : arg5.IsWhole) (arg15 : Memref sig .tc .vmem S4096x128 .bf16) (arg16 : Memref sig .tc .vmem S4096x128 .f32) (arg18 : Memref sig .tc .vmem S4x512x512 .f32) (x0 : Vec F S4096x128 .bf16) (x1 : Vec F S4096x128 .bf16) (x2 : Vec F S4096x128 .bf16) (x3 : Vec F S4096x128 .bf16) : run.sl.v1715 (F := F) c i arg2 harg2 arg3 harg3 arg4 harg4 arg5 harg5 arg15 arg16 arg18 x0 x1 x2 x3 = shapeCast S1x512x128 (M i x0 x1 x2 x3 5 5) shapeCasts_S512x128_S1x512x128 :=
  t_MNn i x0 x1 x2 x3 5 4 (r_v1705 c i arg2 harg2 arg3 harg3 arg4 harg4 arg5 harg5 arg15 arg16 arg18 x0 x1 x2 x3) (r_v1701 c i arg2 harg2 arg3 harg3 arg4 harg4 arg5 harg5 arg15 arg18 x0 x1 x2 x3)

theorem r_v1737 (c : Dev nD) (i : grid1.Coords) (arg2 : Memref sig .tc .vmem S4096x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S4096x128 .bf16) (harg5 : arg5.IsWhole) (arg15 : Memref sig .tc .vmem S4096x128 .bf16) (arg16 : Memref sig .tc .vmem S4096x128 .f32) (arg18 : Memref sig .tc .vmem S4x512x512 .f32) (arg19 : Memref sig .tc .vmem S4x512x128 .f32) (x0 : Vec F S4096x128 .bf16) (x1 : Vec F S4096x128 .bf16) (x2 : Vec F S4096x128 .bf16) (x3 : Vec F S4096x128 .bf16) : run.sl.v1737 (F := F) c i arg2 harg2 arg3 harg3 arg4 harg4 arg5 harg5 arg15 arg16 arg18 arg19 x0 x1 x2 x3 = shapeCast S1x512x128 (M i x0 x1 x2 x3 5 5) shapeCasts_S512x128_S1x512x128 := by
  rw [run.sl.v1737, run.sl.H19_34, View.readCov_cons_toLoadRect, p_v1715]

theorem p_v1758 (c : Dev nD) (i : grid1.Coords) (arg2 : Memref sig .tc .vmem S4096x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S4096x128 .bf16) (harg5 : arg5.IsWhole) (arg6 : Memref sig .tc .vmem S4096x128 .bf16) (harg6 : arg6.IsWhole) (arg15 : Memref sig .tc .vmem S4096x128 .bf16) (arg16 : Memref sig .tc .vmem S4096x128 .f32) (arg17 : Memref sig .tc .vmem S4096x256 .f32) (arg18 : Memref sig .tc .vmem S4x512x512 .f32) (arg19 : Memref sig .tc .vmem S4x512x128 .f32) (arg20 : Memref sig .tc .vmem S4x512x128 .f32) (x0 : Vec F S4096x128 .bf16) (x1 : Vec F S4096x128 .bf16) (x2 : Vec F S4096x128 .bf16) (x3 : Vec F S4096x128 .bf16) (x4 : Vec F S4096x128 .bf16) : run.sl.v1758 (F := F) c i arg2 harg2 arg3 harg3 arg4 harg4 arg5 harg5 arg6 harg6 arg15 arg16 arg17 arg18 arg19 arg20 x0 x1 x2 x3 x4 = out i x0 x1 x2 x3 x4 5 :=
  t_On harg6 i x0 x1 x2 x3 x4 5 4 rfl (r_v1739 c i arg2 harg2 arg3 harg3 arg4 harg4 arg5 harg5 arg15 arg18 x0 x1 x2 x3) (r_v1737 c i arg2 harg2 arg3 harg3 arg4 harg4 arg5 harg5 arg15 arg16 arg18 arg19 x0 x1 x2 x3) (r_v1749 c i arg2 harg2 arg3 harg3 arg4 harg4 arg5 harg5 arg15 arg16 arg18 arg20 x0 x1 x2 x3) (r_v1751 c i arg2 harg2 arg3 harg3 arg4 harg4 arg5 harg5 arg6 harg6 arg15 arg16 arg17 arg18 arg19 arg20 x0 x1 x2 x3 x4)

theorem r_v729 (c : Dev nD) (i : grid1.Coords) (arg3 : Memref sig .tc .vmem S4096x128 .bf16) (harg3 : arg3.IsWhole) (arg15 : Memref sig .tc .vmem S4096x128 .bf16) (x1 : Vec F S4096x128 .bf16) : run.sl.v729 (F := F) c i arg3 harg3 arg15 x1 = blk (qam i x1) 6 := by
  rw [run.sl.v729, run.sl.H15_1, View.readCov_fill _ _ _ _ _ (by decide), p_v26]; rfl

theorem p_v739 (c : Dev nD) (i : grid1.Coords) (arg2 : Memref sig .tc .vmem S4096x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S4096x128 .bf16) (harg5 : arg5.IsWhole) (arg15 : Memref sig .tc .vmem S4096x128 .bf16) (x0 : Vec F S4096x128 .bf16) (x1 : Vec F S4096x128 .bf16) (x2 : Vec F S4096x128 .bf16) (x3 : Vec F S4096x128 .bf16) : run.sl.v739 (F := F) c i arg2 harg2 arg3 harg3 arg4 harg4 arg5 harg5 arg15 x0 x1 x2 x3 = shapeCast S1x512x512 (S i x0 x1 x2 x3 6 0) shapeCasts_S512x512_S1x512x512 :=
  t_off harg2 harg4 harg5 i x0 x1 x2 x3 6 0 (by decide) (r_v729 c i arg3 harg3 arg15 x1)

theorem r_v788 (c : Dev nD) (i : grid1.Coords) (arg2 : Memref sig .tc .vmem S4096x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S4096x128 .bf16) (harg5 : arg5.IsWhole) (arg15 : Memref sig .tc .vmem S4096x128 .bf16) (arg18 : Memref sig .tc .vmem S4x512x512 .f32) (x0 : Vec F S4096x128 .bf16) (x1 : Vec F S4096x128 .bf16) (x2 : Vec F S4096x128 .bf16) (x3 : Vec F S4096x128 .bf16) : run.sl.v788 (F := F) c i arg2 harg2 arg3 harg3 arg4 harg4 arg5 harg5 arg15 arg18 x0 x1 x2 x3 = shapeCast S1x512x512 (S i x0 x1 x2 x3 6 0) shapeCasts_S512x512_S1x512x512 := by
  rw [run.sl.v788, run.sl.H18_17, View.readCov_skip _ _ _ _ _ (by decide), run.sl.H18_16, View.readCov_cons_toLoadRect, p_v739]

theorem r_v761 (c : Dev nD) (i : grid1.Coords) (arg2 : Memref sig .tc .vmem S4096x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S4096x128 .bf16) (harg5 : arg5.IsWhole) (arg15 : Memref sig .tc .vmem S4096x128 .bf16) (arg18 : Memref sig .tc .vmem S4x512x512 .f32) (x0 : Vec F S4096x128 .bf16) (x1 : Vec F S4096x128 .bf16) (x2 : Vec F S4096x128 .bf16) (x3 : Vec F S4096x128 .bf16) : run.sl.v761 (F := F) c i arg2 harg2 arg3 harg3 arg4 harg4 arg5 harg5 arg15 arg18 x0 x1 x2 x3 = shapeCast S1x512x512 (S i x0 x1 x2 x3 6 0) shapeCasts_S512x512_S1x512x512 := by
  rw [run.sl.v761, run.sl.H18_16, View.readCov_cons_toLoadRect, p_v739]

theorem p_v769 (c : Dev nD) (i : grid1.Coords) (arg2 : Memref sig .tc .vmem S4096x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S4096x128 .bf16) (harg5 : arg5.IsWhole) (arg15 : Memref sig .tc .vmem S4096x128 .bf16) (arg18 : Memref sig .tc .vmem S4x512x512 .f32) (x0 : Vec F S4096x128 .bf16) (x1 : Vec F S4096x128 .bf16) (x2 : Vec F S4096x128 .bf16) (x3 : Vec F S4096x128 .bf16) : run.sl.v769 (F := F) c i arg2 harg2 arg3 harg3 arg4 harg4 arg5 harg5 arg15 arg18 x0 x1 x2 x3 = shapeCast S1x512x128 (M i x0 x1 x2 x3 6 0) shapeCasts_S512x128_S1x512x128 :=
  t_MN0 i x0 x1 x2 x3 6 (r_v761 c i arg2 harg2 arg3 harg3 arg4 harg4 arg5 harg5 arg15 arg18 x0 x1 x2 x3)

theorem r_v786 (c : Dev nD) (i : grid1.Coords) (arg2 : Memref sig .tc .vmem S4096x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S4096x128 .bf16) (harg5 : arg5.IsWhole) (arg15 : Memref sig .tc .vmem S4096x128 .bf16) (arg16 : Memref sig .tc .vmem S4096x128 .f32) (arg18 : Memref sig .tc .vmem S4x512x512 .f32) (arg19 : Memref sig .tc .vmem S4x512x128 .f32) (x0 : Vec F S4096x128 .bf16) (x1 : Vec F S4096x128 .bf16) (x2 : Vec F S4096x128 .bf16) (x3 : Vec F S4096x128 .bf16) : run.sl.v786 (F := F) c i arg2 harg2 arg3 harg3 arg4 harg4 arg5 harg5 arg15 arg16 arg18 arg19 x0 x1 x2 x3 = shapeCast S1x512x128 (M i x0 x1 x2 x3 6 0) shapeCasts_S512x128_S1x512x128 := by
  rw [run.sl.v786, run.sl.H19_16, View.readCov_cons_toLoadRect, p_v769]

theorem p_v800 (c : Dev nD) (i : grid1.Coords) (arg2 : Memref sig .tc .vmem S4096x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S4096x128 .bf16) (harg5 : arg5.IsWhole) (arg6 : Memref sig .tc .vmem S4096x128 .bf16) (harg6 : arg6.IsWhole) (arg15 : Memref sig .tc .vmem S4096x128 .bf16) (arg16 : Memref sig .tc .vmem S4096x128 .f32) (arg18 : Memref sig .tc .vmem S4x512x512 .f32) (arg19 : Memref sig .tc .vmem S4x512x128 .f32) (x0 : Vec F S4096x128 .bf16) (x1 : Vec F S4096x128 .bf16) (x2 : Vec F S4096x128 .bf16) (x3 : Vec F S4096x128 .bf16) (x4 : Vec F S4096x128 .bf16) : run.sl.v800 (F := F) c i arg2 harg2 arg3 harg3 arg4 harg4 arg5 harg5 arg6 harg6 arg15 arg16 arg18 arg19 x0 x1 x2 x3 x4 = acc i x0 x1 x2 x3 x4 6 0 :=
  t_AC0 harg6 i x0 x1 x2 x3 x4 6 (r_v788 c i arg2 harg2 arg3 harg3 arg4 harg4 arg5 harg5 arg15 arg18 x0 x1 x2 x3) (r_v786 c i arg2 harg2 arg3 harg3 arg4 harg4 arg5 harg5 arg15 arg16 arg18 arg19 x0 x1 x2 x3)

theorem r_v846 (c : Dev nD) (i : grid1.Coords) (arg2 : Memref sig .tc .vmem S4096x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S4096x128 .bf16) (harg5 : arg5.IsWhole) (arg6 : Memref sig .tc .vmem S4096x128 .bf16) (harg6 : arg6.IsWhole) (arg15 : Memref sig .tc .vmem S4096x128 .bf16) (arg16 : Memref sig .tc .vmem S4096x128 .f32) (arg17 : Memref sig .tc .vmem S4096x256 .f32) (arg18 : Memref sig .tc .vmem S4x512x512 .f32) (arg19 : Memref sig .tc .vmem S4x512x128 .f32) (arg20 : Memref sig .tc .vmem S4x512x128 .f32) (x0 : Vec F S4096x128 .bf16) (x1 : Vec F S4096x128 .bf16) (x2 : Vec F S4096x128 .bf16) (x3 : Vec F S4096x128 .bf16) (x4 : Vec F S4096x128 .bf16) : run.sl.v846 (F := F) c i arg2 harg2 arg3 harg3 arg4 harg4 arg5 harg5 arg6 harg6 arg15 arg16 arg17 arg18 arg19 arg20 x0 x1 x2 x3 x4 = acc i x0 x1 x2 x3 x4 6 0 := by
  rw [run.sl.v846, run.sl.H17_16, View.readCov_cons_toLoadRect, p_v800]

theorem p_v772 (c : Dev nD) (i : grid1.Coords) (arg2 : Memref sig .tc .vmem S4096x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S4096x128 .bf16) (harg5 : arg5.IsWhole) (arg15 : Memref sig .tc .vmem S4096x128 .bf16) (arg18 : Memref sig .tc .vmem S4x512x512 .f32) (x0 : Vec F S4096x128 .bf16) (x1 : Vec F S4096x128 .bf16) (x2 : Vec F S4096x128 .bf16) (x3 : Vec F S4096x128 .bf16) : run.sl.v772 (F := F) c i arg2 harg2 arg3 harg3 arg4 harg4 arg5 harg5 arg15 arg18 x0 x1 x2 x3 = M i x0 x1 x2 x3 6 0 :=
  t_MM0 i x0 x1 x2 x3 6 (r_v761 c i arg2 harg2 arg3 harg3 arg4 harg4 arg5 harg5 arg15 arg18 x0 x1 x2 x3)

theorem r_v805 (c : Dev nD) (i : grid1.Coords) (arg2 : Memref sig .tc .vmem S4096x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S4096x128 .bf16) (harg5 : arg5.IsWhole) (arg15 : Memref sig .tc .vmem S4096x128 .bf16) (arg16 : Memref sig .tc .vmem S4096x128 .f32) (arg18 : Memref sig .tc .vmem S4x512x512 .f32) (x0 : Vec F S4096x128 .bf16) (x1 : Vec F S4096x128 .bf16) (x2 : Vec F S4096x128 .bf16) (x3 : Vec F S4096x128 .bf16) : run.sl.v805 (F := F) c i arg2 harg2 arg3 harg3 arg4 harg4 arg5 harg5 arg15 arg16 arg18 x0 x1 x2 x3 = M i x0 x1 x2 x3 6 0 := by
  rw [run.sl.v805, run.sl.H16_16, View.readCov_cons_toLoadRect, p_v772]

theorem p_v785 (c : Dev nD) (i : grid1.Coords) (arg2 : Memref sig .tc .vmem S4096x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S4096x128 .bf16) (harg5 : arg5.IsWhole) (arg15 : Memref sig .tc .vmem S4096x128 .bf16) (x0 : Vec F S4096x128 .bf16) (x1 : Vec F S4096x128 .bf16) (x2 : Vec F S4096x128 .bf16) (x3 : Vec F S4096x128 .bf16) : run.sl.v785 (F := F) c i arg2 harg2 arg3 harg3 arg4 harg4 arg5 harg5 arg15 x0 x1 x2 x3 = shapeCast S1x512x512 (S i x0 x1 x2 x3 6 1) shapeCasts_S512x512_S1x512x512 :=
  t_off harg2 harg4 harg5 i x0 x1 x2 x3 6 1 (by decide) (r_v729 c i arg3 harg3 arg15 x1)

theorem r_v801 (c : Dev nD) (i : grid1.Coords) (arg2 : Memref sig .tc .vmem S4096x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S4096x128 .bf16) (harg5 : arg5.IsWhole) (arg15 : Memref sig .tc .vmem S4096x128 .bf16) (arg18 : Memref sig .tc .vmem S4x512x512 .f32) (x0 : Vec F S4096x128 .bf16) (x1 : Vec F S4096x128 .bf16) (x2 : Vec F S4096x128 .bf16) (x3 : Vec F S4096x128 .bf16) : run.sl.v801 (F := F) c i arg2 harg2 arg3 harg3 arg4 harg4 arg5 harg5 arg15 arg18 x0 x1 x2 x3 = shapeCast S1x512x512 (S i x0 x1 x2 x3 6 1) shapeCasts_S512x512_S1x512x512 := by
  rw [run.sl.v801, run.sl.H18_17, View.readCov_cons_toLoadRect, p_v785]

theorem p_v812 (c : Dev nD) (i : grid1.Coords) (arg2 : Memref sig .tc .vmem S4096x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S4096x128 .bf16) (harg5 : arg5.IsWhole) (arg15 : Memref sig .tc .vmem S4096x128 .bf16) (arg16 : Memref sig .tc .vmem S4096x128 .f32) (arg18 : Memref sig .tc .vmem S4x512x512 .f32) (x0 : Vec F S4096x128 .bf16) (x1 : Vec F S4096x128 .bf16) (x2 : Vec F S4096x128 .bf16) (x3 : Vec F S4096x128 .bf16) : run.sl.v812 (F := F) c i arg2 harg2 arg3 harg3 arg4 harg4 arg5 harg5 arg15 arg16 arg18 x0 x1 x2 x3 = shapeCast S1x512x128 (alpha i x0 x1 x2 x3 6 0) shapeCasts_S512x128_S1x512x128 :=
  t_A i x0 x1 x2 x3 6 0 (r_v805 c i arg2 harg2 arg3 harg3 arg4 harg4 arg5 harg5 arg15 arg16 arg18 x0 x1 x2 x3) (r_v801 c i arg2 harg2 arg3 harg3 arg4 harg4 arg5 harg5 arg15 arg18 x0 x1 x2 x3)

theorem r_v844 (c : Dev nD) (i : grid1.Coords) (arg2 : Memref sig .tc .vmem S4096x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S4096x128 .bf16) (harg5 : arg5.IsWhole) (arg15 : Memref sig .tc .vmem S4096x128 .bf16) (arg16 : Memref sig .tc .vmem S4096x128 .f32) (arg18 : Memref sig .tc .vmem S4x512x512 .f32) (arg20 : Memref sig .tc .vmem S4x512x128 .f32) (x0 : Vec F S4096x128 .bf16) (x1 : Vec F S4096x128 .bf16) (x2 : Vec F S4096x128 .bf16) (x3 : Vec F S4096x128 .bf16) : run.sl.v844 (F := F) c i arg2 harg2 arg3 harg3 arg4 harg4 arg5 harg5 arg15 arg16 arg18 arg20 x0 x1 x2 x3 = shapeCast S1x512x128 (alpha i x0 x1 x2 x3 6 0) shapeCasts_S512x128_S1x512x128 := by
  rw [run.sl.v844, run.sl.H20_11, View.readCov_cons_toLoadRect, p_v812]

theorem r_v834 (c : Dev nD) (i : grid1.Coords) (arg2 : Memref sig .tc .vmem S4096x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S4096x128 .bf16) (harg5 : arg5.IsWhole) (arg15 : Memref sig .tc .vmem S4096x128 .bf16) (arg18 : Memref sig .tc .vmem S4x512x512 .f32) (x0 : Vec F S4096x128 .bf16) (x1 : Vec F S4096x128 .bf16) (x2 : Vec F S4096x128 .bf16) (x3 : Vec F S4096x128 .bf16) : run.sl.v834 (F := F) c i arg2 harg2 arg3 harg3 arg4 harg4 arg5 harg5 arg15 arg18 x0 x1 x2 x3 = shapeCast S1x512x512 (S i x0 x1 x2 x3 6 1) shapeCasts_S512x512_S1x512x512 := by
  rw [run.sl.v834, run.sl.H18_18, View.readCov_skip _ _ _ _ _ (by decide), run.sl.H18_17, View.readCov_cons_toLoadRect, p_v785]

theorem p_v815 (c : Dev nD) (i : grid1.Coords) (arg2 : Memref sig .tc .vmem S4096x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S4096x128 .bf16) (harg5 : arg5.IsWhole) (arg15 : Memref sig .tc .vmem S4096x128 .bf16) (arg16 : Memref sig .tc .vmem S4096x128 .f32) (arg18 : Memref sig .tc .vmem S4x512x512 .f32) (x0 : Vec F S4096x128 .bf16) (x1 : Vec F S4096x128 .bf16) (x2 : Vec F S4096x128 .bf16) (x3 : Vec F S4096x128 .bf16) : run.sl.v815 (F := F) c i arg2 harg2 arg3 harg3 arg4 harg4 arg5 harg5 arg15 arg16 arg18 x0 x1 x2 x3 = shapeCast S1x512x128 (M i x0 x1 x2 x3 6 1) shapeCasts_S512x128_S1x512x128 :=
  t_MNn i x0 x1 x2 x3 6 0 (r_v805 c i arg2 harg2 arg3 harg3 arg4 harg4 arg5 harg5 arg15 arg16 arg18 x0 x1 x2 x3) (r_v801 c i arg2 harg2 arg3 harg3 arg4 harg4 arg5 harg5 arg15 arg18 x0 x1 x2 x3)

theorem r_v832 (c : Dev nD) (i : grid1.Coords) (arg2 : Memref sig .tc .vmem S4096x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S4096x128 .bf16) (harg5 : arg5.IsWhole) (arg15 : Memref sig .tc .vmem S4096x128 .bf16) (arg16 : Memref sig .tc .vmem S4096x128 .f32) (arg18 : Memref sig .tc .vmem S4x512x512 .f32) (arg19 : Memref sig .tc .vmem S4x512x128 .f32) (x0 : Vec F S4096x128 .bf16) (x1 : Vec F S4096x128 .bf16) (x2 : Vec F S4096x128 .bf16) (x3 : Vec F S4096x128 .bf16) : run.sl.v832 (F := F) c i arg2 harg2 arg3 harg3 arg4 harg4 arg5 harg5 arg15 arg16 arg18 arg19 x0 x1 x2 x3 = shapeCast S1x512x128 (M i x0 x1 x2 x3 6 1) shapeCasts_S512x128_S1x512x128 := by
  rw [run.sl.v832, run.sl.H19_17, View.readCov_cons_toLoadRect, p_v815]

theorem p_v852 (c : Dev nD) (i : grid1.Coords) (arg2 : Memref sig .tc .vmem S4096x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S4096x128 .bf16) (harg5 : arg5.IsWhole) (arg6 : Memref sig .tc .vmem S4096x128 .bf16) (harg6 : arg6.IsWhole) (arg15 : Memref sig .tc .vmem S4096x128 .bf16) (arg16 : Memref sig .tc .vmem S4096x128 .f32) (arg17 : Memref sig .tc .vmem S4096x256 .f32) (arg18 : Memref sig .tc .vmem S4x512x512 .f32) (arg19 : Memref sig .tc .vmem S4x512x128 .f32) (arg20 : Memref sig .tc .vmem S4x512x128 .f32) (x0 : Vec F S4096x128 .bf16) (x1 : Vec F S4096x128 .bf16) (x2 : Vec F S4096x128 .bf16) (x3 : Vec F S4096x128 .bf16) (x4 : Vec F S4096x128 .bf16) : run.sl.v852 (F := F) c i arg2 harg2 arg3 harg3 arg4 harg4 arg5 harg5 arg6 harg6 arg15 arg16 arg17 arg18 arg19 arg20 x0 x1 x2 x3 x4 = acc i x0 x1 x2 x3 x4 6 1 :=
  t_ACn harg6 i x0 x1 x2 x3 x4 6 0 (r_v834 c i arg2 harg2 arg3 harg3 arg4 harg4 arg5 harg5 arg15 arg18 x0 x1 x2 x3) (r_v832 c i arg2 harg2 arg3 harg3 arg4 harg4 arg5 harg5 arg15 arg16 arg18 arg19 x0 x1 x2 x3) (r_v844 c i arg2 harg2 arg3 harg3 arg4 harg4 arg5 harg5 arg15 arg16 arg18 arg20 x0 x1 x2 x3) (r_v846 c i arg2 harg2 arg3 harg3 arg4 harg4 arg5 harg5 arg6 harg6 arg15 arg16 arg17 arg18 arg19 arg20 x0 x1 x2 x3 x4)

theorem r_v898 (c : Dev nD) (i : grid1.Coords) (arg2 : Memref sig .tc .vmem S4096x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S4096x128 .bf16) (harg5 : arg5.IsWhole) (arg6 : Memref sig .tc .vmem S4096x128 .bf16) (harg6 : arg6.IsWhole) (arg15 : Memref sig .tc .vmem S4096x128 .bf16) (arg16 : Memref sig .tc .vmem S4096x128 .f32) (arg17 : Memref sig .tc .vmem S4096x256 .f32) (arg18 : Memref sig .tc .vmem S4x512x512 .f32) (arg19 : Memref sig .tc .vmem S4x512x128 .f32) (arg20 : Memref sig .tc .vmem S4x512x128 .f32) (x0 : Vec F S4096x128 .bf16) (x1 : Vec F S4096x128 .bf16) (x2 : Vec F S4096x128 .bf16) (x3 : Vec F S4096x128 .bf16) (x4 : Vec F S4096x128 .bf16) : run.sl.v898 (F := F) c i arg2 harg2 arg3 harg3 arg4 harg4 arg5 harg5 arg6 harg6 arg15 arg16 arg17 arg18 arg19 arg20 x0 x1 x2 x3 x4 = acc i x0 x1 x2 x3 x4 6 1 := by
  rw [run.sl.v898, run.sl.H17_17, View.readCov_cons_toLoadRect, p_v852]

theorem p_v818 (c : Dev nD) (i : grid1.Coords) (arg2 : Memref sig .tc .vmem S4096x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S4096x128 .bf16) (harg5 : arg5.IsWhole) (arg15 : Memref sig .tc .vmem S4096x128 .bf16) (arg16 : Memref sig .tc .vmem S4096x128 .f32) (arg18 : Memref sig .tc .vmem S4x512x512 .f32) (x0 : Vec F S4096x128 .bf16) (x1 : Vec F S4096x128 .bf16) (x2 : Vec F S4096x128 .bf16) (x3 : Vec F S4096x128 .bf16) : run.sl.v818 (F := F) c i arg2 harg2 arg3 harg3 arg4 harg4 arg5 harg5 arg15 arg16 arg18 x0 x1 x2 x3 = M i x0 x1 x2 x3 6 1 :=
  t_MMn i x0 x1 x2 x3 6 0 (r_v805 c i arg2 harg2 arg3 harg3 arg4 harg4 arg5 harg5 arg15 arg16 arg18 x0 x1 x2 x3) (r_v801 c i arg2 harg2 arg3 harg3 arg4 harg4 arg5 harg5 arg15 arg18 x0 x1 x2 x3)

theorem r_v857 (c : Dev nD) (i : grid1.Coords) (arg2 : Memref sig .tc .vmem S4096x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S4096x128 .bf16) (harg5 : arg5.IsWhole) (arg15 : Memref sig .tc .vmem S4096x128 .bf16) (arg16 : Memref sig .tc .vmem S4096x128 .f32) (arg18 : Memref sig .tc .vmem S4x512x512 .f32) (x0 : Vec F S4096x128 .bf16) (x1 : Vec F S4096x128 .bf16) (x2 : Vec F S4096x128 .bf16) (x3 : Vec F S4096x128 .bf16) : run.sl.v857 (F := F) c i arg2 harg2 arg3 harg3 arg4 harg4 arg5 harg5 arg15 arg16 arg18 x0 x1 x2 x3 = M i x0 x1 x2 x3 6 1 := by
  rw [run.sl.v857, run.sl.H16_17, View.readCov_cons_toLoadRect, p_v818]

theorem p_v831 (c : Dev nD) (i : grid1.Coords) (arg2 : Memref sig .tc .vmem S4096x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S4096x128 .bf16) (harg5 : arg5.IsWhole) (arg15 : Memref sig .tc .vmem S4096x128 .bf16) (x0 : Vec F S4096x128 .bf16) (x1 : Vec F S4096x128 .bf16) (x2 : Vec F S4096x128 .bf16) (x3 : Vec F S4096x128 .bf16) : run.sl.v831 (F := F) c i arg2 harg2 arg3 harg3 arg4 harg4 arg5 harg5 arg15 x0 x1 x2 x3 = shapeCast S1x512x512 (S i x0 x1 x2 x3 6 2) shapeCasts_S512x512_S1x512x512 :=
  t_off harg2 harg4 harg5 i x0 x1 x2 x3 6 2 (by decide) (r_v729 c i arg3 harg3 arg15 x1)

theorem r_v853 (c : Dev nD) (i : grid1.Coords) (arg2 : Memref sig .tc .vmem S4096x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S4096x128 .bf16) (harg5 : arg5.IsWhole) (arg15 : Memref sig .tc .vmem S4096x128 .bf16) (arg18 : Memref sig .tc .vmem S4x512x512 .f32) (x0 : Vec F S4096x128 .bf16) (x1 : Vec F S4096x128 .bf16) (x2 : Vec F S4096x128 .bf16) (x3 : Vec F S4096x128 .bf16) : run.sl.v853 (F := F) c i arg2 harg2 arg3 harg3 arg4 harg4 arg5 harg5 arg15 arg18 x0 x1 x2 x3 = shapeCast S1x512x512 (S i x0 x1 x2 x3 6 2) shapeCasts_S512x512_S1x512x512 := by
  rw [run.sl.v853, run.sl.H18_18, View.readCov_cons_toLoadRect, p_v831]

theorem p_v864 (c : Dev nD) (i : grid1.Coords) (arg2 : Memref sig .tc .vmem S4096x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S4096x128 .bf16) (harg5 : arg5.IsWhole) (arg15 : Memref sig .tc .vmem S4096x128 .bf16) (arg16 : Memref sig .tc .vmem S4096x128 .f32) (arg18 : Memref sig .tc .vmem S4x512x512 .f32) (x0 : Vec F S4096x128 .bf16) (x1 : Vec F S4096x128 .bf16) (x2 : Vec F S4096x128 .bf16) (x3 : Vec F S4096x128 .bf16) : run.sl.v864 (F := F) c i arg2 harg2 arg3 harg3 arg4 harg4 arg5 harg5 arg15 arg16 arg18 x0 x1 x2 x3 = shapeCast S1x512x128 (alpha i x0 x1 x2 x3 6 1) shapeCasts_S512x128_S1x512x128 :=
  t_A i x0 x1 x2 x3 6 1 (r_v857 c i arg2 harg2 arg3 harg3 arg4 harg4 arg5 harg5 arg15 arg16 arg18 x0 x1 x2 x3) (r_v853 c i arg2 harg2 arg3 harg3 arg4 harg4 arg5 harg5 arg15 arg18 x0 x1 x2 x3)

theorem r_v896 (c : Dev nD) (i : grid1.Coords) (arg2 : Memref sig .tc .vmem S4096x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S4096x128 .bf16) (harg5 : arg5.IsWhole) (arg15 : Memref sig .tc .vmem S4096x128 .bf16) (arg16 : Memref sig .tc .vmem S4096x128 .f32) (arg18 : Memref sig .tc .vmem S4x512x512 .f32) (arg20 : Memref sig .tc .vmem S4x512x128 .f32) (x0 : Vec F S4096x128 .bf16) (x1 : Vec F S4096x128 .bf16) (x2 : Vec F S4096x128 .bf16) (x3 : Vec F S4096x128 .bf16) : run.sl.v896 (F := F) c i arg2 harg2 arg3 harg3 arg4 harg4 arg5 harg5 arg15 arg16 arg18 arg20 x0 x1 x2 x3 = shapeCast S1x512x128 (alpha i x0 x1 x2 x3 6 1) shapeCasts_S512x128_S1x512x128 := by
  rw [run.sl.v896, run.sl.H20_12, View.readCov_cons_toLoadRect, p_v864]

theorem r_v886 (c : Dev nD) (i : grid1.Coords) (arg2 : Memref sig .tc .vmem S4096x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S4096x128 .bf16) (harg5 : arg5.IsWhole) (arg15 : Memref sig .tc .vmem S4096x128 .bf16) (arg18 : Memref sig .tc .vmem S4x512x512 .f32) (x0 : Vec F S4096x128 .bf16) (x1 : Vec F S4096x128 .bf16) (x2 : Vec F S4096x128 .bf16) (x3 : Vec F S4096x128 .bf16) : run.sl.v886 (F := F) c i arg2 harg2 arg3 harg3 arg4 harg4 arg5 harg5 arg15 arg18 x0 x1 x2 x3 = shapeCast S1x512x512 (S i x0 x1 x2 x3 6 2) shapeCasts_S512x512_S1x512x512 := by
  rw [run.sl.v886, run.sl.H18_19, View.readCov_skip _ _ _ _ _ (by decide), run.sl.H18_18, View.readCov_cons_toLoadRect, p_v831]

theorem p_v867 (c : Dev nD) (i : grid1.Coords) (arg2 : Memref sig .tc .vmem S4096x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S4096x128 .bf16) (harg5 : arg5.IsWhole) (arg15 : Memref sig .tc .vmem S4096x128 .bf16) (arg16 : Memref sig .tc .vmem S4096x128 .f32) (arg18 : Memref sig .tc .vmem S4x512x512 .f32) (x0 : Vec F S4096x128 .bf16) (x1 : Vec F S4096x128 .bf16) (x2 : Vec F S4096x128 .bf16) (x3 : Vec F S4096x128 .bf16) : run.sl.v867 (F := F) c i arg2 harg2 arg3 harg3 arg4 harg4 arg5 harg5 arg15 arg16 arg18 x0 x1 x2 x3 = shapeCast S1x512x128 (M i x0 x1 x2 x3 6 2) shapeCasts_S512x128_S1x512x128 :=
  t_MNn i x0 x1 x2 x3 6 1 (r_v857 c i arg2 harg2 arg3 harg3 arg4 harg4 arg5 harg5 arg15 arg16 arg18 x0 x1 x2 x3) (r_v853 c i arg2 harg2 arg3 harg3 arg4 harg4 arg5 harg5 arg15 arg18 x0 x1 x2 x3)

theorem r_v884 (c : Dev nD) (i : grid1.Coords) (arg2 : Memref sig .tc .vmem S4096x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S4096x128 .bf16) (harg5 : arg5.IsWhole) (arg15 : Memref sig .tc .vmem S4096x128 .bf16) (arg16 : Memref sig .tc .vmem S4096x128 .f32) (arg18 : Memref sig .tc .vmem S4x512x512 .f32) (arg19 : Memref sig .tc .vmem S4x512x128 .f32) (x0 : Vec F S4096x128 .bf16) (x1 : Vec F S4096x128 .bf16) (x2 : Vec F S4096x128 .bf16) (x3 : Vec F S4096x128 .bf16) : run.sl.v884 (F := F) c i arg2 harg2 arg3 harg3 arg4 harg4 arg5 harg5 arg15 arg16 arg18 arg19 x0 x1 x2 x3 = shapeCast S1x512x128 (M i x0 x1 x2 x3 6 2) shapeCasts_S512x128_S1x512x128 := by
  rw [run.sl.v884, run.sl.H19_18, View.readCov_cons_toLoadRect, p_v867]

theorem p_v904 (c : Dev nD) (i : grid1.Coords) (arg2 : Memref sig .tc .vmem S4096x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S4096x128 .bf16) (harg5 : arg5.IsWhole) (arg6 : Memref sig .tc .vmem S4096x128 .bf16) (harg6 : arg6.IsWhole) (arg15 : Memref sig .tc .vmem S4096x128 .bf16) (arg16 : Memref sig .tc .vmem S4096x128 .f32) (arg17 : Memref sig .tc .vmem S4096x256 .f32) (arg18 : Memref sig .tc .vmem S4x512x512 .f32) (arg19 : Memref sig .tc .vmem S4x512x128 .f32) (arg20 : Memref sig .tc .vmem S4x512x128 .f32) (x0 : Vec F S4096x128 .bf16) (x1 : Vec F S4096x128 .bf16) (x2 : Vec F S4096x128 .bf16) (x3 : Vec F S4096x128 .bf16) (x4 : Vec F S4096x128 .bf16) : run.sl.v904 (F := F) c i arg2 harg2 arg3 harg3 arg4 harg4 arg5 harg5 arg6 harg6 arg15 arg16 arg17 arg18 arg19 arg20 x0 x1 x2 x3 x4 = acc i x0 x1 x2 x3 x4 6 2 :=
  t_ACn harg6 i x0 x1 x2 x3 x4 6 1 (r_v886 c i arg2 harg2 arg3 harg3 arg4 harg4 arg5 harg5 arg15 arg18 x0 x1 x2 x3) (r_v884 c i arg2 harg2 arg3 harg3 arg4 harg4 arg5 harg5 arg15 arg16 arg18 arg19 x0 x1 x2 x3) (r_v896 c i arg2 harg2 arg3 harg3 arg4 harg4 arg5 harg5 arg15 arg16 arg18 arg20 x0 x1 x2 x3) (r_v898 c i arg2 harg2 arg3 harg3 arg4 harg4 arg5 harg5 arg6 harg6 arg15 arg16 arg17 arg18 arg19 arg20 x0 x1 x2 x3 x4)

theorem r_v950 (c : Dev nD) (i : grid1.Coords) (arg2 : Memref sig .tc .vmem S4096x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S4096x128 .bf16) (harg5 : arg5.IsWhole) (arg6 : Memref sig .tc .vmem S4096x128 .bf16) (harg6 : arg6.IsWhole) (arg15 : Memref sig .tc .vmem S4096x128 .bf16) (arg16 : Memref sig .tc .vmem S4096x128 .f32) (arg17 : Memref sig .tc .vmem S4096x256 .f32) (arg18 : Memref sig .tc .vmem S4x512x512 .f32) (arg19 : Memref sig .tc .vmem S4x512x128 .f32) (arg20 : Memref sig .tc .vmem S4x512x128 .f32) (x0 : Vec F S4096x128 .bf16) (x1 : Vec F S4096x128 .bf16) (x2 : Vec F S4096x128 .bf16) (x3 : Vec F S4096x128 .bf16) (x4 : Vec F S4096x128 .bf16) : run.sl.v950 (F := F) c i arg2 harg2 arg3 harg3 arg4 harg4 arg5 harg5 arg6 harg6 arg15 arg16 arg17 arg18 arg19 arg20 x0 x1 x2 x3 x4 = acc i x0 x1 x2 x3 x4 6 2 := by
  rw [run.sl.v950, run.sl.H17_18, View.readCov_cons_toLoadRect, p_v904]

theorem p_v870 (c : Dev nD) (i : grid1.Coords) (arg2 : Memref sig .tc .vmem S4096x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S4096x128 .bf16) (harg5 : arg5.IsWhole) (arg15 : Memref sig .tc .vmem S4096x128 .bf16) (arg16 : Memref sig .tc .vmem S4096x128 .f32) (arg18 : Memref sig .tc .vmem S4x512x512 .f32) (x0 : Vec F S4096x128 .bf16) (x1 : Vec F S4096x128 .bf16) (x2 : Vec F S4096x128 .bf16) (x3 : Vec F S4096x128 .bf16) : run.sl.v870 (F := F) c i arg2 harg2 arg3 harg3 arg4 harg4 arg5 harg5 arg15 arg16 arg18 x0 x1 x2 x3 = M i x0 x1 x2 x3 6 2 :=
  t_MMn i x0 x1 x2 x3 6 1 (r_v857 c i arg2 harg2 arg3 harg3 arg4 harg4 arg5 harg5 arg15 arg16 arg18 x0 x1 x2 x3) (r_v853 c i arg2 harg2 arg3 harg3 arg4 harg4 arg5 harg5 arg15 arg18 x0 x1 x2 x3)

theorem r_v909 (c : Dev nD) (i : grid1.Coords) (arg2 : Memref sig .tc .vmem S4096x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S4096x128 .bf16) (harg5 : arg5.IsWhole) (arg15 : Memref sig .tc .vmem S4096x128 .bf16) (arg16 : Memref sig .tc .vmem S4096x128 .f32) (arg18 : Memref sig .tc .vmem S4x512x512 .f32) (x0 : Vec F S4096x128 .bf16) (x1 : Vec F S4096x128 .bf16) (x2 : Vec F S4096x128 .bf16) (x3 : Vec F S4096x128 .bf16) : run.sl.v909 (F := F) c i arg2 harg2 arg3 harg3 arg4 harg4 arg5 harg5 arg15 arg16 arg18 x0 x1 x2 x3 = M i x0 x1 x2 x3 6 2 := by
  rw [run.sl.v909, run.sl.H16_18, View.readCov_cons_toLoadRect, p_v870]

theorem p_v883 (c : Dev nD) (i : grid1.Coords) (arg2 : Memref sig .tc .vmem S4096x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S4096x128 .bf16) (harg5 : arg5.IsWhole) (arg15 : Memref sig .tc .vmem S4096x128 .bf16) (x0 : Vec F S4096x128 .bf16) (x1 : Vec F S4096x128 .bf16) (x2 : Vec F S4096x128 .bf16) (x3 : Vec F S4096x128 .bf16) : run.sl.v883 (F := F) c i arg2 harg2 arg3 harg3 arg4 harg4 arg5 harg5 arg15 x0 x1 x2 x3 = shapeCast S1x512x512 (S i x0 x1 x2 x3 6 3) shapeCasts_S512x512_S1x512x512 :=
  t_off harg2 harg4 harg5 i x0 x1 x2 x3 6 3 (by decide) (r_v729 c i arg3 harg3 arg15 x1)

theorem r_v905 (c : Dev nD) (i : grid1.Coords) (arg2 : Memref sig .tc .vmem S4096x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S4096x128 .bf16) (harg5 : arg5.IsWhole) (arg15 : Memref sig .tc .vmem S4096x128 .bf16) (arg18 : Memref sig .tc .vmem S4x512x512 .f32) (x0 : Vec F S4096x128 .bf16) (x1 : Vec F S4096x128 .bf16) (x2 : Vec F S4096x128 .bf16) (x3 : Vec F S4096x128 .bf16) : run.sl.v905 (F := F) c i arg2 harg2 arg3 harg3 arg4 harg4 arg5 harg5 arg15 arg18 x0 x1 x2 x3 = shapeCast S1x512x512 (S i x0 x1 x2 x3 6 3) shapeCasts_S512x512_S1x512x512 := by
  rw [run.sl.v905, run.sl.H18_19, View.readCov_cons_toLoadRect, p_v883]

theorem p_v916 (c : Dev nD) (i : grid1.Coords) (arg2 : Memref sig .tc .vmem S4096x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S4096x128 .bf16) (harg5 : arg5.IsWhole) (arg15 : Memref sig .tc .vmem S4096x128 .bf16) (arg16 : Memref sig .tc .vmem S4096x128 .f32) (arg18 : Memref sig .tc .vmem S4x512x512 .f32) (x0 : Vec F S4096x128 .bf16) (x1 : Vec F S4096x128 .bf16) (x2 : Vec F S4096x128 .bf16) (x3 : Vec F S4096x128 .bf16) : run.sl.v916 (F := F) c i arg2 harg2 arg3 harg3 arg4 harg4 arg5 harg5 arg15 arg16 arg18 x0 x1 x2 x3 = shapeCast S1x512x128 (alpha i x0 x1 x2 x3 6 2) shapeCasts_S512x128_S1x512x128 :=
  t_A i x0 x1 x2 x3 6 2 (r_v909 c i arg2 harg2 arg3 harg3 arg4 harg4 arg5 harg5 arg15 arg16 arg18 x0 x1 x2 x3) (r_v905 c i arg2 harg2 arg3 harg3 arg4 harg4 arg5 harg5 arg15 arg18 x0 x1 x2 x3)

theorem r_v948 (c : Dev nD) (i : grid1.Coords) (arg2 : Memref sig .tc .vmem S4096x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S4096x128 .bf16) (harg5 : arg5.IsWhole) (arg15 : Memref sig .tc .vmem S4096x128 .bf16) (arg16 : Memref sig .tc .vmem S4096x128 .f32) (arg18 : Memref sig .tc .vmem S4x512x512 .f32) (arg20 : Memref sig .tc .vmem S4x512x128 .f32) (x0 : Vec F S4096x128 .bf16) (x1 : Vec F S4096x128 .bf16) (x2 : Vec F S4096x128 .bf16) (x3 : Vec F S4096x128 .bf16) : run.sl.v948 (F := F) c i arg2 harg2 arg3 harg3 arg4 harg4 arg5 harg5 arg15 arg16 arg18 arg20 x0 x1 x2 x3 = shapeCast S1x512x128 (alpha i x0 x1 x2 x3 6 2) shapeCasts_S512x128_S1x512x128 := by
  rw [run.sl.v948, run.sl.H20_13, View.readCov_cons_toLoadRect, p_v916]

end Cert.KernelIdeal.Attn
-- ==== Proof.AttnRead3.lean ====
/- What each stored vector of the attention kernel is, in the stages (part 3). -/
module

public import proofs.«01_k».proof.Proof.AttnRead2

@[expose] public section

set_option maxRecDepth 16384

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F] [Named F]

theorem r_v938 (c : Dev nD) (i : grid1.Coords) (arg2 : Memref sig .tc .vmem S4096x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S4096x128 .bf16) (harg5 : arg5.IsWhole) (arg15 : Memref sig .tc .vmem S4096x128 .bf16) (arg18 : Memref sig .tc .vmem S4x512x512 .f32) (x0 : Vec F S4096x128 .bf16) (x1 : Vec F S4096x128 .bf16) (x2 : Vec F S4096x128 .bf16) (x3 : Vec F S4096x128 .bf16) : run.sl.v938 (F := F) c i arg2 harg2 arg3 harg3 arg4 harg4 arg5 harg5 arg15 arg18 x0 x1 x2 x3 = shapeCast S1x512x512 (S i x0 x1 x2 x3 6 3) shapeCasts_S512x512_S1x512x512 := by
  rw [run.sl.v938, run.sl.H18_20, View.readCov_skip _ _ _ _ _ (by decide), run.sl.H18_19, View.readCov_cons_toLoadRect, p_v883]

theorem p_v919 (c : Dev nD) (i : grid1.Coords) (arg2 : Memref sig .tc .vmem S4096x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S4096x128 .bf16) (harg5 : arg5.IsWhole) (arg15 : Memref sig .tc .vmem S4096x128 .bf16) (arg16 : Memref sig .tc .vmem S4096x128 .f32) (arg18 : Memref sig .tc .vmem S4x512x512 .f32) (x0 : Vec F S4096x128 .bf16) (x1 : Vec F S4096x128 .bf16) (x2 : Vec F S4096x128 .bf16) (x3 : Vec F S4096x128 .bf16) : run.sl.v919 (F := F) c i arg2 harg2 arg3 harg3 arg4 harg4 arg5 harg5 arg15 arg16 arg18 x0 x1 x2 x3 = shapeCast S1x512x128 (M i x0 x1 x2 x3 6 3) shapeCasts_S512x128_S1x512x128 :=
  t_MNn i x0 x1 x2 x3 6 2 (r_v909 c i arg2 harg2 arg3 harg3 arg4 harg4 arg5 harg5 arg15 arg16 arg18 x0 x1 x2 x3) (r_v905 c i arg2 harg2 arg3 harg3 arg4 harg4 arg5 harg5 arg15 arg18 x0 x1 x2 x3)

theorem r_v936 (c : Dev nD) (i : grid1.Coords) (arg2 : Memref sig .tc .vmem S4096x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S4096x128 .bf16) (harg5 : arg5.IsWhole) (arg15 : Memref sig .tc .vmem S4096x128 .bf16) (arg16 : Memref sig .tc .vmem S4096x128 .f32) (arg18 : Memref sig .tc .vmem S4x512x512 .f32) (arg19 : Memref sig .tc .vmem S4x512x128 .f32) (x0 : Vec F S4096x128 .bf16) (x1 : Vec F S4096x128 .bf16) (x2 : Vec F S4096x128 .bf16) (x3 : Vec F S4096x128 .bf16) : run.sl.v936 (F := F) c i arg2 harg2 arg3 harg3 arg4 harg4 arg5 harg5 arg15 arg16 arg18 arg19 x0 x1 x2 x3 = shapeCast S1x512x128 (M i x0 x1 x2 x3 6 3) shapeCasts_S512x128_S1x512x128 := by
  rw [run.sl.v936, run.sl.H19_19, View.readCov_cons_toLoadRect, p_v919]

theorem p_v956 (c : Dev nD) (i : grid1.Coords) (arg2 : Memref sig .tc .vmem S4096x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S4096x128 .bf16) (harg5 : arg5.IsWhole) (arg6 : Memref sig .tc .vmem S4096x128 .bf16) (harg6 : arg6.IsWhole) (arg15 : Memref sig .tc .vmem S4096x128 .bf16) (arg16 : Memref sig .tc .vmem S4096x128 .f32) (arg17 : Memref sig .tc .vmem S4096x256 .f32) (arg18 : Memref sig .tc .vmem S4x512x512 .f32) (arg19 : Memref sig .tc .vmem S4x512x128 .f32) (arg20 : Memref sig .tc .vmem S4x512x128 .f32) (x0 : Vec F S4096x128 .bf16) (x1 : Vec F S4096x128 .bf16) (x2 : Vec F S4096x128 .bf16) (x3 : Vec F S4096x128 .bf16) (x4 : Vec F S4096x128 .bf16) : run.sl.v956 (F := F) c i arg2 harg2 arg3 harg3 arg4 harg4 arg5 harg5 arg6 harg6 arg15 arg16 arg17 arg18 arg19 arg20 x0 x1 x2 x3 x4 = acc i x0 x1 x2 x3 x4 6 3 :=
  t_ACn harg6 i x0 x1 x2 x3 x4 6 2 (r_v938 c i arg2 harg2 arg3 harg3 arg4 harg4 arg5 harg5 arg15 arg18 x0 x1 x2 x3) (r_v936 c i arg2 harg2 arg3 harg3 arg4 harg4 arg5 harg5 arg15 arg16 arg18 arg19 x0 x1 x2 x3) (r_v948 c i arg2 harg2 arg3 harg3 arg4 harg4 arg5 harg5 arg15 arg16 arg18 arg20 x0 x1 x2 x3) (r_v950 c i arg2 harg2 arg3 harg3 arg4 harg4 arg5 harg5 arg6 harg6 arg15 arg16 arg17 arg18 arg19 arg20 x0 x1 x2 x3 x4)

theorem r_v1002 (c : Dev nD) (i : grid1.Coords) (arg2 : Memref sig .tc .vmem S4096x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S4096x128 .bf16) (harg5 : arg5.IsWhole) (arg6 : Memref sig .tc .vmem S4096x128 .bf16) (harg6 : arg6.IsWhole) (arg15 : Memref sig .tc .vmem S4096x128 .bf16) (arg16 : Memref sig .tc .vmem S4096x128 .f32) (arg17 : Memref sig .tc .vmem S4096x256 .f32) (arg18 : Memref sig .tc .vmem S4x512x512 .f32) (arg19 : Memref sig .tc .vmem S4x512x128 .f32) (arg20 : Memref sig .tc .vmem S4x512x128 .f32) (x0 : Vec F S4096x128 .bf16) (x1 : Vec F S4096x128 .bf16) (x2 : Vec F S4096x128 .bf16) (x3 : Vec F S4096x128 .bf16) (x4 : Vec F S4096x128 .bf16) : run.sl.v1002 (F := F) c i arg2 harg2 arg3 harg3 arg4 harg4 arg5 harg5 arg6 harg6 arg15 arg16 arg17 arg18 arg19 arg20 x0 x1 x2 x3 x4 = acc i x0 x1 x2 x3 x4 6 3 := by
  rw [run.sl.v1002, run.sl.H17_19, View.readCov_cons_toLoadRect, p_v956]

theorem p_v922 (c : Dev nD) (i : grid1.Coords) (arg2 : Memref sig .tc .vmem S4096x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S4096x128 .bf16) (harg5 : arg5.IsWhole) (arg15 : Memref sig .tc .vmem S4096x128 .bf16) (arg16 : Memref sig .tc .vmem S4096x128 .f32) (arg18 : Memref sig .tc .vmem S4x512x512 .f32) (x0 : Vec F S4096x128 .bf16) (x1 : Vec F S4096x128 .bf16) (x2 : Vec F S4096x128 .bf16) (x3 : Vec F S4096x128 .bf16) : run.sl.v922 (F := F) c i arg2 harg2 arg3 harg3 arg4 harg4 arg5 harg5 arg15 arg16 arg18 x0 x1 x2 x3 = M i x0 x1 x2 x3 6 3 :=
  t_MMn i x0 x1 x2 x3 6 2 (r_v909 c i arg2 harg2 arg3 harg3 arg4 harg4 arg5 harg5 arg15 arg16 arg18 x0 x1 x2 x3) (r_v905 c i arg2 harg2 arg3 harg3 arg4 harg4 arg5 harg5 arg15 arg18 x0 x1 x2 x3)

theorem r_v961 (c : Dev nD) (i : grid1.Coords) (arg2 : Memref sig .tc .vmem S4096x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S4096x128 .bf16) (harg5 : arg5.IsWhole) (arg15 : Memref sig .tc .vmem S4096x128 .bf16) (arg16 : Memref sig .tc .vmem S4096x128 .f32) (arg18 : Memref sig .tc .vmem S4x512x512 .f32) (x0 : Vec F S4096x128 .bf16) (x1 : Vec F S4096x128 .bf16) (x2 : Vec F S4096x128 .bf16) (x3 : Vec F S4096x128 .bf16) : run.sl.v961 (F := F) c i arg2 harg2 arg3 harg3 arg4 harg4 arg5 harg5 arg15 arg16 arg18 x0 x1 x2 x3 = M i x0 x1 x2 x3 6 3 := by
  rw [run.sl.v961, run.sl.H16_19, View.readCov_cons_toLoadRect, p_v922]

theorem p_v935 (c : Dev nD) (i : grid1.Coords) (arg2 : Memref sig .tc .vmem S4096x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S4096x128 .bf16) (harg5 : arg5.IsWhole) (arg15 : Memref sig .tc .vmem S4096x128 .bf16) (x0 : Vec F S4096x128 .bf16) (x1 : Vec F S4096x128 .bf16) (x2 : Vec F S4096x128 .bf16) (x3 : Vec F S4096x128 .bf16) : run.sl.v935 (F := F) c i arg2 harg2 arg3 harg3 arg4 harg4 arg5 harg5 arg15 x0 x1 x2 x3 = shapeCast S1x512x512 (S i x0 x1 x2 x3 6 4) shapeCasts_S512x512_S1x512x512 :=
  t_off harg2 harg4 harg5 i x0 x1 x2 x3 6 4 (by decide) (r_v729 c i arg3 harg3 arg15 x1)

theorem r_v957 (c : Dev nD) (i : grid1.Coords) (arg2 : Memref sig .tc .vmem S4096x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S4096x128 .bf16) (harg5 : arg5.IsWhole) (arg15 : Memref sig .tc .vmem S4096x128 .bf16) (arg18 : Memref sig .tc .vmem S4x512x512 .f32) (x0 : Vec F S4096x128 .bf16) (x1 : Vec F S4096x128 .bf16) (x2 : Vec F S4096x128 .bf16) (x3 : Vec F S4096x128 .bf16) : run.sl.v957 (F := F) c i arg2 harg2 arg3 harg3 arg4 harg4 arg5 harg5 arg15 arg18 x0 x1 x2 x3 = shapeCast S1x512x512 (S i x0 x1 x2 x3 6 4) shapeCasts_S512x512_S1x512x512 := by
  rw [run.sl.v957, run.sl.H18_20, View.readCov_cons_toLoadRect, p_v935]

theorem p_v968 (c : Dev nD) (i : grid1.Coords) (arg2 : Memref sig .tc .vmem S4096x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S4096x128 .bf16) (harg5 : arg5.IsWhole) (arg15 : Memref sig .tc .vmem S4096x128 .bf16) (arg16 : Memref sig .tc .vmem S4096x128 .f32) (arg18 : Memref sig .tc .vmem S4x512x512 .f32) (x0 : Vec F S4096x128 .bf16) (x1 : Vec F S4096x128 .bf16) (x2 : Vec F S4096x128 .bf16) (x3 : Vec F S4096x128 .bf16) : run.sl.v968 (F := F) c i arg2 harg2 arg3 harg3 arg4 harg4 arg5 harg5 arg15 arg16 arg18 x0 x1 x2 x3 = shapeCast S1x512x128 (alpha i x0 x1 x2 x3 6 3) shapeCasts_S512x128_S1x512x128 :=
  t_A i x0 x1 x2 x3 6 3 (r_v961 c i arg2 harg2 arg3 harg3 arg4 harg4 arg5 harg5 arg15 arg16 arg18 x0 x1 x2 x3) (r_v957 c i arg2 harg2 arg3 harg3 arg4 harg4 arg5 harg5 arg15 arg18 x0 x1 x2 x3)

theorem r_v1000 (c : Dev nD) (i : grid1.Coords) (arg2 : Memref sig .tc .vmem S4096x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S4096x128 .bf16) (harg5 : arg5.IsWhole) (arg15 : Memref sig .tc .vmem S4096x128 .bf16) (arg16 : Memref sig .tc .vmem S4096x128 .f32) (arg18 : Memref sig .tc .vmem S4x512x512 .f32) (arg20 : Memref sig .tc .vmem S4x512x128 .f32) (x0 : Vec F S4096x128 .bf16) (x1 : Vec F S4096x128 .bf16) (x2 : Vec F S4096x128 .bf16) (x3 : Vec F S4096x128 .bf16) : run.sl.v1000 (F := F) c i arg2 harg2 arg3 harg3 arg4 harg4 arg5 harg5 arg15 arg16 arg18 arg20 x0 x1 x2 x3 = shapeCast S1x512x128 (alpha i x0 x1 x2 x3 6 3) shapeCasts_S512x128_S1x512x128 := by
  rw [run.sl.v1000, run.sl.H20_14, View.readCov_cons_toLoadRect, p_v968]

theorem r_v990 (c : Dev nD) (i : grid1.Coords) (arg2 : Memref sig .tc .vmem S4096x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S4096x128 .bf16) (harg5 : arg5.IsWhole) (arg15 : Memref sig .tc .vmem S4096x128 .bf16) (arg18 : Memref sig .tc .vmem S4x512x512 .f32) (x0 : Vec F S4096x128 .bf16) (x1 : Vec F S4096x128 .bf16) (x2 : Vec F S4096x128 .bf16) (x3 : Vec F S4096x128 .bf16) : run.sl.v990 (F := F) c i arg2 harg2 arg3 harg3 arg4 harg4 arg5 harg5 arg15 arg18 x0 x1 x2 x3 = shapeCast S1x512x512 (S i x0 x1 x2 x3 6 4) shapeCasts_S512x512_S1x512x512 := by
  rw [run.sl.v990, run.sl.H18_21, View.readCov_skip _ _ _ _ _ (by decide), run.sl.H18_20, View.readCov_cons_toLoadRect, p_v935]

theorem p_v971 (c : Dev nD) (i : grid1.Coords) (arg2 : Memref sig .tc .vmem S4096x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S4096x128 .bf16) (harg5 : arg5.IsWhole) (arg15 : Memref sig .tc .vmem S4096x128 .bf16) (arg16 : Memref sig .tc .vmem S4096x128 .f32) (arg18 : Memref sig .tc .vmem S4x512x512 .f32) (x0 : Vec F S4096x128 .bf16) (x1 : Vec F S4096x128 .bf16) (x2 : Vec F S4096x128 .bf16) (x3 : Vec F S4096x128 .bf16) : run.sl.v971 (F := F) c i arg2 harg2 arg3 harg3 arg4 harg4 arg5 harg5 arg15 arg16 arg18 x0 x1 x2 x3 = shapeCast S1x512x128 (M i x0 x1 x2 x3 6 4) shapeCasts_S512x128_S1x512x128 :=
  t_MNn i x0 x1 x2 x3 6 3 (r_v961 c i arg2 harg2 arg3 harg3 arg4 harg4 arg5 harg5 arg15 arg16 arg18 x0 x1 x2 x3) (r_v957 c i arg2 harg2 arg3 harg3 arg4 harg4 arg5 harg5 arg15 arg18 x0 x1 x2 x3)

theorem r_v988 (c : Dev nD) (i : grid1.Coords) (arg2 : Memref sig .tc .vmem S4096x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S4096x128 .bf16) (harg5 : arg5.IsWhole) (arg15 : Memref sig .tc .vmem S4096x128 .bf16) (arg16 : Memref sig .tc .vmem S4096x128 .f32) (arg18 : Memref sig .tc .vmem S4x512x512 .f32) (arg19 : Memref sig .tc .vmem S4x512x128 .f32) (x0 : Vec F S4096x128 .bf16) (x1 : Vec F S4096x128 .bf16) (x2 : Vec F S4096x128 .bf16) (x3 : Vec F S4096x128 .bf16) : run.sl.v988 (F := F) c i arg2 harg2 arg3 harg3 arg4 harg4 arg5 harg5 arg15 arg16 arg18 arg19 x0 x1 x2 x3 = shapeCast S1x512x128 (M i x0 x1 x2 x3 6 4) shapeCasts_S512x128_S1x512x128 := by
  rw [run.sl.v988, run.sl.H19_20, View.readCov_cons_toLoadRect, p_v971]

theorem p_v1008 (c : Dev nD) (i : grid1.Coords) (arg2 : Memref sig .tc .vmem S4096x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S4096x128 .bf16) (harg5 : arg5.IsWhole) (arg6 : Memref sig .tc .vmem S4096x128 .bf16) (harg6 : arg6.IsWhole) (arg15 : Memref sig .tc .vmem S4096x128 .bf16) (arg16 : Memref sig .tc .vmem S4096x128 .f32) (arg17 : Memref sig .tc .vmem S4096x256 .f32) (arg18 : Memref sig .tc .vmem S4x512x512 .f32) (arg19 : Memref sig .tc .vmem S4x512x128 .f32) (arg20 : Memref sig .tc .vmem S4x512x128 .f32) (x0 : Vec F S4096x128 .bf16) (x1 : Vec F S4096x128 .bf16) (x2 : Vec F S4096x128 .bf16) (x3 : Vec F S4096x128 .bf16) (x4 : Vec F S4096x128 .bf16) : run.sl.v1008 (F := F) c i arg2 harg2 arg3 harg3 arg4 harg4 arg5 harg5 arg6 harg6 arg15 arg16 arg17 arg18 arg19 arg20 x0 x1 x2 x3 x4 = acc i x0 x1 x2 x3 x4 6 4 :=
  t_ACn harg6 i x0 x1 x2 x3 x4 6 3 (r_v990 c i arg2 harg2 arg3 harg3 arg4 harg4 arg5 harg5 arg15 arg18 x0 x1 x2 x3) (r_v988 c i arg2 harg2 arg3 harg3 arg4 harg4 arg5 harg5 arg15 arg16 arg18 arg19 x0 x1 x2 x3) (r_v1000 c i arg2 harg2 arg3 harg3 arg4 harg4 arg5 harg5 arg15 arg16 arg18 arg20 x0 x1 x2 x3) (r_v1002 c i arg2 harg2 arg3 harg3 arg4 harg4 arg5 harg5 arg6 harg6 arg15 arg16 arg17 arg18 arg19 arg20 x0 x1 x2 x3 x4)

theorem r_v1054 (c : Dev nD) (i : grid1.Coords) (arg2 : Memref sig .tc .vmem S4096x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S4096x128 .bf16) (harg5 : arg5.IsWhole) (arg6 : Memref sig .tc .vmem S4096x128 .bf16) (harg6 : arg6.IsWhole) (arg15 : Memref sig .tc .vmem S4096x128 .bf16) (arg16 : Memref sig .tc .vmem S4096x128 .f32) (arg17 : Memref sig .tc .vmem S4096x256 .f32) (arg18 : Memref sig .tc .vmem S4x512x512 .f32) (arg19 : Memref sig .tc .vmem S4x512x128 .f32) (arg20 : Memref sig .tc .vmem S4x512x128 .f32) (x0 : Vec F S4096x128 .bf16) (x1 : Vec F S4096x128 .bf16) (x2 : Vec F S4096x128 .bf16) (x3 : Vec F S4096x128 .bf16) (x4 : Vec F S4096x128 .bf16) : run.sl.v1054 (F := F) c i arg2 harg2 arg3 harg3 arg4 harg4 arg5 harg5 arg6 harg6 arg15 arg16 arg17 arg18 arg19 arg20 x0 x1 x2 x3 x4 = acc i x0 x1 x2 x3 x4 6 4 := by
  rw [run.sl.v1054, run.sl.H17_20, View.readCov_cons_toLoadRect, p_v1008]

theorem p_v974 (c : Dev nD) (i : grid1.Coords) (arg2 : Memref sig .tc .vmem S4096x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S4096x128 .bf16) (harg5 : arg5.IsWhole) (arg15 : Memref sig .tc .vmem S4096x128 .bf16) (arg16 : Memref sig .tc .vmem S4096x128 .f32) (arg18 : Memref sig .tc .vmem S4x512x512 .f32) (x0 : Vec F S4096x128 .bf16) (x1 : Vec F S4096x128 .bf16) (x2 : Vec F S4096x128 .bf16) (x3 : Vec F S4096x128 .bf16) : run.sl.v974 (F := F) c i arg2 harg2 arg3 harg3 arg4 harg4 arg5 harg5 arg15 arg16 arg18 x0 x1 x2 x3 = M i x0 x1 x2 x3 6 4 :=
  t_MMn i x0 x1 x2 x3 6 3 (r_v961 c i arg2 harg2 arg3 harg3 arg4 harg4 arg5 harg5 arg15 arg16 arg18 x0 x1 x2 x3) (r_v957 c i arg2 harg2 arg3 harg3 arg4 harg4 arg5 harg5 arg15 arg18 x0 x1 x2 x3)

theorem r_v1013 (c : Dev nD) (i : grid1.Coords) (arg2 : Memref sig .tc .vmem S4096x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S4096x128 .bf16) (harg5 : arg5.IsWhole) (arg15 : Memref sig .tc .vmem S4096x128 .bf16) (arg16 : Memref sig .tc .vmem S4096x128 .f32) (arg18 : Memref sig .tc .vmem S4x512x512 .f32) (x0 : Vec F S4096x128 .bf16) (x1 : Vec F S4096x128 .bf16) (x2 : Vec F S4096x128 .bf16) (x3 : Vec F S4096x128 .bf16) : run.sl.v1013 (F := F) c i arg2 harg2 arg3 harg3 arg4 harg4 arg5 harg5 arg15 arg16 arg18 x0 x1 x2 x3 = M i x0 x1 x2 x3 6 4 := by
  rw [run.sl.v1013, run.sl.H16_20, View.readCov_cons_toLoadRect, p_v974]

theorem p_v987 (c : Dev nD) (i : grid1.Coords) (arg2 : Memref sig .tc .vmem S4096x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S4096x128 .bf16) (harg5 : arg5.IsWhole) (arg15 : Memref sig .tc .vmem S4096x128 .bf16) (x0 : Vec F S4096x128 .bf16) (x1 : Vec F S4096x128 .bf16) (x2 : Vec F S4096x128 .bf16) (x3 : Vec F S4096x128 .bf16) : run.sl.v987 (F := F) c i arg2 harg2 arg3 harg3 arg4 harg4 arg5 harg5 arg15 x0 x1 x2 x3 = shapeCast S1x512x512 (S i x0 x1 x2 x3 6 5) shapeCasts_S512x512_S1x512x512 :=
  t_off harg2 harg4 harg5 i x0 x1 x2 x3 6 5 (by decide) (r_v729 c i arg3 harg3 arg15 x1)

theorem r_v1009 (c : Dev nD) (i : grid1.Coords) (arg2 : Memref sig .tc .vmem S4096x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S4096x128 .bf16) (harg5 : arg5.IsWhole) (arg15 : Memref sig .tc .vmem S4096x128 .bf16) (arg18 : Memref sig .tc .vmem S4x512x512 .f32) (x0 : Vec F S4096x128 .bf16) (x1 : Vec F S4096x128 .bf16) (x2 : Vec F S4096x128 .bf16) (x3 : Vec F S4096x128 .bf16) : run.sl.v1009 (F := F) c i arg2 harg2 arg3 harg3 arg4 harg4 arg5 harg5 arg15 arg18 x0 x1 x2 x3 = shapeCast S1x512x512 (S i x0 x1 x2 x3 6 5) shapeCasts_S512x512_S1x512x512 := by
  rw [run.sl.v1009, run.sl.H18_21, View.readCov_cons_toLoadRect, p_v987]

theorem p_v1020 (c : Dev nD) (i : grid1.Coords) (arg2 : Memref sig .tc .vmem S4096x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S4096x128 .bf16) (harg5 : arg5.IsWhole) (arg15 : Memref sig .tc .vmem S4096x128 .bf16) (arg16 : Memref sig .tc .vmem S4096x128 .f32) (arg18 : Memref sig .tc .vmem S4x512x512 .f32) (x0 : Vec F S4096x128 .bf16) (x1 : Vec F S4096x128 .bf16) (x2 : Vec F S4096x128 .bf16) (x3 : Vec F S4096x128 .bf16) : run.sl.v1020 (F := F) c i arg2 harg2 arg3 harg3 arg4 harg4 arg5 harg5 arg15 arg16 arg18 x0 x1 x2 x3 = shapeCast S1x512x128 (alpha i x0 x1 x2 x3 6 4) shapeCasts_S512x128_S1x512x128 :=
  t_A i x0 x1 x2 x3 6 4 (r_v1013 c i arg2 harg2 arg3 harg3 arg4 harg4 arg5 harg5 arg15 arg16 arg18 x0 x1 x2 x3) (r_v1009 c i arg2 harg2 arg3 harg3 arg4 harg4 arg5 harg5 arg15 arg18 x0 x1 x2 x3)

theorem r_v1052 (c : Dev nD) (i : grid1.Coords) (arg2 : Memref sig .tc .vmem S4096x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S4096x128 .bf16) (harg5 : arg5.IsWhole) (arg15 : Memref sig .tc .vmem S4096x128 .bf16) (arg16 : Memref sig .tc .vmem S4096x128 .f32) (arg18 : Memref sig .tc .vmem S4x512x512 .f32) (arg20 : Memref sig .tc .vmem S4x512x128 .f32) (x0 : Vec F S4096x128 .bf16) (x1 : Vec F S4096x128 .bf16) (x2 : Vec F S4096x128 .bf16) (x3 : Vec F S4096x128 .bf16) : run.sl.v1052 (F := F) c i arg2 harg2 arg3 harg3 arg4 harg4 arg5 harg5 arg15 arg16 arg18 arg20 x0 x1 x2 x3 = shapeCast S1x512x128 (alpha i x0 x1 x2 x3 6 4) shapeCasts_S512x128_S1x512x128 := by
  rw [run.sl.v1052, run.sl.H20_15, View.readCov_cons_toLoadRect, p_v1020]

theorem r_v1042 (c : Dev nD) (i : grid1.Coords) (arg2 : Memref sig .tc .vmem S4096x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S4096x128 .bf16) (harg5 : arg5.IsWhole) (arg15 : Memref sig .tc .vmem S4096x128 .bf16) (arg18 : Memref sig .tc .vmem S4x512x512 .f32) (x0 : Vec F S4096x128 .bf16) (x1 : Vec F S4096x128 .bf16) (x2 : Vec F S4096x128 .bf16) (x3 : Vec F S4096x128 .bf16) : run.sl.v1042 (F := F) c i arg2 harg2 arg3 harg3 arg4 harg4 arg5 harg5 arg15 arg18 x0 x1 x2 x3 = shapeCast S1x512x512 (S i x0 x1 x2 x3 6 5) shapeCasts_S512x512_S1x512x512 := by
  rw [run.sl.v1042, run.sl.H18_22, View.readCov_skip _ _ _ _ _ (by decide), run.sl.H18_21, View.readCov_cons_toLoadRect, p_v987]

theorem p_v1023 (c : Dev nD) (i : grid1.Coords) (arg2 : Memref sig .tc .vmem S4096x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S4096x128 .bf16) (harg5 : arg5.IsWhole) (arg15 : Memref sig .tc .vmem S4096x128 .bf16) (arg16 : Memref sig .tc .vmem S4096x128 .f32) (arg18 : Memref sig .tc .vmem S4x512x512 .f32) (x0 : Vec F S4096x128 .bf16) (x1 : Vec F S4096x128 .bf16) (x2 : Vec F S4096x128 .bf16) (x3 : Vec F S4096x128 .bf16) : run.sl.v1023 (F := F) c i arg2 harg2 arg3 harg3 arg4 harg4 arg5 harg5 arg15 arg16 arg18 x0 x1 x2 x3 = shapeCast S1x512x128 (M i x0 x1 x2 x3 6 5) shapeCasts_S512x128_S1x512x128 :=
  t_MNn i x0 x1 x2 x3 6 4 (r_v1013 c i arg2 harg2 arg3 harg3 arg4 harg4 arg5 harg5 arg15 arg16 arg18 x0 x1 x2 x3) (r_v1009 c i arg2 harg2 arg3 harg3 arg4 harg4 arg5 harg5 arg15 arg18 x0 x1 x2 x3)

theorem r_v1040 (c : Dev nD) (i : grid1.Coords) (arg2 : Memref sig .tc .vmem S4096x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S4096x128 .bf16) (harg5 : arg5.IsWhole) (arg15 : Memref sig .tc .vmem S4096x128 .bf16) (arg16 : Memref sig .tc .vmem S4096x128 .f32) (arg18 : Memref sig .tc .vmem S4x512x512 .f32) (arg19 : Memref sig .tc .vmem S4x512x128 .f32) (x0 : Vec F S4096x128 .bf16) (x1 : Vec F S4096x128 .bf16) (x2 : Vec F S4096x128 .bf16) (x3 : Vec F S4096x128 .bf16) : run.sl.v1040 (F := F) c i arg2 harg2 arg3 harg3 arg4 harg4 arg5 harg5 arg15 arg16 arg18 arg19 x0 x1 x2 x3 = shapeCast S1x512x128 (M i x0 x1 x2 x3 6 5) shapeCasts_S512x128_S1x512x128 := by
  rw [run.sl.v1040, run.sl.H19_21, View.readCov_cons_toLoadRect, p_v1023]

theorem p_v1060 (c : Dev nD) (i : grid1.Coords) (arg2 : Memref sig .tc .vmem S4096x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S4096x128 .bf16) (harg5 : arg5.IsWhole) (arg6 : Memref sig .tc .vmem S4096x128 .bf16) (harg6 : arg6.IsWhole) (arg15 : Memref sig .tc .vmem S4096x128 .bf16) (arg16 : Memref sig .tc .vmem S4096x128 .f32) (arg17 : Memref sig .tc .vmem S4096x256 .f32) (arg18 : Memref sig .tc .vmem S4x512x512 .f32) (arg19 : Memref sig .tc .vmem S4x512x128 .f32) (arg20 : Memref sig .tc .vmem S4x512x128 .f32) (x0 : Vec F S4096x128 .bf16) (x1 : Vec F S4096x128 .bf16) (x2 : Vec F S4096x128 .bf16) (x3 : Vec F S4096x128 .bf16) (x4 : Vec F S4096x128 .bf16) : run.sl.v1060 (F := F) c i arg2 harg2 arg3 harg3 arg4 harg4 arg5 harg5 arg6 harg6 arg15 arg16 arg17 arg18 arg19 arg20 x0 x1 x2 x3 x4 = acc i x0 x1 x2 x3 x4 6 5 :=
  t_ACn harg6 i x0 x1 x2 x3 x4 6 4 (r_v1042 c i arg2 harg2 arg3 harg3 arg4 harg4 arg5 harg5 arg15 arg18 x0 x1 x2 x3) (r_v1040 c i arg2 harg2 arg3 harg3 arg4 harg4 arg5 harg5 arg15 arg16 arg18 arg19 x0 x1 x2 x3) (r_v1052 c i arg2 harg2 arg3 harg3 arg4 harg4 arg5 harg5 arg15 arg16 arg18 arg20 x0 x1 x2 x3) (r_v1054 c i arg2 harg2 arg3 harg3 arg4 harg4 arg5 harg5 arg6 harg6 arg15 arg16 arg17 arg18 arg19 arg20 x0 x1 x2 x3 x4)

theorem r_v1810 (c : Dev nD) (i : grid1.Coords) (arg2 : Memref sig .tc .vmem S4096x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S4096x128 .bf16) (harg5 : arg5.IsWhole) (arg6 : Memref sig .tc .vmem S4096x128 .bf16) (harg6 : arg6.IsWhole) (arg15 : Memref sig .tc .vmem S4096x128 .bf16) (arg16 : Memref sig .tc .vmem S4096x128 .f32) (arg17 : Memref sig .tc .vmem S4096x256 .f32) (arg18 : Memref sig .tc .vmem S4x512x512 .f32) (arg19 : Memref sig .tc .vmem S4x512x128 .f32) (arg20 : Memref sig .tc .vmem S4x512x128 .f32) (x0 : Vec F S4096x128 .bf16) (x1 : Vec F S4096x128 .bf16) (x2 : Vec F S4096x128 .bf16) (x3 : Vec F S4096x128 .bf16) (x4 : Vec F S4096x128 .bf16) : run.sl.v1810 (F := F) c i arg2 harg2 arg3 harg3 arg4 harg4 arg5 harg5 arg6 harg6 arg15 arg16 arg17 arg18 arg19 arg20 x0 x1 x2 x3 x4 = acc i x0 x1 x2 x3 x4 6 5 := by
  rw [run.sl.v1810, run.sl.H17_28, View.readCov_skip _ _ _ _ _ (by decide), run.sl.H17_27, View.readCov_skip _ _ _ _ _ (by decide), run.sl.H17_26, View.readCov_skip _ _ _ _ _ (by decide), run.sl.H17_25, View.readCov_skip _ _ _ _ _ (by decide), run.sl.H17_24, View.readCov_skip _ _ _ _ _ (by decide), run.sl.H17_23, View.readCov_skip _ _ _ _ _ (by decide), run.sl.H17_22, View.readCov_skip _ _ _ _ _ (by decide), View.readCov_cons_toLoadRect, p_v1060]

theorem p_v1026 (c : Dev nD) (i : grid1.Coords) (arg2 : Memref sig .tc .vmem S4096x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S4096x128 .bf16) (harg5 : arg5.IsWhole) (arg15 : Memref sig .tc .vmem S4096x128 .bf16) (arg16 : Memref sig .tc .vmem S4096x128 .f32) (arg18 : Memref sig .tc .vmem S4x512x512 .f32) (x0 : Vec F S4096x128 .bf16) (x1 : Vec F S4096x128 .bf16) (x2 : Vec F S4096x128 .bf16) (x3 : Vec F S4096x128 .bf16) : run.sl.v1026 (F := F) c i arg2 harg2 arg3 harg3 arg4 harg4 arg5 harg5 arg15 arg16 arg18 x0 x1 x2 x3 = M i x0 x1 x2 x3 6 5 :=
  t_MMn i x0 x1 x2 x3 6 4 (r_v1013 c i arg2 harg2 arg3 harg3 arg4 harg4 arg5 harg5 arg15 arg16 arg18 x0 x1 x2 x3) (r_v1009 c i arg2 harg2 arg3 harg3 arg4 harg4 arg5 harg5 arg15 arg18 x0 x1 x2 x3)

theorem r_v1764 (c : Dev nD) (i : grid1.Coords) (arg2 : Memref sig .tc .vmem S4096x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S4096x128 .bf16) (harg5 : arg5.IsWhole) (arg15 : Memref sig .tc .vmem S4096x128 .bf16) (arg16 : Memref sig .tc .vmem S4096x128 .f32) (arg18 : Memref sig .tc .vmem S4x512x512 .f32) (x0 : Vec F S4096x128 .bf16) (x1 : Vec F S4096x128 .bf16) (x2 : Vec F S4096x128 .bf16) (x3 : Vec F S4096x128 .bf16) : run.sl.v1764 (F := F) c i arg2 harg2 arg3 harg3 arg4 harg4 arg5 harg5 arg15 arg16 arg18 x0 x1 x2 x3 = M i x0 x1 x2 x3 6 5 := by
  rw [run.sl.v1764, run.sl.H16_34, View.readCov_skip _ _ _ _ _ (by decide), run.sl.H16_33, View.readCov_skip _ _ _ _ _ (by decide), run.sl.H16_32, View.readCov_skip _ _ _ _ _ (by decide), run.sl.H16_31, View.readCov_skip _ _ _ _ _ (by decide), run.sl.H16_30, View.readCov_skip _ _ _ _ _ (by decide), run.sl.H16_29, View.readCov_skip _ _ _ _ _ (by decide), View.readCov_skip _ _ _ _ _ (by decide), run.sl.H16_27, View.readCov_skip _ _ _ _ _ (by decide), run.sl.H16_26, View.readCov_skip _ _ _ _ _ (by decide), run.sl.H16_25, View.readCov_skip _ _ _ _ _ (by decide), run.sl.H16_24, View.readCov_skip _ _ _ _ _ (by decide), run.sl.H16_23, View.readCov_skip _ _ _ _ _ (by decide), run.sl.H16_22, View.readCov_skip _ _ _ _ _ (by decide), View.readCov_cons_toLoadRect, p_v1026]

theorem p_v1736 (c : Dev nD) (i : grid1.Coords) (arg2 : Memref sig .tc .vmem S4096x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S4096x128 .bf16) (harg5 : arg5.IsWhole) (arg15 : Memref sig .tc .vmem S4096x128 .bf16) (x0 : Vec F S4096x128 .bf16) (x1 : Vec F S4096x128 .bf16) (x2 : Vec F S4096x128 .bf16) (x3 : Vec F S4096x128 .bf16) : run.sl.v1736 (F := F) c i arg2 harg2 arg3 harg3 arg4 harg4 arg5 harg5 arg15 x0 x1 x2 x3 = shapeCast S1x512x512 (S i x0 x1 x2 x3 6 6) shapeCasts_S512x512_S1x512x512 :=
  t_diag harg2 harg4 harg5 i x0 x1 x2 x3 6 (r_v729 c i arg3 harg3 arg15 x1)

theorem r_v1760 (c : Dev nD) (i : grid1.Coords) (arg2 : Memref sig .tc .vmem S4096x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S4096x128 .bf16) (harg5 : arg5.IsWhole) (arg15 : Memref sig .tc .vmem S4096x128 .bf16) (arg18 : Memref sig .tc .vmem S4x512x512 .f32) (x0 : Vec F S4096x128 .bf16) (x1 : Vec F S4096x128 .bf16) (x2 : Vec F S4096x128 .bf16) (x3 : Vec F S4096x128 .bf16) : run.sl.v1760 (F := F) c i arg2 harg2 arg3 harg3 arg4 harg4 arg5 harg5 arg15 arg18 x0 x1 x2 x3 = shapeCast S1x512x512 (S i x0 x1 x2 x3 6 6) shapeCasts_S512x512_S1x512x512 := by
  rw [run.sl.v1760, run.sl.H18_35, View.readCov_cons_toLoadRect, p_v1736]

theorem p_v1771 (c : Dev nD) (i : grid1.Coords) (arg2 : Memref sig .tc .vmem S4096x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S4096x128 .bf16) (harg5 : arg5.IsWhole) (arg15 : Memref sig .tc .vmem S4096x128 .bf16) (arg16 : Memref sig .tc .vmem S4096x128 .f32) (arg18 : Memref sig .tc .vmem S4x512x512 .f32) (x0 : Vec F S4096x128 .bf16) (x1 : Vec F S4096x128 .bf16) (x2 : Vec F S4096x128 .bf16) (x3 : Vec F S4096x128 .bf16) : run.sl.v1771 (F := F) c i arg2 harg2 arg3 harg3 arg4 harg4 arg5 harg5 arg15 arg16 arg18 x0 x1 x2 x3 = shapeCast S1x512x128 (alpha i x0 x1 x2 x3 6 5) shapeCasts_S512x128_S1x512x128 :=
  t_A i x0 x1 x2 x3 6 5 (r_v1764 c i arg2 harg2 arg3 harg3 arg4 harg4 arg5 harg5 arg15 arg16 arg18 x0 x1 x2 x3) (r_v1760 c i arg2 harg2 arg3 harg3 arg4 harg4 arg5 harg5 arg15 arg18 x0 x1 x2 x3)

theorem r_v1808 (c : Dev nD) (i : grid1.Coords) (arg2 : Memref sig .tc .vmem S4096x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S4096x128 .bf16) (harg5 : arg5.IsWhole) (arg15 : Memref sig .tc .vmem S4096x128 .bf16) (arg16 : Memref sig .tc .vmem S4096x128 .f32) (arg18 : Memref sig .tc .vmem S4x512x512 .f32) (arg20 : Memref sig .tc .vmem S4x512x128 .f32) (x0 : Vec F S4096x128 .bf16) (x1 : Vec F S4096x128 .bf16) (x2 : Vec F S4096x128 .bf16) (x3 : Vec F S4096x128 .bf16) : run.sl.v1808 (F := F) c i arg2 harg2 arg3 harg3 arg4 harg4 arg5 harg5 arg15 arg16 arg18 arg20 x0 x1 x2 x3 = shapeCast S1x512x128 (alpha i x0 x1 x2 x3 6 5) shapeCasts_S512x128_S1x512x128 := by
  rw [run.sl.v1808, run.sl.H20_27, View.readCov_cons_toLoadRect, p_v1771]

theorem r_v1798 (c : Dev nD) (i : grid1.Coords) (arg2 : Memref sig .tc .vmem S4096x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S4096x128 .bf16) (harg5 : arg5.IsWhole) (arg15 : Memref sig .tc .vmem S4096x128 .bf16) (arg18 : Memref sig .tc .vmem S4x512x512 .f32) (x0 : Vec F S4096x128 .bf16) (x1 : Vec F S4096x128 .bf16) (x2 : Vec F S4096x128 .bf16) (x3 : Vec F S4096x128 .bf16) : run.sl.v1798 (F := F) c i arg2 harg2 arg3 harg3 arg4 harg4 arg5 harg5 arg15 arg18 x0 x1 x2 x3 = shapeCast S1x512x512 (S i x0 x1 x2 x3 6 6) shapeCasts_S512x512_S1x512x512 := by
  rw [run.sl.v1798, run.sl.H18_36, View.readCov_skip _ _ _ _ _ (by decide), run.sl.H18_35, View.readCov_cons_toLoadRect, p_v1736]

theorem p_v1774 (c : Dev nD) (i : grid1.Coords) (arg2 : Memref sig .tc .vmem S4096x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S4096x128 .bf16) (harg5 : arg5.IsWhole) (arg15 : Memref sig .tc .vmem S4096x128 .bf16) (arg16 : Memref sig .tc .vmem S4096x128 .f32) (arg18 : Memref sig .tc .vmem S4x512x512 .f32) (x0 : Vec F S4096x128 .bf16) (x1 : Vec F S4096x128 .bf16) (x2 : Vec F S4096x128 .bf16) (x3 : Vec F S4096x128 .bf16) : run.sl.v1774 (F := F) c i arg2 harg2 arg3 harg3 arg4 harg4 arg5 harg5 arg15 arg16 arg18 x0 x1 x2 x3 = shapeCast S1x512x128 (M i x0 x1 x2 x3 6 6) shapeCasts_S512x128_S1x512x128 :=
  t_MNn i x0 x1 x2 x3 6 5 (r_v1764 c i arg2 harg2 arg3 harg3 arg4 harg4 arg5 harg5 arg15 arg16 arg18 x0 x1 x2 x3) (r_v1760 c i arg2 harg2 arg3 harg3 arg4 harg4 arg5 harg5 arg15 arg18 x0 x1 x2 x3)

theorem r_v1796 (c : Dev nD) (i : grid1.Coords) (arg2 : Memref sig .tc .vmem S4096x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S4096x128 .bf16) (harg5 : arg5.IsWhole) (arg15 : Memref sig .tc .vmem S4096x128 .bf16) (arg16 : Memref sig .tc .vmem S4096x128 .f32) (arg18 : Memref sig .tc .vmem S4x512x512 .f32) (arg19 : Memref sig .tc .vmem S4x512x128 .f32) (x0 : Vec F S4096x128 .bf16) (x1 : Vec F S4096x128 .bf16) (x2 : Vec F S4096x128 .bf16) (x3 : Vec F S4096x128 .bf16) : run.sl.v1796 (F := F) c i arg2 harg2 arg3 harg3 arg4 harg4 arg5 harg5 arg15 arg16 arg18 arg19 x0 x1 x2 x3 = shapeCast S1x512x128 (M i x0 x1 x2 x3 6 6) shapeCasts_S512x128_S1x512x128 := by
  rw [run.sl.v1796, run.sl.H19_35, View.readCov_cons_toLoadRect, p_v1774]

theorem p_v1817 (c : Dev nD) (i : grid1.Coords) (arg2 : Memref sig .tc .vmem S4096x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S4096x128 .bf16) (harg5 : arg5.IsWhole) (arg6 : Memref sig .tc .vmem S4096x128 .bf16) (harg6 : arg6.IsWhole) (arg15 : Memref sig .tc .vmem S4096x128 .bf16) (arg16 : Memref sig .tc .vmem S4096x128 .f32) (arg17 : Memref sig .tc .vmem S4096x256 .f32) (arg18 : Memref sig .tc .vmem S4x512x512 .f32) (arg19 : Memref sig .tc .vmem S4x512x128 .f32) (arg20 : Memref sig .tc .vmem S4x512x128 .f32) (x0 : Vec F S4096x128 .bf16) (x1 : Vec F S4096x128 .bf16) (x2 : Vec F S4096x128 .bf16) (x3 : Vec F S4096x128 .bf16) (x4 : Vec F S4096x128 .bf16) : run.sl.v1817 (F := F) c i arg2 harg2 arg3 harg3 arg4 harg4 arg5 harg5 arg6 harg6 arg15 arg16 arg17 arg18 arg19 arg20 x0 x1 x2 x3 x4 = out i x0 x1 x2 x3 x4 6 :=
  t_On harg6 i x0 x1 x2 x3 x4 6 5 rfl (r_v1798 c i arg2 harg2 arg3 harg3 arg4 harg4 arg5 harg5 arg15 arg18 x0 x1 x2 x3) (r_v1796 c i arg2 harg2 arg3 harg3 arg4 harg4 arg5 harg5 arg15 arg16 arg18 arg19 x0 x1 x2 x3) (r_v1808 c i arg2 harg2 arg3 harg3 arg4 harg4 arg5 harg5 arg15 arg16 arg18 arg20 x0 x1 x2 x3) (r_v1810 c i arg2 harg2 arg3 harg3 arg4 harg4 arg5 harg5 arg6 harg6 arg15 arg16 arg17 arg18 arg19 arg20 x0 x1 x2 x3 x4)

theorem r_v1029 (c : Dev nD) (i : grid1.Coords) (arg3 : Memref sig .tc .vmem S4096x128 .bf16) (harg3 : arg3.IsWhole) (arg15 : Memref sig .tc .vmem S4096x128 .bf16) (x1 : Vec F S4096x128 .bf16) : run.sl.v1029 (F := F) c i arg3 harg3 arg15 x1 = blk (qam i x1) 7 := by
  rw [run.sl.v1029, run.sl.H15_1, View.readCov_fill _ _ _ _ _ (by decide), p_v26]; rfl

theorem p_v1795 (c : Dev nD) (i : grid1.Coords) (arg2 : Memref sig .tc .vmem S4096x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S4096x128 .bf16) (harg5 : arg5.IsWhole) (arg15 : Memref sig .tc .vmem S4096x128 .bf16) (x0 : Vec F S4096x128 .bf16) (x1 : Vec F S4096x128 .bf16) (x2 : Vec F S4096x128 .bf16) (x3 : Vec F S4096x128 .bf16) : run.sl.v1795 (F := F) c i arg2 harg2 arg3 harg3 arg4 harg4 arg5 harg5 arg15 x0 x1 x2 x3 = shapeCast S1x512x512 (S i x0 x1 x2 x3 7 7) shapeCasts_S512x512_S1x512x512 :=
  t_diag harg2 harg4 harg5 i x0 x1 x2 x3 7 (r_v1029 c i arg3 harg3 arg15 x1)

theorem r_v1819 (c : Dev nD) (i : grid1.Coords) (arg2 : Memref sig .tc .vmem S4096x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S4096x128 .bf16) (harg5 : arg5.IsWhole) (arg15 : Memref sig .tc .vmem S4096x128 .bf16) (arg18 : Memref sig .tc .vmem S4x512x512 .f32) (x0 : Vec F S4096x128 .bf16) (x1 : Vec F S4096x128 .bf16) (x2 : Vec F S4096x128 .bf16) (x3 : Vec F S4096x128 .bf16) : run.sl.v1819 (F := F) c i arg2 harg2 arg3 harg3 arg4 harg4 arg5 harg5 arg15 arg18 x0 x1 x2 x3 = shapeCast S1x512x512 (S i x0 x1 x2 x3 7 7) shapeCasts_S512x512_S1x512x512 := by
  rw [run.sl.v1819, run.sl.H18_36, View.readCov_cons_toLoadRect, p_v1795]

theorem p_v1039 (c : Dev nD) (i : grid1.Coords) (arg2 : Memref sig .tc .vmem S4096x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S4096x128 .bf16) (harg5 : arg5.IsWhole) (arg15 : Memref sig .tc .vmem S4096x128 .bf16) (x0 : Vec F S4096x128 .bf16) (x1 : Vec F S4096x128 .bf16) (x2 : Vec F S4096x128 .bf16) (x3 : Vec F S4096x128 .bf16) : run.sl.v1039 (F := F) c i arg2 harg2 arg3 harg3 arg4 harg4 arg5 harg5 arg15 x0 x1 x2 x3 = shapeCast S1x512x512 (S i x0 x1 x2 x3 7 0) shapeCasts_S512x512_S1x512x512 :=
  t_off harg2 harg4 harg5 i x0 x1 x2 x3 7 0 (by decide) (r_v1029 c i arg3 harg3 arg15 x1)

theorem r_v1061 (c : Dev nD) (i : grid1.Coords) (arg2 : Memref sig .tc .vmem S4096x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S4096x128 .bf16) (harg5 : arg5.IsWhole) (arg15 : Memref sig .tc .vmem S4096x128 .bf16) (arg18 : Memref sig .tc .vmem S4x512x512 .f32) (x0 : Vec F S4096x128 .bf16) (x1 : Vec F S4096x128 .bf16) (x2 : Vec F S4096x128 .bf16) (x3 : Vec F S4096x128 .bf16) : run.sl.v1061 (F := F) c i arg2 harg2 arg3 harg3 arg4 harg4 arg5 harg5 arg15 arg18 x0 x1 x2 x3 = shapeCast S1x512x512 (S i x0 x1 x2 x3 7 0) shapeCasts_S512x512_S1x512x512 := by
  rw [run.sl.v1061, run.sl.H18_22, View.readCov_cons_toLoadRect, p_v1039]

theorem p_v1072 (c : Dev nD) (i : grid1.Coords) (arg2 : Memref sig .tc .vmem S4096x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S4096x128 .bf16) (harg5 : arg5.IsWhole) (arg15 : Memref sig .tc .vmem S4096x128 .bf16) (arg18 : Memref sig .tc .vmem S4x512x512 .f32) (x0 : Vec F S4096x128 .bf16) (x1 : Vec F S4096x128 .bf16) (x2 : Vec F S4096x128 .bf16) (x3 : Vec F S4096x128 .bf16) : run.sl.v1072 (F := F) c i arg2 harg2 arg3 harg3 arg4 harg4 arg5 harg5 arg15 arg18 x0 x1 x2 x3 = M i x0 x1 x2 x3 7 0 :=
  t_MM0 i x0 x1 x2 x3 7 (r_v1061 c i arg2 harg2 arg3 harg3 arg4 harg4 arg5 harg5 arg15 arg18 x0 x1 x2 x3)

theorem r_v1105 (c : Dev nD) (i : grid1.Coords) (arg2 : Memref sig .tc .vmem S4096x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S4096x128 .bf16) (harg5 : arg5.IsWhole) (arg15 : Memref sig .tc .vmem S4096x128 .bf16) (arg16 : Memref sig .tc .vmem S4096x128 .f32) (arg18 : Memref sig .tc .vmem S4x512x512 .f32) (x0 : Vec F S4096x128 .bf16) (x1 : Vec F S4096x128 .bf16) (x2 : Vec F S4096x128 .bf16) (x3 : Vec F S4096x128 .bf16) : run.sl.v1105 (F := F) c i arg2 harg2 arg3 harg3 arg4 harg4 arg5 harg5 arg15 arg16 arg18 x0 x1 x2 x3 = M i x0 x1 x2 x3 7 0 := by
  rw [run.sl.v1105, run.sl.H16_22, View.readCov_cons_toLoadRect, p_v1072]

theorem p_v1085 (c : Dev nD) (i : grid1.Coords) (arg2 : Memref sig .tc .vmem S4096x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S4096x128 .bf16) (harg5 : arg5.IsWhole) (arg15 : Memref sig .tc .vmem S4096x128 .bf16) (x0 : Vec F S4096x128 .bf16) (x1 : Vec F S4096x128 .bf16) (x2 : Vec F S4096x128 .bf16) (x3 : Vec F S4096x128 .bf16) : run.sl.v1085 (F := F) c i arg2 harg2 arg3 harg3 arg4 harg4 arg5 harg5 arg15 x0 x1 x2 x3 = shapeCast S1x512x512 (S i x0 x1 x2 x3 7 1) shapeCasts_S512x512_S1x512x512 :=
  t_off harg2 harg4 harg5 i x0 x1 x2 x3 7 1 (by decide) (r_v1029 c i arg3 harg3 arg15 x1)

theorem r_v1101 (c : Dev nD) (i : grid1.Coords) (arg2 : Memref sig .tc .vmem S4096x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S4096x128 .bf16) (harg5 : arg5.IsWhole) (arg15 : Memref sig .tc .vmem S4096x128 .bf16) (arg18 : Memref sig .tc .vmem S4x512x512 .f32) (x0 : Vec F S4096x128 .bf16) (x1 : Vec F S4096x128 .bf16) (x2 : Vec F S4096x128 .bf16) (x3 : Vec F S4096x128 .bf16) : run.sl.v1101 (F := F) c i arg2 harg2 arg3 harg3 arg4 harg4 arg5 harg5 arg15 arg18 x0 x1 x2 x3 = shapeCast S1x512x512 (S i x0 x1 x2 x3 7 1) shapeCasts_S512x512_S1x512x512 := by
  rw [run.sl.v1101, run.sl.H18_23, View.readCov_cons_toLoadRect, p_v1085]

theorem p_v1118 (c : Dev nD) (i : grid1.Coords) (arg2 : Memref sig .tc .vmem S4096x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S4096x128 .bf16) (harg5 : arg5.IsWhole) (arg15 : Memref sig .tc .vmem S4096x128 .bf16) (arg16 : Memref sig .tc .vmem S4096x128 .f32) (arg18 : Memref sig .tc .vmem S4x512x512 .f32) (x0 : Vec F S4096x128 .bf16) (x1 : Vec F S4096x128 .bf16) (x2 : Vec F S4096x128 .bf16) (x3 : Vec F S4096x128 .bf16) : run.sl.v1118 (F := F) c i arg2 harg2 arg3 harg3 arg4 harg4 arg5 harg5 arg15 arg16 arg18 x0 x1 x2 x3 = M i x0 x1 x2 x3 7 1 :=
  t_MMn i x0 x1 x2 x3 7 0 (r_v1105 c i arg2 harg2 arg3 harg3 arg4 harg4 arg5 harg5 arg15 arg16 arg18 x0 x1 x2 x3) (r_v1101 c i arg2 harg2 arg3 harg3 arg4 harg4 arg5 harg5 arg15 arg18 x0 x1 x2 x3)

theorem r_v1157 (c : Dev nD) (i : grid1.Coords) (arg2 : Memref sig .tc .vmem S4096x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S4096x128 .bf16) (harg5 : arg5.IsWhole) (arg15 : Memref sig .tc .vmem S4096x128 .bf16) (arg16 : Memref sig .tc .vmem S4096x128 .f32) (arg18 : Memref sig .tc .vmem S4x512x512 .f32) (x0 : Vec F S4096x128 .bf16) (x1 : Vec F S4096x128 .bf16) (x2 : Vec F S4096x128 .bf16) (x3 : Vec F S4096x128 .bf16) : run.sl.v1157 (F := F) c i arg2 harg2 arg3 harg3 arg4 harg4 arg5 harg5 arg15 arg16 arg18 x0 x1 x2 x3 = M i x0 x1 x2 x3 7 1 := by
  rw [run.sl.v1157, run.sl.H16_23, View.readCov_cons_toLoadRect, p_v1118]

theorem p_v1131 (c : Dev nD) (i : grid1.Coords) (arg2 : Memref sig .tc .vmem S4096x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S4096x128 .bf16) (harg5 : arg5.IsWhole) (arg15 : Memref sig .tc .vmem S4096x128 .bf16) (x0 : Vec F S4096x128 .bf16) (x1 : Vec F S4096x128 .bf16) (x2 : Vec F S4096x128 .bf16) (x3 : Vec F S4096x128 .bf16) : run.sl.v1131 (F := F) c i arg2 harg2 arg3 harg3 arg4 harg4 arg5 harg5 arg15 x0 x1 x2 x3 = shapeCast S1x512x512 (S i x0 x1 x2 x3 7 2) shapeCasts_S512x512_S1x512x512 :=
  t_off harg2 harg4 harg5 i x0 x1 x2 x3 7 2 (by decide) (r_v1029 c i arg3 harg3 arg15 x1)

theorem r_v1153 (c : Dev nD) (i : grid1.Coords) (arg2 : Memref sig .tc .vmem S4096x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S4096x128 .bf16) (harg5 : arg5.IsWhole) (arg15 : Memref sig .tc .vmem S4096x128 .bf16) (arg18 : Memref sig .tc .vmem S4x512x512 .f32) (x0 : Vec F S4096x128 .bf16) (x1 : Vec F S4096x128 .bf16) (x2 : Vec F S4096x128 .bf16) (x3 : Vec F S4096x128 .bf16) : run.sl.v1153 (F := F) c i arg2 harg2 arg3 harg3 arg4 harg4 arg5 harg5 arg15 arg18 x0 x1 x2 x3 = shapeCast S1x512x512 (S i x0 x1 x2 x3 7 2) shapeCasts_S512x512_S1x512x512 := by
  rw [run.sl.v1153, run.sl.H18_24, View.readCov_cons_toLoadRect, p_v1131]

theorem p_v1170 (c : Dev nD) (i : grid1.Coords) (arg2 : Memref sig .tc .vmem S4096x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S4096x128 .bf16) (harg5 : arg5.IsWhole) (arg15 : Memref sig .tc .vmem S4096x128 .bf16) (arg16 : Memref sig .tc .vmem S4096x128 .f32) (arg18 : Memref sig .tc .vmem S4x512x512 .f32) (x0 : Vec F S4096x128 .bf16) (x1 : Vec F S4096x128 .bf16) (x2 : Vec F S4096x128 .bf16) (x3 : Vec F S4096x128 .bf16) : run.sl.v1170 (F := F) c i arg2 harg2 arg3 harg3 arg4 harg4 arg5 harg5 arg15 arg16 arg18 x0 x1 x2 x3 = M i x0 x1 x2 x3 7 2 :=
  t_MMn i x0 x1 x2 x3 7 1 (r_v1157 c i arg2 harg2 arg3 harg3 arg4 harg4 arg5 harg5 arg15 arg16 arg18 x0 x1 x2 x3) (r_v1153 c i arg2 harg2 arg3 harg3 arg4 harg4 arg5 harg5 arg15 arg18 x0 x1 x2 x3)

theorem r_v1209 (c : Dev nD) (i : grid1.Coords) (arg2 : Memref sig .tc .vmem S4096x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S4096x128 .bf16) (harg5 : arg5.IsWhole) (arg15 : Memref sig .tc .vmem S4096x128 .bf16) (arg16 : Memref sig .tc .vmem S4096x128 .f32) (arg18 : Memref sig .tc .vmem S4x512x512 .f32) (x0 : Vec F S4096x128 .bf16) (x1 : Vec F S4096x128 .bf16) (x2 : Vec F S4096x128 .bf16) (x3 : Vec F S4096x128 .bf16) : run.sl.v1209 (F := F) c i arg2 harg2 arg3 harg3 arg4 harg4 arg5 harg5 arg15 arg16 arg18 x0 x1 x2 x3 = M i x0 x1 x2 x3 7 2 := by
  rw [run.sl.v1209, run.sl.H16_24, View.readCov_cons_toLoadRect, p_v1170]

theorem p_v1183 (c : Dev nD) (i : grid1.Coords) (arg2 : Memref sig .tc .vmem S4096x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S4096x128 .bf16) (harg5 : arg5.IsWhole) (arg15 : Memref sig .tc .vmem S4096x128 .bf16) (x0 : Vec F S4096x128 .bf16) (x1 : Vec F S4096x128 .bf16) (x2 : Vec F S4096x128 .bf16) (x3 : Vec F S4096x128 .bf16) : run.sl.v1183 (F := F) c i arg2 harg2 arg3 harg3 arg4 harg4 arg5 harg5 arg15 x0 x1 x2 x3 = shapeCast S1x512x512 (S i x0 x1 x2 x3 7 3) shapeCasts_S512x512_S1x512x512 :=
  t_off harg2 harg4 harg5 i x0 x1 x2 x3 7 3 (by decide) (r_v1029 c i arg3 harg3 arg15 x1)

theorem r_v1205 (c : Dev nD) (i : grid1.Coords) (arg2 : Memref sig .tc .vmem S4096x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S4096x128 .bf16) (harg5 : arg5.IsWhole) (arg15 : Memref sig .tc .vmem S4096x128 .bf16) (arg18 : Memref sig .tc .vmem S4x512x512 .f32) (x0 : Vec F S4096x128 .bf16) (x1 : Vec F S4096x128 .bf16) (x2 : Vec F S4096x128 .bf16) (x3 : Vec F S4096x128 .bf16) : run.sl.v1205 (F := F) c i arg2 harg2 arg3 harg3 arg4 harg4 arg5 harg5 arg15 arg18 x0 x1 x2 x3 = shapeCast S1x512x512 (S i x0 x1 x2 x3 7 3) shapeCasts_S512x512_S1x512x512 := by
  rw [run.sl.v1205, run.sl.H18_25, View.readCov_cons_toLoadRect, p_v1183]

theorem p_v1222 (c : Dev nD) (i : grid1.Coords) (arg2 : Memref sig .tc .vmem S4096x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S4096x128 .bf16) (harg5 : arg5.IsWhole) (arg15 : Memref sig .tc .vmem S4096x128 .bf16) (arg16 : Memref sig .tc .vmem S4096x128 .f32) (arg18 : Memref sig .tc .vmem S4x512x512 .f32) (x0 : Vec F S4096x128 .bf16) (x1 : Vec F S4096x128 .bf16) (x2 : Vec F S4096x128 .bf16) (x3 : Vec F S4096x128 .bf16) : run.sl.v1222 (F := F) c i arg2 harg2 arg3 harg3 arg4 harg4 arg5 harg5 arg15 arg16 arg18 x0 x1 x2 x3 = M i x0 x1 x2 x3 7 3 :=
  t_MMn i x0 x1 x2 x3 7 2 (r_v1209 c i arg2 harg2 arg3 harg3 arg4 harg4 arg5 harg5 arg15 arg16 arg18 x0 x1 x2 x3) (r_v1205 c i arg2 harg2 arg3 harg3 arg4 harg4 arg5 harg5 arg15 arg18 x0 x1 x2 x3)

theorem r_v1261 (c : Dev nD) (i : grid1.Coords) (arg2 : Memref sig .tc .vmem S4096x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S4096x128 .bf16) (harg5 : arg5.IsWhole) (arg15 : Memref sig .tc .vmem S4096x128 .bf16) (arg16 : Memref sig .tc .vmem S4096x128 .f32) (arg18 : Memref sig .tc .vmem S4x512x512 .f32) (x0 : Vec F S4096x128 .bf16) (x1 : Vec F S4096x128 .bf16) (x2 : Vec F S4096x128 .bf16) (x3 : Vec F S4096x128 .bf16) : run.sl.v1261 (F := F) c i arg2 harg2 arg3 harg3 arg4 harg4 arg5 harg5 arg15 arg16 arg18 x0 x1 x2 x3 = M i x0 x1 x2 x3 7 3 := by
  rw [run.sl.v1261, run.sl.H16_25, View.readCov_cons_toLoadRect, p_v1222]

theorem p_v1235 (c : Dev nD) (i : grid1.Coords) (arg2 : Memref sig .tc .vmem S4096x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S4096x128 .bf16) (harg5 : arg5.IsWhole) (arg15 : Memref sig .tc .vmem S4096x128 .bf16) (x0 : Vec F S4096x128 .bf16) (x1 : Vec F S4096x128 .bf16) (x2 : Vec F S4096x128 .bf16) (x3 : Vec F S4096x128 .bf16) : run.sl.v1235 (F := F) c i arg2 harg2 arg3 harg3 arg4 harg4 arg5 harg5 arg15 x0 x1 x2 x3 = shapeCast S1x512x512 (S i x0 x1 x2 x3 7 4) shapeCasts_S512x512_S1x512x512 :=
  t_off harg2 harg4 harg5 i x0 x1 x2 x3 7 4 (by decide) (r_v1029 c i arg3 harg3 arg15 x1)

theorem r_v_1 (c : Dev nD) (i : grid1.Coords) (arg2 : Memref sig .tc .vmem S4096x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S4096x128 .bf16) (harg5 : arg5.IsWhole) (arg15 : Memref sig .tc .vmem S4096x128 .bf16) (arg18 : Memref sig .tc .vmem S4x512x512 .f32) (x0 : Vec F S4096x128 .bf16) (x1 : Vec F S4096x128 .bf16) (x2 : Vec F S4096x128 .bf16) (x3 : Vec F S4096x128 .bf16) : run.sl.v_1 (F := F) c i arg2 harg2 arg3 harg3 arg4 harg4 arg5 harg5 arg15 arg18 x0 x1 x2 x3 = shapeCast S1x512x512 (S i x0 x1 x2 x3 7 4) shapeCasts_S512x512_S1x512x512 := by
  rw [run.sl.v_1, run.sl.H18_26, View.readCov_cons_toLoadRect, p_v1235]

theorem p_v1274 (c : Dev nD) (i : grid1.Coords) (arg2 : Memref sig .tc .vmem S4096x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S4096x128 .bf16) (harg5 : arg5.IsWhole) (arg15 : Memref sig .tc .vmem S4096x128 .bf16) (arg16 : Memref sig .tc .vmem S4096x128 .f32) (arg18 : Memref sig .tc .vmem S4x512x512 .f32) (x0 : Vec F S4096x128 .bf16) (x1 : Vec F S4096x128 .bf16) (x2 : Vec F S4096x128 .bf16) (x3 : Vec F S4096x128 .bf16) : run.sl.v1274 (F := F) c i arg2 harg2 arg3 harg3 arg4 harg4 arg5 harg5 arg15 arg16 arg18 x0 x1 x2 x3 = M i x0 x1 x2 x3 7 4 :=
  t_MMn i x0 x1 x2 x3 7 3 (r_v1261 c i arg2 harg2 arg3 harg3 arg4 harg4 arg5 harg5 arg15 arg16 arg18 x0 x1 x2 x3) (r_v_1 c i arg2 harg2 arg3 harg3 arg4 harg4 arg5 harg5 arg15 arg18 x0 x1 x2 x3)

theorem r_v1313 (c : Dev nD) (i : grid1.Coords) (arg2 : Memref sig .tc .vmem S4096x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S4096x128 .bf16) (harg5 : arg5.IsWhole) (arg15 : Memref sig .tc .vmem S4096x128 .bf16) (arg16 : Memref sig .tc .vmem S4096x128 .f32) (arg18 : Memref sig .tc .vmem S4x512x512 .f32) (x0 : Vec F S4096x128 .bf16) (x1 : Vec F S4096x128 .bf16) (x2 : Vec F S4096x128 .bf16) (x3 : Vec F S4096x128 .bf16) : run.sl.v1313 (F := F) c i arg2 harg2 arg3 harg3 arg4 harg4 arg5 harg5 arg15 arg16 arg18 x0 x1 x2 x3 = M i x0 x1 x2 x3 7 4 := by
  rw [run.sl.v1313, run.sl.H16_26, View.readCov_cons_toLoadRect, p_v1274]

theorem p_v1287 (c : Dev nD) (i : grid1.Coords) (arg2 : Memref sig .tc .vmem S4096x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S4096x128 .bf16) (harg5 : arg5.IsWhole) (arg15 : Memref sig .tc .vmem S4096x128 .bf16) (x0 : Vec F S4096x128 .bf16) (x1 : Vec F S4096x128 .bf16) (x2 : Vec F S4096x128 .bf16) (x3 : Vec F S4096x128 .bf16) : run.sl.v1287 (F := F) c i arg2 harg2 arg3 harg3 arg4 harg4 arg5 harg5 arg15 x0 x1 x2 x3 = shapeCast S1x512x512 (S i x0 x1 x2 x3 7 5) shapeCasts_S512x512_S1x512x512 :=
  t_off harg2 harg4 harg5 i x0 x1 x2 x3 7 5 (by decide) (r_v1029 c i arg3 harg3 arg15 x1)

theorem r_v1309 (c : Dev nD) (i : grid1.Coords) (arg2 : Memref sig .tc .vmem S4096x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S4096x128 .bf16) (harg5 : arg5.IsWhole) (arg15 : Memref sig .tc .vmem S4096x128 .bf16) (arg18 : Memref sig .tc .vmem S4x512x512 .f32) (x0 : Vec F S4096x128 .bf16) (x1 : Vec F S4096x128 .bf16) (x2 : Vec F S4096x128 .bf16) (x3 : Vec F S4096x128 .bf16) : run.sl.v1309 (F := F) c i arg2 harg2 arg3 harg3 arg4 harg4 arg5 harg5 arg15 arg18 x0 x1 x2 x3 = shapeCast S1x512x512 (S i x0 x1 x2 x3 7 5) shapeCasts_S512x512_S1x512x512 := by
  rw [run.sl.v1309, run.sl.H18_27, View.readCov_cons_toLoadRect, p_v1287]

theorem p_v1326 (c : Dev nD) (i : grid1.Coords) (arg2 : Memref sig .tc .vmem S4096x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S4096x128 .bf16) (harg5 : arg5.IsWhole) (arg15 : Memref sig .tc .vmem S4096x128 .bf16) (arg16 : Memref sig .tc .vmem S4096x128 .f32) (arg18 : Memref sig .tc .vmem S4x512x512 .f32) (x0 : Vec F S4096x128 .bf16) (x1 : Vec F S4096x128 .bf16) (x2 : Vec F S4096x128 .bf16) (x3 : Vec F S4096x128 .bf16) : run.sl.v1326 (F := F) c i arg2 harg2 arg3 harg3 arg4 harg4 arg5 harg5 arg15 arg16 arg18 x0 x1 x2 x3 = M i x0 x1 x2 x3 7 5 :=
  t_MMn i x0 x1 x2 x3 7 4 (r_v1313 c i arg2 harg2 arg3 harg3 arg4 harg4 arg5 harg5 arg15 arg16 arg18 x0 x1 x2 x3) (r_v1309 c i arg2 harg2 arg3 harg3 arg4 harg4 arg5 harg5 arg15 arg18 x0 x1 x2 x3)

theorem r_v1365 (c : Dev nD) (i : grid1.Coords) (arg2 : Memref sig .tc .vmem S4096x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S4096x128 .bf16) (harg5 : arg5.IsWhole) (arg15 : Memref sig .tc .vmem S4096x128 .bf16) (arg16 : Memref sig .tc .vmem S4096x128 .f32) (arg18 : Memref sig .tc .vmem S4x512x512 .f32) (x0 : Vec F S4096x128 .bf16) (x1 : Vec F S4096x128 .bf16) (x2 : Vec F S4096x128 .bf16) (x3 : Vec F S4096x128 .bf16) : run.sl.v1365 (F := F) c i arg2 harg2 arg3 harg3 arg4 harg4 arg5 harg5 arg15 arg16 arg18 x0 x1 x2 x3 = M i x0 x1 x2 x3 7 5 := by
  rw [run.sl.v1365, run.sl.H16_27, View.readCov_cons_toLoadRect, p_v1326]

theorem p_v1339 (c : Dev nD) (i : grid1.Coords) (arg2 : Memref sig .tc .vmem S4096x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S4096x128 .bf16) (harg5 : arg5.IsWhole) (arg15 : Memref sig .tc .vmem S4096x128 .bf16) (x0 : Vec F S4096x128 .bf16) (x1 : Vec F S4096x128 .bf16) (x2 : Vec F S4096x128 .bf16) (x3 : Vec F S4096x128 .bf16) : run.sl.v1339 (F := F) c i arg2 harg2 arg3 harg3 arg4 harg4 arg5 harg5 arg15 x0 x1 x2 x3 = shapeCast S1x512x512 (S i x0 x1 x2 x3 7 6) shapeCasts_S512x512_S1x512x512 :=
  t_off harg2 harg4 harg5 i x0 x1 x2 x3 7 6 (by decide) (r_v1029 c i arg3 harg3 arg15 x1)

theorem r_v1361 (c : Dev nD) (i : grid1.Coords) (arg2 : Memref sig .tc .vmem S4096x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S4096x128 .bf16) (harg5 : arg5.IsWhole) (arg15 : Memref sig .tc .vmem S4096x128 .bf16) (arg18 : Memref sig .tc .vmem S4x512x512 .f32) (x0 : Vec F S4096x128 .bf16) (x1 : Vec F S4096x128 .bf16) (x2 : Vec F S4096x128 .bf16) (x3 : Vec F S4096x128 .bf16) : run.sl.v1361 (F := F) c i arg2 harg2 arg3 harg3 arg4 harg4 arg5 harg5 arg15 arg18 x0 x1 x2 x3 = shapeCast S1x512x512 (S i x0 x1 x2 x3 7 6) shapeCasts_S512x512_S1x512x512 := by
  rw [run.sl.v1361, run.sl.H18_28, View.readCov_cons_toLoadRect, p_v1339]

theorem p_v1378 (c : Dev nD) (i : grid1.Coords) (arg2 : Memref sig .tc .vmem S4096x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S4096x128 .bf16) (harg5 : arg5.IsWhole) (arg15 : Memref sig .tc .vmem S4096x128 .bf16) (arg16 : Memref sig .tc .vmem S4096x128 .f32) (arg18 : Memref sig .tc .vmem S4x512x512 .f32) (x0 : Vec F S4096x128 .bf16) (x1 : Vec F S4096x128 .bf16) (x2 : Vec F S4096x128 .bf16) (x3 : Vec F S4096x128 .bf16) : run.sl.v1378 (F := F) c i arg2 harg2 arg3 harg3 arg4 harg4 arg5 harg5 arg15 arg16 arg18 x0 x1 x2 x3 = M i x0 x1 x2 x3 7 6 :=
  t_MMn i x0 x1 x2 x3 7 5 (r_v1365 c i arg2 harg2 arg3 harg3 arg4 harg4 arg5 harg5 arg15 arg16 arg18 x0 x1 x2 x3) (r_v1361 c i arg2 harg2 arg3 harg3 arg4 harg4 arg5 harg5 arg15 arg18 x0 x1 x2 x3)

theorem r_v1823 (c : Dev nD) (i : grid1.Coords) (arg2 : Memref sig .tc .vmem S4096x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S4096x128 .bf16) (harg5 : arg5.IsWhole) (arg15 : Memref sig .tc .vmem S4096x128 .bf16) (arg16 : Memref sig .tc .vmem S4096x128 .f32) (arg18 : Memref sig .tc .vmem S4x512x512 .f32) (x0 : Vec F S4096x128 .bf16) (x1 : Vec F S4096x128 .bf16) (x2 : Vec F S4096x128 .bf16) (x3 : Vec F S4096x128 .bf16) : run.sl.v1823 (F := F) c i arg2 harg2 arg3 harg3 arg4 harg4 arg5 harg5 arg15 arg16 arg18 x0 x1 x2 x3 = M i x0 x1 x2 x3 7 6 := by
  rw [run.sl.v1823, run.sl.H16_35, View.readCov_skip _ _ _ _ _ (by decide), run.sl.H16_34, View.readCov_skip _ _ _ _ _ (by decide), run.sl.H16_33, View.readCov_skip _ _ _ _ _ (by decide), run.sl.H16_32, View.readCov_skip _ _ _ _ _ (by decide), run.sl.H16_31, View.readCov_skip _ _ _ _ _ (by decide), run.sl.H16_30, View.readCov_skip _ _ _ _ _ (by decide), run.sl.H16_29, View.readCov_skip _ _ _ _ _ (by decide), View.readCov_cons_toLoadRect, p_v1378]

theorem p_v1833 (c : Dev nD) (i : grid1.Coords) (arg2 : Memref sig .tc .vmem S4096x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S4096x128 .bf16) (harg5 : arg5.IsWhole) (arg15 : Memref sig .tc .vmem S4096x128 .bf16) (arg16 : Memref sig .tc .vmem S4096x128 .f32) (arg18 : Memref sig .tc .vmem S4x512x512 .f32) (x0 : Vec F S4096x128 .bf16) (x1 : Vec F S4096x128 .bf16) (x2 : Vec F S4096x128 .bf16) (x3 : Vec F S4096x128 .bf16) : run.sl.v1833 (F := F) c i arg2 harg2 arg3 harg3 arg4 harg4 arg5 harg5 arg15 arg16 arg18 x0 x1 x2 x3 = shapeCast S1x512x128 (M i x0 x1 x2 x3 7 7) shapeCasts_S512x128_S1x512x128 :=
  t_MNn i x0 x1 x2 x3 7 6 (r_v1823 c i arg2 harg2 arg3 harg3 arg4 harg4 arg5 harg5 arg15 arg16 arg18 x0 x1 x2 x3) (r_v1819 c i arg2 harg2 arg3 harg3 arg4 harg4 arg5 harg5 arg15 arg18 x0 x1 x2 x3)

theorem r_v1837 (c : Dev nD) (i : grid1.Coords) (arg2 : Memref sig .tc .vmem S4096x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S4096x128 .bf16) (harg5 : arg5.IsWhole) (arg15 : Memref sig .tc .vmem S4096x128 .bf16) (arg16 : Memref sig .tc .vmem S4096x128 .f32) (arg18 : Memref sig .tc .vmem S4x512x512 .f32) (arg19 : Memref sig .tc .vmem S4x512x128 .f32) (x0 : Vec F S4096x128 .bf16) (x1 : Vec F S4096x128 .bf16) (x2 : Vec F S4096x128 .bf16) (x3 : Vec F S4096x128 .bf16) : run.sl.v1837 (F := F) c i arg2 harg2 arg3 harg3 arg4 harg4 arg5 harg5 arg15 arg16 arg18 arg19 x0 x1 x2 x3 = shapeCast S1x512x128 (M i x0 x1 x2 x3 7 7) shapeCasts_S512x128_S1x512x128 := by
  rw [run.sl.v1837, run.sl.H19_36, View.readCov_cons_toLoadRect, p_v1833]

theorem p_v1830 (c : Dev nD) (i : grid1.Coords) (arg2 : Memref sig .tc .vmem S4096x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S4096x128 .bf16) (harg5 : arg5.IsWhole) (arg15 : Memref sig .tc .vmem S4096x128 .bf16) (arg16 : Memref sig .tc .vmem S4096x128 .f32) (arg18 : Memref sig .tc .vmem S4x512x512 .f32) (x0 : Vec F S4096x128 .bf16) (x1 : Vec F S4096x128 .bf16) (x2 : Vec F S4096x128 .bf16) (x3 : Vec F S4096x128 .bf16) : run.sl.v1830 (F := F) c i arg2 harg2 arg3 harg3 arg4 harg4 arg5 harg5 arg15 arg16 arg18 x0 x1 x2 x3 = shapeCast S1x512x128 (alpha i x0 x1 x2 x3 7 6) shapeCasts_S512x128_S1x512x128 :=
  t_A i x0 x1 x2 x3 7 6 (r_v1823 c i arg2 harg2 arg3 harg3 arg4 harg4 arg5 harg5 arg15 arg16 arg18 x0 x1 x2 x3) (r_v1819 c i arg2 harg2 arg3 harg3 arg4 harg4 arg5 harg5 arg15 arg18 x0 x1 x2 x3)

theorem r_v1849 (c : Dev nD) (i : grid1.Coords) (arg2 : Memref sig .tc .vmem S4096x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S4096x128 .bf16) (harg5 : arg5.IsWhole) (arg15 : Memref sig .tc .vmem S4096x128 .bf16) (arg16 : Memref sig .tc .vmem S4096x128 .f32) (arg18 : Memref sig .tc .vmem S4x512x512 .f32) (arg20 : Memref sig .tc .vmem S4x512x128 .f32) (x0 : Vec F S4096x128 .bf16) (x1 : Vec F S4096x128 .bf16) (x2 : Vec F S4096x128 .bf16) (x3 : Vec F S4096x128 .bf16) : run.sl.v1849 (F := F) c i arg2 harg2 arg3 harg3 arg4 harg4 arg5 harg5 arg15 arg16 arg18 arg20 x0 x1 x2 x3 = shapeCast S1x512x128 (alpha i x0 x1 x2 x3 7 6) shapeCasts_S512x128_S1x512x128 := by
  rw [run.sl.v1849, run.sl.H20_28, View.readCov_cons_toLoadRect, p_v1830]

theorem r_v1088 (c : Dev nD) (i : grid1.Coords) (arg2 : Memref sig .tc .vmem S4096x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S4096x128 .bf16) (harg5 : arg5.IsWhole) (arg15 : Memref sig .tc .vmem S4096x128 .bf16) (arg18 : Memref sig .tc .vmem S4x512x512 .f32) (x0 : Vec F S4096x128 .bf16) (x1 : Vec F S4096x128 .bf16) (x2 : Vec F S4096x128 .bf16) (x3 : Vec F S4096x128 .bf16) : run.sl.v1088 (F := F) c i arg2 harg2 arg3 harg3 arg4 harg4 arg5 harg5 arg15 arg18 x0 x1 x2 x3 = shapeCast S1x512x512 (S i x0 x1 x2 x3 7 0) shapeCasts_S512x512_S1x512x512 := by
  rw [run.sl.v1088, run.sl.H18_23, View.readCov_skip _ _ _ _ _ (by decide), run.sl.H18_22, View.readCov_cons_toLoadRect, p_v1039]

theorem p_v1069 (c : Dev nD) (i : grid1.Coords) (arg2 : Memref sig .tc .vmem S4096x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S4096x128 .bf16) (harg5 : arg5.IsWhole) (arg15 : Memref sig .tc .vmem S4096x128 .bf16) (arg18 : Memref sig .tc .vmem S4x512x512 .f32) (x0 : Vec F S4096x128 .bf16) (x1 : Vec F S4096x128 .bf16) (x2 : Vec F S4096x128 .bf16) (x3 : Vec F S4096x128 .bf16) : run.sl.v1069 (F := F) c i arg2 harg2 arg3 harg3 arg4 harg4 arg5 harg5 arg15 arg18 x0 x1 x2 x3 = shapeCast S1x512x128 (M i x0 x1 x2 x3 7 0) shapeCasts_S512x128_S1x512x128 :=
  t_MN0 i x0 x1 x2 x3 7 (r_v1061 c i arg2 harg2 arg3 harg3 arg4 harg4 arg5 harg5 arg15 arg18 x0 x1 x2 x3)

theorem r_v1086 (c : Dev nD) (i : grid1.Coords) (arg2 : Memref sig .tc .vmem S4096x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S4096x128 .bf16) (harg5 : arg5.IsWhole) (arg15 : Memref sig .tc .vmem S4096x128 .bf16) (arg16 : Memref sig .tc .vmem S4096x128 .f32) (arg18 : Memref sig .tc .vmem S4x512x512 .f32) (arg19 : Memref sig .tc .vmem S4x512x128 .f32) (x0 : Vec F S4096x128 .bf16) (x1 : Vec F S4096x128 .bf16) (x2 : Vec F S4096x128 .bf16) (x3 : Vec F S4096x128 .bf16) : run.sl.v1086 (F := F) c i arg2 harg2 arg3 harg3 arg4 harg4 arg5 harg5 arg15 arg16 arg18 arg19 x0 x1 x2 x3 = shapeCast S1x512x128 (M i x0 x1 x2 x3 7 0) shapeCasts_S512x128_S1x512x128 := by
  rw [run.sl.v1086, run.sl.H19_22, View.readCov_cons_toLoadRect, p_v1069]

theorem p_v1100 (c : Dev nD) (i : grid1.Coords) (arg2 : Memref sig .tc .vmem S4096x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S4096x128 .bf16) (harg5 : arg5.IsWhole) (arg6 : Memref sig .tc .vmem S4096x128 .bf16) (harg6 : arg6.IsWhole) (arg15 : Memref sig .tc .vmem S4096x128 .bf16) (arg16 : Memref sig .tc .vmem S4096x128 .f32) (arg18 : Memref sig .tc .vmem S4x512x512 .f32) (arg19 : Memref sig .tc .vmem S4x512x128 .f32) (x0 : Vec F S4096x128 .bf16) (x1 : Vec F S4096x128 .bf16) (x2 : Vec F S4096x128 .bf16) (x3 : Vec F S4096x128 .bf16) (x4 : Vec F S4096x128 .bf16) : run.sl.v1100 (F := F) c i arg2 harg2 arg3 harg3 arg4 harg4 arg5 harg5 arg6 harg6 arg15 arg16 arg18 arg19 x0 x1 x2 x3 x4 = acc i x0 x1 x2 x3 x4 7 0 :=
  t_AC0 harg6 i x0 x1 x2 x3 x4 7 (r_v1088 c i arg2 harg2 arg3 harg3 arg4 harg4 arg5 harg5 arg15 arg18 x0 x1 x2 x3) (r_v1086 c i arg2 harg2 arg3 harg3 arg4 harg4 arg5 harg5 arg15 arg16 arg18 arg19 x0 x1 x2 x3)

theorem r_v1146 (c : Dev nD) (i : grid1.Coords) (arg2 : Memref sig .tc .vmem S4096x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S4096x128 .bf16) (harg5 : arg5.IsWhole) (arg6 : Memref sig .tc .vmem S4096x128 .bf16) (harg6 : arg6.IsWhole) (arg15 : Memref sig .tc .vmem S4096x128 .bf16) (arg16 : Memref sig .tc .vmem S4096x128 .f32) (arg17 : Memref sig .tc .vmem S4096x256 .f32) (arg18 : Memref sig .tc .vmem S4x512x512 .f32) (arg19 : Memref sig .tc .vmem S4x512x128 .f32) (arg20 : Memref sig .tc .vmem S4x512x128 .f32) (x0 : Vec F S4096x128 .bf16) (x1 : Vec F S4096x128 .bf16) (x2 : Vec F S4096x128 .bf16) (x3 : Vec F S4096x128 .bf16) (x4 : Vec F S4096x128 .bf16) : run.sl.v1146 (F := F) c i arg2 harg2 arg3 harg3 arg4 harg4 arg5 harg5 arg6 harg6 arg15 arg16 arg17 arg18 arg19 arg20 x0 x1 x2 x3 x4 = acc i x0 x1 x2 x3 x4 7 0 := by
  rw [run.sl.v1146, run.sl.H17_22, View.readCov_cons_toLoadRect, p_v1100]

theorem p_v1112 (c : Dev nD) (i : grid1.Coords) (arg2 : Memref sig .tc .vmem S4096x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S4096x128 .bf16) (harg5 : arg5.IsWhole) (arg15 : Memref sig .tc .vmem S4096x128 .bf16) (arg16 : Memref sig .tc .vmem S4096x128 .f32) (arg18 : Memref sig .tc .vmem S4x512x512 .f32) (x0 : Vec F S4096x128 .bf16) (x1 : Vec F S4096x128 .bf16) (x2 : Vec F S4096x128 .bf16) (x3 : Vec F S4096x128 .bf16) : run.sl.v1112 (F := F) c i arg2 harg2 arg3 harg3 arg4 harg4 arg5 harg5 arg15 arg16 arg18 x0 x1 x2 x3 = shapeCast S1x512x128 (alpha i x0 x1 x2 x3 7 0) shapeCasts_S512x128_S1x512x128 :=
  t_A i x0 x1 x2 x3 7 0 (r_v1105 c i arg2 harg2 arg3 harg3 arg4 harg4 arg5 harg5 arg15 arg16 arg18 x0 x1 x2 x3) (r_v1101 c i arg2 harg2 arg3 harg3 arg4 harg4 arg5 harg5 arg15 arg18 x0 x1 x2 x3)

theorem r_v1144 (c : Dev nD) (i : grid1.Coords) (arg2 : Memref sig .tc .vmem S4096x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S4096x128 .bf16) (harg5 : arg5.IsWhole) (arg15 : Memref sig .tc .vmem S4096x128 .bf16) (arg16 : Memref sig .tc .vmem S4096x128 .f32) (arg18 : Memref sig .tc .vmem S4x512x512 .f32) (arg20 : Memref sig .tc .vmem S4x512x128 .f32) (x0 : Vec F S4096x128 .bf16) (x1 : Vec F S4096x128 .bf16) (x2 : Vec F S4096x128 .bf16) (x3 : Vec F S4096x128 .bf16) : run.sl.v1144 (F := F) c i arg2 harg2 arg3 harg3 arg4 harg4 arg5 harg5 arg15 arg16 arg18 arg20 x0 x1 x2 x3 = shapeCast S1x512x128 (alpha i x0 x1 x2 x3 7 0) shapeCasts_S512x128_S1x512x128 := by
  rw [run.sl.v1144, run.sl.H20_16, View.readCov_cons_toLoadRect, p_v1112]

theorem r_v1134 (c : Dev nD) (i : grid1.Coords) (arg2 : Memref sig .tc .vmem S4096x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S4096x128 .bf16) (harg5 : arg5.IsWhole) (arg15 : Memref sig .tc .vmem S4096x128 .bf16) (arg18 : Memref sig .tc .vmem S4x512x512 .f32) (x0 : Vec F S4096x128 .bf16) (x1 : Vec F S4096x128 .bf16) (x2 : Vec F S4096x128 .bf16) (x3 : Vec F S4096x128 .bf16) : run.sl.v1134 (F := F) c i arg2 harg2 arg3 harg3 arg4 harg4 arg5 harg5 arg15 arg18 x0 x1 x2 x3 = shapeCast S1x512x512 (S i x0 x1 x2 x3 7 1) shapeCasts_S512x512_S1x512x512 := by
  rw [run.sl.v1134, run.sl.H18_24, View.readCov_skip _ _ _ _ _ (by decide), run.sl.H18_23, View.readCov_cons_toLoadRect, p_v1085]

theorem p_v1115 (c : Dev nD) (i : grid1.Coords) (arg2 : Memref sig .tc .vmem S4096x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S4096x128 .bf16) (harg5 : arg5.IsWhole) (arg15 : Memref sig .tc .vmem S4096x128 .bf16) (arg16 : Memref sig .tc .vmem S4096x128 .f32) (arg18 : Memref sig .tc .vmem S4x512x512 .f32) (x0 : Vec F S4096x128 .bf16) (x1 : Vec F S4096x128 .bf16) (x2 : Vec F S4096x128 .bf16) (x3 : Vec F S4096x128 .bf16) : run.sl.v1115 (F := F) c i arg2 harg2 arg3 harg3 arg4 harg4 arg5 harg5 arg15 arg16 arg18 x0 x1 x2 x3 = shapeCast S1x512x128 (M i x0 x1 x2 x3 7 1) shapeCasts_S512x128_S1x512x128 :=
  t_MNn i x0 x1 x2 x3 7 0 (r_v1105 c i arg2 harg2 arg3 harg3 arg4 harg4 arg5 harg5 arg15 arg16 arg18 x0 x1 x2 x3) (r_v1101 c i arg2 harg2 arg3 harg3 arg4 harg4 arg5 harg5 arg15 arg18 x0 x1 x2 x3)

theorem r_v1132 (c : Dev nD) (i : grid1.Coords) (arg2 : Memref sig .tc .vmem S4096x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S4096x128 .bf16) (harg5 : arg5.IsWhole) (arg15 : Memref sig .tc .vmem S4096x128 .bf16) (arg16 : Memref sig .tc .vmem S4096x128 .f32) (arg18 : Memref sig .tc .vmem S4x512x512 .f32) (arg19 : Memref sig .tc .vmem S4x512x128 .f32) (x0 : Vec F S4096x128 .bf16) (x1 : Vec F S4096x128 .bf16) (x2 : Vec F S4096x128 .bf16) (x3 : Vec F S4096x128 .bf16) : run.sl.v1132 (F := F) c i arg2 harg2 arg3 harg3 arg4 harg4 arg5 harg5 arg15 arg16 arg18 arg19 x0 x1 x2 x3 = shapeCast S1x512x128 (M i x0 x1 x2 x3 7 1) shapeCasts_S512x128_S1x512x128 := by
  rw [run.sl.v1132, run.sl.H19_23, View.readCov_cons_toLoadRect, p_v1115]

theorem p_v1152 (c : Dev nD) (i : grid1.Coords) (arg2 : Memref sig .tc .vmem S4096x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S4096x128 .bf16) (harg5 : arg5.IsWhole) (arg6 : Memref sig .tc .vmem S4096x128 .bf16) (harg6 : arg6.IsWhole) (arg15 : Memref sig .tc .vmem S4096x128 .bf16) (arg16 : Memref sig .tc .vmem S4096x128 .f32) (arg17 : Memref sig .tc .vmem S4096x256 .f32) (arg18 : Memref sig .tc .vmem S4x512x512 .f32) (arg19 : Memref sig .tc .vmem S4x512x128 .f32) (arg20 : Memref sig .tc .vmem S4x512x128 .f32) (x0 : Vec F S4096x128 .bf16) (x1 : Vec F S4096x128 .bf16) (x2 : Vec F S4096x128 .bf16) (x3 : Vec F S4096x128 .bf16) (x4 : Vec F S4096x128 .bf16) : run.sl.v1152 (F := F) c i arg2 harg2 arg3 harg3 arg4 harg4 arg5 harg5 arg6 harg6 arg15 arg16 arg17 arg18 arg19 arg20 x0 x1 x2 x3 x4 = acc i x0 x1 x2 x3 x4 7 1 :=
  t_ACn harg6 i x0 x1 x2 x3 x4 7 0 (r_v1134 c i arg2 harg2 arg3 harg3 arg4 harg4 arg5 harg5 arg15 arg18 x0 x1 x2 x3) (r_v1132 c i arg2 harg2 arg3 harg3 arg4 harg4 arg5 harg5 arg15 arg16 arg18 arg19 x0 x1 x2 x3) (r_v1144 c i arg2 harg2 arg3 harg3 arg4 harg4 arg5 harg5 arg15 arg16 arg18 arg20 x0 x1 x2 x3) (r_v1146 c i arg2 harg2 arg3 harg3 arg4 harg4 arg5 harg5 arg6 harg6 arg15 arg16 arg17 arg18 arg19 arg20 x0 x1 x2 x3 x4)

theorem r_v1198 (c : Dev nD) (i : grid1.Coords) (arg2 : Memref sig .tc .vmem S4096x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S4096x128 .bf16) (harg5 : arg5.IsWhole) (arg6 : Memref sig .tc .vmem S4096x128 .bf16) (harg6 : arg6.IsWhole) (arg15 : Memref sig .tc .vmem S4096x128 .bf16) (arg16 : Memref sig .tc .vmem S4096x128 .f32) (arg17 : Memref sig .tc .vmem S4096x256 .f32) (arg18 : Memref sig .tc .vmem S4x512x512 .f32) (arg19 : Memref sig .tc .vmem S4x512x128 .f32) (arg20 : Memref sig .tc .vmem S4x512x128 .f32) (x0 : Vec F S4096x128 .bf16) (x1 : Vec F S4096x128 .bf16) (x2 : Vec F S4096x128 .bf16) (x3 : Vec F S4096x128 .bf16) (x4 : Vec F S4096x128 .bf16) : run.sl.v1198 (F := F) c i arg2 harg2 arg3 harg3 arg4 harg4 arg5 harg5 arg6 harg6 arg15 arg16 arg17 arg18 arg19 arg20 x0 x1 x2 x3 x4 = acc i x0 x1 x2 x3 x4 7 1 := by
  rw [run.sl.v1198, run.sl.H17_23, View.readCov_cons_toLoadRect, p_v1152]

theorem p_v1164 (c : Dev nD) (i : grid1.Coords) (arg2 : Memref sig .tc .vmem S4096x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S4096x128 .bf16) (harg5 : arg5.IsWhole) (arg15 : Memref sig .tc .vmem S4096x128 .bf16) (arg16 : Memref sig .tc .vmem S4096x128 .f32) (arg18 : Memref sig .tc .vmem S4x512x512 .f32) (x0 : Vec F S4096x128 .bf16) (x1 : Vec F S4096x128 .bf16) (x2 : Vec F S4096x128 .bf16) (x3 : Vec F S4096x128 .bf16) : run.sl.v1164 (F := F) c i arg2 harg2 arg3 harg3 arg4 harg4 arg5 harg5 arg15 arg16 arg18 x0 x1 x2 x3 = shapeCast S1x512x128 (alpha i x0 x1 x2 x3 7 1) shapeCasts_S512x128_S1x512x128 :=
  t_A i x0 x1 x2 x3 7 1 (r_v1157 c i arg2 harg2 arg3 harg3 arg4 harg4 arg5 harg5 arg15 arg16 arg18 x0 x1 x2 x3) (r_v1153 c i arg2 harg2 arg3 harg3 arg4 harg4 arg5 harg5 arg15 arg18 x0 x1 x2 x3)

theorem r_v1196 (c : Dev nD) (i : grid1.Coords) (arg2 : Memref sig .tc .vmem S4096x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S4096x128 .bf16) (harg5 : arg5.IsWhole) (arg15 : Memref sig .tc .vmem S4096x128 .bf16) (arg16 : Memref sig .tc .vmem S4096x128 .f32) (arg18 : Memref sig .tc .vmem S4x512x512 .f32) (arg20 : Memref sig .tc .vmem S4x512x128 .f32) (x0 : Vec F S4096x128 .bf16) (x1 : Vec F S4096x128 .bf16) (x2 : Vec F S4096x128 .bf16) (x3 : Vec F S4096x128 .bf16) : run.sl.v1196 (F := F) c i arg2 harg2 arg3 harg3 arg4 harg4 arg5 harg5 arg15 arg16 arg18 arg20 x0 x1 x2 x3 = shapeCast S1x512x128 (alpha i x0 x1 x2 x3 7 1) shapeCasts_S512x128_S1x512x128 := by
  rw [run.sl.v1196, run.sl.H20_17, View.readCov_cons_toLoadRect, p_v1164]

theorem r_v1186 (c : Dev nD) (i : grid1.Coords) (arg2 : Memref sig .tc .vmem S4096x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S4096x128 .bf16) (harg5 : arg5.IsWhole) (arg15 : Memref sig .tc .vmem S4096x128 .bf16) (arg18 : Memref sig .tc .vmem S4x512x512 .f32) (x0 : Vec F S4096x128 .bf16) (x1 : Vec F S4096x128 .bf16) (x2 : Vec F S4096x128 .bf16) (x3 : Vec F S4096x128 .bf16) : run.sl.v1186 (F := F) c i arg2 harg2 arg3 harg3 arg4 harg4 arg5 harg5 arg15 arg18 x0 x1 x2 x3 = shapeCast S1x512x512 (S i x0 x1 x2 x3 7 2) shapeCasts_S512x512_S1x512x512 := by
  rw [run.sl.v1186, run.sl.H18_25, View.readCov_skip _ _ _ _ _ (by decide), run.sl.H18_24, View.readCov_cons_toLoadRect, p_v1131]

theorem p_v1167 (c : Dev nD) (i : grid1.Coords) (arg2 : Memref sig .tc .vmem S4096x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S4096x128 .bf16) (harg5 : arg5.IsWhole) (arg15 : Memref sig .tc .vmem S4096x128 .bf16) (arg16 : Memref sig .tc .vmem S4096x128 .f32) (arg18 : Memref sig .tc .vmem S4x512x512 .f32) (x0 : Vec F S4096x128 .bf16) (x1 : Vec F S4096x128 .bf16) (x2 : Vec F S4096x128 .bf16) (x3 : Vec F S4096x128 .bf16) : run.sl.v1167 (F := F) c i arg2 harg2 arg3 harg3 arg4 harg4 arg5 harg5 arg15 arg16 arg18 x0 x1 x2 x3 = shapeCast S1x512x128 (M i x0 x1 x2 x3 7 2) shapeCasts_S512x128_S1x512x128 :=
  t_MNn i x0 x1 x2 x3 7 1 (r_v1157 c i arg2 harg2 arg3 harg3 arg4 harg4 arg5 harg5 arg15 arg16 arg18 x0 x1 x2 x3) (r_v1153 c i arg2 harg2 arg3 harg3 arg4 harg4 arg5 harg5 arg15 arg18 x0 x1 x2 x3)

theorem r_v1184 (c : Dev nD) (i : grid1.Coords) (arg2 : Memref sig .tc .vmem S4096x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S4096x128 .bf16) (harg5 : arg5.IsWhole) (arg15 : Memref sig .tc .vmem S4096x128 .bf16) (arg16 : Memref sig .tc .vmem S4096x128 .f32) (arg18 : Memref sig .tc .vmem S4x512x512 .f32) (arg19 : Memref sig .tc .vmem S4x512x128 .f32) (x0 : Vec F S4096x128 .bf16) (x1 : Vec F S4096x128 .bf16) (x2 : Vec F S4096x128 .bf16) (x3 : Vec F S4096x128 .bf16) : run.sl.v1184 (F := F) c i arg2 harg2 arg3 harg3 arg4 harg4 arg5 harg5 arg15 arg16 arg18 arg19 x0 x1 x2 x3 = shapeCast S1x512x128 (M i x0 x1 x2 x3 7 2) shapeCasts_S512x128_S1x512x128 := by
  rw [run.sl.v1184, run.sl.H19_24, View.readCov_cons_toLoadRect, p_v1167]

theorem p_v1204 (c : Dev nD) (i : grid1.Coords) (arg2 : Memref sig .tc .vmem S4096x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S4096x128 .bf16) (harg5 : arg5.IsWhole) (arg6 : Memref sig .tc .vmem S4096x128 .bf16) (harg6 : arg6.IsWhole) (arg15 : Memref sig .tc .vmem S4096x128 .bf16) (arg16 : Memref sig .tc .vmem S4096x128 .f32) (arg17 : Memref sig .tc .vmem S4096x256 .f32) (arg18 : Memref sig .tc .vmem S4x512x512 .f32) (arg19 : Memref sig .tc .vmem S4x512x128 .f32) (arg20 : Memref sig .tc .vmem S4x512x128 .f32) (x0 : Vec F S4096x128 .bf16) (x1 : Vec F S4096x128 .bf16) (x2 : Vec F S4096x128 .bf16) (x3 : Vec F S4096x128 .bf16) (x4 : Vec F S4096x128 .bf16) : run.sl.v1204 (F := F) c i arg2 harg2 arg3 harg3 arg4 harg4 arg5 harg5 arg6 harg6 arg15 arg16 arg17 arg18 arg19 arg20 x0 x1 x2 x3 x4 = acc i x0 x1 x2 x3 x4 7 2 :=
  t_ACn harg6 i x0 x1 x2 x3 x4 7 1 (r_v1186 c i arg2 harg2 arg3 harg3 arg4 harg4 arg5 harg5 arg15 arg18 x0 x1 x2 x3) (r_v1184 c i arg2 harg2 arg3 harg3 arg4 harg4 arg5 harg5 arg15 arg16 arg18 arg19 x0 x1 x2 x3) (r_v1196 c i arg2 harg2 arg3 harg3 arg4 harg4 arg5 harg5 arg15 arg16 arg18 arg20 x0 x1 x2 x3) (r_v1198 c i arg2 harg2 arg3 harg3 arg4 harg4 arg5 harg5 arg6 harg6 arg15 arg16 arg17 arg18 arg19 arg20 x0 x1 x2 x3 x4)

theorem r_v1250 (c : Dev nD) (i : grid1.Coords) (arg2 : Memref sig .tc .vmem S4096x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S4096x128 .bf16) (harg5 : arg5.IsWhole) (arg6 : Memref sig .tc .vmem S4096x128 .bf16) (harg6 : arg6.IsWhole) (arg15 : Memref sig .tc .vmem S4096x128 .bf16) (arg16 : Memref sig .tc .vmem S4096x128 .f32) (arg17 : Memref sig .tc .vmem S4096x256 .f32) (arg18 : Memref sig .tc .vmem S4x512x512 .f32) (arg19 : Memref sig .tc .vmem S4x512x128 .f32) (arg20 : Memref sig .tc .vmem S4x512x128 .f32) (x0 : Vec F S4096x128 .bf16) (x1 : Vec F S4096x128 .bf16) (x2 : Vec F S4096x128 .bf16) (x3 : Vec F S4096x128 .bf16) (x4 : Vec F S4096x128 .bf16) : run.sl.v1250 (F := F) c i arg2 harg2 arg3 harg3 arg4 harg4 arg5 harg5 arg6 harg6 arg15 arg16 arg17 arg18 arg19 arg20 x0 x1 x2 x3 x4 = acc i x0 x1 x2 x3 x4 7 2 := by
  rw [run.sl.v1250, run.sl.H17_24, View.readCov_cons_toLoadRect, p_v1204]

theorem p_v1216 (c : Dev nD) (i : grid1.Coords) (arg2 : Memref sig .tc .vmem S4096x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S4096x128 .bf16) (harg5 : arg5.IsWhole) (arg15 : Memref sig .tc .vmem S4096x128 .bf16) (arg16 : Memref sig .tc .vmem S4096x128 .f32) (arg18 : Memref sig .tc .vmem S4x512x512 .f32) (x0 : Vec F S4096x128 .bf16) (x1 : Vec F S4096x128 .bf16) (x2 : Vec F S4096x128 .bf16) (x3 : Vec F S4096x128 .bf16) : run.sl.v1216 (F := F) c i arg2 harg2 arg3 harg3 arg4 harg4 arg5 harg5 arg15 arg16 arg18 x0 x1 x2 x3 = shapeCast S1x512x128 (alpha i x0 x1 x2 x3 7 2) shapeCasts_S512x128_S1x512x128 :=
  t_A i x0 x1 x2 x3 7 2 (r_v1209 c i arg2 harg2 arg3 harg3 arg4 harg4 arg5 harg5 arg15 arg16 arg18 x0 x1 x2 x3) (r_v1205 c i arg2 harg2 arg3 harg3 arg4 harg4 arg5 harg5 arg15 arg18 x0 x1 x2 x3)

theorem r_v1248 (c : Dev nD) (i : grid1.Coords) (arg2 : Memref sig .tc .vmem S4096x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S4096x128 .bf16) (harg5 : arg5.IsWhole) (arg15 : Memref sig .tc .vmem S4096x128 .bf16) (arg16 : Memref sig .tc .vmem S4096x128 .f32) (arg18 : Memref sig .tc .vmem S4x512x512 .f32) (arg20 : Memref sig .tc .vmem S4x512x128 .f32) (x0 : Vec F S4096x128 .bf16) (x1 : Vec F S4096x128 .bf16) (x2 : Vec F S4096x128 .bf16) (x3 : Vec F S4096x128 .bf16) : run.sl.v1248 (F := F) c i arg2 harg2 arg3 harg3 arg4 harg4 arg5 harg5 arg15 arg16 arg18 arg20 x0 x1 x2 x3 = shapeCast S1x512x128 (alpha i x0 x1 x2 x3 7 2) shapeCasts_S512x128_S1x512x128 := by
  rw [run.sl.v1248, run.sl.H20_18, View.readCov_cons_toLoadRect, p_v1216]

theorem r_v1238 (c : Dev nD) (i : grid1.Coords) (arg2 : Memref sig .tc .vmem S4096x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S4096x128 .bf16) (harg5 : arg5.IsWhole) (arg15 : Memref sig .tc .vmem S4096x128 .bf16) (arg18 : Memref sig .tc .vmem S4x512x512 .f32) (x0 : Vec F S4096x128 .bf16) (x1 : Vec F S4096x128 .bf16) (x2 : Vec F S4096x128 .bf16) (x3 : Vec F S4096x128 .bf16) : run.sl.v1238 (F := F) c i arg2 harg2 arg3 harg3 arg4 harg4 arg5 harg5 arg15 arg18 x0 x1 x2 x3 = shapeCast S1x512x512 (S i x0 x1 x2 x3 7 3) shapeCasts_S512x512_S1x512x512 := by
  rw [run.sl.v1238, run.sl.H18_26, View.readCov_skip _ _ _ _ _ (by decide), run.sl.H18_25, View.readCov_cons_toLoadRect, p_v1183]

theorem p_v1219 (c : Dev nD) (i : grid1.Coords) (arg2 : Memref sig .tc .vmem S4096x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S4096x128 .bf16) (harg5 : arg5.IsWhole) (arg15 : Memref sig .tc .vmem S4096x128 .bf16) (arg16 : Memref sig .tc .vmem S4096x128 .f32) (arg18 : Memref sig .tc .vmem S4x512x512 .f32) (x0 : Vec F S4096x128 .bf16) (x1 : Vec F S4096x128 .bf16) (x2 : Vec F S4096x128 .bf16) (x3 : Vec F S4096x128 .bf16) : run.sl.v1219 (F := F) c i arg2 harg2 arg3 harg3 arg4 harg4 arg5 harg5 arg15 arg16 arg18 x0 x1 x2 x3 = shapeCast S1x512x128 (M i x0 x1 x2 x3 7 3) shapeCasts_S512x128_S1x512x128 :=
  t_MNn i x0 x1 x2 x3 7 2 (r_v1209 c i arg2 harg2 arg3 harg3 arg4 harg4 arg5 harg5 arg15 arg16 arg18 x0 x1 x2 x3) (r_v1205 c i arg2 harg2 arg3 harg3 arg4 harg4 arg5 harg5 arg15 arg18 x0 x1 x2 x3)

theorem r_v1236 (c : Dev nD) (i : grid1.Coords) (arg2 : Memref sig .tc .vmem S4096x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S4096x128 .bf16) (harg5 : arg5.IsWhole) (arg15 : Memref sig .tc .vmem S4096x128 .bf16) (arg16 : Memref sig .tc .vmem S4096x128 .f32) (arg18 : Memref sig .tc .vmem S4x512x512 .f32) (arg19 : Memref sig .tc .vmem S4x512x128 .f32) (x0 : Vec F S4096x128 .bf16) (x1 : Vec F S4096x128 .bf16) (x2 : Vec F S4096x128 .bf16) (x3 : Vec F S4096x128 .bf16) : run.sl.v1236 (F := F) c i arg2 harg2 arg3 harg3 arg4 harg4 arg5 harg5 arg15 arg16 arg18 arg19 x0 x1 x2 x3 = shapeCast S1x512x128 (M i x0 x1 x2 x3 7 3) shapeCasts_S512x128_S1x512x128 := by
  rw [run.sl.v1236, run.sl.H19_25, View.readCov_cons_toLoadRect, p_v1219]

theorem p_v1256 (c : Dev nD) (i : grid1.Coords) (arg2 : Memref sig .tc .vmem S4096x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S4096x128 .bf16) (harg5 : arg5.IsWhole) (arg6 : Memref sig .tc .vmem S4096x128 .bf16) (harg6 : arg6.IsWhole) (arg15 : Memref sig .tc .vmem S4096x128 .bf16) (arg16 : Memref sig .tc .vmem S4096x128 .f32) (arg17 : Memref sig .tc .vmem S4096x256 .f32) (arg18 : Memref sig .tc .vmem S4x512x512 .f32) (arg19 : Memref sig .tc .vmem S4x512x128 .f32) (arg20 : Memref sig .tc .vmem S4x512x128 .f32) (x0 : Vec F S4096x128 .bf16) (x1 : Vec F S4096x128 .bf16) (x2 : Vec F S4096x128 .bf16) (x3 : Vec F S4096x128 .bf16) (x4 : Vec F S4096x128 .bf16) : run.sl.v1256 (F := F) c i arg2 harg2 arg3 harg3 arg4 harg4 arg5 harg5 arg6 harg6 arg15 arg16 arg17 arg18 arg19 arg20 x0 x1 x2 x3 x4 = acc i x0 x1 x2 x3 x4 7 3 :=
  t_ACn harg6 i x0 x1 x2 x3 x4 7 2 (r_v1238 c i arg2 harg2 arg3 harg3 arg4 harg4 arg5 harg5 arg15 arg18 x0 x1 x2 x3) (r_v1236 c i arg2 harg2 arg3 harg3 arg4 harg4 arg5 harg5 arg15 arg16 arg18 arg19 x0 x1 x2 x3) (r_v1248 c i arg2 harg2 arg3 harg3 arg4 harg4 arg5 harg5 arg15 arg16 arg18 arg20 x0 x1 x2 x3) (r_v1250 c i arg2 harg2 arg3 harg3 arg4 harg4 arg5 harg5 arg6 harg6 arg15 arg16 arg17 arg18 arg19 arg20 x0 x1 x2 x3 x4)

theorem r_v1302 (c : Dev nD) (i : grid1.Coords) (arg2 : Memref sig .tc .vmem S4096x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S4096x128 .bf16) (harg5 : arg5.IsWhole) (arg6 : Memref sig .tc .vmem S4096x128 .bf16) (harg6 : arg6.IsWhole) (arg15 : Memref sig .tc .vmem S4096x128 .bf16) (arg16 : Memref sig .tc .vmem S4096x128 .f32) (arg17 : Memref sig .tc .vmem S4096x256 .f32) (arg18 : Memref sig .tc .vmem S4x512x512 .f32) (arg19 : Memref sig .tc .vmem S4x512x128 .f32) (arg20 : Memref sig .tc .vmem S4x512x128 .f32) (x0 : Vec F S4096x128 .bf16) (x1 : Vec F S4096x128 .bf16) (x2 : Vec F S4096x128 .bf16) (x3 : Vec F S4096x128 .bf16) (x4 : Vec F S4096x128 .bf16) : run.sl.v1302 (F := F) c i arg2 harg2 arg3 harg3 arg4 harg4 arg5 harg5 arg6 harg6 arg15 arg16 arg17 arg18 arg19 arg20 x0 x1 x2 x3 x4 = acc i x0 x1 x2 x3 x4 7 3 := by
  rw [run.sl.v1302, run.sl.H17_25, View.readCov_cons_toLoadRect, p_v1256]

theorem p_v1268 (c : Dev nD) (i : grid1.Coords) (arg2 : Memref sig .tc .vmem S4096x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S4096x128 .bf16) (harg5 : arg5.IsWhole) (arg15 : Memref sig .tc .vmem S4096x128 .bf16) (arg16 : Memref sig .tc .vmem S4096x128 .f32) (arg18 : Memref sig .tc .vmem S4x512x512 .f32) (x0 : Vec F S4096x128 .bf16) (x1 : Vec F S4096x128 .bf16) (x2 : Vec F S4096x128 .bf16) (x3 : Vec F S4096x128 .bf16) : run.sl.v1268 (F := F) c i arg2 harg2 arg3 harg3 arg4 harg4 arg5 harg5 arg15 arg16 arg18 x0 x1 x2 x3 = shapeCast S1x512x128 (alpha i x0 x1 x2 x3 7 3) shapeCasts_S512x128_S1x512x128 :=
  t_A i x0 x1 x2 x3 7 3 (r_v1261 c i arg2 harg2 arg3 harg3 arg4 harg4 arg5 harg5 arg15 arg16 arg18 x0 x1 x2 x3) (r_v_1 c i arg2 harg2 arg3 harg3 arg4 harg4 arg5 harg5 arg15 arg18 x0 x1 x2 x3)

theorem r_v1300 (c : Dev nD) (i : grid1.Coords) (arg2 : Memref sig .tc .vmem S4096x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S4096x128 .bf16) (harg5 : arg5.IsWhole) (arg15 : Memref sig .tc .vmem S4096x128 .bf16) (arg16 : Memref sig .tc .vmem S4096x128 .f32) (arg18 : Memref sig .tc .vmem S4x512x512 .f32) (arg20 : Memref sig .tc .vmem S4x512x128 .f32) (x0 : Vec F S4096x128 .bf16) (x1 : Vec F S4096x128 .bf16) (x2 : Vec F S4096x128 .bf16) (x3 : Vec F S4096x128 .bf16) : run.sl.v1300 (F := F) c i arg2 harg2 arg3 harg3 arg4 harg4 arg5 harg5 arg15 arg16 arg18 arg20 x0 x1 x2 x3 = shapeCast S1x512x128 (alpha i x0 x1 x2 x3 7 3) shapeCasts_S512x128_S1x512x128 := by
  rw [run.sl.v1300, run.sl.H20_19, View.readCov_cons_toLoadRect, p_v1268]

theorem r_v1290 (c : Dev nD) (i : grid1.Coords) (arg2 : Memref sig .tc .vmem S4096x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S4096x128 .bf16) (harg5 : arg5.IsWhole) (arg15 : Memref sig .tc .vmem S4096x128 .bf16) (arg18 : Memref sig .tc .vmem S4x512x512 .f32) (x0 : Vec F S4096x128 .bf16) (x1 : Vec F S4096x128 .bf16) (x2 : Vec F S4096x128 .bf16) (x3 : Vec F S4096x128 .bf16) : run.sl.v1290 (F := F) c i arg2 harg2 arg3 harg3 arg4 harg4 arg5 harg5 arg15 arg18 x0 x1 x2 x3 = shapeCast S1x512x512 (S i x0 x1 x2 x3 7 4) shapeCasts_S512x512_S1x512x512 := by
  rw [run.sl.v1290, run.sl.H18_27, View.readCov_skip _ _ _ _ _ (by decide), run.sl.H18_26, View.readCov_cons_toLoadRect, p_v1235]

theorem p_v1271 (c : Dev nD) (i : grid1.Coords) (arg2 : Memref sig .tc .vmem S4096x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S4096x128 .bf16) (harg5 : arg5.IsWhole) (arg15 : Memref sig .tc .vmem S4096x128 .bf16) (arg16 : Memref sig .tc .vmem S4096x128 .f32) (arg18 : Memref sig .tc .vmem S4x512x512 .f32) (x0 : Vec F S4096x128 .bf16) (x1 : Vec F S4096x128 .bf16) (x2 : Vec F S4096x128 .bf16) (x3 : Vec F S4096x128 .bf16) : run.sl.v1271 (F := F) c i arg2 harg2 arg3 harg3 arg4 harg4 arg5 harg5 arg15 arg16 arg18 x0 x1 x2 x3 = shapeCast S1x512x128 (M i x0 x1 x2 x3 7 4) shapeCasts_S512x128_S1x512x128 :=
  t_MNn i x0 x1 x2 x3 7 3 (r_v1261 c i arg2 harg2 arg3 harg3 arg4 harg4 arg5 harg5 arg15 arg16 arg18 x0 x1 x2 x3) (r_v_1 c i arg2 harg2 arg3 harg3 arg4 harg4 arg5 harg5 arg15 arg18 x0 x1 x2 x3)

theorem r_v1288 (c : Dev nD) (i : grid1.Coords) (arg2 : Memref sig .tc .vmem S4096x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S4096x128 .bf16) (harg5 : arg5.IsWhole) (arg15 : Memref sig .tc .vmem S4096x128 .bf16) (arg16 : Memref sig .tc .vmem S4096x128 .f32) (arg18 : Memref sig .tc .vmem S4x512x512 .f32) (arg19 : Memref sig .tc .vmem S4x512x128 .f32) (x0 : Vec F S4096x128 .bf16) (x1 : Vec F S4096x128 .bf16) (x2 : Vec F S4096x128 .bf16) (x3 : Vec F S4096x128 .bf16) : run.sl.v1288 (F := F) c i arg2 harg2 arg3 harg3 arg4 harg4 arg5 harg5 arg15 arg16 arg18 arg19 x0 x1 x2 x3 = shapeCast S1x512x128 (M i x0 x1 x2 x3 7 4) shapeCasts_S512x128_S1x512x128 := by
  rw [run.sl.v1288, run.sl.H19_26, View.readCov_cons_toLoadRect, p_v1271]

theorem p_v1308 (c : Dev nD) (i : grid1.Coords) (arg2 : Memref sig .tc .vmem S4096x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S4096x128 .bf16) (harg5 : arg5.IsWhole) (arg6 : Memref sig .tc .vmem S4096x128 .bf16) (harg6 : arg6.IsWhole) (arg15 : Memref sig .tc .vmem S4096x128 .bf16) (arg16 : Memref sig .tc .vmem S4096x128 .f32) (arg17 : Memref sig .tc .vmem S4096x256 .f32) (arg18 : Memref sig .tc .vmem S4x512x512 .f32) (arg19 : Memref sig .tc .vmem S4x512x128 .f32) (arg20 : Memref sig .tc .vmem S4x512x128 .f32) (x0 : Vec F S4096x128 .bf16) (x1 : Vec F S4096x128 .bf16) (x2 : Vec F S4096x128 .bf16) (x3 : Vec F S4096x128 .bf16) (x4 : Vec F S4096x128 .bf16) : run.sl.v1308 (F := F) c i arg2 harg2 arg3 harg3 arg4 harg4 arg5 harg5 arg6 harg6 arg15 arg16 arg17 arg18 arg19 arg20 x0 x1 x2 x3 x4 = acc i x0 x1 x2 x3 x4 7 4 :=
  t_ACn harg6 i x0 x1 x2 x3 x4 7 3 (r_v1290 c i arg2 harg2 arg3 harg3 arg4 harg4 arg5 harg5 arg15 arg18 x0 x1 x2 x3) (r_v1288 c i arg2 harg2 arg3 harg3 arg4 harg4 arg5 harg5 arg15 arg16 arg18 arg19 x0 x1 x2 x3) (r_v1300 c i arg2 harg2 arg3 harg3 arg4 harg4 arg5 harg5 arg15 arg16 arg18 arg20 x0 x1 x2 x3) (r_v1302 c i arg2 harg2 arg3 harg3 arg4 harg4 arg5 harg5 arg6 harg6 arg15 arg16 arg17 arg18 arg19 arg20 x0 x1 x2 x3 x4)

theorem r_v1354 (c : Dev nD) (i : grid1.Coords) (arg2 : Memref sig .tc .vmem S4096x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S4096x128 .bf16) (harg5 : arg5.IsWhole) (arg6 : Memref sig .tc .vmem S4096x128 .bf16) (harg6 : arg6.IsWhole) (arg15 : Memref sig .tc .vmem S4096x128 .bf16) (arg16 : Memref sig .tc .vmem S4096x128 .f32) (arg17 : Memref sig .tc .vmem S4096x256 .f32) (arg18 : Memref sig .tc .vmem S4x512x512 .f32) (arg19 : Memref sig .tc .vmem S4x512x128 .f32) (arg20 : Memref sig .tc .vmem S4x512x128 .f32) (x0 : Vec F S4096x128 .bf16) (x1 : Vec F S4096x128 .bf16) (x2 : Vec F S4096x128 .bf16) (x3 : Vec F S4096x128 .bf16) (x4 : Vec F S4096x128 .bf16) : run.sl.v1354 (F := F) c i arg2 harg2 arg3 harg3 arg4 harg4 arg5 harg5 arg6 harg6 arg15 arg16 arg17 arg18 arg19 arg20 x0 x1 x2 x3 x4 = acc i x0 x1 x2 x3 x4 7 4 := by
  rw [run.sl.v1354, run.sl.H17_26, View.readCov_cons_toLoadRect, p_v1308]

theorem p_v1320 (c : Dev nD) (i : grid1.Coords) (arg2 : Memref sig .tc .vmem S4096x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S4096x128 .bf16) (harg5 : arg5.IsWhole) (arg15 : Memref sig .tc .vmem S4096x128 .bf16) (arg16 : Memref sig .tc .vmem S4096x128 .f32) (arg18 : Memref sig .tc .vmem S4x512x512 .f32) (x0 : Vec F S4096x128 .bf16) (x1 : Vec F S4096x128 .bf16) (x2 : Vec F S4096x128 .bf16) (x3 : Vec F S4096x128 .bf16) : run.sl.v1320 (F := F) c i arg2 harg2 arg3 harg3 arg4 harg4 arg5 harg5 arg15 arg16 arg18 x0 x1 x2 x3 = shapeCast S1x512x128 (alpha i x0 x1 x2 x3 7 4) shapeCasts_S512x128_S1x512x128 :=
  t_A i x0 x1 x2 x3 7 4 (r_v1313 c i arg2 harg2 arg3 harg3 arg4 harg4 arg5 harg5 arg15 arg16 arg18 x0 x1 x2 x3) (r_v1309 c i arg2 harg2 arg3 harg3 arg4 harg4 arg5 harg5 arg15 arg18 x0 x1 x2 x3)

theorem r_v1352 (c : Dev nD) (i : grid1.Coords) (arg2 : Memref sig .tc .vmem S4096x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S4096x128 .bf16) (harg5 : arg5.IsWhole) (arg15 : Memref sig .tc .vmem S4096x128 .bf16) (arg16 : Memref sig .tc .vmem S4096x128 .f32) (arg18 : Memref sig .tc .vmem S4x512x512 .f32) (arg20 : Memref sig .tc .vmem S4x512x128 .f32) (x0 : Vec F S4096x128 .bf16) (x1 : Vec F S4096x128 .bf16) (x2 : Vec F S4096x128 .bf16) (x3 : Vec F S4096x128 .bf16) : run.sl.v1352 (F := F) c i arg2 harg2 arg3 harg3 arg4 harg4 arg5 harg5 arg15 arg16 arg18 arg20 x0 x1 x2 x3 = shapeCast S1x512x128 (alpha i x0 x1 x2 x3 7 4) shapeCasts_S512x128_S1x512x128 := by
  rw [run.sl.v1352, run.sl.H20_20, View.readCov_cons_toLoadRect, p_v1320]

theorem r_v1342 (c : Dev nD) (i : grid1.Coords) (arg2 : Memref sig .tc .vmem S4096x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S4096x128 .bf16) (harg5 : arg5.IsWhole) (arg15 : Memref sig .tc .vmem S4096x128 .bf16) (arg18 : Memref sig .tc .vmem S4x512x512 .f32) (x0 : Vec F S4096x128 .bf16) (x1 : Vec F S4096x128 .bf16) (x2 : Vec F S4096x128 .bf16) (x3 : Vec F S4096x128 .bf16) : run.sl.v1342 (F := F) c i arg2 harg2 arg3 harg3 arg4 harg4 arg5 harg5 arg15 arg18 x0 x1 x2 x3 = shapeCast S1x512x512 (S i x0 x1 x2 x3 7 5) shapeCasts_S512x512_S1x512x512 := by
  rw [run.sl.v1342, run.sl.H18_28, View.readCov_skip _ _ _ _ _ (by decide), run.sl.H18_27, View.readCov_cons_toLoadRect, p_v1287]

theorem p_v1323 (c : Dev nD) (i : grid1.Coords) (arg2 : Memref sig .tc .vmem S4096x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S4096x128 .bf16) (harg5 : arg5.IsWhole) (arg15 : Memref sig .tc .vmem S4096x128 .bf16) (arg16 : Memref sig .tc .vmem S4096x128 .f32) (arg18 : Memref sig .tc .vmem S4x512x512 .f32) (x0 : Vec F S4096x128 .bf16) (x1 : Vec F S4096x128 .bf16) (x2 : Vec F S4096x128 .bf16) (x3 : Vec F S4096x128 .bf16) : run.sl.v1323 (F := F) c i arg2 harg2 arg3 harg3 arg4 harg4 arg5 harg5 arg15 arg16 arg18 x0 x1 x2 x3 = shapeCast S1x512x128 (M i x0 x1 x2 x3 7 5) shapeCasts_S512x128_S1x512x128 :=
  t_MNn i x0 x1 x2 x3 7 4 (r_v1313 c i arg2 harg2 arg3 harg3 arg4 harg4 arg5 harg5 arg15 arg16 arg18 x0 x1 x2 x3) (r_v1309 c i arg2 harg2 arg3 harg3 arg4 harg4 arg5 harg5 arg15 arg18 x0 x1 x2 x3)

theorem r_v1340 (c : Dev nD) (i : grid1.Coords) (arg2 : Memref sig .tc .vmem S4096x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S4096x128 .bf16) (harg5 : arg5.IsWhole) (arg15 : Memref sig .tc .vmem S4096x128 .bf16) (arg16 : Memref sig .tc .vmem S4096x128 .f32) (arg18 : Memref sig .tc .vmem S4x512x512 .f32) (arg19 : Memref sig .tc .vmem S4x512x128 .f32) (x0 : Vec F S4096x128 .bf16) (x1 : Vec F S4096x128 .bf16) (x2 : Vec F S4096x128 .bf16) (x3 : Vec F S4096x128 .bf16) : run.sl.v1340 (F := F) c i arg2 harg2 arg3 harg3 arg4 harg4 arg5 harg5 arg15 arg16 arg18 arg19 x0 x1 x2 x3 = shapeCast S1x512x128 (M i x0 x1 x2 x3 7 5) shapeCasts_S512x128_S1x512x128 := by
  rw [run.sl.v1340, run.sl.H19_27, View.readCov_cons_toLoadRect, p_v1323]

theorem p_v1360 (c : Dev nD) (i : grid1.Coords) (arg2 : Memref sig .tc .vmem S4096x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S4096x128 .bf16) (harg5 : arg5.IsWhole) (arg6 : Memref sig .tc .vmem S4096x128 .bf16) (harg6 : arg6.IsWhole) (arg15 : Memref sig .tc .vmem S4096x128 .bf16) (arg16 : Memref sig .tc .vmem S4096x128 .f32) (arg17 : Memref sig .tc .vmem S4096x256 .f32) (arg18 : Memref sig .tc .vmem S4x512x512 .f32) (arg19 : Memref sig .tc .vmem S4x512x128 .f32) (arg20 : Memref sig .tc .vmem S4x512x128 .f32) (x0 : Vec F S4096x128 .bf16) (x1 : Vec F S4096x128 .bf16) (x2 : Vec F S4096x128 .bf16) (x3 : Vec F S4096x128 .bf16) (x4 : Vec F S4096x128 .bf16) : run.sl.v1360 (F := F) c i arg2 harg2 arg3 harg3 arg4 harg4 arg5 harg5 arg6 harg6 arg15 arg16 arg17 arg18 arg19 arg20 x0 x1 x2 x3 x4 = acc i x0 x1 x2 x3 x4 7 5 :=
  t_ACn harg6 i x0 x1 x2 x3 x4 7 4 (r_v1342 c i arg2 harg2 arg3 harg3 arg4 harg4 arg5 harg5 arg15 arg18 x0 x1 x2 x3) (r_v1340 c i arg2 harg2 arg3 harg3 arg4 harg4 arg5 harg5 arg15 arg16 arg18 arg19 x0 x1 x2 x3) (r_v1352 c i arg2 harg2 arg3 harg3 arg4 harg4 arg5 harg5 arg15 arg16 arg18 arg20 x0 x1 x2 x3) (r_v1354 c i arg2 harg2 arg3 harg3 arg4 harg4 arg5 harg5 arg6 harg6 arg15 arg16 arg17 arg18 arg19 arg20 x0 x1 x2 x3 x4)

theorem r_v1411 (c : Dev nD) (i : grid1.Coords) (arg2 : Memref sig .tc .vmem S4096x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S4096x128 .bf16) (harg5 : arg5.IsWhole) (arg6 : Memref sig .tc .vmem S4096x128 .bf16) (harg6 : arg6.IsWhole) (arg15 : Memref sig .tc .vmem S4096x128 .bf16) (arg16 : Memref sig .tc .vmem S4096x128 .f32) (arg17 : Memref sig .tc .vmem S4096x256 .f32) (arg18 : Memref sig .tc .vmem S4x512x512 .f32) (arg19 : Memref sig .tc .vmem S4x512x128 .f32) (arg20 : Memref sig .tc .vmem S4x512x128 .f32) (x0 : Vec F S4096x128 .bf16) (x1 : Vec F S4096x128 .bf16) (x2 : Vec F S4096x128 .bf16) (x3 : Vec F S4096x128 .bf16) (x4 : Vec F S4096x128 .bf16) : run.sl.v1411 (F := F) c i arg2 harg2 arg3 harg3 arg4 harg4 arg5 harg5 arg6 harg6 arg15 arg16 arg17 arg18 arg19 arg20 x0 x1 x2 x3 x4 = acc i x0 x1 x2 x3 x4 7 5 := by
  rw [run.sl.v1411, run.sl.H17_27, View.readCov_cons_toLoadRect, p_v1360]

theorem p_v1372 (c : Dev nD) (i : grid1.Coords) (arg2 : Memref sig .tc .vmem S4096x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S4096x128 .bf16) (harg5 : arg5.IsWhole) (arg15 : Memref sig .tc .vmem S4096x128 .bf16) (arg16 : Memref sig .tc .vmem S4096x128 .f32) (arg18 : Memref sig .tc .vmem S4x512x512 .f32) (x0 : Vec F S4096x128 .bf16) (x1 : Vec F S4096x128 .bf16) (x2 : Vec F S4096x128 .bf16) (x3 : Vec F S4096x128 .bf16) : run.sl.v1372 (F := F) c i arg2 harg2 arg3 harg3 arg4 harg4 arg5 harg5 arg15 arg16 arg18 x0 x1 x2 x3 = shapeCast S1x512x128 (alpha i x0 x1 x2 x3 7 5) shapeCasts_S512x128_S1x512x128 :=
  t_A i x0 x1 x2 x3 7 5 (r_v1365 c i arg2 harg2 arg3 harg3 arg4 harg4 arg5 harg5 arg15 arg16 arg18 x0 x1 x2 x3) (r_v1361 c i arg2 harg2 arg3 harg3 arg4 harg4 arg5 harg5 arg15 arg18 x0 x1 x2 x3)

theorem r_v1409 (c : Dev nD) (i : grid1.Coords) (arg2 : Memref sig .tc .vmem S4096x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S4096x128 .bf16) (harg5 : arg5.IsWhole) (arg15 : Memref sig .tc .vmem S4096x128 .bf16) (arg16 : Memref sig .tc .vmem S4096x128 .f32) (arg18 : Memref sig .tc .vmem S4x512x512 .f32) (arg20 : Memref sig .tc .vmem S4x512x128 .f32) (x0 : Vec F S4096x128 .bf16) (x1 : Vec F S4096x128 .bf16) (x2 : Vec F S4096x128 .bf16) (x3 : Vec F S4096x128 .bf16) : run.sl.v1409 (F := F) c i arg2 harg2 arg3 harg3 arg4 harg4 arg5 harg5 arg15 arg16 arg18 arg20 x0 x1 x2 x3 = shapeCast S1x512x128 (alpha i x0 x1 x2 x3 7 5) shapeCasts_S512x128_S1x512x128 := by
  rw [run.sl.v1409, run.sl.H20_21, View.readCov_cons_toLoadRect, p_v1372]

theorem r_v1399 (c : Dev nD) (i : grid1.Coords) (arg2 : Memref sig .tc .vmem S4096x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S4096x128 .bf16) (harg5 : arg5.IsWhole) (arg15 : Memref sig .tc .vmem S4096x128 .bf16) (arg18 : Memref sig .tc .vmem S4x512x512 .f32) (x0 : Vec F S4096x128 .bf16) (x1 : Vec F S4096x128 .bf16) (x2 : Vec F S4096x128 .bf16) (x3 : Vec F S4096x128 .bf16) : run.sl.v1399 (F := F) c i arg2 harg2 arg3 harg3 arg4 harg4 arg5 harg5 arg15 arg18 x0 x1 x2 x3 = shapeCast S1x512x512 (S i x0 x1 x2 x3 7 6) shapeCasts_S512x512_S1x512x512 := by
  rw [run.sl.v1399, run.sl.H18_29, View.readCov_skip _ _ _ _ _ (by decide), run.sl.H18_28, View.readCov_cons_toLoadRect, p_v1339]

theorem p_v1375 (c : Dev nD) (i : grid1.Coords) (arg2 : Memref sig .tc .vmem S4096x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S4096x128 .bf16) (harg5 : arg5.IsWhole) (arg15 : Memref sig .tc .vmem S4096x128 .bf16) (arg16 : Memref sig .tc .vmem S4096x128 .f32) (arg18 : Memref sig .tc .vmem S4x512x512 .f32) (x0 : Vec F S4096x128 .bf16) (x1 : Vec F S4096x128 .bf16) (x2 : Vec F S4096x128 .bf16) (x3 : Vec F S4096x128 .bf16) : run.sl.v1375 (F := F) c i arg2 harg2 arg3 harg3 arg4 harg4 arg5 harg5 arg15 arg16 arg18 x0 x1 x2 x3 = shapeCast S1x512x128 (M i x0 x1 x2 x3 7 6) shapeCasts_S512x128_S1x512x128 :=
  t_MNn i x0 x1 x2 x3 7 5 (r_v1365 c i arg2 harg2 arg3 harg3 arg4 harg4 arg5 harg5 arg15 arg16 arg18 x0 x1 x2 x3) (r_v1361 c i arg2 harg2 arg3 harg3 arg4 harg4 arg5 harg5 arg15 arg18 x0 x1 x2 x3)

theorem r_v1397 (c : Dev nD) (i : grid1.Coords) (arg2 : Memref sig .tc .vmem S4096x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S4096x128 .bf16) (harg5 : arg5.IsWhole) (arg15 : Memref sig .tc .vmem S4096x128 .bf16) (arg16 : Memref sig .tc .vmem S4096x128 .f32) (arg18 : Memref sig .tc .vmem S4x512x512 .f32) (arg19 : Memref sig .tc .vmem S4x512x128 .f32) (x0 : Vec F S4096x128 .bf16) (x1 : Vec F S4096x128 .bf16) (x2 : Vec F S4096x128 .bf16) (x3 : Vec F S4096x128 .bf16) : run.sl.v1397 (F := F) c i arg2 harg2 arg3 harg3 arg4 harg4 arg5 harg5 arg15 arg16 arg18 arg19 x0 x1 x2 x3 = shapeCast S1x512x128 (M i x0 x1 x2 x3 7 6) shapeCasts_S512x128_S1x512x128 := by
  rw [run.sl.v1397, run.sl.H19_28, View.readCov_cons_toLoadRect, p_v1375]

theorem p_v1417 (c : Dev nD) (i : grid1.Coords) (arg2 : Memref sig .tc .vmem S4096x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S4096x128 .bf16) (harg5 : arg5.IsWhole) (arg6 : Memref sig .tc .vmem S4096x128 .bf16) (harg6 : arg6.IsWhole) (arg15 : Memref sig .tc .vmem S4096x128 .bf16) (arg16 : Memref sig .tc .vmem S4096x128 .f32) (arg17 : Memref sig .tc .vmem S4096x256 .f32) (arg18 : Memref sig .tc .vmem S4x512x512 .f32) (arg19 : Memref sig .tc .vmem S4x512x128 .f32) (arg20 : Memref sig .tc .vmem S4x512x128 .f32) (x0 : Vec F S4096x128 .bf16) (x1 : Vec F S4096x128 .bf16) (x2 : Vec F S4096x128 .bf16) (x3 : Vec F S4096x128 .bf16) (x4 : Vec F S4096x128 .bf16) : run.sl.v1417 (F := F) c i arg2 harg2 arg3 harg3 arg4 harg4 arg5 harg5 arg6 harg6 arg15 arg16 arg17 arg18 arg19 arg20 x0 x1 x2 x3 x4 = acc i x0 x1 x2 x3 x4 7 6 :=
  t_ACn harg6 i x0 x1 x2 x3 x4 7 5 (r_v1399 c i arg2 harg2 arg3 harg3 arg4 harg4 arg5 harg5 arg15 arg18 x0 x1 x2 x3) (r_v1397 c i arg2 harg2 arg3 harg3 arg4 harg4 arg5 harg5 arg15 arg16 arg18 arg19 x0 x1 x2 x3) (r_v1409 c i arg2 harg2 arg3 harg3 arg4 harg4 arg5 harg5 arg15 arg16 arg18 arg20 x0 x1 x2 x3) (r_v1411 c i arg2 harg2 arg3 harg3 arg4 harg4 arg5 harg5 arg6 harg6 arg15 arg16 arg17 arg18 arg19 arg20 x0 x1 x2 x3 x4)

theorem r_v1851 (c : Dev nD) (i : grid1.Coords) (arg2 : Memref sig .tc .vmem S4096x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S4096x128 .bf16) (harg5 : arg5.IsWhole) (arg6 : Memref sig .tc .vmem S4096x128 .bf16) (harg6 : arg6.IsWhole) (arg15 : Memref sig .tc .vmem S4096x128 .bf16) (arg16 : Memref sig .tc .vmem S4096x128 .f32) (arg17 : Memref sig .tc .vmem S4096x256 .f32) (arg18 : Memref sig .tc .vmem S4x512x512 .f32) (arg19 : Memref sig .tc .vmem S4x512x128 .f32) (arg20 : Memref sig .tc .vmem S4x512x128 .f32) (x0 : Vec F S4096x128 .bf16) (x1 : Vec F S4096x128 .bf16) (x2 : Vec F S4096x128 .bf16) (x3 : Vec F S4096x128 .bf16) (x4 : Vec F S4096x128 .bf16) : run.sl.v1851 (F := F) c i arg2 harg2 arg3 harg3 arg4 harg4 arg5 harg5 arg6 harg6 arg15 arg16 arg17 arg18 arg19 arg20 x0 x1 x2 x3 x4 = acc i x0 x1 x2 x3 x4 7 6 := by
  rw [run.sl.v1851, run.sl.H17_28, View.readCov_cons_toLoadRect, p_v1417]

theorem p_last (c : Dev nD) (i : grid1.Coords) (arg2 : Memref sig .tc .vmem S4096x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S4096x128 .bf16) (harg5 : arg5.IsWhole) (arg6 : Memref sig .tc .vmem S4096x128 .bf16) (harg6 : arg6.IsWhole) (arg15 : Memref sig .tc .vmem S4096x128 .bf16) (arg16 : Memref sig .tc .vmem S4096x128 .f32) (arg17 : Memref sig .tc .vmem S4096x256 .f32) (arg18 : Memref sig .tc .vmem S4x512x512 .f32) (arg19 : Memref sig .tc .vmem S4x512x128 .f32) (arg20 : Memref sig .tc .vmem S4x512x128 .f32) (x0 : Vec F S4096x128 .bf16) (x1 : Vec F S4096x128 .bf16) (x2 : Vec F S4096x128 .bf16) (x3 : Vec F S4096x128 .bf16) (x4 : Vec F S4096x128 .bf16) : k1_pay1 (run.sl.r_3 (F := F) c i arg2 harg2 arg3 harg3 arg4 harg4 arg5 harg5 arg6 harg6 arg15 arg16 arg18 arg19 x0 x1 x2 x3 x4) (run.sl.v1849 (F := F) c i arg2 harg2 arg3 harg3 arg4 harg4 arg5 harg5 arg15 arg16 arg18 arg20 x0 x1 x2 x3) (run.sl.v1851 (F := F) c i arg2 harg2 arg3 harg3 arg4 harg4 arg5 harg5 arg6 harg6 arg15 arg16 arg17 arg18 arg19 arg20 x0 x1 x2 x3 x4) = out i x0 x1 x2 x3 x4 7 :=
  t_On harg6 i x0 x1 x2 x3 x4 7 6 rfl (r_v1819 c i arg2 harg2 arg3 harg3 arg4 harg4 arg5 harg5 arg15 arg18 x0 x1 x2 x3) (r_v1837 c i arg2 harg2 arg3 harg3 arg4 harg4 arg5 harg5 arg15 arg16 arg18 arg19 x0 x1 x2 x3) (r_v1849 c i arg2 harg2 arg3 harg3 arg4 harg4 arg5 harg5 arg15 arg16 arg18 arg20 x0 x1 x2 x3) (r_v1851 c i arg2 harg2 arg3 harg3 arg4 harg4 arg5 harg5 arg6 harg6 arg15 arg16 arg17 arg18 arg19 arg20 x0 x1 x2 x3 x4)

end Cert.KernelIdeal.Attn
-- ==== Proof.AttnVal.lean ====
/- What the attention kernel's body leaves. -/
module

public import proofs.«01_k».proof.Proof.AttnRead3
public import Idealize.ShloMosaic.Lib.Pipeline.ValueKit.Tiles
public import Idealize.ShloMosaic.Lib.Pipeline.ReadBack
public import Idealize.ShloMosaic.Lib.Pipeline.Value

@[expose] public section

set_option maxRecDepth 16384

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F] [Named F]

local notation "𝕄" => MT nD τ sig Unit (Elt F) ℕ (UR sig nD τ) ℕ

/-- The row and lane inside block `j 0 / 512`. -/
def inBlk (j : S4096x128.Idx) : S512x128.Idx := fun a => ⟨(![(j 0).val % 512, (j 1).val] : Fin 2 → ℕ) a, by
  have h1 : (j 1).val < 128 := (j 1).isLt
  have h0 := Nat.mod_lt (j 0).val (show 0 < 512 by decide)
  revert a; exact Fin.forall_fin_two.mpr ⟨h0, h1⟩⟩

/-- What the body leaves in its block of the attention. -/
def attnOut (i : grid1.Coords) (x0 x1 x2 x3 x4 : Vec F S4096x128 .bf16) : Vec F S4096x128 .bf16 :=
  fun j => out i x0 x1 x2 x3 x4 ((j 0).val / 512) (inBlk j)

/-- The eight stored blocks. -/
def blocks (w : ℕ → Vec F S512x128 .bf16) : List (View.Piece (Elt F) S4096x128 .bf16) :=
  [⟨Rect.unit (s := S4096x128) ![3584, 0] S512x128.size inb_S4096x128_S512x128_3584_0, w 7⟩, ⟨Rect.unit (s := S4096x128) ![3072, 0] S512x128.size inb_S4096x128_S512x128_3072_0, w 6⟩, ⟨Rect.unit (s := S4096x128) ![2560, 0] S512x128.size inb_S4096x128_S512x128_2560_0, w 5⟩, ⟨Rect.unit (s := S4096x128) ![2048, 0] S512x128.size inb_S4096x128_S512x128_2048_0, w 4⟩, ⟨Rect.unit (s := S4096x128) ![1536, 0] S512x128.size inb_S4096x128_S512x128_1536_0, w 3⟩, ⟨Rect.unit (s := S4096x128) ![1024, 0] S512x128.size inb_S4096x128_S512x128_1024_0, w 2⟩, ⟨Rect.unit (s := S4096x128) ![512, 0] S512x128.size inb_S4096x128_S512x128_512_0, w 1⟩, ⟨Rect.unit (s := S4096x128) ![0, 0] S512x128.size inb_S4096x128_S512x128_0_0, w 0⟩]

theorem piece_eq (i : grid1.Coords) (x0 x1 x2 x3 x4 : Vec F S4096x128 .bf16) (k : ℕ) (x : S512x128.Idx) :
    out i x0 x1 x2 x3 x4 (k % 8) x = attnOut i x0 x1 x2 x3 x4 ((Rect.unit (s := S4096x128) ![512 * (k % 8), 0] S512x128.size (blk_inb k)).emb x) := by
  have h0 : (x 0).val < 512 := (x 0).isLt
  have e0 : (((Rect.unit (s := S4096x128) ![512 * (k % 8), 0] S512x128.size (blk_inb k)).emb x) 0).val = 512 * (k % 8) + (x 0).val := Rect.idx_unit_val (s := S4096x128) ![512 * (k % 8), 0] S512x128.size (blk_inb k) x 0
  have e1 : (((Rect.unit (s := S4096x128) ![512 * (k % 8), 0] S512x128.size (blk_inb k)).emb x) 1).val = (x 1).val := (Rect.idx_unit_val (s := S4096x128) ![512 * (k % 8), 0] S512x128.size (blk_inb k) x 1).trans (Nat.zero_add _)
  unfold attnOut
  have hd : (512 * (k % 8) + (x 0).val) / 512 = k % 8 := by omega
  rw [e0, hd]
  refine congrArg _ (funext (Fin.forall_fin_two.mpr ⟨Fin.ext ?_, Fin.ext ?_⟩))
  · show (x 0).val = (((Rect.unit (s := S4096x128) ![512 * (k % 8), 0] S512x128.size (blk_inb k)).emb x) 0).val % 512
    rw [e0]; omega
  · exact e1.symm

theorem blocks_cover (w : ℕ → Vec F S512x128 .bf16) (j : S4096x128.Idx) : ∃ p ∈ blocks w, j ∈ p.1.set := by
  have hj : (j 0).val < 4096 := (j 0).isLt
  have : ∀ k, k < 8 → (j 0).val / 512 = k → j ∈ (Rect.unit (s := S4096x128) ![512 * (k % 8), 0] S512x128.size (blk_inb k)).set := by
    intro k hk hjk
    have h1 : (j 1).val < 128 := (j 1).isLt
    refine Rect.mem_set_unit.mpr (Fin.forall_fin_two.mpr ⟨⟨?_, ?_⟩, ⟨?_, ?_⟩⟩)
    · show 512 * (k % 8) ≤ (j 0).val; omega
    · show (j 0).val < 512 * (k % 8) + 512; omega
    · exact Nat.zero_le _
    · show (j 1).val < 0 + 128; omega
  have h8 : (j 0).val / 512 < 8 := by omega
  generalize hq : (j 0).val / 512 = q at *
  interval_cases q
  · exact ⟨_, List.mem_of_getElem? (i := 7) rfl, this 0 (by decide) rfl⟩
  · exact ⟨_, List.mem_of_getElem? (i := 6) rfl, this 1 (by decide) rfl⟩
  · exact ⟨_, List.mem_of_getElem? (i := 5) rfl, this 2 (by decide) rfl⟩
  · exact ⟨_, List.mem_of_getElem? (i := 4) rfl, this 3 (by decide) rfl⟩
  · exact ⟨_, List.mem_of_getElem? (i := 3) rfl, this 4 (by decide) rfl⟩
  · exact ⟨_, List.mem_of_getElem? (i := 2) rfl, this 5 (by decide) rfl⟩
  · exact ⟨_, List.mem_of_getElem? (i := 1) rfl, this 6 (by decide) rfl⟩
  · exact ⟨_, List.mem_of_getElem? (i := 0) rfl, this 7 (by decide) rfl⟩

theorem blocks_canon (i : grid1.Coords) (x0 x1 x2 x3 x4 : Vec F S4096x128 .bf16) : View.canon (blocks (out i x0 x1 x2 x3 x4)) = attnOut i x0 x1 x2 x3 x4 := by
  funext j
  have h := View.canon_append_of_piecesOf (attnOut i x0 x1 x2 x3 x4) [] (blocks (out i x0 x1 x2 x3 x4)) (by
    refine ⟨fun x => piece_eq i x0 x1 x2 x3 x4 7 x, fun x => piece_eq i x0 x1 x2 x3 x4 6 x, fun x => piece_eq i x0 x1 x2 x3 x4 5 x, fun x => piece_eq i x0 x1 x2 x3 x4 4 x, fun x => piece_eq i x0 x1 x2 x3 x4 3 x, fun x => piece_eq i x0 x1 x2 x3 x4 2 x, fun x => piece_eq i x0 x1 x2 x3 x4 1 x, fun x => piece_eq i x0 x1 x2 x3 x4 0 x, trivial⟩) j (blocks_cover _ j)
  rwa [List.append_nil] at h

theorem blocks_congr (w : ℕ → Vec F S512x128 .bf16) (w7 w6 w5 w4 w3 w2 w1 w0 : Vec F S512x128 .bf16) (h7 : w7 = w 7) (h6 : w6 = w 6) (h5 : w5 = w 5) (h4 : w4 = w 4) (h3 : w3 = w 3) (h2 : w2 = w 2) (h1 : w1 = w 1) (h0 : w0 = w 0) : [⟨Rect.unit (s := S4096x128) ![3584, 0] S512x128.size inb_S4096x128_S512x128_3584_0, w7⟩, ⟨Rect.unit (s := S4096x128) ![3072, 0] S512x128.size inb_S4096x128_S512x128_3072_0, w6⟩, ⟨Rect.unit (s := S4096x128) ![2560, 0] S512x128.size inb_S4096x128_S512x128_2560_0, w5⟩, ⟨Rect.unit (s := S4096x128) ![2048, 0] S512x128.size inb_S4096x128_S512x128_2048_0, w4⟩, ⟨Rect.unit (s := S4096x128) ![1536, 0] S512x128.size inb_S4096x128_S512x128_1536_0, w3⟩, ⟨Rect.unit (s := S4096x128) ![1024, 0] S512x128.size inb_S4096x128_S512x128_1024_0, w2⟩, ⟨Rect.unit (s := S4096x128) ![512, 0] S512x128.size inb_S4096x128_S512x128_512_0, w1⟩, ⟨Rect.unit (s := S4096x128) ![0, 0] S512x128.size inb_S4096x128_S512x128_0_0, w0⟩] = blocks w := by
  rw [h7, h6, h5, h4, h3, h2, h1, h0, blocks]

/-- The pieces stored in the attention's block. -/
theorem run_1 (c : Dev nD) (i : grid1.Coords) (arg2 : Memref sig .tc .vmem S4096x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S4096x128 .bf16) (harg5 : arg5.IsWhole) (arg6 : Memref sig .tc .vmem S4096x128 .bf16) (harg6 : arg6.IsWhole) (arg7 : Memref sig .tc .vmem S64x2048 .f32) (harg7 : arg7.IsWhole) (arg8 : Memref sig .tc .vmem S64x8192 .f32) (harg8 : arg8.IsWhole) (arg9 : Memref sig .tc .vmem S256x2048 .f32) (harg9 : arg9.IsWhole) (arg10 : Memref sig .tc .vmem S64x1 .f32) (harg10 : arg10.IsWhole) (arg11 : Memref sig .tc .vmem S4096x128 .bf16) (harg11 : arg11.IsWhole) (arg12 : Memref sig .tc .vmem S64x2048 .bf16) (harg12 : arg12.IsWhole) (arg13 : Memref sig .tc .vmem S64x8192 .bf16) (harg13 : arg13.IsWhole) (arg14 : Memref sig .tc .vmem S256x2048 .bf16) (harg14 : arg14.IsWhole) (arg15 : Memref sig .tc .vmem S4096x128 .bf16) (harg15 : arg15.IsWhole) (arg16 : Memref sig .tc .vmem S4096x128 .f32) (harg16 : arg16.IsWhole) (arg17 : Memref sig .tc .vmem S4096x256 .f32) (harg17 : arg17.IsWhole) (arg18 : Memref sig .tc .vmem S4x512x512 .f32) (harg18 : arg18.IsWhole) (arg19 : Memref sig .tc .vmem S4x512x128 .f32) (harg19 : arg19.IsWhole) (arg20 : Memref sig .tc .vmem S4x512x128 .f32) (harg20 : arg20.IsWhole) (x0 : Vec F S4096x128 .bf16) (x1 : Vec F S4096x128 .bf16) (x2 : Vec F S4096x128 .bf16) (x3 : Vec F S4096x128 .bf16) (x4 : Vec F S4096x128 .bf16) (x5 : Vec F S64x2048 .f32) (x6 : Vec F S64x8192 .f32) (x7 : Vec F S256x2048 .f32) (x8 : Vec F S64x1 .f32) : (run c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 x7 x8).1 = blocks (out i x0 x1 x2 x3 x4) :=
  blocks_congr (out i x0 x1 x2 x3 x4) _ _ _ _ _ _ _ _ (p_last c i arg2 harg2 arg3 harg3 arg4 harg4 arg5 harg5 arg6 harg6 arg15 arg16 arg17 arg18 arg19 arg20 x0 x1 x2 x3 x4) (p_v1817 c i arg2 harg2 arg3 harg3 arg4 harg4 arg5 harg5 arg6 harg6 arg15 arg16 arg17 arg18 arg19 arg20 x0 x1 x2 x3 x4) (p_v1758 c i arg2 harg2 arg3 harg3 arg4 harg4 arg5 harg5 arg6 harg6 arg15 arg16 arg17 arg18 arg19 arg20 x0 x1 x2 x3 x4) (p_v1699 c i arg2 harg2 arg3 harg3 arg4 harg4 arg5 harg5 arg6 harg6 arg15 arg16 arg17 arg18 arg19 arg20 x0 x1 x2 x3 x4) (p_v1640 c i arg2 harg2 arg3 harg3 arg4 harg4 arg5 harg5 arg6 harg6 arg15 arg16 arg17 arg18 arg19 arg20 x0 x1 x2 x3 x4) (p_v1581 c i arg2 harg2 arg3 harg3 arg4 harg4 arg5 harg5 arg6 harg6 arg15 arg16 arg17 arg18 arg19 arg20 x0 x1 x2 x3 x4) (p_v1522 c i arg2 harg2 arg3 harg3 arg4 harg4 arg5 harg5 arg6 harg6 arg15 arg16 arg17 arg18 arg19 arg20 x0 x1 x2 x3 x4) (p_v1463 c i arg2 harg2 arg3 harg3 arg4 harg4 arg5 harg5 arg6 harg6 arg15 arg16 arg18 arg19 x0 x1 x2 x3 x4)

/-- A cast weight with its gain. -/
def castGain (x : Vec F S64x2048 .f32) (g : Vec F S64x1 .f32) : Vec F S64x2048 .bf16 :=
  truncf .bf16 (mulf x (broadcastTo S64x2048 g broadcasts_S64x1_S64x2048)) bitsLt_bf16_f32

theorem read_whole {S : Shape} {e : EltTy} {m : Memref sig .tc .vmem S e} (hm : m.IsWhole) (x : S.Idx → Elt F e) {off : Fin S.rank → ℕ} (h0 : ∀ a, off a = 0) (h) :
    View.readAt (Elt F) m.view (Rect.unit (s := S) off S.size h).toLoadRect (hm.unread x) = x := by
  rw [View.readAt_eq_ld, hm.read_unread]
  exact View.ld_unit_zero (S := S) (funext h0) h x

theorem run_L (c : Dev nD) (i : grid1.Coords) (arg2 : Memref sig .tc .vmem S4096x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S4096x128 .bf16) (harg5 : arg5.IsWhole) (arg6 : Memref sig .tc .vmem S4096x128 .bf16) (harg6 : arg6.IsWhole) (arg7 : Memref sig .tc .vmem S64x2048 .f32) (harg7 : arg7.IsWhole) (arg8 : Memref sig .tc .vmem S64x8192 .f32) (harg8 : arg8.IsWhole) (arg9 : Memref sig .tc .vmem S256x2048 .f32) (harg9 : arg9.IsWhole) (arg10 : Memref sig .tc .vmem S64x1 .f32) (harg10 : arg10.IsWhole) (arg11 : Memref sig .tc .vmem S4096x128 .bf16) (harg11 : arg11.IsWhole) (arg12 : Memref sig .tc .vmem S64x2048 .bf16) (harg12 : arg12.IsWhole) (arg13 : Memref sig .tc .vmem S64x8192 .bf16) (harg13 : arg13.IsWhole) (arg14 : Memref sig .tc .vmem S256x2048 .bf16) (harg14 : arg14.IsWhole) (arg15 : Memref sig .tc .vmem S4096x128 .bf16) (harg15 : arg15.IsWhole) (arg16 : Memref sig .tc .vmem S4096x128 .f32) (harg16 : arg16.IsWhole) (arg17 : Memref sig .tc .vmem S4096x256 .f32) (harg17 : arg17.IsWhole) (arg18 : Memref sig .tc .vmem S4x512x512 .f32) (harg18 : arg18.IsWhole) (arg19 : Memref sig .tc .vmem S4x512x128 .f32) (harg19 : arg19.IsWhole) (arg20 : Memref sig .tc .vmem S4x512x128 .f32) (harg20 : arg20.IsWhole) (x0 : Vec F S4096x128 .bf16) (x1 : Vec F S4096x128 .bf16) (x2 : Vec F S4096x128 .bf16) (x3 : Vec F S4096x128 .bf16) (x4 : Vec F S4096x128 .bf16) (x5 : Vec F S64x2048 .f32) (x6 : Vec F S64x8192 .f32) (x7 : Vec F S256x2048 .f32) (x8 : Vec F S64x1 .f32) : View.canon (run c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 x7 x8).1 = attnOut i x0 x1 x2 x3 x4 ∧ View.canon (run c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 x7 x8).2.1 = castGain x5 x8
    ∧ View.canon (run c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 x7 x8).2.2.1 = truncf .bf16 x6 bitsLt_bf16_f32 ∧ View.canon (run c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 x7 x8).2.2.2.1 = truncf .bf16 x7 bitsLt_bf16_f32 := by
  refine ⟨by rw [run_1, blocks_canon], ?_, ?_, ?_⟩
  · exact (View.canon_cons_unit_lit (S := S64x2048) _ _ _ (by decide)).trans (congrArg₂ (fun a b => truncf .bf16 (mulf a (broadcastTo S64x2048 b broadcasts_S64x1_S64x2048)) bitsLt_bf16_f32) (read_whole (S := S64x2048) (off := ![0, 0]) harg7 x5 (by decide) _) (read_whole (S := S64x1) (off := ![0, 0]) harg10 x8 (by decide) _))
  · exact (View.canon_cons_unit_lit (S := S64x8192) _ _ _ (by decide)).trans (congrArg (fun a => truncf .bf16 a bitsLt_bf16_f32) (read_whole (S := S64x8192) (off := ![0, 0]) harg8 x6 (by decide) _))
  · exact (View.canon_cons_unit_lit (S := S256x2048) _ _ _ (by decide)).trans (congrArg (fun a => truncf .bf16 a bitsLt_bf16_f32) (read_whole (S := S256x2048) (off := ![0, 0]) harg9 x7 (by decide) _))

end Cert.KernelIdeal.Attn

end
-- ==== Proof.AttnRegion.lean ====
/- The attention call, at every point of its grid. -/
module

public import proofs.«01_k».proof.Proof.AttnVal
public import proofs.«01_k».proof.Proof.Region

@[expose] public section

set_option maxRecDepth 16384

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

variable (V : Dev nD → Valuation τ sig (Elt F))

/-- Window `w`'s block at point `t`. -/
def iblk (c : Dev nD) (w : Fin cfg1.W) (t : Fin cfg1.N) : ((cfg1.win w).xblock (cfg1.grid.coords t)).Idx → Elt F (cfg1.win w).elt :=
  ((cfg1.win w).blk t).view.read (Elt F) (V c (Proc.devRef .tc (Pipeline.arrRef spec1 w)))

theorem before0_of {c : Dev nD} (dat : Dat τ (Elt F) Unit ℕ (UR sig nD τ) ℕ cfg1 c) (hA : dat.A 0 = V c (Proc.devRef .tc (Pipeline.arrRef spec1 0)))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before1_of {c : Dev nD} (dat : Dat τ (Elt F) Unit ℕ (UR sig nD τ) ℕ cfg1 c) (hA : dat.A 1 = V c (Proc.devRef .tc (Pipeline.arrRef spec1 1)))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before2_of {c : Dev nD} (dat : Dat τ (Elt F) Unit ℕ (UR sig nD τ) ℕ cfg1 c) (hA : dat.A 2 = V c (Proc.devRef .tc (Pipeline.arrRef spec1 2)))
    (hafter : ∀ t, dat.after 2 t = iblk V c 2 t) (t : Fin cfg1.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before3_of {c : Dev nD} (dat : Dat τ (Elt F) Unit ℕ (UR sig nD τ) ℕ cfg1 c) (hA : dat.A 3 = V c (Proc.devRef .tc (Pipeline.arrRef spec1 3)))
    (hafter : ∀ t, dat.after 3 t = iblk V c 3 t) (t : Fin cfg1.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before4_of {c : Dev nD} (dat : Dat τ (Elt F) Unit ℕ (UR sig nD τ) ℕ cfg1 c) (hA : dat.A 4 = V c (Proc.devRef .tc (Pipeline.arrRef spec1 4)))
    (hafter : ∀ t, dat.after 4 t = iblk V c 4 t) (t : Fin cfg1.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before5_of {c : Dev nD} (dat : Dat τ (Elt F) Unit ℕ (UR sig nD τ) ℕ cfg1 c) (hA : dat.A 5 = V c (Proc.devRef .tc (Pipeline.arrRef spec1 5)))
    (hafter : ∀ t, dat.after 5 t = iblk V c 5 t) (t : Fin cfg1.N) (d) : dat.before 5 t d = iblk V c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before6_of {c : Dev nD} (dat : Dat τ (Elt F) Unit ℕ (UR sig nD τ) ℕ cfg1 c) (hA : dat.A 6 = V c (Proc.devRef .tc (Pipeline.arrRef spec1 6)))
    (hafter : ∀ t, dat.after 6 t = iblk V c 6 t) (t : Fin cfg1.N) (d) : dat.before 6 t d = iblk V c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before7_of {c : Dev nD} (dat : Dat τ (Elt F) Unit ℕ (UR sig nD τ) ℕ cfg1 c) (hA : dat.A 7 = V c (Proc.devRef .tc (Pipeline.arrRef spec1 7)))
    (hafter : ∀ t, dat.after 7 t = iblk V c 7 t) (t : Fin cfg1.N) (d) : dat.before 7 t d = iblk V c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
theorem before8_of {c : Dev nD} (dat : Dat τ (Elt F) Unit ℕ (UR sig nD τ) ℕ cfg1 c) (hA : dat.A 8 = V c (Proc.devRef .tc (Pipeline.arrRef spec1 8)))
    (hafter : ∀ t, dat.after 8 t = iblk V c 8 t) (t : Fin cfg1.N) (d) : dat.before 8 t d = iblk V c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)

theorem PhiA_eq (c : Dev nD) : (Pipeline.ΦA spec1 c : sProp 𝕄)
    = iprop(iprop(iprop((∃ d, owns (c : Thread nD τ) (Memref.whole cc1_scratch0) fullShare d) ∗ (∃ d, owns (c : Thread nD τ) (Memref.whole cc1_scratch1) fullShare d) ∗ (∃ d, owns (c : Thread nD τ) (Memref.whole cc1_scratch2) fullShare d) ∗ (∃ d, owns (c : Thread nD τ) (Memref.whole cc1_scratch3) fullShare d) ∗ (∃ d, owns (c : Thread nD τ) (Memref.whole cc1_scratch4) fullShare d) ∗ (∃ d, owns (c : Thread nD τ) (Memref.whole cc1_scratch5) fullShare d))
      ∗ Pipeline.scopedRestBut (Ix := Unit) (Name := ℕ) (U := UR sig nD τ) (Lvl := ℕ) (Val := Elt F) spec1 c [cc1_scratch0, cc1_scratch1, cc1_scratch2, cc1_scratch3, cc1_scratch4, cc1_scratch5]) ∗ (∃ r, prngReg c r)) := by
  unfold Pipeline.ΦA; rw [Pipeline.scopedRest_split_of_list spec1 c [cc1_scratch0, cc1_scratch1, cc1_scratch2, cc1_scratch3, cc1_scratch4, cc1_scratch5] (by decide) (by decide)]; simp only [owns_whole]; try rfl

/-- The region's proof data. -/
def dat (c : Dev nD) : Dat τ (Elt F) Unit ℕ (UR sig nD τ) ℕ cfg1 c where
  A w := V c (Proc.devRef .tc (Pipeline.arrRef spec1 w))
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => iblk V c 6 t
    | ⟨7, _⟩ => iblk V c 7 t
    | ⟨8, _⟩ => iblk V c 8 t
    | ⟨9, _⟩ => attnOut (grid1.coords t) (iblk V c 0 t) (iblk V c 1 t) (iblk V c 2 t) (iblk V c 3 t) (iblk V c 4 t)
    | ⟨10, _⟩ => castGain (iblk V c 5 t) (iblk V c 8 t)
    | ⟨11, _⟩ => truncf .bf16 (show Vec F S64x8192 .f32 from iblk V c 6 t) bitsLt_bf16_f32
    | ⟨12, _⟩ => truncf .bf16 (show Vec F S256x2048 .f32 from iblk V c 7 t) bitsLt_bf16_f32
  Φ _ := Pipeline.ΦA spec1 c
  q w := Pipeline.shareOf spec1 w
  owed _ := 0

theorem A_eq (c : Dev nD) (w : Fin cfg1.W) : (dat V c).A w = V c (Proc.devRef .tc (Pipeline.arrRef spec1 w)) := by dsimp only [dat]
theorem after0 (c : Dev nD) (t : Fin cfg1.N) : (dat V c).after 0 t = iblk V c 0 t := by dsimp only [dat]
theorem after1 (c : Dev nD) (t : Fin cfg1.N) : (dat V c).after 1 t = iblk V c 1 t := by dsimp only [dat]
theorem after2 (c : Dev nD) (t : Fin cfg1.N) : (dat V c).after 2 t = iblk V c 2 t := by dsimp only [dat]
theorem after3 (c : Dev nD) (t : Fin cfg1.N) : (dat V c).after 3 t = iblk V c 3 t := by dsimp only [dat]
theorem after4 (c : Dev nD) (t : Fin cfg1.N) : (dat V c).after 4 t = iblk V c 4 t := by dsimp only [dat]
theorem after5 (c : Dev nD) (t : Fin cfg1.N) : (dat V c).after 5 t = iblk V c 5 t := by dsimp only [dat]
theorem after6 (c : Dev nD) (t : Fin cfg1.N) : (dat V c).after 6 t = iblk V c 6 t := by dsimp only [dat]
theorem after7 (c : Dev nD) (t : Fin cfg1.N) : (dat V c).after 7 t = iblk V c 7 t := by dsimp only [dat]
theorem after8 (c : Dev nD) (t : Fin cfg1.N) : (dat V c).after 8 t = iblk V c 8 t := by dsimp only [dat]
theorem after9 (c : Dev nD) (t : Fin cfg1.N) : (dat V c).after 9 t = attnOut (grid1.coords t) (iblk V c 0 t) (iblk V c 1 t) (iblk V c 2 t) (iblk V c 3 t) (iblk V c 4 t) := by dsimp only [dat]
theorem after10 (c : Dev nD) (t : Fin cfg1.N) : (dat V c).after 10 t = castGain (iblk V c 5 t) (iblk V c 8 t) := by dsimp only [dat]
theorem after11 (c : Dev nD) (t : Fin cfg1.N) : (dat V c).after 11 t = truncf .bf16 (show Vec F S64x8192 .f32 from iblk V c 6 t) bitsLt_bf16_f32 := by dsimp only [dat]
theorem after12 (c : Dev nD) (t : Fin cfg1.N) : (dat V c).after 12 t = truncf .bf16 (show Vec F S256x2048 .f32 from iblk V c 7 t) bitsLt_bf16_f32 := by dsimp only [dat]
theorem before0 (c : Dev nD) (t : Fin cfg1.N) (d) : (dat V c).before 0 t d = iblk V c 0 t := before0_of V (dat V c) (A_eq V c 0) (after0 V c) t d
theorem before1 (c : Dev nD) (t : Fin cfg1.N) (d) : (dat V c).before 1 t d = iblk V c 1 t := before1_of V (dat V c) (A_eq V c 1) (after1 V c) t d
theorem before2 (c : Dev nD) (t : Fin cfg1.N) (d) : (dat V c).before 2 t d = iblk V c 2 t := before2_of V (dat V c) (A_eq V c 2) (after2 V c) t d
theorem before3 (c : Dev nD) (t : Fin cfg1.N) (d) : (dat V c).before 3 t d = iblk V c 3 t := before3_of V (dat V c) (A_eq V c 3) (after3 V c) t d
theorem before4 (c : Dev nD) (t : Fin cfg1.N) (d) : (dat V c).before 4 t d = iblk V c 4 t := before4_of V (dat V c) (A_eq V c 4) (after4 V c) t d
theorem before5 (c : Dev nD) (t : Fin cfg1.N) (d) : (dat V c).before 5 t d = iblk V c 5 t := before5_of V (dat V c) (A_eq V c 5) (after5 V c) t d
theorem before6 (c : Dev nD) (t : Fin cfg1.N) (d) : (dat V c).before 6 t d = iblk V c 6 t := before6_of V (dat V c) (A_eq V c 6) (after6 V c) t d
theorem before7 (c : Dev nD) (t : Fin cfg1.N) (d) : (dat V c).before 7 t d = iblk V c 7 t := before7_of V (dat V c) (A_eq V c 7) (after7 V c) t d
theorem before8 (c : Dev nD) (t : Fin cfg1.N) (d) : (dat V c).before 8 t d = iblk V c 8 t := before8_of V (dat V c) (A_eq V c 8) (after8 V c) t d

/-- What the body is called with at point `t`, -/
def bodyPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d))
    ∗ (∃ d, owns (c : Thread nD τ) (st1_3 t) fullShare ((dat V c).before 3 t d))
    ∗ (∃ d, owns (c : Thread nD τ) (st1_4 t) fullShare ((dat V c).before 4 t d))
    ∗ (∃ d, owns (c : Thread nD τ) (st1_5 t) fullShare ((dat V c).before 5 t d))
    ∗ (∃ d, owns (c : Thread nD τ) (st1_6 t) fullShare ((dat V c).before 6 t d))
    ∗ (∃ d, owns (c : Thread nD τ) (st1_7 t) fullShare ((dat V c).before 7 t d))
    ∗ (∃ d, owns (c : Thread nD τ) (st1_8 t) fullShare ((dat V c).before 8 t d))
    ∗ (∃ d, owns (c : Thread nD τ) (st1_9 t) fullShare ((dat V c).before 9 t d))
    ∗ (∃ d, owns (c : Thread nD τ) (st1_10 t) fullShare ((dat V c).before 10 t d))
    ∗ (∃ d, owns (c : Thread nD τ) (st1_11 t) fullShare ((dat V c).before 11 t d))
    ∗ (∃ d, owns (c : Thread nD τ) (st1_12 t) fullShare ((dat V c).before 12 t d)))

/-- and what it returns. -/
def bodyPost (c : Dev nD) (t : Fin cfg1.N) : sProp 𝕄 :=
  iprop((dat V c).Φ t.succ ∗ (dat V c).owesAt () t.succ
    ∗ owns (c : Thread nD τ) (st1_0 t) fullShare ((dat V c).after 0 t)
    ∗ owns (c : Thread nD τ) (st1_1 t) fullShare ((dat V c).after 1 t)
    ∗ owns (c : Thread nD τ) (st1_2 t) fullShare ((dat V c).after 2 t)
    ∗ owns (c : Thread nD τ) (st1_3 t) fullShare ((dat V c).after 3 t)
    ∗ owns (c : Thread nD τ) (st1_4 t) fullShare ((dat V c).after 4 t)
    ∗ owns (c : Thread nD τ) (st1_5 t) fullShare ((dat V c).after 5 t)
    ∗ owns (c : Thread nD τ) (st1_6 t) fullShare ((dat V c).after 6 t)
    ∗ owns (c : Thread nD τ) (st1_7 t) fullShare ((dat V c).after 7 t)
    ∗ owns (c : Thread nD τ) (st1_8 t) fullShare ((dat V c).after 8 t)
    ∗ owns (c : Thread nD τ) (st1_9 t) fullShare ((dat V c).after 9 t)
    ∗ owns (c : Thread nD τ) (st1_10 t) fullShare ((dat V c).after 10 t)
    ∗ owns (c : Thread nD τ) (st1_11 t) fullShare ((dat V c).after 11 t)
    ∗ owns (c : Thread nD τ) (st1_12 t) fullShare ((dat V c).after 12 t))

theorem owns_written (c : Dev nD) {S : Shape} {e : EltTy} (m : Memref sig .tc .vmem S e) (f) (L : List (View.Piece (Elt F) S e)) (G : S.Idx → Elt F e)
    (hcov : ∀ y, ∃ p ∈ L, y ∈ p.1.set) (hG : View.canon L = G) :
    (m.view.loc (c : Thread nD τ) ↦[m.view.set]{fullShare} m.view.writes (Elt F) f L : sProp 𝕄) ⊢ owns (c : Thread nD τ) m fullShare G := by
  unfold owns
  iintro H
  iexists _; isplitr
  swap; · iexact H
  ipureintro; rw [View.read_writes_eq_canon _ _ _ hcov]; exact hG

/-- A piece over the whole buffer covers it. -/
theorem cover_first {S : Shape} {e : EltTy} {off : Fin S.rank → ℕ} (h0 : ∀ a, off a = 0) (h) (w : S.Idx → Elt F e) (L : List (View.Piece (Elt F) S e)) :
    ∀ y, ∃ p ∈ (⟨Rect.unit (s := S) off S.size h, w⟩ : View.Piece (Elt F) S e) :: L, y ∈ p.1.set :=
  fun y => ⟨_, List.mem_cons_self, (Rect.mem_set_unit (off := off) (size := S.size) (inb := h)).mpr fun a => ⟨by rw [h0 a]; exact Nat.zero_le _, by rw [h0 a, Nat.zero_add]; exact (y a).isLt⟩⟩

theorem cover_blocks (c : Dev nD) (t : Fin cfg1.N) : ∀ y, ∃ p ∈ (run c (grid1.coords t) (st1_0 t) (hstage1_0 ((cfg1.slots t 0).cast nbuf1_0)) (st1_1 t) (hstage1_1 ((cfg1.slots t 1).cast nbuf1_1)) (st1_2 t) (hstage1_2 ((cfg1.slots t 2).cast nbuf1_2)) (st1_3 t) (hstage1_3 ((cfg1.slots t 3).cast nbuf1_3)) (st1_4 t) (hstage1_4 ((cfg1.slots t 4).cast nbuf1_4)) (st1_5 t) (hstage1_5 ((cfg1.slots t 5).cast nbuf1_5)) (st1_6 t) (hstage1_6 ((cfg1.slots t 6).cast nbuf1_6)) (st1_7 t) (hstage1_7 ((cfg1.slots t 7).cast nbuf1_7)) (st1_8 t) (hstage1_8 ((cfg1.slots t 8).cast nbuf1_8)) (st1_9 t) (hstage1_9 ((cfg1.slots t 9).cast nbuf1_9)) (st1_10 t) (hstage1_10 ((cfg1.slots t 10).cast nbuf1_10)) (st1_11 t) (hstage1_11 ((cfg1.slots t 11).cast nbuf1_11)) (st1_12 t) (hstage1_12 ((cfg1.slots t 12).cast nbuf1_12)) (Memref.whole cc1_scratch0) (Memref.isWhole_whole _) (Memref.whole cc1_scratch1) (Memref.isWhole_whole _) (Memref.whole cc1_scratch2) (Memref.isWhole_whole _) (Memref.whole cc1_scratch3) (Memref.isWhole_whole _) (Memref.whole cc1_scratch4) (Memref.isWhole_whole _) (Memref.whole cc1_scratch5) (Memref.isWhole_whole _) (iblk V c 0 t) (iblk V c 1 t) (iblk V c 2 t) (iblk V c 3 t) (iblk V c 4 t) (iblk V c 5 t) (iblk V c 6 t) (iblk V c 7 t) (iblk V c 8 t)).1, y ∈ p.1.set := by
  rw [run_1]; exact blocks_cover _

set_option maxHeartbeats 8000000 in
theorem body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before0, before1, before2, before3, before4, before5, before6, before7, before8, after0, after1, after2, after3, after4, after5, after6, after7, after8, after9, after10, after11, after12]
  rw [show (dat V c).owesAt () t.succ = (dat V c).owesAt () t.castSucc from rfl]
  rw [show (dat V c).Φ t.succ = Pipeline.ΦA spec1 c from rfl, show (dat V c).Φ t.castSucc = Pipeline.ΦA spec1 c from rfl]
  rw [PhiA_eq]
  have hc := cover_blocks V c t
  have hL := run_L c (grid1.coords t) (st1_0 t) (hstage1_0 ((cfg1.slots t 0).cast nbuf1_0)) (st1_1 t) (hstage1_1 ((cfg1.slots t 1).cast nbuf1_1)) (st1_2 t) (hstage1_2 ((cfg1.slots t 2).cast nbuf1_2)) (st1_3 t) (hstage1_3 ((cfg1.slots t 3).cast nbuf1_3)) (st1_4 t) (hstage1_4 ((cfg1.slots t 4).cast nbuf1_4)) (st1_5 t) (hstage1_5 ((cfg1.slots t 5).cast nbuf1_5)) (st1_6 t) (hstage1_6 ((cfg1.slots t 6).cast nbuf1_6)) (st1_7 t) (hstage1_7 ((cfg1.slots t 7).cast nbuf1_7)) (st1_8 t) (hstage1_8 ((cfg1.slots t 8).cast nbuf1_8)) (st1_9 t) (hstage1_9 ((cfg1.slots t 9).cast nbuf1_9)) (st1_10 t) (hstage1_10 ((cfg1.slots t 10).cast nbuf1_10)) (st1_11 t) (hstage1_11 ((cfg1.slots t 11).cast nbuf1_11)) (st1_12 t) (hstage1_12 ((cfg1.slots t 12).cast nbuf1_12)) (Memref.whole cc1_scratch0) (Memref.isWhole_whole _) (Memref.whole cc1_scratch1) (Memref.isWhole_whole _) (Memref.whole cc1_scratch2) (Memref.isWhole_whole _) (Memref.whole cc1_scratch3) (Memref.isWhole_whole _) (Memref.whole cc1_scratch4) (Memref.isWhole_whole _) (Memref.whole cc1_scratch5) (Memref.isWhole_whole _) (iblk V c 0 t) (iblk V c 1 t) (iblk V c 2 t) (iblk V c 3 t) (iblk V c 4 t) (iblk V c 5 t) (iblk V c 6 t) (iblk V c 7 t) (iblk V c 8 t)
  iintro ⟨⟨⟨⟨S0, S1, S2, S3, S4, S5⟩, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply ((run c (grid1.coords t) (st1_0 t) (hstage1_0 ((cfg1.slots t 0).cast nbuf1_0)) (st1_1 t) (hstage1_1 ((cfg1.slots t 1).cast nbuf1_1)) (st1_2 t) (hstage1_2 ((cfg1.slots t 2).cast nbuf1_2)) (st1_3 t) (hstage1_3 ((cfg1.slots t 3).cast nbuf1_3)) (st1_4 t) (hstage1_4 ((cfg1.slots t 4).cast nbuf1_4)) (st1_5 t) (hstage1_5 ((cfg1.slots t 5).cast nbuf1_5)) (st1_6 t) (hstage1_6 ((cfg1.slots t 6).cast nbuf1_6)) (st1_7 t) (hstage1_7 ((cfg1.slots t 7).cast nbuf1_7)) (st1_8 t) (hstage1_8 ((cfg1.slots t 8).cast nbuf1_8)) (st1_9 t) (hstage1_9 ((cfg1.slots t 9).cast nbuf1_9)) (st1_10 t) (hstage1_10 ((cfg1.slots t 10).cast nbuf1_10)) (st1_11 t) (hstage1_11 ((cfg1.slots t 11).cast nbuf1_11)) (st1_12 t) (hstage1_12 ((cfg1.slots t 12).cast nbuf1_12)) (Memref.whole cc1_scratch0) (Memref.isWhole_whole _) (Memref.whole cc1_scratch1) (Memref.isWhole_whole _) (Memref.whole cc1_scratch2) (Memref.isWhole_whole _) (Memref.whole cc1_scratch3) (Memref.isWhole_whole _) (Memref.whole cc1_scratch4) (Memref.isWhole_whole _) (Memref.whole cc1_scratch5) (Memref.isWhole_whole _) (iblk V c 0 t) (iblk V c 1 t) (iblk V c 2 t) (iblk V c 3 t) (iblk V c 4 t) (iblk V c 5 t) (iblk V c 6 t) (iblk V c 7 t) (iblk V c 8 t)).2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  isplitl [H11]; · iexists _; iexact H11
  isplitl [H12]; · iexists _; iexact H12
  isplitl [S0]; · iexact S0
  isplitl [S1]; · iexact S1
  isplitl [S2]; · iexact S2
  isplitl [S3]; · iexact S3
  isplitl [S4]; · iexact S4
  isplitl [S5]; · iexact S5
  iintro ⟨H0, H1, H2, H3, H4, H5, H6, H7, H8, ⟨%e9, H9⟩, ⟨%e10, H10⟩, ⟨%e11, H11⟩, ⟨%e12, H12⟩, S0, S1, S2, S3, S4, S5⟩
  isplitl [S0 S1 S2 S3 S4 S5 Hr Hg]
  · isplitr [Hg]
    · isplitr [Hr]
      · isplitl [S0]; · iexact S0
        isplitl [S1]; · iexact S1
        isplitl [S2]; · iexact S2
        isplitl [S3]; · iexact S3
        isplitl [S4]; · iexact S4
        iexact S5
      iexact Hr
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]
  · iapply (owns_written c _ _ _ _ hc hL.1); iexact H9
  isplitl [H10]
  · iapply (owns_written c _ _ _ _ (cover_first (S := S64x2048) (off := ![0, 0]) (by decide) _ _ _) hL.2.1); iexact H10
  isplitl [H11]
  · iapply (owns_written c _ _ _ _ (cover_first (S := S64x8192) (off := ![0, 0]) (by decide) _ _ _) hL.2.2.1); iexact H11
  iapply (owns_written c _ _ _ _ (cover_first (S := S256x2048) (off := ![0, 0]) (by decide) _ _ _) hL.2.2.2); iexact H12

/-- The body table's row at point `t`'s slots is the body as `bodyAt1` spells it. -/
theorem row_eq (t : Fin cfg1.N) : defs₀ (F := F) .tc cfg1.body (cfg1.bodyArgs t (cfg1.slots t)) = bodyAt1 t := by
  unfold defs₀; rw [Defs.onTc_tc]

/-- The body's obligation, at every point. -/
theorem obligation (c : Dev nD) : BodyObligation (dat V c) (defs₀ (F := F)) Variants.none () Set.univ := fun t => by
  rw [bigSep_W1, bigSep_W1, row_eq]
  exact triple_restated (body V c t) rfl .rfl fun _ => .rfl

end Cert.KernelIdeal.Attn

end
-- ==== Proof.Run.lean ====
/- The program's run: its two calls one after the other. -/
module

public import proofs.«01_k».proof.Proof.DecayRegion
public import proofs.«01_k».proof.Proof.AttnRegion

@[expose] public section

set_option maxRecDepth 16384

noncomputable section

namespace Cert.KernelIdeal.Host

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg)
open Cert.KernelIdeal.Gen

variable {F : FTy → Type} [FloatOps F] [Named F]

local notation "𝕄" => MT nD τ sig Unit (Elt F) ℕ (UR sig nD τ) ℕ

variable (m : (ℓ : Loc nD τ sig) → Buf (Elt F) ℓ)

/-- The buffers after the decay call. -/
def W9 (c : Dev nD) : Valuation τ sig (Elt F) :=
  Function.update (Function.update (V8 m c) main_v22_0 ((Decay.dat (fun c => V8 m c) c).arrAt 2 cfg0.N)) main_v22_1 ((Decay.dat (fun c => V8 m c) c).arrAt 3 cfg0.N)
/-- The buffers after the attention call. -/
def W10 (c : Dev nD) : Valuation τ sig (Elt F) :=
  Function.update (Function.update (Function.update (Function.update (W9 m c) main_v23_0 ((Attn.dat (W9 m) c).arrAt 9 cfg1.N)) main_v23_1 ((Attn.dat (W9 m) c).arrAt 10 cfg1.N)) main_v23_2 ((Attn.dat (W9 m) c).arrAt 11 cfg1.N)) main_v23_3 ((Attn.dat (W9 m) c).arrAt 12 cfg1.N)

theorem W9_of (c : Dev nD) (r : Ref sig .tc) (h : r ∉ ([main_v22_0, main_v22_1] : List (Ref sig .tc))) : W9 m c r = V8 m c r := by
  have h1 : r ≠ main_v22_0 := fun e => h (by rw [e]; decide)
  have h2 : r ≠ main_v22_1 := fun e => h (by rw [e]; decide)
  unfold W9
  rw [Function.update_of_ne (fun e => h2 (Proc.devRef_injective .tc e)), Function.update_of_ne (fun e => h1 (Proc.devRef_injective .tc e))]
theorem W10_of (c : Dev nD) (r : Ref sig .tc) (h : r ∉ ([main_v23_0, main_v23_1, main_v23_2, main_v23_3] : List (Ref sig .tc))) : W10 m c r = W9 m c r := by
  have h1 : r ≠ main_v23_0 := fun e => h (by rw [e]; decide)
  have h2 : r ≠ main_v23_1 := fun e => h (by rw [e]; decide)
  have h3 : r ≠ main_v23_2 := fun e => h (by rw [e]; decide)
  have h4 : r ≠ main_v23_3 := fun e => h (by rw [e]; decide)
  unfold W10
  rw [Function.update_of_ne (fun e => h4 (Proc.devRef_injective .tc e)), Function.update_of_ne (fun e => h3 (Proc.devRef_injective .tc e)), Function.update_of_ne (fun e => h2 (Proc.devRef_injective .tc e)), Function.update_of_ne (fun e => h1 (Proc.devRef_injective .tc e))]
theorem W9_0 (c : Dev nD) : W9 m c main_v22_0 = (Decay.dat (fun c => V8 m c) c).arrAt 2 cfg0.N := by
  unfold W9; rw [Function.update_of_ne (by decide), Function.update_self]
theorem W9_1 (c : Dev nD) : W9 m c main_v22_1 = (Decay.dat (fun c => V8 m c) c).arrAt 3 cfg0.N := by
  unfold W9; rw [Function.update_self]
theorem W10_0 (c : Dev nD) : W10 m c main_v23_0 = (Attn.dat (W9 m) c).arrAt 9 cfg1.N := by
  unfold W10; rw [Function.update_of_ne (by decide), Function.update_of_ne (by decide), Function.update_of_ne (by decide), Function.update_self]
theorem W10_1 (c : Dev nD) : W10 m c main_v23_1 = (Attn.dat (W9 m) c).arrAt 10 cfg1.N := by
  unfold W10; rw [Function.update_of_ne (by decide), Function.update_of_ne (by decide), Function.update_self]
theorem W10_2 (c : Dev nD) : W10 m c main_v23_2 = (Attn.dat (W9 m) c).arrAt 11 cfg1.N := by
  unfold W10; rw [Function.update_of_ne (by decide), Function.update_self]
theorem W10_3 (c : Dev nD) : W10 m c main_v23_3 = (Attn.dat (W9 m) c).arrAt 12 cfg1.N := by
  unfold W10; rw [Function.update_self]

/-- The proof data of the two calls. -/
def pdats : (p : Fin 2) → (c : Dev nD) → Dat τ (Elt F) Unit ℕ (UR sig nD τ) ℕ (cfgs p) c
  | ⟨0, _⟩ => fun c => Decay.dat (fun c => V8 m c) c
  | ⟨1, _⟩ => fun c => Attn.dat (W9 m) c

theorem launch₀0 : Pipeline.LaunchFacts₀ (nD := nD) (τ := τ) cfgs 0 :=
  ⟨cellOf_inj, winFacts0.to₀, by decide, block_pos0, arr_whole0, stage_whole0⟩

set_option maxHeartbeats 2000000 in
/-- The decay call's region. -/
def R0 : Pipeline.RegionSeg (pcfgs (F := F)) adm (pdats m) () defs₀ Variants.none noLevels level 0 :=
  regionOf (pdats m) 0 launch₀0 (fun c => (Decay.obligation (fun c => V8 m c) c).loose) (fun _ _ => rfl) (fun _ => rfl) (fun _ _ _ => rfl)
    (Decay.hin (fun c => V8 m c)) (Decay.hout (fun c => V8 m c)) (fun c => V8 m c) (W9 m)
    (fun _ _ => rfl)
    (fun c w => by
      match w with
      | ⟨0, _⟩ => exact ((Decay.dat (fun c => V8 m c) c).arrAt_in 0 rfl _).trans (W9_of m c (Pipeline.arrRef spec0 0) (by decide)).symm
      | ⟨1, _⟩ => exact ((Decay.dat (fun c => V8 m c) c).arrAt_in 1 rfl _).trans (W9_of m c (Pipeline.arrRef spec0 1) (by decide)).symm
      | ⟨2, _⟩ => exact (W9_0 m c).symm
      | ⟨3, _⟩ => exact (W9_1 m c).symm)
    (fun c b h => W9_of m c b (by
      intro hb
      rcases List.mem_cons.mp hb with e | hb
      · exact h 2 e
      · exact h 3 (List.mem_singleton.mp hb)))

set_option maxHeartbeats 2000000 in
/-- The attention call's region. -/
def R1 : Pipeline.RegionSeg (pcfgs (F := F)) adm (pdats m) () defs₀ Variants.none noLevels level 1 :=
  regionOf (pdats m) 1 launch₀1 (fun c => (Attn.obligation (W9 m) c).loose) (fun _ _ => rfl) (fun _ => rfl) (fun _ _ _ => rfl)
    (fun _ => .rfl) (fun _ => .rfl) (W9 m) (W10 m)
    (fun _ _ => rfl)
    (fun c w => by
      match w with
      | ⟨0, _⟩ => exact ((Attn.dat (W9 m) c).arrAt_in 0 rfl _).trans (W10_of m c (Pipeline.arrRef spec1 0) (by decide)).symm
      | ⟨1, _⟩ => exact ((Attn.dat (W9 m) c).arrAt_in 1 rfl _).trans (W10_of m c (Pipeline.arrRef spec1 1) (by decide)).symm
      | ⟨2, _⟩ => exact ((Attn.dat (W9 m) c).arrAt_in 2 rfl _).trans (W10_of m c (Pipeline.arrRef spec1 2) (by decide)).symm
      | ⟨3, _⟩ => exact ((Attn.dat (W9 m) c).arrAt_in 3 rfl _).trans (W10_of m c (Pipeline.arrRef spec1 3) (by decide)).symm
      | ⟨4, _⟩ => exact ((Attn.dat (W9 m) c).arrAt_in 4 rfl _).trans (W10_of m c (Pipeline.arrRef spec1 4) (by decide)).symm
      | ⟨5, _⟩ => exact ((Attn.dat (W9 m) c).arrAt_in 5 rfl _).trans (W10_of m c (Pipeline.arrRef spec1 5) (by decide)).symm
      | ⟨6, _⟩ => exact ((Attn.dat (W9 m) c).arrAt_in 6 rfl _).trans (W10_of m c (Pipeline.arrRef spec1 6) (by decide)).symm
      | ⟨7, _⟩ => exact ((Attn.dat (W9 m) c).arrAt_in 7 rfl _).trans (W10_of m c (Pipeline.arrRef spec1 7) (by decide)).symm
      | ⟨8, _⟩ => exact ((Attn.dat (W9 m) c).arrAt_in 8 rfl _).trans (W10_of m c (Pipeline.arrRef spec1 8) (by decide)).symm
      | ⟨9, _⟩ => exact (W10_0 m c).symm
      | ⟨10, _⟩ => exact (W10_1 m c).symm
      | ⟨11, _⟩ => exact (W10_2 m c).symm
      | ⟨12, _⟩ => exact (W10_3 m c).symm)
    (fun c b h => W10_of m c b (by
      intro hb
      rcases List.mem_cons.mp hb with e | hb
      · exact h 9 e
      rcases List.mem_cons.mp hb with e | hb
      · exact h 10 e
      rcases List.mem_cons.mp hb with e | hb
      · exact h 11 e
      · exact h 12 (List.mem_singleton.mp hb)))

/-- Every run of the program ends with each core's buffers at `W10` and every counter at zero. -/
theorem run_main (ρ : Dev nD → PrngReg) :
    θ_run defs (onTc (τ := τ) (main (F := F))) ⟨m, fun _ => 0, ρ⟩ (fun r => (∀ c : Dev nD, ∀ b ∈ Pipeline.ucRefs τ sig, r.2.mem ((c.tc : Thread nD τ).1, b) = W10 m c b)
      ∧ r.2.sem = fun _ => 0) := by
  refine Pipeline.θ_run_regions_kit_dev_sems (pcfgs (F := F)) adm (pdats m) () cellOf_inj emb₁ defs₀ Variants.none noLevels level m ρ main
    (segs m Variants.none noLevels level (fun _ => beside) () (pdats m) (R0 m) (R1 m))
    (fun c Q => by
      rewrite [main_chain c, Seg.run_eq_chain,
        show (segs m Variants.none noLevels level (fun _ => beside) () (pdats m) (R0 m) (R1 m) c).map Seg.prog = [
          StableHlo.seq hostOps0,
          StableHlo.seq hostOps0_1,
          StableHlo.seq hostOps0_2,
          StableHlo.seq hostOps0_3,
          StableHlo.seq hostOps0_4,
          StableHlo.seq hostOps0_5,
          StableHlo.seq hostOps0_6,
          StableHlo.seq hostOps0_7,
          Prog.lift (.customCall (Pipeline.entry 0) ()),
          Prog.lift (.customCall (Pipeline.entry 1) ()) ] from rfl]
      dsimp (config := { failIfUnchanged := false }) only
      exact .rfl)
    (fun c => by simp only [segs, Seg.pipes_host, Seg.pipes_region, Seg.pipes_nil]; decide) (O₀ := 0) (hL := fun _ _ => rfl)
    (G := fun _ => iprop(emp)) (u₀ := initOf (Pipeline.cells cfgs cellOf_inj) (Pipeline.launchToks cfgs cellOf_inj))
    (hu₀ := by
      iintro Hu; imodintro
      isplitl [Hu]
      · iapply (show (ownU _ : sProp 𝕄) ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ beside c))
    (Tₙ := fun c => StableHlo.held (c : Thread nD τ) (Pipeline.ucRefs τ sig) (W10 m c))
    (hch := fun c => ⟨.rfl, .rfl, .rfl, .rfl, .rfl, .rfl, .rfl, .rfl, .rfl, .rfl,
      (show iprop(StableHlo.held (c.tc : Thread nD τ) (Pipeline.ucRefs τ sig) (W10 m c)
          ∗ (∃ r, prngReg c r) ∗ ∃ W, owes (c.tc : Thread nD τ) (0 : CellTallies nD τ sig Unit) W) ⊢ (_ : sProp 𝕄) from by
        iintro ⟨Hh, -, HO⟩
        isplitl [Hh] <;> iassumption)⟩)
    (hinit := by
      refine Pipeline.initEach noLevels level fun c => ?_
      rw [show unscopedBufs c (fun b => m ((c.tc : Thread nD τ).loc b)) = StableHlo.held (c.tc : Thread nD τ) (Pipeline.ucRefs τ sig) (V0 m c)
          from Pipeline.unscopedBufs_held (Ix := Unit) (Name := ℕ) (U := UR sig nD τ) (Lvl := ℕ) c (V0 m c)]
      iintro ⟨⟨Hh, -, HO, -, Hp, -⟩, -⟩
      imodintro
      isplitl [Hh]; · iexact Hh
      isplitl [Hp]; · iexists _; iexact Hp
      iexists _; iexact HO)
    (QY := fun c s => ∀ b ∈ Pipeline.ucRefs τ sig, s.mem ((c.tc : Thread nD τ).1, b) = W10 m c b)
    (hfin := fun c s' => by
      unfold StableHlo.held
      iintro ⟨Hh, HSI⟩
      ihave Hr := (pointsTo_read_all (Pipeline.ucRefs τ sig) (fun b => ((c.tc : Thread nD τ).1, b)) (W10 m c) s') $$ [Hh HSI]
      · isplitl [Hh] <;> iassumption
      imodintro; iexact Hr)
    (hQ := fun _ h hz => ⟨h, funext fun g => hz g (.inr (regions_no_unscoped g.2))⟩)

/-- The arguments come through both calls and the host's operations. -/
theorem W10_launch (c : Dev nD) (r : Ref sig .tc) (h9 : r ∉ ([main_v22_0, main_v22_1] : List (Ref sig .tc))) (h10 : r ∉ ([main_v23_0, main_v23_1, main_v23_2, main_v23_3] : List (Ref sig .tc)))
    (h : V8 m c r = m ((c : Thread nD τ).loc r)) : W10 m c r = m ((c : Thread nD τ).loc r) :=
  (W10_of m c r h10).trans ((W9_of m c r h9).trans h)
theorem arg0 (c : Dev nD) : W10 m c main_arg0 = m ((c : Thread nD τ).loc main_arg0) :=
  W10_launch m c main_arg0 (by decide) (by decide) ((V8_of m c main_arg0 (by decide)).trans <| (V7_of m c main_arg0 (by decide)).trans <| (V6_of m c main_arg0 (by decide)).trans <| (V5_of m c main_arg0 (by decide)).trans <| (V4_of m c main_arg0 (by decide)).trans <| (V3_of m c main_arg0 (by decide)).trans <| (V2_of m c main_arg0 (by decide)).trans <| (V1_of m c main_arg0 (by decide)).trans rfl)
theorem arg1 (c : Dev nD) : W10 m c main_arg1 = m ((c : Thread nD τ).loc main_arg1) :=
  W10_launch m c main_arg1 (by decide) (by decide) ((V8_of m c main_arg1 (by decide)).trans <| (V7_of m c main_arg1 (by decide)).trans <| (V6_of m c main_arg1 (by decide)).trans <| (V5_of m c main_arg1 (by decide)).trans <| (V4_of m c main_arg1 (by decide)).trans <| (V3_of m c main_arg1 (by decide)).trans <| (V2_of m c main_arg1 (by decide)).trans <| (V1_of m c main_arg1 (by decide)).trans rfl)
theorem arg2 (c : Dev nD) : W10 m c main_arg2 = m ((c : Thread nD τ).loc main_arg2) :=
  W10_launch m c main_arg2 (by decide) (by decide) ((V8_of m c main_arg2 (by decide)).trans <| (V7_of m c main_arg2 (by decide)).trans <| (V6_of m c main_arg2 (by decide)).trans <| (V5_of m c main_arg2 (by decide)).trans <| (V4_of m c main_arg2 (by decide)).trans <| (V3_of m c main_arg2 (by decide)).trans <| (V2_of m c main_arg2 (by decide)).trans <| (V1_of m c main_arg2 (by decide)).trans rfl)
theorem arg3 (c : Dev nD) : W10 m c main_arg3 = m ((c : Thread nD τ).loc main_arg3) :=
  W10_launch m c main_arg3 (by decide) (by decide) ((V8_of m c main_arg3 (by decide)).trans <| (V7_of m c main_arg3 (by decide)).trans <| (V6_of m c main_arg3 (by decide)).trans <| (V5_of m c main_arg3 (by decide)).trans <| (V4_of m c main_arg3 (by decide)).trans <| (V3_of m c main_arg3 (by decide)).trans <| (V2_of m c main_arg3 (by decide)).trans <| (V1_of m c main_arg3 (by decide)).trans rfl)
theorem arg4 (c : Dev nD) : W10 m c main_arg4 = m ((c : Thread nD τ).loc main_arg4) :=
  W10_launch m c main_arg4 (by decide) (by decide) ((V8_of m c main_arg4 (by decide)).trans <| (V7_of m c main_arg4 (by decide)).trans <| (V6_of m c main_arg4 (by decide)).trans <| (V5_of m c main_arg4 (by decide)).trans <| (V4_of m c main_arg4 (by decide)).trans <| (V3_of m c main_arg4 (by decide)).trans <| (V2_of m c main_arg4 (by decide)).trans <| (V1_of m c main_arg4 (by decide)).trans rfl)
theorem arg5 (c : Dev nD) : W10 m c main_arg5 = m ((c : Thread nD τ).loc main_arg5) :=
  W10_launch m c main_arg5 (by decide) (by decide) ((V8_of m c main_arg5 (by decide)).trans <| (V7_of m c main_arg5 (by decide)).trans <| (V6_of m c main_arg5 (by decide)).trans <| (V5_of m c main_arg5 (by decide)).trans <| (V4_of m c main_arg5 (by decide)).trans <| (V3_of m c main_arg5 (by decide)).trans <| (V2_of m c main_arg5 (by decide)).trans <| (V1_of m c main_arg5 (by decide)).trans rfl)
theorem arg6 (c : Dev nD) : W10 m c main_arg6 = m ((c : Thread nD τ).loc main_arg6) :=
  W10_launch m c main_arg6 (by decide) (by decide) ((V8_of m c main_arg6 (by decide)).trans <| (V7_of m c main_arg6 (by decide)).trans <| (V6_of m c main_arg6 (by decide)).trans <| (V5_of m c main_arg6 (by decide)).trans <| (V4_of m c main_arg6 (by decide)).trans <| (V3_of m c main_arg6 (by decide)).trans <| (V2_of m c main_arg6 (by decide)).trans <| (V1_of m c main_arg6 (by decide)).trans rfl)
theorem arg7 (c : Dev nD) : W10 m c main_arg7 = m ((c : Thread nD τ).loc main_arg7) :=
  W10_launch m c main_arg7 (by decide) (by decide) ((V8_of m c main_arg7 (by decide)).trans <| (V7_of m c main_arg7 (by decide)).trans <| (V6_of m c main_arg7 (by decide)).trans <| (V5_of m c main_arg7 (by decide)).trans <| (V4_of m c main_arg7 (by decide)).trans <| (V3_of m c main_arg7 (by decide)).trans <| (V2_of m c main_arg7 (by decide)).trans <| (V1_of m c main_arg7 (by decide)).trans rfl)
theorem arg8 (c : Dev nD) : W10 m c main_arg8 = m ((c : Thread nD τ).loc main_arg8) :=
  W10_launch m c main_arg8 (by decide) (by decide) ((V8_of m c main_arg8 (by decide)).trans <| (V7_of m c main_arg8 (by decide)).trans <| (V6_of m c main_arg8 (by decide)).trans <| (V5_of m c main_arg8 (by decide)).trans <| (V4_of m c main_arg8 (by decide)).trans <| (V3_of m c main_arg8 (by decide)).trans <| (V2_of m c main_arg8 (by decide)).trans <| (V1_of m c main_arg8 (by decide)).trans rfl)
theorem arg9 (c : Dev nD) : W10 m c main_arg9 = m ((c : Thread nD τ).loc main_arg9) :=
  W10_launch m c main_arg9 (by decide) (by decide) ((V8_of m c main_arg9 (by decide)).trans <| (V7_of m c main_arg9 (by decide)).trans <| (V6_of m c main_arg9 (by decide)).trans <| (V5_of m c main_arg9 (by decide)).trans <| (V4_of m c main_arg9 (by decide)).trans <| (V3_of m c main_arg9 (by decide)).trans <| (V2_of m c main_arg9 (by decide)).trans <| (V1_of m c main_arg9 (by decide)).trans rfl)
theorem arg10 (c : Dev nD) : W10 m c main_arg10 = m ((c : Thread nD τ).loc main_arg10) :=
  W10_launch m c main_arg10 (by decide) (by decide) ((V8_of m c main_arg10 (by decide)).trans <| (V7_of m c main_arg10 (by decide)).trans <| (V6_of m c main_arg10 (by decide)).trans <| (V5_of m c main_arg10 (by decide)).trans <| (V4_of m c main_arg10 (by decide)).trans <| (V3_of m c main_arg10 (by decide)).trans <| (V2_of m c main_arg10 (by decide)).trans <| (V1_of m c main_arg10 (by decide)).trans rfl)

/-- The frame: every run ends, with the arguments as launched and every counter at zero. -/
theorem frame_run (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10))
      ∧ r.2.sem = fun _ => 0) :=
  (θ_run defs _ _).mono (fun r h => ⟨fun c => ⟨(h.1 c _ (Finset.mem_filter.mpr ⟨StableHlo.devRef_mem_tcRefs main_arg0, by decide⟩)).trans (arg0 m c),
    (h.1 c _ (Finset.mem_filter.mpr ⟨StableHlo.devRef_mem_tcRefs main_arg1, by decide⟩)).trans (arg1 m c),
    (h.1 c _ (Finset.mem_filter.mpr ⟨StableHlo.devRef_mem_tcRefs main_arg2, by decide⟩)).trans (arg2 m c),
    (h.1 c _ (Finset.mem_filter.mpr ⟨StableHlo.devRef_mem_tcRefs main_arg3, by decide⟩)).trans (arg3 m c),
    (h.1 c _ (Finset.mem_filter.mpr ⟨StableHlo.devRef_mem_tcRefs main_arg4, by decide⟩)).trans (arg4 m c),
    (h.1 c _ (Finset.mem_filter.mpr ⟨StableHlo.devRef_mem_tcRefs main_arg5, by decide⟩)).trans (arg5 m c),
    (h.1 c _ (Finset.mem_filter.mpr ⟨StableHlo.devRef_mem_tcRefs main_arg6, by decide⟩)).trans (arg6 m c),
    (h.1 c _ (Finset.mem_filter.mpr ⟨StableHlo.devRef_mem_tcRefs main_arg7, by decide⟩)).trans (arg7 m c),
    (h.1 c _ (Finset.mem_filter.mpr ⟨StableHlo.devRef_mem_tcRefs main_arg8, by decide⟩)).trans (arg8 m c),
    (h.1 c _ (Finset.mem_filter.mpr ⟨StableHlo.devRef_mem_tcRefs main_arg9, by decide⟩)).trans (arg9 m c),
    (h.1 c _ (Finset.mem_filter.mpr ⟨StableHlo.devRef_mem_tcRefs main_arg10, by decide⟩)).trans (arg10 m c)⟩, h.2⟩) (run_main m ρ)

end Cert.KernelIdeal.Host

end
-- ==== Proof.Same.lean ====
/- At the bit model the kernel and its form with a named constant are one program. -/
module

public import proofs.«01_k».proof.Defs
public import proofs.«01_k».proof.Proof.Run
public import proofs.«01_k».proof.Proof.Gen.Kernel
public import proofs.«01_k».proof.Proof.Gen.KernelIdeal
@[expose] public section
set_option maxRecDepth 100000
noncomputable section
namespace Cert.Proof
open Idealize.ShloMosaic Idealize.SL.Sem
/-- A named constant at the bit model is the constant the program was written with. -/
instance namedBits : Named Bits where
  named _ _ {φ} bits := Scalar.ofBits φ bits
attribute [local instance] Cert.Kernel.Gen.facts Cert.KernelIdeal.Gen.facts

set_option maxHeartbeats 4000000
/-- At the bit model the two decay bodies are one body. -/
theorem decay_eq : @Cert.Kernel.cc0_decay Bits _ _ = @Cert.KernelIdeal.cc0_decay Bits _ _ _ := rfl
/-- At the bit model the two tables of bodies are one table. -/
theorem bodies_eq : @Cert.Kernel.defs₀ Bits _ _ = @Cert.KernelIdeal.defs₀ Bits _ _ _ := by
  unfold Cert.Kernel.defs₀ Cert.KernelIdeal.defs₀
  refine congrArg Defs.onTc ?_
  funext l a
  match l, a with
  | 0, (t, s) =>
    show Cert.Kernel.cc0_decay (F := Bits) _ _ _ _ _ _ _ _ _ _ _ _ _ = Cert.KernelIdeal.cc0_decay (F := Bits) _ _ _ _ _ _ _ _ _ _ _ _ _
    rw [decay_eq]; rfl
  | 1, (t, s) => rfl
  | ⟨_ + 2, h⟩, _ => exact absurd h (Nat.not_lt.2 (Nat.le_add_left _ _))
/-- At the bit model the two programs' tables, with their pipelines, are one table. -/
theorem defs_eq : Cert.Kernel.defs (F := Bits) = Cert.KernelIdeal.defs (F := Bits) := by
  unfold Cert.Kernel.defs Cert.KernelIdeal.defs
  rw [bodies_eq]
  rfl
/-- At the bit model the two main functions are one function. -/
theorem main_eq : @Cert.Kernel.main Bits _ _ = @Cert.KernelIdeal.main Bits _ _ := rfl

end Cert.Proof
end
-- ==== Proof.Frames.lean ====
/- The frames of the three programs, and the named constant. -/
module

public import proofs.«01_k».proof.Defs
public import proofs.«01_k».proof.Proof.Same
public import proofs.«01_k».proof.Proof.Gen.ReferenceIdeal
public import proofs.«01_k».proof.Proof.Gen.ReferenceIdeal.Run

@[expose] public section

set_option maxRecDepth 100000

noncomputable section

namespace Cert.Proof

open Idealize.ShloMosaic Idealize.SL.Sem

attribute [local instance] Cert.Kernel.Gen.facts Cert.KernelIdeal.Gen.facts Cert.ReferenceIdeal.Gen.facts

set_option maxHeartbeats 4000000 in
/-- Every run of the kernel ends, leaves its arguments alone and its semaphores at zero. -/
theorem frame_p : Cert.quiescent_Kernel := fun m g _ => by
  rw [defs_eq, main_eq]
  exact Cert.KernelIdeal.Host.frame_run (F := Bits) m g

/-- The same of the program with the named constant. -/
theorem frame_pi : Cert.quiescent_KernelIdeal := fun m g _ => Cert.KernelIdeal.Host.frame_run (F := Ideal) m g

/-- The same of the reference. -/
theorem frame_ri : Cert.quiescent_ReferenceIdeal := fun m g _ =>
  (θ_run Cert.ReferenceIdeal.defs _ _).mono (fun r h => ⟨fun c => (h c).2.2.2.2,
    Idealize.ShloMosaic.sem_eq_zero_of_no_sems (by decide) r.2⟩) (Cert.ReferenceIdeal.Value.run (F := Ideal) m g)

/-- Naming the constant changes nothing on bits. -/
theorem preserves : Cert.preserves_Kernel_KernelIdeal := IdealRules.named_const.statement _ _ _ _ _ rfl

end Cert.Proof

end
-- ==== Proof.HostIdeal.lean ====
/- The arrays the host operations leave for the two calls, at an index. -/
module

public import proofs.«01_k».proof.Proof.Run
public import Idealize.ShloMosaic.Lib.Pointwise
public import Idealize.ShloMosaic.Lib.IdealHost
public import Idealize.ShloMosaic.Lib.StableHlo.ReadAt

@[expose] public section
set_option maxRecDepth 16384
noncomputable section
namespace Cert.KernelIdeal.Host
open Idealize.ShloMosaic Idealize.ShloMosaic.TcCoe Idealize.ShloMosaic.Tactic
open Cert.KernelIdeal.Gen
open scoped BigOperators

variable (m : (ℓ : Loc nD τ sig) → Buf (Elt Ideal) ℓ)

/-- The wide array, an entry of it. -/
def wide (c : Dev nD) (j : Fin 16384) (e : Fin 5120) : EReal := V8 m c ↑main_v10 (ix2 j e)
/-- The queries, keys and values as given. -/
def q0 (c : Dev nD) (j : Fin 16384) (e : Fin 1024) : EReal := m ⟨c, ↑main_arg0⟩ (ix2 j e)
/-- The keys. -/
def k0 (c : Dev nD) (j : Fin 16384) (e : Fin 1024) : EReal := m ⟨c, ↑main_arg1⟩ (ix2 j e)
/-- The values. -/
def w0 (c : Dev nD) (j : Fin 16384) (e : Fin 1024) : EReal := m ⟨c, ↑main_arg2⟩ (ix2 j e)
/-- The forget logits. -/
def f0 (c : Dev nD) (j : Fin 16384) (h : Fin 8) : EReal := m ⟨c, ↑main_arg5⟩ (ix2 j h)
/-- The forget bias. -/
def b0 (c : Dev nD) (h : Fin 8) : EReal := m ⟨c, ↑main_arg6⟩ (ix1 h)

theorem wide_eq (c : Dev nD) (j : Fin 16384) (e : Fin 5120) : wide m c j e = V1 m c ↑main_v10 (ix2 j e) := by
  unfold wide
  rw [V8_of m c _ (by decide), V7_of m c _ (by decide), V6_of m c _ (by decide), V5_of m c _ (by decide), V4_of m c _ (by decide), V3_of m c _ (by decide), V2_of m c _ (by decide)]

theorem two_bits : Ideal.ofBits .f32 1073741824#32 = ((2 : ℝ) : EReal) := by
  simp [Ideal.ofBits, Ideal.ieee, -EReal.coe_mul]; norm_num
theorem width_bits : Ideal.ofBits .f32 1124073472#32 = ((128 : ℝ) : EReal) := by
  simp [Ideal.ofBits, Ideal.ieee, -EReal.coe_mul]; norm_num

theorem wide_q (c : Dev nD) (j : Fin 16384) (e : Fin 5120) (h : e.val < 1024) (x : ℝ)
    (hx : q0 m c j ⟨e.val, h⟩ = ↑x) : wide m c j e = ↑(x / (Real.log 2 * Real.sqrt 128)) := by
  have hd : Real.log 2 * Real.sqrt 128 ≠ 0 := (mul_pos (Real.log_pos (by norm_num)) (Real.sqrt_pos.2 (by norm_num))).ne'
  have key : Ideal.div (q0 m c j ⟨e.val, h⟩) (Ideal.log (Ideal.ofBits FTy.f32 1073741824#32) * Ideal.sqrt (Ideal.ofBits FTy.f32 1124073472#32)) = ↑(x / (Real.log 2 * Real.sqrt 128)) := by
    rw [hx, two_bits, width_bits, Ideal.log_coe, Ideal.sqrt_coe, if_neg (show ¬ ((2:ℝ) ≤ 0) by norm_num), if_neg (show ¬ ((128:ℝ) < 0) by norm_num), ← EReal.coe_mul, Ideal.div_coe]
    rw [← EReal.coe_mul]
    congr 1
    rw [mul_one_div]
    exact hd
  rw [wide_eq, ← key]
  unfold V1
  after_reads_at
  rw [dif_pos h]
  after_reads_at
  rfl

theorem wide_k (c : Dev nD) (j : Fin 16384) (e : Fin 5120) (h : 1024 ≤ e.val) (h' : e.val - 1024 < 1024) :
    wide m c j e = k0 m c j ⟨e.val - 1024, h'⟩ := by
  rw [wide_eq]
  unfold V1
  after_reads_at
  rw [dif_neg (by omega), dif_pos h']
  after_reads_at
  rfl

theorem wide_v (c : Dev nD) (j : Fin 16384) (e : Fin 5120) (h : 2048 ≤ e.val) (h' : e.val - 2048 < 1024) :
    wide m c j e = w0 m c j ⟨e.val - 2048, h'⟩ := by
  rw [wide_eq]
  unfold V1
  after_reads_at
  rw [dif_neg (by omega), dif_neg (by omega), dif_pos (by omega)]
  after_reads_at
  rfl

theorem zero_word : (FloatOps.sitofp FTy.f32 (0#32 : BitVec 32) : Ideal .f32) = (0 : EReal) := by
  simp [FloatOps.sitofp]

/-- Two paddings one inside the other are one. -/
theorem nest {e : ℕ} {p : e < 64 → e / 8 < 8 ∧ e % 8 < 6 → EReal} {w : EReal} (hw : w = 0) {q : e < 64 ∧ e % 8 < 6 → EReal} (hpq : ∀ h h' h'', p h h' = q h'') :
    (if h : e < 64 then if h1 : e / 8 < 8 ∧ e % 8 < 6 then p h h1 else w else w) = if h : e < 64 ∧ e % 8 < 6 then q h else 0 := by
  by_cases h : e < 64
  · by_cases h' : e % 8 < 6
    · rw [dif_pos h, dif_pos ⟨by omega, h'⟩, dif_pos ⟨h, h'⟩]; exact hpq _ _ _
    · rw [dif_pos h, dif_neg (by omega), dif_neg (by omega)]; exact hw
  · rw [dif_neg h, dif_neg (by omega)]; exact hw

/-- The lanes of the bias row. -/
def biasLane (c : Dev nD) (e : Fin 128) : EReal := V8 m c ↑main_v16 (ix2 (0 : Fin 1) e)
/-- The lanes of the forget logits. -/
def gateLane (c : Dev nD) (t : Fin 16384) (e : Fin 128) : EReal := V8 m c ↑main_v21 (ix2 t e)

theorem biasLane_eq (c : Dev nD) (e : Fin 128) : biasLane m c e = if h : e.val < 64 ∧ e.val % 8 < 6 then b0 m c ⟨e.val / 8, by omega⟩ else 0 := by
  unfold biasLane
  rw [V8_of m c _ (by decide), V7_of m c _ (by decide), V6_of m c _ (by decide)]
  unfold V5
  after_reads_at
  exact nest zero_word fun _ _ _ => rfl

theorem gateLane_eq (c : Dev nD) (t : Fin 16384) (e : Fin 128) : gateLane m c t e = if h : e.val < 64 ∧ e.val % 8 < 6 then f0 m c t ⟨e.val / 8, by omega⟩ else 0 := by
  unfold gateLane
  unfold V8
  after_reads_at
  exact nest zero_word fun _ _ _ => rfl
end Cert.KernelIdeal.Host
end
-- ==== Proof.Soft.lean ====
/- The mathematics of the softmax over the extended reals: a sum that is rescaled block by block, and its quotient. -/
module

public import Idealize.ShloMosaic.PureOps.Ideal
public import Idealize.ShloMosaic.PureOps.Ideal.Laws
public import Mathlib.Analysis.SpecialFunctions.Pow.Real

@[expose] public section

noncomputable section

namespace Cert.Soft

open Idealize.ShloMosaic
open scoped BigOperators

/-- A power of two of an extended real below infinity, as a real. -/
def pow2 (x : EReal) : ℝ := (Ideal.exp2 x).toReal

theorem exp2_coe (r : ℝ) : Ideal.exp2 (r : EReal) = ((2 : ℝ) ^ r : ℝ) := rfl

theorem exp2_eq {x : EReal} (hx : x ≠ ⊤) : Ideal.exp2 x = (pow2 x : EReal) := by
  induction x with
  | bot => simp [pow2]
  | top => exact absurd rfl hx
  | coe r => rw [pow2, exp2_coe, EReal.toReal_coe]

theorem pow2_coe (r : ℝ) : pow2 (r : EReal) = (2 : ℝ) ^ r := by rw [pow2, exp2_coe, EReal.toReal_coe]

theorem pow2_bot : pow2 ⊥ = 0 := by simp [pow2]

theorem pow2_nonneg (x : EReal) : 0 ≤ pow2 x := by
  induction x with
  | bot => simp [pow2]
  | top => simp [pow2]
  | coe r => rw [pow2_coe]; positivity

theorem pow2_sub {x : EReal} (hx : x ≠ ⊤) (m : ℝ) : pow2 (x - m) = pow2 x * (2 : ℝ) ^ (-m) := by
  induction x with
  | bot => simp [pow2]
  | top => exact absurd rfl hx
  | coe r => rw [← EReal.coe_sub, pow2_coe, pow2_coe, sub_eq_add_neg, Real.rpow_add (by norm_num)]

theorem sub_ne_top {x : EReal} (hx : x ≠ ⊤) (m : ℝ) : x - m ≠ ⊤ := by
  induction x with
  | bot => simp
  | top => exact absurd rfl hx
  | coe r => rw [← EReal.coe_sub]; exact EReal.coe_ne_top _

/-- A real that is not negative multiplies a sum term by term. -/
theorem sum_mul_coe {ι : Type} (s : Finset ι) (f : ι → EReal) {a : ℝ} (ha : 0 ≤ a) :
    (∑ i ∈ s, f i) * (a : EReal) = ∑ i ∈ s, f i * (a : EReal) := by
  induction s using Finset.cons_induction with
  | empty => simp
  | cons i s hi ih =>
    rw [Finset.sum_cons, Finset.sum_cons, ← ih]
    exact EReal.right_distrib_of_nonneg_of_ne_top (by exact_mod_cast ha) (EReal.coe_ne_top _) _ _

theorem coe_sum {ι : Type} (s : Finset ι) (f : ι → ℝ) : ((∑ i ∈ s, f i : ℝ) : EReal) = ∑ i ∈ s, (f i : EReal) := by
  induction s using Finset.cons_induction with
  | empty => simp
  | cons i s hi ih => rw [Finset.sum_cons, Finset.sum_cons, EReal.coe_add, ih]

/-- A sum that is rescaled to each new maximum is the sum at the last maximum. -/
theorem fold {P : Type} [Fintype P] (s : ℕ → P → EReal) (m : ℕ → ℝ) (V : ℕ → P → EReal) (A : ℕ → EReal) (N : ℕ)
    (hs : ∀ k ≤ N, ∀ p, s k p ≠ ⊤)
    (h0 : A 0 = ∑ p, Ideal.exp2 (s 0 p - m 0) * V 0 p)
    (hA : ∀ n < N, A (n + 1) = A n * Ideal.exp2 ((m n : EReal) - m (n + 1)) + ∑ p, Ideal.exp2 (s (n + 1) p - m (n + 1)) * V (n + 1) p) :
    ∀ n ≤ N, A n = ∑ k ∈ Finset.range (n + 1), ∑ p, ((pow2 (s k p) * (2 : ℝ) ^ (-m n) : ℝ) : EReal) * V k p := by
  have key : ∀ n ≤ N, ∀ p (c : ℝ), Ideal.exp2 (s n p - c) = ((pow2 (s n p) * (2 : ℝ) ^ (-c) : ℝ) : EReal) := fun n hn p c => by
    rw [exp2_eq (sub_ne_top (hs n hn p) c), pow2_sub (hs n hn p)]
  intro n
  induction n with
  | zero => intro hn; rw [h0, Finset.sum_range_one]; exact Finset.sum_congr rfl fun p _ => by rw [key 0 hn]
  | succ n ih =>
    intro hn
    rw [hA n hn, ih (by omega), Finset.sum_range_succ _ (n + 1)]
    congr 1
    · rw [← EReal.coe_sub, exp2_coe, sum_mul_coe _ _ (by positivity)]
      refine Finset.sum_congr rfl fun k _ => ?_
      rw [sum_mul_coe _ _ (by positivity)]
      refine Finset.sum_congr rfl fun p _ => ?_
      rw [mul_right_comm, ← EReal.coe_mul, mul_assoc, ← Real.rpow_add (by norm_num)]
      congr 4; ring
    · exact Finset.sum_congr rfl fun p _ => by rw [key (n + 1) hn]

/-- A quotient of two sums with weights `e` scaled by one factor is the sum with the weights over their sum. -/
theorem ratio {ι : Type} [Fintype ι] (e : ι → ℝ) (V : ι → EReal) {a : ℝ} (ha : 0 < a) (he : 0 < ∑ i, e i) :
    Ideal.div (∑ i, ((e i * a : ℝ) : EReal) * V i) (∑ i, ((e i * a : ℝ) : EReal) * 1) = ∑ i, ((e i / ∑ u, e u : ℝ) : EReal) * V i := by
  have hd : (∑ i, ((e i * a : ℝ) : EReal) * 1) = (((∑ u, e u) * a : ℝ) : EReal) := by
    rw [Finset.sum_mul, coe_sum]; exact Finset.sum_congr rfl fun i _ => mul_one _
  have hp : 0 < (∑ u, e u) * a := mul_pos he ha
  rw [hd, Ideal.div_coe hp.ne', sum_mul_coe _ _ (by positivity)]
  refine Finset.sum_congr rfl fun i _ => ?_
  rw [mul_right_comm, ← EReal.coe_mul]
  congr 2; field_simp

/-- The weights of a softmax do not depend on what is subtracted from its exponents. -/
theorem weight {ι : Type} [Fintype ι] (e : ι → ℝ) {a : ℝ} (ha : 0 < a) (he : 0 < ∑ i, e i) (i : ι) :
    Ideal.div ((e i * a : ℝ) : EReal) (∑ i, ((e i * a : ℝ) : EReal)) = ((e i / ∑ u, e u : ℝ) : EReal) := by
  have hp : 0 < (∑ u, e u) * a := mul_pos he ha
  rw [← coe_sum, ← Finset.sum_mul, Ideal.div_coe hp.ne', ← EReal.coe_mul]
  congr 1; field_simp

/-- A power of two of an exponent over `log 2` is a power of e. -/
theorem pow2_log (r : ℝ) : pow2 (((Real.log 2)⁻¹ * r : ℝ) : EReal) = Real.exp r := by
  rw [pow2_coe, Real.rpow_def_of_pos (by norm_num), ← mul_assoc, mul_inv_cancel₀ (Real.log_pos (by norm_num)).ne', one_mul]

/-- The greatest of finitely many extended reals below infinity, one of them real, is real. -/
theorem fold_max_real {ι : Type} (s : Finset ι) (f : ι → EReal) (hf : ∀ i ∈ s, f i ≠ ⊤) {i : ι} (hi : i ∈ s) (hb : f i ≠ ⊥) :
    ∃ r : ℝ, s.fold max ⊥ f = (r : EReal) := by
  have h1 : f i ≤ s.fold max ⊥ f := (Finset.le_fold_max _).mpr (.inr ⟨i, hi, le_rfl⟩)
  have h2 : s.fold max ⊥ f < ⊤ := (Finset.fold_max_lt _).mpr ⟨bot_lt_top, fun j hj => lt_top_iff_ne_top.mpr (hf j hj)⟩
  have h3 : s.fold max ⊥ f ≠ ⊥ := fun h => hb (le_bot_iff.mp (h ▸ h1))
  exact ⟨_, (EReal.coe_toReal h2.ne h3).symm⟩

/-- A sum over 4096 positions is a sum over eight blocks of 512. -/
theorem sum_blocks (f : ℕ → EReal) : ∑ t : Fin 4096, f t.val = ∑ k ∈ Finset.range 8, ∑ p : Fin 512, f (512 * k + p.val) := by
  rw [Finset.sum_range, ← Equiv.sum_comp (finProdFinEquiv (m := 8) (n := 512)) (fun t : Fin (8 * 512) => f t.val), Fintype.sum_prod_type]
  refine Finset.sum_congr rfl fun k _ => Finset.sum_congr rfl fun p _ => ?_
  congr 1; simp [finProdFinEquiv]; omega

end Cert.Soft

end
-- ==== Proof.DecayIdeal.lean ====
/- The decay lanes over the extended reals: the running sums of the log of the sigmoid of the logits. -/
module

public import proofs.«01_k».proof.Proof.DecayVal
public import proofs.«01_k».proof.Proof.Soft
public import Idealize.ShloMosaic.Lib.Pointwise
public import Idealize.ShloMosaic.Lib.WordCmp
public import Idealize.ShloMosaic.Lib.IdealHost

@[expose] public section
set_option maxRecDepth 16384
noncomputable section
namespace Cert.KernelIdeal.Decay
open Idealize.ShloMosaic
open Cert.KernelIdeal.Gen
open scoped BigOperators

/-- The log of the sigmoid of a real. -/
def lsig (y : ℝ) : ℝ := min y 0 - Real.log (1 + Real.exp (-|y|))

theorem log1p_exp (r : ℝ) : Ideal.log1p (Ideal.exp (r : EReal)) = ((Real.log (1 + Real.exp r) : ℝ) : EReal) := by
  have h : (1 : EReal) + ((Real.exp r : ℝ) : EReal) = ((1 + Real.exp r : ℝ) : EReal) := by push_cast; rfl
  have h0 : ¬ (1 + Real.exp r ≤ 0) := by have := Real.exp_pos r; linarith
  rw [Ideal.exp_coe, Ideal.log1p, h, Ideal.log_coe, if_neg h0]

theorem max_neg (y : ℝ) : max (y : EReal) (-(y : EReal)) = ((|y| : ℝ) : EReal) := by
  rw [← EReal.coe_neg, abs]; exact (EReal.coe_strictMono.monotone.map_max).symm

theorem lsig_eq (y : ℝ) : min (y : EReal) 0 - Ideal.log1p (Ideal.exp (0 - max (y : EReal) (-(y : EReal)))) = (lsig y : EReal) := by
  rw [max_neg, zero_sub, ← EReal.coe_neg, log1p_exp, lsig, EReal.coe_sub, EReal.coe_strictMono.monotone.map_min]; rfl

theorem logf_apply (x : Vec Ideal S256x128 .f32) (b : Vec Ideal S1x128 .f32) (r : Fin 256) (c : Fin 128) {y : ℝ}
    (h : x (ix2 r c) + b (ix2 0 c) = (y : EReal)) : logf x b (ix2 r c) = (lsig y : EReal) := by
  rw [← lsig_eq, ← h]
  pointwise [logf]
  rfl

/-- The comparison of two small counters, as a number. -/
theorem le_num (x r : ℕ) (hx : x < 2 ^ 31) (hr : r < 2 ^ 31) :
    (FloatOps.sitofp .f32 (BitVec.setWidth 32 (IntOp.cmpi .sle (BitVec.ofNat 32 x) (BitVec.ofNat 32 r))) : Ideal .f32) =
      (((if x ≤ r then 1 else 0 : ℝ)) : EReal) := by
  rw [WordCmp.cmpi_sle_ofNat (by simpa using hx) (by simpa using hr)]
  show ((((BitVec.setWidth 32 (BitVec.ofBool (decide (x ≤ r)))).toInt : ℤ) : ℝ) : EReal) = _
  by_cases h : x ≤ r
  · simp [h]
  · simp [h]

theorem sum_le (r : Fin 256) (g : ℕ → ℝ) :
    ∑ x : Fin 256, (((if x.val ≤ r.val then 1 else 0 : ℝ)) : EReal) * (g x.val : EReal) = ((∑ k ∈ Finset.range (r.val + 1), g k : ℝ) : EReal) := by
  have h : ∀ x : Fin 256, (((if x.val ≤ r.val then 1 else 0 : ℝ)) : EReal) * (g x.val : EReal) = (((if x.val ≤ r.val then g x.val else 0) : ℝ) : EReal) := by
    intro x; rw [← EReal.coe_mul]; congr 1; split_ifs <;> simp
  rw [Finset.sum_congr rfl fun x _ => h x, ← Soft.coe_sum]
  congr 1
  rw [Fin.sum_univ_eq_sum_range (fun k => if k ≤ r.val then g k else 0) 256, ← Finset.sum_filter]
  refine Finset.sum_congr (Finset.ext fun k => ?_) fun _ _ => rfl
  have := r.isLt
  simp only [Finset.mem_filter, Finset.mem_range]; omega

theorem cum_apply (l : FVec Ideal S256x128 .f32) (carry : Vec Ideal S1x128 .f32) (r : Fin 256) (c : Fin 128) (g : ℕ → ℝ)
    (hl : ∀ k : Fin 256, l (ix2 k c) = (g k.val : EReal)) :
    cum l carry (ix2 r c) = ((∑ k ∈ Finset.range (r.val + 1), g k : ℝ) : EReal) + carry (ix2 0 c) := by
  pointwise [cum, tri]
  simp only [hl]
  have hz : ∀ x : ℝ, (x : EReal) - (x : EReal) = ((0 : ℝ) : EReal) := fun x => by rw [← EReal.coe_sub, sub_self]
  have hs := sum_le r g
  have hn : ∀ x : Fin 256, (FloatOps.sitofp .f32 (BitVec.setWidth 32 (IntOp.cmpi .sle (BitVec.ofNat 32 x.val) (BitVec.ofNat 32 r.val))) : Ideal .f32) =
      (((if x.val ≤ r.val then 1 else 0 : ℝ)) : EReal) := fun x => le_num _ _ (by have := x.isLt; omega) (by have := r.isLt; omega)
  simp only [hz]
  simp only [hn]
  rw [hs]
  simp

/-- The running sums of eight blocks of 256 rows. -/
theorem chain_apply (x0 : Vec Ideal S2048x128 .f32) (b c0 : Vec Ideal S1x128 .f32) (c : Fin 128) (y : ℕ → ℝ) (c' : ℝ)
    (hx : ∀ t : Fin 2048, x0 (ix2 t c) + b (ix2 0 c) = (y t.val : EReal)) (hc : c0 (ix2 0 c) = (c' : EReal)) (k : ℕ) (hk : k < 8) (r : Fin 256) :
    chain (blk x0) b c0 k (ix2 r c) = ((c' + ∑ t ∈ Finset.range (256 * k + r.val + 1), lsig (y t) : ℝ) : EReal) := by
  have hl : ∀ k, k < 8 → ∀ p : Fin 256, logf (blk x0 k) b (ix2 p c) = ((lsig (y (256 * k + p.val)) : ℝ) : EReal) := by
    intro k hk p
    have hp := p.isLt
    refine logf_apply _ _ _ _ ?_
    rw [← hx ⟨256 * k + p.val, by omega⟩]
    congr 1
    refine congrArg x0 (funext (Fin.forall_fin_two.mpr ⟨Fin.ext ?_, Fin.ext ?_⟩))
    · show 256 * (k % 8) + 1 * p.val = 256 * k + p.val; omega
    · show 0 + 1 * c.val = c.val; omega
  induction k generalizing r with
  | zero =>
    rw [chain, cum_apply _ _ _ _ (fun p => lsig (y (256 * 0 + p))) (hl 0 hk), hc, ← EReal.coe_add]
    congr 1; rw [add_comm]; congr 1; refine Finset.sum_congr (by simp) fun i _ => by simp
  | succ k ih =>
    have hlast : lastRow (chain (blk x0) b c0 k) (ix2 0 c) = chain (blk x0) b c0 k (ix2 255 c) := by
      pointwise [lastRow]
    rw [chain, cum_apply _ _ _ _ (fun p => lsig (y (256 * (k + 1) + p))) (hl (k + 1) hk), hlast, ih (by omega), ← EReal.coe_add]
    congr 1
    have e : 256 * (k + 1) + r.val + 1 = (256 * k + 255 + 1) + (r.val + 1) := by ring
    rw [e, Finset.sum_range_add (fun t => lsig (y t)) (256 * k + 255 + 1)]
    have e3 : ∀ p, 256 * (k + 1) + p = 256 * k + 255 + 1 + p := fun p => by ring
    simp only [e3]
    show _ + (c' + ∑ t ∈ Finset.range (256 * k + 255 + 1), lsig (y t)) = _
    rw [add_comm, add_assoc]

theorem sums_apply (x0 : Vec Ideal S2048x128 .f32) (b c0 : Vec Ideal S1x128 .f32) (c : Fin 128) (y : ℕ → ℝ) (c' : ℝ)
    (hx : ∀ t : Fin 2048, x0 (ix2 t c) + b (ix2 0 c) = (y t.val : EReal)) (hc : c0 (ix2 0 c) = (c' : EReal)) (t : Fin 2048) :
    sums x0 b c0 (ix2 t c) = ((c' + ∑ s ∈ Finset.range (t.val + 1), lsig (y s) : ℝ) : EReal) := by
  have ht := t.isLt
  have e : inBlk (ix2 t c) = ix2 ⟨t.val % 256, Nat.mod_lt _ (by decide)⟩ c := by
    refine funext (Fin.forall_fin_two.mpr ⟨Fin.ext rfl, Fin.ext rfl⟩)
  show chain (blk x0) b c0 (t.val / 256) (inBlk (ix2 t c)) = _
  rw [e, chain_apply x0 b c0 c y c' hx hc _ (by omega)]
  have e2 : 256 * (t.val / 256) + t.val % 256 + 1 = t.val + 1 := by rw [Nat.div_add_mod]
  show ((c' + ∑ s ∈ Finset.range (256 * (t.val / 256) + t.val % 256 + 1), lsig (y s) : ℝ) : EReal) = _
  rw [e2]

theorem carryOut_apply (x0 : Vec Ideal S2048x128 .f32) (b c0 : Vec Ideal S1x128 .f32) (c : Fin 128) (y : ℕ → ℝ) (c' : ℝ)
    (hx : ∀ t : Fin 2048, x0 (ix2 t c) + b (ix2 0 c) = (y t.val : EReal)) (hc : c0 (ix2 0 c) = (c' : EReal)) :
    carryOut x0 b c0 (ix2 0 c) = ((c' + ∑ s ∈ Finset.range 2048, lsig (y s) : ℝ) : EReal) := by
  have hlast : carryOut x0 b c0 (ix2 0 c) = chain (blk x0) b c0 7 (ix2 255 c) := by
    pointwise [carryOut, lastRow]
  rw [hlast, chain_apply x0 b c0 c y c' hx hc _ (by decide)]
  rfl

theorem lane_first : ∀ c : Fin 128, IntOp.andi (IntOp.cmpi .slt (BitVec.ofNat 32 c.val) 64#32) (IntOp.cmpi .slt (IntOp.andi (BitVec.ofNat 32 c.val) 7#32) 3#32)
    = if c.val < 64 ∧ c.val % 8 < 3 then 1#1 else 0#1 := by decide +kernel

theorem lane_second : ∀ c : Fin 128, IntOp.andi (IntOp.cmpi .slt (BitVec.ofNat 32 c.val) 64#32)
    (IntOp.andi (IntOp.cmpi .sge (IntOp.andi (BitVec.ofNat 32 c.val) 7#32) 3#32) (IntOp.cmpi .slt (IntOp.andi (BitVec.ofNat 32 c.val) 7#32) 6#32))
    = if c.val < 64 ∧ 3 ≤ c.val % 8 ∧ c.val % 8 < 6 then 1#1 else 0#1 := by decide +kernel

theorem lane_hi : ∀ c : Fin 128, IntOp.cmpi .eq (Scalar.select (IntOp.cmpi .sge (IntOp.andi (BitVec.ofNat 32 c.val) 7#32) 3#32)
    (IntOp.subi (IntOp.andi (BitVec.ofNat 32 c.val) 7#32) 3#32) (IntOp.andi (BitVec.ofNat 32 c.val) 7#32)) 0#32
    = if c.val % 8 = 0 ∨ c.val % 8 = 3 then 1#1 else 0#1 := by decide +kernel

/-- The queries' decay lanes: the sum in the first lane of a head, ones in the next three. -/
def qlane (x : ℝ) (c : ℕ) : ℝ := if c < 64 ∧ c % 8 = 0 then x else if c < 64 ∧ 3 ≤ c % 8 ∧ c % 8 < 6 then 1 else 0

/-- The keys' decay lanes: ones in the first three lanes of a head, the sum's negative in the fourth. -/
def klane (x : ℝ) (c : ℕ) : ℝ := if c < 64 ∧ c % 8 < 3 then 1 else if c < 64 ∧ c % 8 = 3 then -x else 0

theorem sub_self_coe (x : ℝ) : (x : EReal) - (x : EReal) = 0 := by rw [← EReal.coe_sub, sub_self]; rfl

theorem log2e_ideal : (Named.named κ "log2e" 1069066811#32 : Ideal .f32) = (((Real.log 2)⁻¹ : ℝ) : EReal) := rfl

theorem sel_one {α : Type} (p : Prop) [Decidable p] (x y : α) : Scalar.select (if p then 1#1 else 0#1) x y = if p then x else y := by
  split_ifs <;> rfl

theorem qaOf_apply (f : Vec Ideal S2048x128 .f32) (t : Fin 2048) (c : Fin 128) {x : ℝ} (hf : f (ix2 t c) = (x : EReal)) :
    qaOf f (ix2 t c) = (qlane (x * (Real.log 2)⁻¹) c.val : EReal) := by
  pointwise [qaOf, k0_pay2, k0_pay42, k0_pay43, k0_pay44, k0_pay45, k0_pay46, k0_pay47, k0_pay1]
  rw [lane_first, lane_second, lane_hi, hf, log2e_ideal, ← EReal.coe_mul, sub_self_coe, sel_one, sel_one, sel_one, qlane]
  generalize x * (Real.log 2)⁻¹ = z
  simp only [sub_zero, Scalar.select, ite_self]
  split_ifs <;> first | rfl | omega

theorem kaOf_apply (f : Vec Ideal S2048x128 .f32) (t : Fin 2048) (c : Fin 128) {x : ℝ} (hf : f (ix2 t c) = (x : EReal)) :
    kaOf f (ix2 t c) = (klane (x * (Real.log 2)⁻¹) c.val : EReal) := by
  pointwise [kaOf, k0_pay3, k0_pay42, k0_pay43, k0_pay44, k0_pay45, k0_pay46, k0_pay47, k0_pay1]
  rw [lane_first, lane_second, lane_hi, hf, log2e_ideal, ← EReal.coe_mul, sub_self_coe, sel_one, sel_one, sel_one, klane]
  generalize x * (Real.log 2)⁻¹ = z
  simp only [sub_zero, Scalar.select, ite_self]
  split_ifs <;> first | rfl | omega | simp

end Cert.KernelIdeal.Decay
end
-- ==== Proof.DecayArr.lean ====
/- The decay call's two results, at an index. -/
module

public import proofs.«01_k».proof.Proof.HostIdeal
public import proofs.«01_k».proof.Proof.DecayIdeal
public import Idealize.ShloMosaic.Lib.Pipeline.ValueKit.Geometry
public import Idealize.ShloMosaic.Lib.Pipeline.ValueKit.Point

@[expose] public section
set_option maxRecDepth 16384
noncomputable section
namespace Cert.KernelIdeal.Decay
open Idealize.ShloMosaic Idealize.ShloMosaic.TcCoe Idealize.ShloMosaic.Tactic
open Cert.KernelIdeal.Gen Cert.KernelIdeal.Host
open Finset
open scoped BigOperators

variable (m : (ℓ : Loc nD τ sig) → Buf (Elt Ideal) ℓ)

theorem idx : ∀ t : Fin grid0.N, (win0 0).index t = ![t.val, 0] ∧ (win0 1).index t = ![0, 0] ∧ (win0 2).index t = ![t.val, 0] ∧ (win0 3).index t = ![t.val, 0] := by
  decide +kernel

theorem iblk0 (c : Dev nD) (t : Fin cfg0.N) (r : Fin 2048) (l : Fin 128) (h : t.val * 2048 + r.val < 16384) :
    (iblk (fun c => V8 m c) c 0 t (ix2 r l) : EReal) = gateLane m c ⟨t.val * 2048 + r.val, h⟩ l := by
  unfold gateLane
  blk_ext [iblk, (idx t).1]

theorem iblk1 (c : Dev nD) (t : Fin cfg0.N) (l : Fin 128) :
    (iblk (fun c => V8 m c) c 1 t (ix2 (0 : Fin 1) l) : EReal) = biasLane m c l := by
  unfold biasLane
  blk_ext [iblk, (idx t).2.1]

/-- The running sum of a lane of a sequence. -/
def F (y : ℕ → ℕ → ℕ → ℝ) (b l t : ℕ) : ℝ := ∑ s ∈ range (t + 1), lsig (y b l s)

theorem sumsAt_apply (c : Dev nD) (y : ℕ → ℕ → ℕ → ℝ)
    (hy : ∀ (j : Fin 16384) (l : Fin 128), gateLane m c j l + biasLane m c l = ↑(y (j.val / 4096) l.val (j.val % 4096)))
    (t : Fin cfg0.N) (r : Fin 2048) (l : Fin 128) :
    (sumsAt (fun c => V8 m c) c t (ix2 r l) : EReal) = ↑(F y (t.val / 2) l.val (t.val % 2 * 2048 + r.val)) := by
  have ht : t.val < 8 := lt_of_lt_of_eq t.isLt N_0
  have hx : ∀ (u : Fin cfg0.N) (s : Fin 2048), @HAdd.hAdd EReal EReal EReal _ (iblk (fun c => V8 m c) c 0 u (ix2 s l)) (iblk (fun c => V8 m c) c 1 u (ix2 (0 : Fin 1) l))
      = ↑(y (u.val / 2) l.val (u.val % 2 * 2048 + s.val)) := by
    intro u s
    have hu : u.val < 8 := lt_of_lt_of_eq u.isLt N_0
    rw [iblk0 m c u s l (by omega), iblk1, hy]
    have e1 : (u.val * 2048 + s.val) / 4096 = u.val / 2 := by omega
    have e2 : (u.val * 2048 + s.val) % 4096 = u.val % 2 * 2048 + s.val := by omega
    rw [e1, e2]
  have hz : (zeroRow (F := Ideal) (ix2 (0 : Fin 1) l) : EReal) = ((0 : ℝ) : EReal) := by
    unfold zeroRow; pointwise; simp
  unfold sumsAt carryIn
  by_cases h : t.val % 2 = 0
  · rw [if_pos h]
    refine (sums_apply _ _ _ l (fun s => y (t.val / 2) l.val (t.val % 2 * 2048 + s)) 0 (fun s => hx t s) hz r).trans ?_
    unfold F
    rw [h]
    simp
  · rw [if_neg h]
    have h1 : t.val % 2 = 1 := by omega
    have hc := carryOut_apply _ _ _ l (fun s => y ((t.val - 1) / 2) l.val ((t.val - 1) % 2 * 2048 + s)) 0 (fun s => hx ⟨t.val - 1, by omega⟩ s) hz
    refine (sums_apply _ _ _ l (fun s => y (t.val / 2) l.val (t.val % 2 * 2048 + s)) _ (fun s => hx t s) hc r).trans ?_
    unfold F
    rw [h1, show (t.val - 1) / 2 = t.val / 2 by omega, show (t.val - 1) % 2 = 0 by omega, show 1 * 2048 + r.val + 1 = 2048 + (r.val + 1) by omega, Finset.sum_range_add _ 2048 (r.val + 1)]
    simp only [zero_mul, zero_add, one_mul]

/-- The decay call's first result, everywhere. -/
def Gq (y : ℕ → ℕ → ℕ → ℝ) : S16384x128.Idx → EReal := fun i =>
  ↑(qlane (F y ((i 0).val / 4096) (i 1).val ((i 0).val % 4096) * (Real.log 2)⁻¹) (i 1).val)
/-- Its second result. -/
def Gk (y : ℕ → ℕ → ℕ → ℝ) : S16384x128.Idx → EReal := fun i =>
  ↑(klane (F y ((i 0).val / 4096) (i 1).val ((i 0).val % 4096) * (Real.log 2)⁻¹) (i 1).val)

theorem arr2 (c : Dev nD) (y : ℕ → ℕ → ℕ → ℝ)
    (hy : ∀ (j : Fin 16384) (l : Fin 128), gateLane m c j l + biasLane m c l = ↑(y (j.val / 4096) l.val (j.val % 4096))) :
    (dat (fun c => V8 m c) c).arrAt 2 cfg0.N = Gq y := by
  refine (dat (fun c => V8 m c) c).arrAt_eq_of_covers 2 _ (by decide +kernel) fun t hf x => ?_
  have ht : t.val < 8 := lt_of_lt_of_eq t.isLt N_0
  blk_simp
  rw [after2]
  obtain ⟨r, l, rfl⟩ : ∃ (r : Fin 2048) (l : Fin 128), x = ix2 r l := ⟨x 0, x 1, by funext a; fin_cases a <;> rfl⟩
  refine (qaOf_apply _ r l (sumsAt_apply m c y hy t r l)).trans ?_
  have e0 : (((cfg0.win 2).blk t).view.emb (ix2 r l) 0).val = t.val * 2048 + r.val := by blk_simp [(idx t).2.2.1]
  have e1 : (((cfg0.win 2).blk t).view.emb (ix2 r l) 1).val = l.val := by blk_simp [(idx t).2.2.1]
  unfold Gq
  rw [e0, e1, show (t.val * 2048 + r.val) / 4096 = t.val / 2 by omega, show (t.val * 2048 + r.val) % 4096 = t.val % 2 * 2048 + r.val by omega]

theorem arr3 (c : Dev nD) (y : ℕ → ℕ → ℕ → ℝ)
    (hy : ∀ (j : Fin 16384) (l : Fin 128), gateLane m c j l + biasLane m c l = ↑(y (j.val / 4096) l.val (j.val % 4096))) :
    (dat (fun c => V8 m c) c).arrAt 3 cfg0.N = Gk y := by
  refine (dat (fun c => V8 m c) c).arrAt_eq_of_covers 3 _ (by decide +kernel) fun t hf x => ?_
  have ht : t.val < 8 := lt_of_lt_of_eq t.isLt N_0
  blk_simp
  rw [after3]
  obtain ⟨r, l, rfl⟩ : ∃ (r : Fin 2048) (l : Fin 128), x = ix2 r l := ⟨x 0, x 1, by funext a; fin_cases a <;> rfl⟩
  refine (kaOf_apply _ r l (sumsAt_apply m c y hy t r l)).trans ?_
  have e0 : (((cfg0.win 3).blk t).view.emb (ix2 r l) 0).val = t.val * 2048 + r.val := by blk_simp [(idx t).2.2.2]
  have e1 : (((cfg0.win 3).blk t).view.emb (ix2 r l) 1).val = l.val := by blk_simp [(idx t).2.2.2]
  unfold Gk
  rw [e0, e1, show (t.val * 2048 + r.val) / 4096 = t.val / 2 by omega, show (t.val * 2048 + r.val) % 4096 = t.val % 2 * 2048 + r.val by omega]

end Cert.KernelIdeal.Decay
end
-- ==== Proof.AttnIdeal.lean ====
/- The attention kernel over the extended reals: a softmax of the scores times the values. -/
module

public import proofs.«01_k».proof.Proof.AttnVal
public import proofs.«01_k».proof.Proof.DecayIdeal
public import Idealize.ShloMosaic.Lib.Pointwise
public import Idealize.ShloMosaic.Lib.IdealHost
public import Idealize.ShloMosaic.Lib.WordCmp

@[expose] public section

set_option maxRecDepth 16384

noncomputable section

namespace Cert.KernelIdeal.Attn

open Idealize.ShloMosaic
open Cert.KernelIdeal.Gen
open scoped BigOperators

variable (i : grid1.Coords) (x0 x1 x2 x3 x4 : Vec Ideal S4096x128 .bf16)

/-- Row `r` of block `k` of a window. -/
theorem blk_apply (x : Vec Ideal S4096x128 .bf16) (k : ℕ) (hk : k < 8) (r : Fin 512) (d : Fin 128) :
    blk x k (ix2 r d) = x (ix2 ⟨512 * k + r.val, by have := r.isLt; omega⟩ d) := by
  have hr := r.isLt
  refine congrArg x (funext (Fin.forall_fin_two.mpr ⟨Fin.ext ?_, Fin.ext ?_⟩))
  · show 512 * (k % 8) + 1 * r.val = 512 * k + r.val; omega
  · show 0 + 1 * d.val = d.val; omega

theorem score_apply (a b : ℕ) (ha : a < 8) (hb : b < 8) (r p : Fin 512) : score i x0 x1 x2 x3 a b (ix2 r p) =
    ∑ d : Fin 128, x0 (ix2 ⟨512 * a + r.val, by have := r.isLt; omega⟩ d) * x2 (ix2 ⟨512 * b + p.val, by have := p.isLt; omega⟩ d) +
    ∑ d : Fin 128, qam i x1 (ix2 ⟨512 * a + r.val, by have := r.isLt; omega⟩ d) * x3 (ix2 ⟨512 * b + p.val, by have := p.isLt; omega⟩ d) := by
  simp only [← blk_apply _ _ ha, ← blk_apply _ _ hb]
  pointwise [score]

theorem neg_inf : Ideal.ofBits FTy.f32 4286578688#32 = ⊥ := by rfl

theorem S_diag (a : ℕ) (r p : Fin 512) : S i x0 x1 x2 x3 a a (ix2 r p) = if p.val ≤ r.val then score i x0 x1 x2 x3 a a (ix2 r p) else ⊥ := by
  have hp := p.isLt
  have hr := r.isLt
  rw [S, if_pos rfl]
  pointwise []
  rw [WordCmp.cmpi_sle_ofNat (by simp; omega) (by simp; omega), neg_inf]
  by_cases h : p.val ≤ r.val <;> simp [h, Scalar.select]

theorem S_off (a b : ℕ) (h : a ≠ b) (r p : Fin 512) : S i x0 x1 x2 x3 a b (ix2 r p) = score i x0 x1 x2 x3 a b (ix2 r p) := by
  rw [S, if_neg h]

theorem mine : ∀ (h : Fin 8) (c : Fin 128), IntOp.andi (IntOp.cmpi .sge (BitVec.ofNat 32 c.val) (Scalar.muli (BitVec.ofNat 32 h.val) 8#32))
    (IntOp.cmpi .slt (BitVec.ofNat 32 c.val) (Scalar.addi (Scalar.muli (BitVec.ofNat 32 h.val) 8#32) 8#32)) =
    if 8 * h.val ≤ c.val ∧ c.val < 8 * h.val + 8 then 1#1 else 0#1 := by decide +kernel

theorem qam_apply (hi : (i 1).val < 8) (t : Fin 4096) (c : Fin 128) : qam i x1 (ix2 t c) = if 8 * (i 1).val ≤ c.val ∧ c.val < 8 * (i 1).val + 8 then x1 (ix2 t c) else 0 := by
  pointwise [qam]
  rw [mine ⟨(i 1).val, hi⟩ c, Decay.sel_one]

theorem rowMax_apply (s : FVec Ideal S512x512 .f32) (r : Fin 512) (d : Fin 128) : rowMax s (ix2 r d) = Finset.univ.fold max ⊥ fun x => s (ix2 r x) := by
  pointwise [rowMax]
  rw [neg_inf]

theorem pv_apply (s : FVec Ideal S512x512 .f32) (m : FVec Ideal S512x128 .f32) (v : Vec Ideal S512x128 .bf16) (r : Fin 512) (d : Fin 256) {z : EReal}
    (hm : ∀ c, m (ix2 r c) = z) : pv s m v (ix2 r d) = ∑ p : Fin 512, Ideal.exp2 (s (ix2 r p) - z) * (if h : d.val < 128 then v (ix2 p ⟨d.val, h⟩) else 1) := by
  pointwise [pv]
  simp only [hm, dite_eq_ite, ite_self]
  rfl

/-- The weight of key `u` for query `t`. -/
def wt (σ : ℕ → ℕ → ℝ) (t u : ℕ) : ℝ := if u ≤ t then Real.exp (σ t u) else 0

theorem wt_pos (σ : ℕ → ℕ → ℝ) (t : ℕ) : 0 < ∑ u : Fin 4096, wt σ t u.val := by
  refine Finset.sum_pos' (fun u _ => ?_) ⟨0, Finset.mem_univ _, ?_⟩
  · rw [wt]; split_ifs; exacts [(Real.exp_pos _).le, le_rfl]
  · rw [wt, if_pos (show ((0 : Fin 4096).val) ≤ t from Nat.zero_le _)]; exact Real.exp_pos _

section
variable (σ : ℕ → ℕ → ℝ) (hS : ∀ a b, a < 8 → b < 8 → ∀ r p : Fin 512, score i x0 x1 x2 x3 a b (ix2 r p) = (((Real.log 2)⁻¹ * σ (512 * a + r.val) (512 * b + p.val) : ℝ) : EReal))
include hS

theorem S_pow (a k : ℕ) (ha : a < 8) (hk : k ≤ a) (r p : Fin 512) : S i x0 x1 x2 x3 a k (ix2 r p) ≠ ⊤ ∧ Soft.pow2 (S i x0 x1 x2 x3 a k (ix2 r p)) = wt σ (512 * a + r.val) (512 * k + p.val) := by
  have hp := p.isLt
  by_cases h : a = k
  · subst h
    rw [S_diag, wt]
    by_cases h : p.val ≤ r.val
    · rw [if_pos h, hS a a ha ha, Soft.pow2_log, if_pos (by omega)]
      exact ⟨EReal.coe_ne_top _, rfl⟩
    · rw [if_neg h, if_neg (by omega), Soft.pow2_bot]
      exact ⟨bot_ne_top, rfl⟩
  · rw [S_off _ _ _ _ _ _ _ h, hS a k ha (by omega), Soft.pow2_log, wt, if_pos (by omega)]
    exact ⟨EReal.coe_ne_top _, rfl⟩

theorem S_bot (a k : ℕ) (ha : a < 8) (hk : k ≤ a) (r : Fin 512) : S i x0 x1 x2 x3 a k (ix2 r 0) ≠ ⊥ := by
  by_cases h : a = k
  · subst h
    rw [S_diag, if_pos (show ((0 : Fin 512).val) ≤ r.val from Nat.zero_le _), hS a a ha ha]
    exact EReal.coe_ne_bot _
  · rw [S_off _ _ _ _ _ _ _ h, hS a k ha (by omega)]
    exact EReal.coe_ne_bot _

theorem rowMax_real (a k : ℕ) (ha : a < 8) (hk : k ≤ a) (r : Fin 512) : ∃ z : ℝ, ∀ d, rowMax (S i x0 x1 x2 x3 a k) (ix2 r d) = (z : EReal) := by
  obtain ⟨z, hz⟩ := Soft.fold_max_real Finset.univ (fun p => S i x0 x1 x2 x3 a k (ix2 r p)) (fun p _ => (S_pow i x0 x1 x2 x3 σ hS a k ha hk r p).1)
    (Finset.mem_univ 0) (S_bot i x0 x1 x2 x3 σ hS a k ha hk r)
  exact ⟨z, fun d => (rowMax_apply _ r d).trans hz⟩

theorem M_real (a n : ℕ) (ha : a < 8) (hn : n ≤ a) (r : Fin 512) : ∃ z : ℝ, ∀ d, M i x0 x1 x2 x3 a n (ix2 r d) = (z : EReal) := by
  induction n with
  | zero => exact rowMax_real i x0 x1 x2 x3 σ hS a 0 ha hn r
  | succ n ih =>
    obtain ⟨z, hz⟩ := ih (by omega)
    obtain ⟨y, hy⟩ := rowMax_real i x0 x1 x2 x3 σ hS a (n + 1) ha hn r
    refine ⟨max z y, fun d => ?_⟩
    show max (M i x0 x1 x2 x3 a n (ix2 r d)) (rowMax (S i x0 x1 x2 x3 a (n + 1)) (ix2 r d)) = _
    rw [hz, hy]; exact (EReal.coe_strictMono.monotone.map_max).symm

/-- The values of column `d`, ones from column 128 on. -/
def col (x4 : Vec Ideal S4096x128 .bf16) (d : Fin 256) (u : ℕ) : EReal :=
  if h : d.val < 128 then (if hu : u < 4096 then x4 (ix2 ⟨u, hu⟩ ⟨d.val, h⟩) else 0) else 1

theorem acc_eq (a : ℕ) (ha : a < 8) (r : Fin 512) : ∃ z : ℝ, 0 < z ∧ ∀ d : Fin 256, acc i x0 x1 x2 x3 x4 a a (ix2 r d) =
    ∑ u : Fin 4096, ((wt σ (512 * a + r.val) u.val * z : ℝ) : EReal) * col x4 d u.val := by
  have hr := r.isLt
  have hm : ∀ n, ∃ z : ℝ, n ≤ a → ∀ d, M i x0 x1 x2 x3 a n (ix2 r d) = (z : EReal) := fun n => by
    by_cases hn : n ≤ a
    · obtain ⟨z, hz⟩ := M_real i x0 x1 x2 x3 σ hS a n ha hn r
      exact ⟨z, fun _ => hz⟩
    · exact ⟨0, fun h => absurd h hn⟩
  choose m hm using hm
  refine ⟨(2 : ℝ) ^ (-m a), by positivity, fun d => ?_⟩
  have hv : ∀ n, n ≤ a → ∀ p : Fin 512, (if h : d.val < 128 then blk x4 n (ix2 p ⟨d.val, h⟩) else 1) = col x4 d (512 * n + p.val) := by
    intro n hn p
    have hp := p.isLt
    unfold col
    by_cases h : d.val < 128
    · rw [dif_pos h, dif_pos h, dif_pos (by omega), blk_apply _ _ (by omega)]
    · rw [dif_neg h, dif_neg h]
  have hf := Soft.fold (fun k p => S i x0 x1 x2 x3 a k (ix2 r p)) m (fun k (p : Fin 512) => col x4 d (512 * k + p.val))
    (fun n => acc i x0 x1 x2 x3 x4 a n (ix2 r d)) a (fun k hk p => (S_pow i x0 x1 x2 x3 σ hS a k ha hk r p).1)
    (by
      show pv _ _ _ _ = _
      rw [pv_apply _ _ _ r d (hm 0 (Nat.zero_le _))]
      exact Finset.sum_congr rfl fun p _ => by rw [hv 0 (Nat.zero_le _)])
    (by
      intro n hn
      show acc i x0 x1 x2 x3 x4 a (n + 1) (ix2 r d) = _
      have e : acc i x0 x1 x2 x3 x4 a (n + 1) (ix2 r d) = acc i x0 x1 x2 x3 x4 a n (ix2 r d) * Ideal.exp2 ((m n : EReal) - m (n + 1)) +
          pv (S i x0 x1 x2 x3 a (n + 1)) (M i x0 x1 x2 x3 a (n + 1)) (blk x4 (n + 1)) (ix2 r d) := by
        pointwise [acc, alpha]
        simp only [hm n (by omega), hm (n + 1) (by omega), dite_eq_ite, ite_self]
        rfl
      rw [e, pv_apply _ _ _ r d (hm (n + 1) (by omega))]
      refine congrArg _ (Finset.sum_congr rfl fun p _ => by rw [hv (n + 1) (by omega)])) a le_rfl
  rw [Soft.sum_blocks (fun u => ((wt σ (512 * a + r.val) u * (2 : ℝ) ^ (-m a) : ℝ) : EReal) * col x4 d u)]
  rw [hf]
  refine (Finset.sum_congr rfl fun k hk => Finset.sum_congr rfl fun p _ => ?_).trans
    (Finset.sum_subset (f := fun k => ∑ p : Fin 512, ((wt σ (512 * a + r.val) (512 * k + p.val) * (2 : ℝ) ^ (-m a) : ℝ) : EReal) * col x4 d (512 * k + p.val))
      (Finset.range_subset_range.mpr (show a + 1 ≤ 8 by omega)) fun k _ hk => Finset.sum_eq_zero fun p _ => ?_)
  · rw [(S_pow i x0 x1 x2 x3 σ hS a k ha (by simpa [Nat.lt_succ_iff] using hk) r p).2]
  · have : a + 1 ≤ k := by simpa using hk
    rw [wt, if_neg (by omega), zero_mul, EReal.coe_zero, zero_mul]

/-- The attention: the softmax of the scores up to the query, times the values. -/
theorem attnOut_apply (t : Fin 4096) (d : Fin 128) : attnOut i x0 x1 x2 x3 x4 (ix2 t d) =
    ∑ u : Fin 4096, ((wt σ t.val u.val / ∑ u' : Fin 4096, wt σ t.val u'.val : ℝ) : EReal) * x4 (ix2 u d) := by
  have ht := t.isLt
  have hd := d.isLt
  have e : inBlk (ix2 t d) = ix2 ⟨t.val % 512, Nat.mod_lt _ (by decide)⟩ d := funext (Fin.forall_fin_two.mpr ⟨Fin.ext rfl, Fin.ext rfl⟩)
  show out i x0 x1 x2 x3 x4 (t.val / 512) (inBlk (ix2 t d)) = _
  rw [e]
  obtain ⟨z, hz, hacc⟩ := acc_eq i x0 x1 x2 x3 x4 σ hS (t.val / 512) (by omega) ⟨t.val % 512, Nat.mod_lt _ (by decide)⟩
  have et : 512 * (t.val / 512) + t.val % 512 = t.val := Nat.div_add_mod _ _
  simp only [et] at hacc
  pointwise [out]
  rw [hacc, hacc]
  have h1 : ∀ u : Fin 4096, col x4 ⟨d.val, by omega⟩ u.val = x4 (ix2 u d) := fun u => by
    unfold col; rw [dif_pos hd, dif_pos u.isLt]
  have h2 : ∀ u : Fin 4096, col x4 ⟨128 + d.val, by omega⟩ u.val = 1 := fun u => by
    unfold col; rw [dif_neg (by show ¬ (128 + d.val < 128); omega)]
  simp only [h1, h2]
  exact Soft.ratio (fun u : Fin 4096 => wt σ t.val u.val) _ hz (wt_pos σ t.val)
end

/-- The decay lanes of one head add the query's sum and subtract the key's. -/
theorem lanes (h : ℕ) (hh : h < 8) (zq zk : ℕ → ℝ) :
    ∑ c : Fin 128, (if 8 * h ≤ c.val ∧ c.val < 8 * h + 8 then (Decay.qlane (zq c.val) c.val : EReal) else 0) * (Decay.klane (zk c.val) c.val : EReal) =
      ((zq (8 * h) - zk (8 * h + 3) : ℝ) : EReal) := by
  have e : ∀ c : Fin 128, (if 8 * h ≤ c.val ∧ c.val < 8 * h + 8 then (Decay.qlane (zq c.val) c.val : EReal) else 0) * (Decay.klane (zk c.val) c.val : EReal) =
      (((if c.val = 8 * h then zq (8 * h) else 0) + (if c.val = 8 * h + 3 then - zk (8 * h + 3) else 0) : ℝ) : EReal) := by
    intro c
    by_cases hc : 8 * h ≤ c.val ∧ c.val < 8 * h + 8
    · rw [if_pos hc, ← EReal.coe_mul]
      congr 1
      obtain ⟨h1, h2⟩ := hc
      obtain ⟨c, hc⟩ := c
      obtain ⟨k, rfl⟩ := Nat.exists_eq_add_of_le h1
      have hk : k < 8 := by simpa using h2
      have hm : (8 * h + k) % 8 = k := by omega
      have hl : 8 * h + k < 64 := by omega
      simp only [Decay.qlane, Decay.klane, hm, hl, true_and]
      interval_cases k <;> simp
    · rw [if_neg hc, zero_mul, if_neg (by omega), if_neg (by omega)]; simp
  rw [Finset.sum_congr rfl fun c _ => e c, ← Soft.coe_sum]
  congr 1
  rw [Finset.sum_add_distrib, Fin.sum_univ_eq_sum_range (fun c => if c = 8 * h then zq (8 * h) else 0) 128,
    Fin.sum_univ_eq_sum_range (fun c => if c = 8 * h + 3 then - zk (8 * h + 3) else 0) 128, Finset.sum_ite_eq', Finset.sum_ite_eq',
    if_pos (Finset.mem_range.mpr (by omega)), if_pos (Finset.mem_range.mpr (by omega))]
  ring

/-- The attention from real queries, keys and sums. -/
theorem attnOut_real (hi : (i 1).val < 8) (q k : Fin 4096 → Fin 128 → ℝ) (z : ℕ → ℕ → ℝ)
    (h0 : ∀ t d, x0 (ix2 t d) = (q t d : EReal)) (h2 : ∀ t d, x2 (ix2 t d) = (k t d : EReal))
    (h1 : ∀ t c : Fin _, x1 (ix2 t c) = (Decay.qlane (z t.val c.val) c.val : EReal)) (h3 : ∀ t c : Fin _, x3 (ix2 t c) = (Decay.klane (z t.val c.val) c.val : EReal))
    (σ : ℕ → ℕ → ℝ)
    (hσ : ∀ t u : Fin 4096, ∑ d, q t d * k u d + (z t.val (8 * (i 1).val) - z u.val (8 * (i 1).val + 3)) = (Real.log 2)⁻¹ * σ t.val u.val)
    (t : Fin 4096) (d : Fin 128) : attnOut i x0 x1 x2 x3 x4 (ix2 t d) =
    ∑ u : Fin 4096, ((wt σ t.val u.val / ∑ u' : Fin 4096, wt σ t.val u'.val : ℝ) : EReal) * x4 (ix2 u d) := by
  refine attnOut_apply i x0 x1 x2 x3 x4 σ (fun a b ha hb r p => ?_) t d
  have hr := r.isLt
  have hp := p.isLt
  rw [score_apply _ _ _ _ _ _ _ ha hb, ← hσ ⟨512 * a + r.val, by omega⟩ ⟨512 * b + p.val, by omega⟩, EReal.coe_add, Soft.coe_sum,
    ← lanes (i 1).val hi (z (512 * a + r.val)) (z (512 * b + p.val))]
  refine congrArg₂ _ (Finset.sum_congr rfl fun d _ => ?_) (Finset.sum_congr rfl fun c _ => ?_)
  · rw [h0, h2, EReal.coe_mul]
  · rw [qam_apply _ _ hi, h1, h3]

end Cert.KernelIdeal.Attn

end
-- ==== Proof.RefIdeal.lean ====
/- The reference over the extended reals: a softmax of the scores times the values. -/
module

public import proofs.«01_k».proof.Proof.Gen.ReferenceIdeal.Read
public import proofs.«01_k».proof.Proof.AttnIdeal
public import Idealize.ShloMosaic.Lib.Pointwise
public import Idealize.ShloMosaic.Lib.IdealHost
public import Idealize.ShloMosaic.Lib.WordCmp

@[expose] public section
set_option maxRecDepth 16384
noncomputable section
namespace Cert.ReferenceIdeal.Attn
open Idealize.ShloMosaic
open Cert.KernelIdeal.Decay (lsig max_neg log1p_exp)
open Cert.KernelIdeal.Attn (wt)
open Cert.ReferenceIdeal.Gen Cert.ReferenceIdeal.Read
open scoped BigOperators

variable (x0 x1 x2 : (⟨S16384x1024, .f32⟩ : BufTy).Contents (Elt Ideal)) (x5 : (⟨S16384x8, .f32⟩ : BufTy).Contents (Elt Ideal)) (x6 : (⟨S8, .f32⟩ : BufTy).Contents (Elt Ideal))

theorem neg_inf : Ideal.ofBits FTy.f32 4286578688#32 = ⊥ := by rfl

theorem sqrt_128 : Ideal.sqrt (Ideal.ofBits FTy.f32 1124073472#32) = ((Real.sqrt 128 : ℝ) : EReal) := by
  have h : Ideal.ofBits FTy.f32 1124073472#32 = ((128 : ℝ) : EReal) := by
    simp [Ideal.ofBits, Ideal.ieee, -EReal.coe_mul]; norm_num
  rw [h, Ideal.sqrt_coe, if_neg (by norm_num)]

theorem v7_apply (b : Fin 4) (t : Fin 4096) (h : Fin 8) {y : ℝ} (hy : x5 (ix2 ⟨b.val * 4096 + t.val, by have := b.isLt; have := t.isLt; omega⟩ h) + x6 (ix1 h) = (y : EReal)) :
    val_main_v7 (F := Ideal) x5 x6 (ix3 b t h) = (lsig y : EReal) := by
  pointwise [val_main_v7, val_main_call0_v1, val_main_call0_call0_v4, val_main_call0_call0_v3, val_main_call0_call0_v6, val_main_call0_call0_v11, val_main_call0_call0_v10, val_main_call0_call0_v1, val_main_call0_call0_v9, val_main_call0_call0_v8, val_main_call0_call0_v7, val_main_call0_call0_v5, val_main_call0_call0_v2, val_main_call0_call0_v0, val_main_call0_call0_cst, val_main_call0_v0, val_main_v6, val_main_v5, val_main_v4, val_main_v3]
  rw [hy, if_neg (by simp), ← EReal.coe_neg]
  have ha : (FloatOps.absf ((-y : ℝ) : EReal) : Ideal .f32) = ((|y| : ℝ) : EReal) := by
    show max ((-y : ℝ) : EReal) (-((-y : ℝ) : EReal)) = _
    rw [max_neg, abs_neg]
  have hm : max ((-y : ℝ) : EReal) 0 = ((max (-y) 0 : ℝ) : EReal) := (EReal.coe_strictMono.monotone.map_max (a := -y) (b := 0)).symm
  refine (congrArg (fun z => -(max ((-y : ℝ) : EReal) 0 + Ideal.log1p (Ideal.exp (-z)))) ha).trans ?_
  rw [hm, ← EReal.coe_neg, log1p_exp, ← EReal.coe_add, ← EReal.coe_neg]
  congr 1
  rw [lsig, neg_add, ← sub_eq_add_neg, ← min_neg_neg, neg_neg, neg_zero]

theorem window_pos (n : Fin (⟨3, ![1, 4096, 1]⟩ : Shape).numel) :
    ((⟨3, ![1, 4096, 1]⟩ : Shape).rowMajor.symm n 0).val = 0 ∧ ((⟨3, ![1, 4096, 1]⟩ : Shape).rowMajor.symm n 1).val = n.val ∧ ((⟨3, ![1, 4096, 1]⟩ : Shape).rowMajor.symm n 2).val = 0 := by
  have e := Shape.rowMajor_val_three ((⟨3, ![1, 4096, 1]⟩ : Shape).rowMajor.symm n)
  rw [Equiv.apply_symm_apply] at e
  have h0 : ((⟨3, ![1, 4096, 1]⟩ : Shape).rowMajor.symm n 0).val < 1 := ((⟨3, ![1, 4096, 1]⟩ : Shape).rowMajor.symm n 0).isLt
  have h2 : ((⟨3, ![1, 4096, 1]⟩ : Shape).rowMajor.symm n 2).val < 1 := ((⟨3, ![1, 4096, 1]⟩ : Shape).rowMajor.symm n 2).isLt
  have e' : n.val = (((⟨3, ![1, 4096, 1]⟩ : Shape).rowMajor.symm n 0).val * 4096 + ((⟨3, ![1, 4096, 1]⟩ : Shape).rowMajor.symm n 1).val) * 1 + ((⟨3, ![1, 4096, 1]⟩ : Shape).rowMajor.symm n 2).val := e
  omega

theorem foldl_sum {N : ℕ} (g : Fin N → EReal) (v : EReal) : (List.finRange N).foldl (fun r n => r + g n) v = v + ∑ n, g n := by
  rw [Fin.sum_univ_def]
  generalize List.finRange N = l
  induction l generalizing v with
  | nil => simp
  | cons a l ih => rw [List.foldl_cons, ih, List.map_cons, List.sum_cons, add_assoc]

theorem sum_shift (t : ℕ) (ht : t < 4096) (f : ℕ → ℝ) : ∑ n ∈ Finset.range 4096, (if 4095 ≤ t + n then f (t + n - 4095) else 0) = ∑ s ∈ Finset.range (t + 1), f s := by
  obtain ⟨d, hd⟩ := Nat.exists_eq_add_of_le (show t ≤ 4095 by omega)
  have key : ∑ n ∈ Finset.range (d + (t + 1)), (if t + d ≤ t + n then f (t + n - (t + d)) else 0) = ∑ s ∈ Finset.range (t + 1), f s := by
    rw [Finset.sum_range_add, Finset.sum_eq_zero (fun n hn => if_neg (by have := Finset.mem_range.mp hn; omega)), zero_add]
    refine Finset.sum_congr rfl fun s _ => ?_
    rw [if_pos (by omega)]
    congr 1; omega
  rw [← hd, show d + (t + 1) = 4096 by omega] at key
  exact key

/-- The running sum of the log of the sigmoid of the logits. -/
theorem v8_apply (b : Fin 4) (t : Fin 4096) (h : Fin 8) (y : ℕ → ℝ) (hy : ∀ s : Fin 4096, x5 (ix2 ⟨b.val * 4096 + s.val, by have := b.isLt; have := s.isLt; omega⟩ h) + x6 (ix1 h) = (y s.val : EReal)) :
    val_main_v8 (F := Ideal) x5 x6 (ix3 b t h) = ((∑ s ∈ Finset.range (t.val + 1), lsig (y s) : ℝ) : EReal) := by
  have ht := t.isLt
  have hb := b.isLt
  have hh := h.isLt
  have h7 : ∀ s : Fin 4096, val_main_v7 (F := Ideal) x5 x6 (ix3 b s h) = (lsig (y s.val) : EReal) := fun s => v7_apply x5 x6 b s h (hy s)
  unfold val_main_v8
  generalize val_main_v7 (F := Ideal) x5 x6 = w at h7
  have hz : val_main_call1_call0_v0 (F := Ideal) (Shape.Idx.first h_S_) = 0 := by
    pointwise [val_main_call1_call0_v0, val_main_call1_call0_cst]
  rw [Host.reduceWindowAdd, hz]
  show Ideal.hostReduceWindowAdd _ _ _ _ _ w 0 _ = _
  rw [Ideal.hostReduceWindowAdd]
  unfold Host.reduceWindow
  dsimp only
  rw [foldl_sum, zero_add]
  refine (Finset.sum_congr rfl fun n _ => ?_).trans (((Soft.coe_sum Finset.univ
    (fun n : Fin (⟨3, ![1, 4096, 1]⟩ : Shape).numel => if 4095 ≤ t.val + n.val then lsig (y (t.val + n.val - 4095)) else 0)).symm).trans ?_)
  · obtain ⟨w0, w1, w2⟩ := window_pos n
    have hn : n.val < 4096 := lt_of_lt_of_eq n.isLt (by decide)
    split
    · next hin =>
      have h1 := hin 1
      change 4095 ≤ t.val * 1 + ((⟨3, ![1, 4096, 1]⟩ : Shape).rowMajor.symm n 1).val ∧ _ at h1
      rw [w1] at h1
      rw [if_pos (by omega), ← h7 ⟨t.val + n.val - 4095, by omega⟩]
      refine congrArg w (funext fun a => Fin.ext ?_)
      match a with
      | ⟨0, _⟩ =>
        show b.val * 1 + ((⟨3, ![1, 4096, 1]⟩ : Shape).rowMajor.symm n 0).val - 0 = b.val
        rw [w0]; omega
      | ⟨1, _⟩ =>
        show t.val * 1 + ((⟨3, ![1, 4096, 1]⟩ : Shape).rowMajor.symm n 1).val - 4095 = t.val + n.val - 4095
        rw [w1]; omega
      | ⟨2, _⟩ =>
        show h.val * 1 + ((⟨3, ![1, 4096, 1]⟩ : Shape).rowMajor.symm n 2).val - 0 = h.val
        rw [w2]; omega
    · next hin =>
      rw [if_neg fun hle => hin fun a => by
        match a with
        | ⟨0, _⟩ =>
          show 0 ≤ b.val * 1 + ((⟨3, ![1, 4096, 1]⟩ : Shape).rowMajor.symm n 0).val ∧ b.val * 1 + ((⟨3, ![1, 4096, 1]⟩ : Shape).rowMajor.symm n 0).val - 0 < 4
          rw [w0]; omega
        | ⟨1, _⟩ =>
          show 4095 ≤ t.val * 1 + ((⟨3, ![1, 4096, 1]⟩ : Shape).rowMajor.symm n 1).val ∧ t.val * 1 + ((⟨3, ![1, 4096, 1]⟩ : Shape).rowMajor.symm n 1).val - 4095 < 4096
          rw [w1]; omega
        | ⟨2, _⟩ =>
          show 0 ≤ h.val * 1 + ((⟨3, ![1, 4096, 1]⟩ : Shape).rowMajor.symm n 2).val ∧ h.val * 1 + ((⟨3, ![1, 4096, 1]⟩ : Shape).rowMajor.symm n 2).val - 0 < 8
          rw [w2]; omega]
      rfl
  · congr 1
    rw [Fin.sum_univ_eq_sum_range (fun n => if 4095 ≤ t.val + n then lsig (y (t.val + n - 4095)) else 0)]
    exact (congrArg (fun N => ∑ n ∈ Finset.range N, if 4095 ≤ t.val + n then lsig (y (t.val + n - 4095)) else 0) (by decide)).trans (sum_shift t.val ht fun s => lsig (y s))

theorem v28_apply (b : Fin 4) (h : Fin 8) (t : Fin 4096) :
    val_main_v28 (F := Ideal) x0 x1 x5 x6 (ix3 b h t) = Finset.univ.fold max ⊥ fun s : Fin 4096 => val_main_v27 (F := Ideal) x0 x1 x5 x6 (ix4 b h t s) := by
  unfold val_main_v28
  generalize val_main_v27 (F := Ideal) x0 x1 x5 x6 = w
  have hr : S4x8x4096x4096.Reduces [3] S4x8x4096 := by decide
  have e0 := Host.reduce_eq_fold_single (s := S4x8x4096x4096) (t := S4x8x4096) (a := 3) (FloatOps.maximumf (F := Ideal) (φ := .f32)) w (val_main_cst_1 (F := Ideal)) reducesTo_S4x8x4096x4096_S4x8x4096_d3 hr h_S_ (ix3 b h t)
  refine e0.trans ?_
  have e : val_main_cst_1 (F := Ideal) (Shape.Idx.first h_S_) = (⊥ : EReal) := neg_inf
  rw [e]
  refine congrArg (fun f => Finset.fold max ⊥ f Finset.univ) (funext fun s => ?_)
  exact congrArg w (funext fun a => Fin.ext (by match a with | ⟨0, _⟩ => rfl | ⟨1, _⟩ => rfl | ⟨2, _⟩ => rfl | ⟨3, _⟩ => rfl))

section
variable (b : Fin 4) (h : Fin 8) (q k : Fin 4096 → Fin 128 → ℝ) (y : ℕ → ℝ) (σ : ℕ → ℕ → ℝ)
  (hq : ∀ t d, x0 (ix2 ⟨b.val * 4096 + t.val, by have := b.isLt; have := t.isLt; omega⟩ ⟨h.val * 128 + d.val, by have := h.isLt; have := d.isLt; omega⟩) = (q t d : EReal))
  (hk : ∀ t d, x1 (ix2 ⟨b.val * 4096 + t.val, by have := b.isLt; have := t.isLt; omega⟩ ⟨h.val * 128 + d.val, by have := h.isLt; have := d.isLt; omega⟩) = (k t d : EReal))
  (hy : ∀ s : Fin 4096, x5 (ix2 ⟨b.val * 4096 + s.val, by have := b.isLt; have := s.isLt; omega⟩ h) + x6 (ix1 h) = (y s.val : EReal))
  (hσ : ∀ t u : Fin 4096, σ t.val u.val = (∑ d, q t d * k u d) * (1 / Real.sqrt 128) + ∑ s ∈ Finset.range (t.val + 1), lsig (y s) - ∑ s ∈ Finset.range (u.val + 1), lsig (y s))
include hq hk hy hσ

theorem v27_apply (t s : Fin 4096) : val_main_v27 (F := Ideal) x0 x1 x5 x6 (ix4 b h t s) = if s.val ≤ t.val then (σ t.val s.val : EReal) else ⊥ := by
  have ht := t.isLt
  have hs := s.isLt
  pointwise [val_main_v27, val_main_call2_v1, val_main_v26, val_main_v25, val_main_v24, val_main_v23, val_main_v22, val_main_v21, val_main_v20, val_main_call2_v2, val_main_call2_v0, val_main_cst_0, val_main_v19, val_main_v18, val_main_v17, val_main_v16, val_main_v15, val_main_v14, val_main_v13, val_main_v12, val_main_v11, val_main_cst, val_main_v10, val_main_v9, val_main_v1, val_main_v0]
  simp only [hq, hk]
  have hc : (id (constant (F := Ideal) S_ FTy.f32 4286578688#32) ix0 : EReal) = ⊥ := by rfl
  have h128 : Real.sqrt 128 ≠ 0 := by positivity
  rw [WordCmp.cmpi_sle_ofNat (by simp; omega) (by simp; omega), v8_apply x5 x6 b t h y hy, v8_apply x5 x6 b s h y hy, sqrt_128, Ideal.div_coe h128]
  have hd : (∑ x : Fin 128, (q t x : EReal) * (k s x : EReal)) = ((∑ d, q t d * k s d : ℝ) : EReal) := by
    rw [Soft.coe_sum]; exact Finset.sum_congr rfl fun d _ => (EReal.coe_mul _ _).symm
  rw [hd, ← EReal.coe_mul, ← EReal.coe_add, ← EReal.coe_sub, ← hσ]
  refine (congrArg (Scalar.select _ _) hc).trans ?_
  by_cases hle : s.val ≤ t.val <;> simp [hle, Scalar.select]

theorem v32_real (t : Fin 4096) : ∃ c : ℝ, ∀ s, val_main_v32 (F := Ideal) x0 x1 x5 x6 (ix4 b h t s) = (c : EReal) := by
  obtain ⟨c, hc⟩ := Soft.fold_max_real Finset.univ (fun s : Fin 4096 => val_main_v27 (F := Ideal) x0 x1 x5 x6 (ix4 b h t s))
    (fun s _ => by
      rw [v27_apply x0 x1 x5 x6 b h q k y σ hq hk hy hσ]
      split_ifs
      · exact EReal.coe_ne_top _
      · exact bot_ne_top)
    (Finset.mem_univ 0) (by
      rw [v27_apply x0 x1 x5 x6 b h q k y σ hq hk hy hσ, if_pos (show ((0 : Fin 4096).val) ≤ t.val from Nat.zero_le _)]
      exact EReal.coe_ne_bot _)
  refine ⟨c, fun s => ?_⟩
  rw [← hc, ← v28_apply]
  rw [val_main_v32_apply, val_main_v31_apply, val_main_v30_apply, val_main_v29_apply, val_main_cst_2_apply]
  have e : idx_main_v31 (idx_main_v32 (ix4 b h t s)) = ix3 b h t := funext fun a => Fin.ext (by match a with | ⟨0, _⟩ => rfl | ⟨1, _⟩ => rfl | ⟨2, _⟩ => rfl)
  rw [e]
  generalize val_main_v28 (F := Ideal) x0 x1 x5 x6 (ix3 b h t) = z
  exact (congrArg (fun w => max w z) neg_inf).trans (max_eq_right bot_le)

/-- The reference's attention: the softmax of the scores up to the query, times the values. -/
theorem v42_apply (j : Fin 16384) (e : Fin 1024) (hb : j.val / 4096 = b.val) (he : e.val / 128 = h.val) : val_main_v42 (F := Ideal) x0 x1 x2 x5 x6 (ix2 j e) =
    ∑ u : Fin 4096, ((wt σ (j.val % 4096) u.val / ∑ u' : Fin 4096, wt σ (j.val % 4096) u'.val : ℝ) : EReal) * x2 (ix2 ⟨b.val * 4096 + u.val, by have := b.isLt; have := u.isLt; omega⟩ e) := by
  obtain ⟨c, hc⟩ := v32_real x0 x1 x5 x6 b h q k y σ hq hk hy hσ ⟨j.val % 4096, Nat.mod_lt _ (by decide)⟩
  have h27 := v27_apply x0 x1 x5 x6 b h q k y σ hq hk hy hσ ⟨j.val % 4096, Nat.mod_lt _ (by decide)⟩
  pointwise [val_main_v42, val_main_v41, val_main_v40, val_main_v39, val_main_v38, val_main_v37, val_main_v36, val_main_v35, val_main_v34, val_main_v33, val_main_v2, val_main_cst_3]
  have e1 : (⟨j.val / 4096, by have := j.isLt; omega⟩ : Fin 4) = b := Fin.ext hb
  have e2 : (⟨e.val / 128, by have := e.isLt; omega⟩ : Fin 8) = h := Fin.ext he
  have hw : ∀ u : Fin 4096, Ideal.exp (val_main_v27 (F := Ideal) x0 x1 x5 x6 (ix4 b h ⟨j.val % 4096, Nat.mod_lt _ (by decide)⟩ u) - val_main_v32 (F := Ideal) x0 x1 x5 x6 (ix4 b h ⟨j.val % 4096, Nat.mod_lt _ (by decide)⟩ u)) =
      ((wt σ (j.val % 4096) u.val * Real.exp (-c) : ℝ) : EReal) := fun u => by
    rw [h27, hc, wt]
    dsimp only
    split_ifs
    · rw [← EReal.coe_sub, Ideal.exp_coe, sub_eq_add_neg, Real.exp_add]
    · rw [sub_eq_add_neg, EReal.bot_add, Ideal.exp_bot, zero_mul]; rfl
  refine Finset.sum_congr rfl fun u _ => ?_
  simp only [e1, e2, hb, hw]
  rw [Soft.weight (fun u : Fin 4096 => wt σ (j.val % 4096) u.val) (Real.exp_pos _) (Cert.KernelIdeal.Attn.wt_pos σ _)]
  exact mul_comm _ _
end

/-- The same at rows whose bounds are given. -/
theorem v42_at (b : Fin 4) (h : Fin 8) (q k : Fin 4096 → Fin 128 → ℝ) (y : ℕ → ℝ) (σ : ℕ → ℕ → ℝ)
    (hq : ∀ (t : Fin 4096) (d : Fin 128) (h1 : b.val * 4096 + t.val < 16384) (h2 : h.val * 128 + d.val < 1024), x0 (ix2 ⟨b.val * 4096 + t.val, h1⟩ ⟨h.val * 128 + d.val, h2⟩) = (q t d : EReal))
    (hk : ∀ (t : Fin 4096) (d : Fin 128) (h1 : b.val * 4096 + t.val < 16384) (h2 : h.val * 128 + d.val < 1024), x1 (ix2 ⟨b.val * 4096 + t.val, h1⟩ ⟨h.val * 128 + d.val, h2⟩) = (k t d : EReal))
    (hy : ∀ (s : Fin 4096) (h1 : b.val * 4096 + s.val < 16384), x5 (ix2 ⟨b.val * 4096 + s.val, h1⟩ h) + x6 (ix1 h) = (y s.val : EReal))
    (hσ : ∀ t u : Fin 4096, σ t.val u.val = (∑ d, q t d * k u d) * (1 / Real.sqrt 128) + ∑ s ∈ Finset.range (t.val + 1), lsig (y s) - ∑ s ∈ Finset.range (u.val + 1), lsig (y s))
    (j : Fin 16384) (e : Fin 1024) (hu : ∀ u : Fin 4096, b.val * 4096 + u.val < 16384) (hb : j.val / 4096 = b.val) (he : e.val / 128 = h.val) :
    val_main_v42 (F := Ideal) x0 x1 x2 x5 x6 (ix2 j e) =
      ∑ u : Fin 4096, ((wt σ (j.val % 4096) u.val / ∑ u' : Fin 4096, wt σ (j.val % 4096) u'.val : ℝ) : EReal) * x2 (ix2 ⟨b.val * 4096 + u.val, hu u⟩ e) :=
  v42_apply x0 x1 x2 x5 x6 b h q k y σ (fun t d => hq t d _ _) (fun t d => hk t d _ _) (fun s => hy s _) hσ j e hb he

end Cert.ReferenceIdeal.Attn

end
-- ==== Proof.AttnArr.lean ====
/- The attention call's four results, at an index. -/
module

public import proofs.«01_k».proof.Proof.DecayArr
public import proofs.«01_k».proof.Proof.AttnIdeal
public import proofs.«01_k».proof.Proof.RefIdeal

@[expose] public section
set_option maxRecDepth 16384
noncomputable section
namespace Cert.KernelIdeal.Attn
open Idealize.ShloMosaic Idealize.ShloMosaic.TcCoe Idealize.ShloMosaic.Tactic
open Cert.KernelIdeal.Gen Cert.KernelIdeal.Host
open Cert.KernelIdeal.Decay (lsig F Gq Gk)
open Finset
open scoped BigOperators

variable (m : (ℓ : Loc nD τ sig) → Buf (Elt Ideal) ℓ)

theorem idx : ∀ t : Fin grid1.N, (win1 0).index t = ![t.val / 8, t.val % 8] ∧ (win1 1).index t = ![t.val / 8, 0] ∧ (win1 2).index t = ![t.val / 8, 8 + t.val % 8]
    ∧ (win1 3).index t = ![t.val / 8, 0] ∧ (win1 4).index t = ![t.val / 8, 16 + t.val % 8] ∧ (win1 9).index t = ![t.val / 8, t.val % 8] := by
  decide +kernel

theorem coord : ∀ t : Fin grid1.N, (grid1.coords t 1).val = t.val % 8 := by decide +kernel

theorem W9_v10 (c : Dev nD) : W9 m c main_v10 = V8 m c main_v10 := W9_of m c main_v10 (by decide)

theorem iblk0 (c : Dev nD) (t : Fin cfg1.N) (r : Fin 4096) (d : Fin 128) (h : t.val / 8 * 4096 + r.val < 16384) (h' : t.val % 8 * 128 + d.val < 5120) :
    (iblk (W9 m) c 0 t (ix2 r d) : EReal) = wide m c ⟨t.val / 8 * 4096 + r.val, h⟩ ⟨t.val % 8 * 128 + d.val, h'⟩ := by
  unfold wide
  rw [← W9_v10]
  blk_ext [iblk, (idx t).1]
theorem iblk2 (c : Dev nD) (t : Fin cfg1.N) (r : Fin 4096) (d : Fin 128) (h : t.val / 8 * 4096 + r.val < 16384) (h' : (8 + t.val % 8) * 128 + d.val < 5120) :
    (iblk (W9 m) c 2 t (ix2 r d) : EReal) = wide m c ⟨t.val / 8 * 4096 + r.val, h⟩ ⟨(8 + t.val % 8) * 128 + d.val, h'⟩ := by
  unfold wide
  rw [← W9_v10]
  blk_ext [iblk, (idx t).2.2.1]
theorem iblk4 (c : Dev nD) (t : Fin cfg1.N) (r : Fin 4096) (d : Fin 128) (h : t.val / 8 * 4096 + r.val < 16384) (h' : (16 + t.val % 8) * 128 + d.val < 5120) :
    (iblk (W9 m) c 4 t (ix2 r d) : EReal) = wide m c ⟨t.val / 8 * 4096 + r.val, h⟩ ⟨(16 + t.val % 8) * 128 + d.val, h'⟩ := by
  unfold wide
  rw [← W9_v10]
  blk_ext [iblk, (idx t).2.2.2.2.1]
theorem iblk1 (c : Dev nD) (t : Fin cfg1.N) (r : Fin 4096) (l : Fin 128) (h : t.val / 8 * 4096 + r.val < 16384) :
    (iblk (W9 m) c 1 t (ix2 r l) : EReal) = W9 m c ↑main_v22_0 (ix2 (⟨t.val / 8 * 4096 + r.val, h⟩ : Fin 16384) l) := by
  blk_ext [iblk, (idx t).2.1]
theorem iblk3 (c : Dev nD) (t : Fin cfg1.N) (r : Fin 4096) (l : Fin 128) (h : t.val / 8 * 4096 + r.val < 16384) :
    (iblk (W9 m) c 3 t (ix2 r l) : EReal) = W9 m c ↑main_v22_1 (ix2 (⟨t.val / 8 * 4096 + r.val, h⟩ : Fin 16384) l) := by
  blk_ext [iblk, (idx t).2.2.2.1]

theorem Gq_apply (y : ℕ → ℕ → ℕ → ℝ) (j : Fin 16384) (l : Fin 128) :
    Gq y (ix2 j l) = ↑(Decay.qlane (F y (j.val / 4096) l.val (j.val % 4096) * (Real.log 2)⁻¹) l.val) := rfl
theorem Gk_apply (y : ℕ → ℕ → ℕ → ℝ) (j : Fin 16384) (l : Fin 128) :
    Gk y (ix2 j l) = ↑(Decay.klane (F y (j.val / 4096) l.val (j.val % 4096) * (Real.log 2)⁻¹) l.val) := rfl

/-- The forget gate's argument in each lane. -/
def lane (f : ℕ → ℕ → ℝ) (b : ℕ → ℝ) (s l t : ℕ) : ℝ := if l < 64 ∧ l % 8 < 6 then f (s * 4096 + t) (l / 8) + b (l / 8) else 0

theorem lane_eq (c : Dev nD) (f : ℕ → ℕ → ℝ) (b : ℕ → ℝ) (hf : ∀ j h, f0 m c j h = ↑(f j.val h.val)) (hb : ∀ h, b0 m c h = ↑(b h.val)) (j : Fin 16384) (l : Fin 128) :
    gateLane m c j l + biasLane m c l = ↑(lane f b (j.val / 4096) l.val (j.val % 4096)) := by
  rw [gateLane_eq, biasLane_eq]
  unfold lane
  by_cases h : l.val < 64 ∧ l.val % 8 < 6
  · rw [dif_pos h, dif_pos h, if_pos h, hf, hb, show j.val / 4096 * 4096 + j.val % 4096 = j.val by omega, EReal.coe_add]
  · rw [dif_neg h, dif_neg h, if_neg h]; simp

/-- The score of a query and a key with the decay between them. -/
def pairing (q k f : ℕ → ℕ → ℝ) (b : ℕ → ℝ) (s h t u : ℕ) : ℝ :=
  (∑ d : Fin 128, q (s * 4096 + t) (h * 128 + d.val) * k (s * 4096 + u) (h * 128 + d.val)) * (1 / Real.sqrt 128)
    + ∑ r ∈ range (t + 1), lsig (f (s * 4096 + r) h + b h) - ∑ r ∈ range (u + 1), lsig (f (s * 4096 + r) h + b h)

theorem F_lane (f : ℕ → ℕ → ℝ) (b : ℕ → ℝ) (s h t i : ℕ) (hh : h < 8) (hi : i < 6) :
    F (lane f b) s (8 * h + i) t = ∑ r ∈ range (t + 1), lsig (f (s * 4096 + r) h + b h) := by
  unfold F lane
  rw [show (8 * h + i) / 8 = h by omega]
  simp only [if_pos (show 8 * h + i < 64 ∧ (8 * h + i) % 8 < 6 by omega)]

theorem pairing_eq (q k f : ℕ → ℕ → ℝ) (b : ℕ → ℝ) (s h t u : ℕ) (hh : h < 8) :
    ∑ d : Fin 128, q (s * 4096 + t) (h * 128 + d.val) / (Real.log 2 * Real.sqrt 128) * k (s * 4096 + u) (h * 128 + d.val)
      + (F (lane f b) s (8 * h) t * (Real.log 2)⁻¹ - F (lane f b) s (8 * h + 3) u * (Real.log 2)⁻¹) = (Real.log 2)⁻¹ * pairing q k f b s h t u := by
  have e0 := F_lane f b s h t 0 hh (by decide)
  rw [add_zero] at e0
  rw [e0, F_lane f b s h u 3 hh (by decide)]
  unfold pairing
  have e : ∑ d : Fin 128, q (s * 4096 + t) (h * 128 + d.val) / (Real.log 2 * Real.sqrt 128) * k (s * 4096 + u) (h * 128 + d.val)
      = (Real.log 2)⁻¹ * ((∑ d : Fin 128, q (s * 4096 + t) (h * 128 + d.val) * k (s * 4096 + u) (h * 128 + d.val)) * (1 / Real.sqrt 128)) := by
    rw [Finset.sum_mul, Finset.mul_sum]
    refine Finset.sum_congr rfl fun d _ => ?_
    rw [div_eq_mul_inv, mul_inv]; ring
  rw [e]; ring

variable (q k f : ℕ → ℕ → ℝ) (b : ℕ → ℝ)

set_option maxHeartbeats 1000000 in
/-- A block of the attention's result. -/
theorem out_block (c : Dev nD) (hq : ∀ j e, q0 m c j e = ↑(q j.val e.val)) (hk : ∀ j e, k0 m c j e = ↑(k j.val e.val))
    (hf : ∀ j h, f0 m c j h = ↑(f j.val h.val)) (hb : ∀ h, b0 m c h = ↑(b h.val)) (t : Fin cfg1.N) (ht : t.val < 32) (r : Fin 4096) (d : Fin 128) :
    (attnOut (grid1.coords t) (iblk (W9 m) c 0 t) (iblk (W9 m) c 1 t) (iblk (W9 m) c 2 t) (iblk (W9 m) c 3 t) (iblk (W9 m) c 4 t) (ix2 r d) : EReal)
      = ∑ u : Fin 4096, ((wt (pairing q k f b (t.val / 8) (t.val % 8)) r.val u.val / ∑ u' : Fin 4096, wt (pairing q k f b (t.val / 8) (t.val % 8)) r.val u'.val : ℝ) : EReal)
        * w0 m c ⟨t.val / 8 * 4096 + u.val, by have := u.isLt; omega⟩ ⟨t.val % 8 * 128 + d.val, by have := d.isLt; omega⟩ := by
  have hc := coord t
  have hy := lane_eq m c f b hf hb
  refine (attnOut_real (grid1.coords t) _ _ _ _ _ (by rw [hc]; omega)
    (fun t' d => q (t.val / 8 * 4096 + t'.val) (t.val % 8 * 128 + d.val) / (Real.log 2 * Real.sqrt 128))
    (fun t' d => k (t.val / 8 * 4096 + t'.val) (t.val % 8 * 128 + d.val))
    (fun t' l => F (lane f b) (t.val / 8) l t' * (Real.log 2)⁻¹) ?_ ?_ ?_ ?_ (pairing q k f b (t.val / 8) (t.val % 8)) ?_ r d).trans ?_
  · intro t' d
    have := t'.isLt; have := d.isLt
    rw [iblk0 m c t t' d (by omega) (by omega)]
    exact wide_q m c _ _ (show t.val % 8 * 128 + d.val < 1024 by omega) _ (hq _ _)
  · intro t' d
    have := t'.isLt; have := d.isLt
    rw [iblk2 m c t t' d (by omega) (by omega)]
    rw [wide_k m c ⟨t.val / 8 * 4096 + t'.val, by omega⟩ ⟨(8 + t.val % 8) * 128 + d.val, by omega⟩ (by dsimp only; omega) (by dsimp only; omega), hk]
    dsimp only
    rw [show (8 + t.val % 8) * 128 + d.val - 1024 = t.val % 8 * 128 + d.val by omega]
  · intro t' l
    have := t'.isLt
    rw [iblk1 m c t t' l (by omega), W9_0 m c, Decay.arr2 m c _ hy]
    rw [Gq_apply]
    dsimp only
    rw [show (t.val / 8 * 4096 + t'.val) / 4096 = t.val / 8 by omega, show (t.val / 8 * 4096 + t'.val) % 4096 = t'.val by omega]
  · intro t' l
    have := t'.isLt
    rw [iblk3 m c t t' l (by omega), W9_1 m c, Decay.arr3 m c _ hy]
    rw [Gk_apply]
    dsimp only
    rw [show (t.val / 8 * 4096 + t'.val) / 4096 = t.val / 8 by omega, show (t.val / 8 * 4096 + t'.val) % 4096 = t'.val by omega]
  · intro t' u
    rw [hc]
    exact pairing_eq q k f b (t.val / 8) (t.val % 8) t'.val u.val (by omega)
  · refine Finset.sum_congr rfl fun u _ => ?_
    have := u.isLt; have := d.isLt
    rw [iblk4 m c t u d (by omega) (by omega)]
    rw [wide_v m c ⟨t.val / 8 * 4096 + u.val, by omega⟩ ⟨(16 + t.val % 8) * 128 + d.val, by omega⟩ (by dsimp only; omega) (by dsimp only; omega)]
    congr 2
    exact Fin.ext (show (16 + t.val % 8) * 128 + d.val - 2048 = t.val % 8 * 128 + d.val by omega)

/-- The attention's result is the reference's. -/
theorem arr9 (c : Dev nD) (hq : ∀ j e, q0 m c j e = ↑(q j.val e.val)) (hk : ∀ j e, k0 m c j e = ↑(k j.val e.val))
    (hf : ∀ j h, f0 m c j h = ↑(f j.val h.val)) (hb : ∀ h, b0 m c h = ↑(b h.val)) :
    (dat (W9 m) c).arrAt 9 cfg1.N = Cert.ReferenceIdeal.Read.val_main_v42 (F := Ideal) (m ⟨c, ↑main_arg0⟩) (m ⟨c, ↑main_arg1⟩) (m ⟨c, ↑main_arg2⟩) (m ⟨c, ↑main_arg5⟩) (m ⟨c, ↑main_arg6⟩) := by
  refine (dat (W9 m) c).arrAt_eq_of_covers 9 _ (by decide +kernel) fun t hfl x => ?_
  have ht : t.val < 32 := lt_of_lt_of_eq t.isLt N_1
  blk_simp
  rw [after9]
  obtain ⟨r, d, rfl⟩ : ∃ (r : Fin 4096) (d : Fin 128), x = ix2 r d := ⟨x 0, x 1, by funext a; fin_cases a <;> rfl⟩
  refine (out_block m q k f b c hq hk hf hb t ht r d).trans ?_
  have hr := r.isLt
  have hd := d.isLt
  have e : ((cfg1.win 9).blk t).view.emb (ix2 r d) = ix2 (⟨t.val / 8 * 4096 + r.val, by omega⟩ : Fin 16384) (⟨t.val % 8 * 128 + d.val, by omega⟩ : Fin 1024) := by
    blk_ext [(idx t).2.2.2.2.2]
  rw [e]
  refine Eq.trans ?_ (Cert.ReferenceIdeal.Attn.v42_at (m ⟨c, ↑main_arg0⟩) (m ⟨c, ↑main_arg1⟩) (m ⟨c, ↑main_arg2⟩) (m ⟨c, ↑main_arg5⟩) (m ⟨c, ↑main_arg6⟩)
    ⟨t.val / 8, by omega⟩ ⟨t.val % 8, by omega⟩ (fun t' d => q (t.val / 8 * 4096 + t'.val) (t.val % 8 * 128 + d.val)) (fun t' d => k (t.val / 8 * 4096 + t'.val) (t.val % 8 * 128 + d.val))
    (fun s => f (t.val / 8 * 4096 + s) (t.val % 8) + b (t.val % 8)) (pairing q k f b (t.val / 8) (t.val % 8))
    (fun t' d _ _ => hq _ _) (fun t' d _ _ => hk _ _) (fun s h1 => ?_) (fun t' u => rfl) _ _ (fun u => by have := u.isLt; dsimp only; omega) (by dsimp only; omega) (by dsimp only; omega)).symm
  · have e1 : (t.val / 8 * 4096 + r.val) % 4096 = r.val := by omega
    dsimp only
    rw [e1]
    rfl
  · rw [EReal.coe_add, ← hf ⟨t.val / 8 * 4096 + s.val, h1⟩ ⟨t.val % 8, by omega⟩, ← hb ⟨t.val % 8, by omega⟩]
    rfl

theorem idxw : ∀ t : Fin grid1.N, win1_5.index t = win1_10.index t ∧ win1_8.index t 0 = win1_10.index t 0 ∧ win1_8.index t 1 = 0
    ∧ win1_6.index t = win1_11.index t ∧ win1_7.index t = win1_12.index t := by
  decide +kernel

theorem W9_launch (c : Dev nD) (r : Ref sig .tc) (h9 : r ∉ ([main_v22_0, main_v22_1] : List (Ref sig .tc)))
    (h10 : r ∉ ([main_v23_0, main_v23_1, main_v23_2, main_v23_3] : List (Ref sig .tc))) : W9 m c r = W10 m c r :=
  (W10_of m c r h10).symm

theorem arr10 (c : Dev nD) : (dat (W9 m) c).arrAt 10 cfg1.N = Cert.ReferenceIdeal.Read.val_main_v45 (F := Ideal) (m ⟨c, ↑main_arg7⟩) (m ⟨c, ↑main_arg10⟩) := by
  refine (dat (W9 m) c).arrAt_eq_of_covers 10 _ (by decide +kernel) fun t hfl x => ?_
  blk_simp
  rw [after10]
  have e7 : W9 m c main_arg7 = m ⟨c, ↑main_arg7⟩ := (W9_launch m c main_arg7 (by decide) (by decide)).trans (arg7 m c)
  have e10 : W9 m c main_arg10 = m ⟨c, ↑main_arg10⟩ := (W9_launch m c main_arg10 (by decide) (by decide)).trans (arg10 m c)
  rw [← e7, ← e10]
  obtain ⟨r, d, rfl⟩ : ∃ (r : Fin 64) (d : Fin 2048), x = ix2 r d := ⟨x 0, x 1, by funext a; fin_cases a <;> rfl⟩
  pointwise [castGain, Cert.ReferenceIdeal.Read.val_main_v45, Cert.ReferenceIdeal.Read.val_main_v44, Cert.ReferenceIdeal.Read.val_main_v43]
  congr 1
  blk_ext [iblk]
  · have := (idxw t).2.1; omega
  · have := (idxw t).2.2.1; omega

theorem arr11 (c : Dev nD) : (dat (W9 m) c).arrAt 11 cfg1.N = Cert.ReferenceIdeal.Read.val_main_v46 (F := Ideal) (m ⟨c, ↑main_arg8⟩) := by
  refine (dat (W9 m) c).arrAt_eq_of_covers 11 _ (by decide +kernel) fun t hfl x => ?_
  blk_simp
  rw [after11]
  have e8 : W9 m c main_arg8 = m ⟨c, ↑main_arg8⟩ := (W9_launch m c main_arg8 (by decide) (by decide)).trans (arg8 m c)
  rw [← e8]
  obtain ⟨r, d, rfl⟩ : ∃ (r : Fin 64) (d : Fin 8192), x = ix2 r d := ⟨x 0, x 1, by funext a; fin_cases a <;> rfl⟩
  pointwise [Cert.ReferenceIdeal.Read.val_main_v46]
  blk_ext [iblk, (idxw t).2.2.2.1]

theorem arr12 (c : Dev nD) : (dat (W9 m) c).arrAt 12 cfg1.N = Cert.ReferenceIdeal.Read.val_main_v47 (F := Ideal) (m ⟨c, ↑main_arg9⟩) := by
  refine (dat (W9 m) c).arrAt_eq_of_covers 12 _ (by decide +kernel) fun t hfl x => ?_
  blk_simp
  rw [after12]
  have e9 : W9 m c main_arg9 = m ⟨c, ↑main_arg9⟩ := (W9_launch m c main_arg9 (by decide) (by decide)).trans (arg9 m c)
  rw [← e9]
  obtain ⟨r, d, rfl⟩ : ∃ (r : Fin 256) (d : Fin 2048), x = ix2 r d := ⟨x 0, x 1, by funext a; fin_cases a <;> rfl⟩
  pointwise [Cert.ReferenceIdeal.Read.val_main_v47]
  blk_ext [iblk, (idxw t).2.2.2.2]

end Cert.KernelIdeal.Attn
end
-- ==== Proof.Value.lean ====
/- The two programs return the same four arrays. -/
module

public import proofs.«01_k».proof.Defs
public import proofs.«01_k».proof.Proof.AttnArr
public import proofs.«01_k».proof.Proof.Frames
public import Idealize.ShloMosaic.Adequacy
public import Idealize.ShloMosaic.Init

@[expose] public section
set_option maxRecDepth 100000
noncomputable section
namespace Cert.Proof
open Idealize.ShloMosaic Idealize.ShloMosaic.TcCoe Idealize.SL.Sem
open Cert.KernelIdeal.Host (q0 k0 f0 b0 W10)

/-- What the precondition's operations ask of the shapes. -/
theorem pre_facts : Cert.Pre_finite_logits.Facts where
  bcast_S_S16384x1024 := by decide
  bcast_S_S16384x8 := by decide
  bcast_S_S8 := by decide

attribute [local instance] Cert.Kernel.Gen.facts Cert.KernelIdeal.Gen.facts Cert.ReferenceIdeal.Gen.facts pre_facts

theorem inf_bits : Ideal.ofBits FTy.f32 2139095040#32 = (⊤ : EReal) := by rfl

/-- A number whose magnitude is below infinity is real. -/
theorem real_of (x : EReal) (h : (FloatOps.cmpf (F := Ideal) (φ := .f32) .olt (max x (-x)) (Ideal.ofBits FTy.f32 2139095040#32) : BitVec 1) = 1#1) : x = (x.toReal : EReal) := by
  rw [inf_bits] at h
  have hl : max x (-x) < (⊤ : EReal) := by
    by_contra hn
    have : (FloatOps.cmpf (F := Ideal) (φ := .f32) .olt (max x (-x)) (⊤ : EReal) : BitVec 1) = 0#1 := by
      simp [FloatOps.cmpf, Ideal.cmp, hn]
    rw [this] at h
    exact absurd h (by decide)
  refine (EReal.coe_toReal ?_ ?_).symm
  · rintro rfl; simp at hl
  · rintro rfl; simp at hl

section
variable (m : (ℓ : Loc Cert.KernelIdeal.nD Cert.KernelIdeal.τ Cert.KernelIdeal.sig) → Buf (Elt Ideal) ℓ)
  (c : Dev Cert.KernelIdeal.nD)

theorem pre_q (h : Cert.Pre_KernelIdeal_finite_logits m) (j : Fin 16384) (e : Fin 1024) : q0 m c j e = ((q0 m c j e).toReal : EReal) := by
  refine real_of _ ?_
  have hh := congrFun (h c).1 (ix2 j e)
  dsimp only [Cert.Pre_finite_logits.fn] at hh
  pointwise at hh
  exact hh

theorem pre_k (h : Cert.Pre_KernelIdeal_finite_logits m) (j : Fin 16384) (e : Fin 1024) : k0 m c j e = ((k0 m c j e).toReal : EReal) := by
  refine real_of _ ?_
  have hh := congrFun (h c).2.1 (ix2 j e)
  dsimp only [Cert.Pre_finite_logits.fn] at hh
  pointwise at hh
  exact hh

theorem pre_f (h : Cert.Pre_KernelIdeal_finite_logits m) (j : Fin 16384) (e : Fin 8) : f0 m c j e = ((f0 m c j e).toReal : EReal) := by
  refine real_of _ ?_
  have hh := congrFun (h c).2.2.1 (ix2 j e)
  dsimp only [Cert.Pre_finite_logits.fn] at hh
  pointwise at hh
  exact hh

theorem pre_b (h : Cert.Pre_KernelIdeal_finite_logits m) (e : Fin 8) : b0 m c e = ((b0 m c e).toReal : EReal) := by
  refine real_of _ ?_
  have hh := congrFun (h c).2.2.2 (ix1 e)
  dsimp only [Cert.Pre_finite_logits.fn] at hh
  pointwise at hh
  exact hh

/-- The attention both programs return. -/
theorem attention (h : Cert.Pre_KernelIdeal_finite_logits m) : W10 m c Cert.KernelIdeal.main_v23_0
    = Cert.ReferenceIdeal.Read.val_main_v42 (F := Ideal) (m ⟨c, ↑Cert.KernelIdeal.main_arg0⟩) (m ⟨c, ↑Cert.KernelIdeal.main_arg1⟩) (m ⟨c, ↑Cert.KernelIdeal.main_arg2⟩) (m ⟨c, ↑Cert.KernelIdeal.main_arg5⟩) (m ⟨c, ↑Cert.KernelIdeal.main_arg6⟩) :=
  (Cert.KernelIdeal.Host.W10_0 m c).trans
    (Cert.KernelIdeal.Attn.arr9 m (fun n e => if hn : n < 16384 ∧ e < 1024 then (q0 m c ⟨n, hn.1⟩ ⟨e, hn.2⟩).toReal else 0)
      (fun n e => if hn : n < 16384 ∧ e < 1024 then (k0 m c ⟨n, hn.1⟩ ⟨e, hn.2⟩).toReal else 0)
      (fun n e => if hn : n < 16384 ∧ e < 8 then (f0 m c ⟨n, hn.1⟩ ⟨e, hn.2⟩).toReal else 0)
      (fun e => if hn : e < 8 then (b0 m c ⟨e, hn⟩).toReal else 0) c
      (fun j e => by rw [dif_pos ⟨j.isLt, e.isLt⟩]; exact pre_q m c h j e)
      (fun j e => by rw [dif_pos ⟨j.isLt, e.isLt⟩]; exact pre_k m c h j e)
      (fun j e => by rw [dif_pos ⟨j.isLt, e.isLt⟩]; exact pre_f m c h j e)
      (fun e => by rw [dif_pos e.isLt]; exact pre_b m c h e))
end

/-- The frame of the kernel under the precondition. -/
theorem frame_pi_pre : Cert.quiescent_KernelIdeal_pre_finite_logits := fun m g _ => frame_pi m g trivial

/-- The frame of the reference under the precondition. -/
theorem frame_ri_pre : Cert.quiescent_ReferenceIdeal_pre_finite_logits := fun m g _ => frame_ri m g trivial

set_option maxHeartbeats 4000000 in
/-- The kernel and the reference return the same arrays. -/
theorem value : Cert.algebraic_KernelIdeal_ReferenceIdeal_pre_finite_logits := fun m g m' g' hpre hargs =>
  ⟨fun c => W10 m c Cert.KernelIdeal.main_v23_0, fun c => W10 m c Cert.KernelIdeal.main_v23_1, fun c => W10 m c Cert.KernelIdeal.main_v23_2, fun c => W10 m c Cert.KernelIdeal.main_v23_3,
    (θ_run Cert.KernelIdeal.defs _ _).mono (fun r h c => ⟨h.1 c (Proc.devRef .tc Cert.KernelIdeal.main_v23_0) (Finset.mem_filter.mpr ⟨StableHlo.devRef_mem_tcRefs Cert.KernelIdeal.main_v23_0, by decide⟩),
      h.1 c (Proc.devRef .tc Cert.KernelIdeal.main_v23_1) (Finset.mem_filter.mpr ⟨StableHlo.devRef_mem_tcRefs Cert.KernelIdeal.main_v23_1, by decide⟩),
      h.1 c (Proc.devRef .tc Cert.KernelIdeal.main_v23_2) (Finset.mem_filter.mpr ⟨StableHlo.devRef_mem_tcRefs Cert.KernelIdeal.main_v23_2, by decide⟩),
      h.1 c (Proc.devRef .tc Cert.KernelIdeal.main_v23_3) (Finset.mem_filter.mpr ⟨StableHlo.devRef_mem_tcRefs Cert.KernelIdeal.main_v23_3, by decide⟩),
      (h.1 c _ (Finset.mem_filter.mpr ⟨StableHlo.devRef_mem_tcRefs Cert.KernelIdeal.main_arg0, by decide⟩)).trans (Cert.KernelIdeal.Host.arg0 m c),
      (h.1 c _ (Finset.mem_filter.mpr ⟨StableHlo.devRef_mem_tcRefs Cert.KernelIdeal.main_arg1, by decide⟩)).trans (Cert.KernelIdeal.Host.arg1 m c),
      (h.1 c _ (Finset.mem_filter.mpr ⟨StableHlo.devRef_mem_tcRefs Cert.KernelIdeal.main_arg2, by decide⟩)).trans (Cert.KernelIdeal.Host.arg2 m c),
      (h.1 c _ (Finset.mem_filter.mpr ⟨StableHlo.devRef_mem_tcRefs Cert.KernelIdeal.main_arg3, by decide⟩)).trans (Cert.KernelIdeal.Host.arg3 m c),
      (h.1 c _ (Finset.mem_filter.mpr ⟨StableHlo.devRef_mem_tcRefs Cert.KernelIdeal.main_arg4, by decide⟩)).trans (Cert.KernelIdeal.Host.arg4 m c),
      (h.1 c _ (Finset.mem_filter.mpr ⟨StableHlo.devRef_mem_tcRefs Cert.KernelIdeal.main_arg5, by decide⟩)).trans (Cert.KernelIdeal.Host.arg5 m c),
      (h.1 c _ (Finset.mem_filter.mpr ⟨StableHlo.devRef_mem_tcRefs Cert.KernelIdeal.main_arg6, by decide⟩)).trans (Cert.KernelIdeal.Host.arg6 m c),
      (h.1 c _ (Finset.mem_filter.mpr ⟨StableHlo.devRef_mem_tcRefs Cert.KernelIdeal.main_arg7, by decide⟩)).trans (Cert.KernelIdeal.Host.arg7 m c),
      (h.1 c _ (Finset.mem_filter.mpr ⟨StableHlo.devRef_mem_tcRefs Cert.KernelIdeal.main_arg8, by decide⟩)).trans (Cert.KernelIdeal.Host.arg8 m c),
      (h.1 c _ (Finset.mem_filter.mpr ⟨StableHlo.devRef_mem_tcRefs Cert.KernelIdeal.main_arg9, by decide⟩)).trans (Cert.KernelIdeal.Host.arg9 m c),
      (h.1 c _ (Finset.mem_filter.mpr ⟨StableHlo.devRef_mem_tcRefs Cert.KernelIdeal.main_arg10, by decide⟩)).trans (Cert.KernelIdeal.Host.arg10 m c)⟩) (Cert.KernelIdeal.Host.run_main m g),
    (θ_run Cert.ReferenceIdeal.defs _ _).mono (fun r h c => ⟨(h c).1.trans (by
        obtain ⟨a0, a1, a2, a3, a4, a5, a6, a7, a8, a9, a10⟩ := hargs c
        rw [Cert.ReferenceIdeal.Read.val_main_v42_eq, a0, a1, a2, a5, a6]
        exact (attention m c hpre).symm),
      (h c).2.1.trans (by
        obtain ⟨a0, a1, a2, a3, a4, a5, a6, a7, a8, a9, a10⟩ := hargs c
        rw [a7, a10]
        exact ((Cert.KernelIdeal.Host.W10_1 m c).trans (Cert.KernelIdeal.Attn.arr10 m c)).symm),
      (h c).2.2.1.trans (by
        obtain ⟨a0, a1, a2, a3, a4, a5, a6, a7, a8, a9, a10⟩ := hargs c
        rw [a8]
        exact ((Cert.KernelIdeal.Host.W10_2 m c).trans (Cert.KernelIdeal.Attn.arr11 m c)).symm),
      (h c).2.2.2.1.trans (by
        obtain ⟨a0, a1, a2, a3, a4, a5, a6, a7, a8, a9, a10⟩ := hargs c
        rw [a9]
        exact ((Cert.KernelIdeal.Host.W10_3 m c).trans (Cert.KernelIdeal.Attn.arr12 m c)).symm),
      (h c).2.2.2.2⟩) (Cert.ReferenceIdeal.Value.run (F := Ideal) m' g')⟩

end Cert.Proof
end
-- ==== Proof.FfnBody.lean ====
/- The feed-forward kernel's three cases over the extended reals. -/
module
public import proofs.«01_k».proof.Proof.Gen.Kernel2Ideal.Value
public import Idealize.ShloMosaic.Lib.WholeRead
public import Idealize.ShloMosaic.Lib.Pointwise
public import Idealize.ShloMosaic.Lib.Pipeline.ValueKit.Geometry
public import Idealize.ShloMosaic.Lib.Pipeline.ValueKit.Point
@[expose] public section
set_option maxRecDepth 16384
noncomputable section
namespace Cert.Kernel2Ideal.Ffn
open Idealize.ShloMosaic Idealize.ShloMosaic.TcCoe Cert.Kernel2Ideal.Gen
open scoped BigOperators

theorem hz : (![0, 0] : Fin 2 → ℕ) = fun _ => 0 := funext fun a => by fin_cases a <;> rfl

/-- A row divided by its root mean square, times the gain. -/
def nrm (X g : Fin 2048 → EReal) (j : Fin 2048) : EReal :=
  X j * Ideal.rsqrt (Ideal.div (∑ k, X k * X k) (Ideal.ofBits .f32 0x45000000#32) + Ideal.ofBits .f32 0x358637BD#32) * g j

/-- The squared rectified product of a row with a block of the first weights, times a block of the second. -/
def mlp (N : ℕ) (H : Fin 2048 → EReal) (W1 : Fin 2048 → Fin N → EReal) (W2 : Fin N → EReal) : EReal :=
  ∑ j, (max (∑ k, H k * W1 k j) 0 * max (∑ k, H k * W1 k j) 0) * W2 j

theorem pay4_apply (v : Vec Ideal S16x2048 .f32) (g : Vec Ideal S1x2048 .f32) (y : S16x2048.Idx) :
    k0_pay4 v g y = nrm (fun k => v (ix2 (y 0) k)) (fun k => g (ix2 0 k)) (y 1) := by
  pointwise [k0_pay4]
  exact congrArg (fun z : EReal => z * _ * _) (congrArg v (eq_ix2 y))

theorem pay1_apply (h : Vec Ideal S1024x2048 .bf16) (w1 : Vec Ideal S2048x1024 .bf16) (w2 : Vec Ideal S1024x2048 .bf16) (y : S1024x2048.Idx) :
    k0_pay1 h (k0_pay96 w1) (constant S1024x1024 .f32 0#32) w2 y = mlp 1024 (fun k => h (ix2 (y 0) k)) (fun k j => w1 (ix2 k j)) (fun j => w2 (ix2 j (y 1))) := by
  pointwise [k0_pay1, k0_pay96]
  rfl

theorem pay2_apply (o : Vec Ideal S1024x2048 .f32) (h : Vec Ideal S1024x2048 .bf16) (w1 : Vec Ideal S2048x1024 .bf16) (w2 : Vec Ideal S1024x2048 .bf16) (y : S1024x2048.Idx) :
    k0_pay2 o h w1 w2 y = o y + mlp 1024 (fun k => h (ix2 (y 0) k)) (fun k j => w1 (ix2 k j)) (fun j => w2 (ix2 j (y 1))) := by
  pointwise [k0_pay2]
  rfl

theorem pay97_apply (h : Vec Ideal S1024x2048 .bf16) (w1 : Vec Ideal S2048x1024 .bf16) (y : S1024x1024.Idx) :
    k0_pay97 h w1 y = max (∑ k : Fin 2048, h (ix2 (y 0) k) * w1 (ix2 k (y 1))) 0 * max (∑ k : Fin 2048, h (ix2 (y 0) k) * w1 (ix2 k (y 1))) 0 := by
  pointwise [k0_pay97]

section
variable (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S2048x1024 .bf16) (harg4 : arg4.IsWhole) (arg5 : Memref sig .tc .vmem S1024x2048 .bf16) (harg5 : arg5.IsWhole) (arg6 : Memref sig .tc .vmem S1x2048 .f32) (harg6 : arg6.IsWhole) (arg7 : Memref sig .tc .vmem S1024x2048 .f32) (harg7 : arg7.IsWhole) (arg8 : Memref sig .tc .vmem S1024x2048 .bf16) (harg8 : arg8.IsWhole)
variable (x0 : Vec Ideal S1024x2048 .f32) (x1 : Vec Ideal S1x2048 .f32) (x2 : Vec Ideal S2048x1024 .bf16) (x3 : Vec Ideal S1024x2048 .bf16) (x4 : Vec Ideal S1x2048 .f32) (xo : Vec Ideal S1024x2048 .f32) (xs : Vec Ideal S1024x2048 .bf16)

theorem out_B (hc0 : ¬cond0_0 i) (hc1 : cond0_1 i) (hc2 : ¬cond0_2 i) :
    out0_B_5 c i arg2 harg2 arg3 harg3 arg4 harg4 arg5 harg5 arg6 harg6 arg7 harg7 arg8 harg8 hc0 hc1 hc2 x0 x1 x2 x3 x4 xo xs = k0_pay2 xo xs x2 x3 := by
  unfold out0_B_5
  rw [View.read_writes_eq_canon _ _ _ (cover0_B_5 c i arg2 harg2 arg3 harg3 arg4 harg4 arg5 harg5 arg6 harg6 arg7 harg7 arg8 harg8 hc0 hc1 hc2 x0 x1 x2 x3 x4 xo xs)]
  unfold kernelRun0_B
  dsimp only
  sl_unfold_words
  rw [View.canon_unit_zero hz]
  simp only [View.readAt_eq_ld, harg4.read_unread, harg5.read_unread, harg7.read_unread, harg8.read_unread, View.ld_unit_zero (S := S1024x2048) hz, View.ld_unit_zero (S := S2048x1024) hz]

/-- The normalized rows of a block. -/
def rows (x : Vec Ideal S1024x2048 .f32) (g : Vec Ideal S1x2048 .f32) : Vec Ideal S1024x2048 .bf16 :=
  fun y => nrm (fun k => x (ix2 (y 0) k)) (fun k => g (ix2 0 k)) (y 1)

include harg2 harg3 in
theorem pieceA (o : ℕ) (inb : ∀ a, (![o, 0] : Fin 2 → ℕ) a + S16x2048.size a ≤ S1024x2048.size a) (inb' : ∀ a, (![0, 0] : Fin 2 → ℕ) a + S1x2048.size a ≤ S1x2048.size a)
    (x : S16x2048.Idx) :
    k0_pay4 (View.readAt (Elt Ideal) arg2.view (Rect.unit (s := S1024x2048) ![o, 0] S16x2048.size inb).toLoadRect (harg2.unread x0))
      (View.readAt (Elt Ideal) arg3.view (Rect.unit (s := S1x2048) ![0, 0] S1x2048.size inb').toLoadRect (harg3.unread x1)) x
      = rows x0 x1 ((Rect.unit (s := S1024x2048) ![o, 0] S16x2048.size inb).emb x) := by
  rw [pay4_apply]
  simp only [harg2.readAt_unread, harg3.readAt_unread]
  unfold rows
  congr 1
  · funext k
    refine congrArg x0 (funext fun a => Fin.ext ?_)
    match a with
    | ⟨0, _⟩ => rfl
    | ⟨1, _⟩ => exact (show 0 + 1 * k.val = k.val by omega)
  · funext k
    refine congrArg x1 (funext fun a => Fin.ext ?_)
    match a with
    | ⟨0, _⟩ => rfl
    | ⟨1, _⟩ => exact (show 0 + 1 * k.val = k.val by omega)
  · exact Fin.ext (show (x 1).val = 0 + 1 * (x 1).val by omega)

theorem piecesA : ∀ p ∈ kernelRun0_A.sl.HS0_64 (F := Ideal) c arg2 harg2 arg3 harg3 x0 x1, ∀ x : p.1.shape.Idx, p.2 x = rows x0 x1 (p.1.emb x) := by
  unfold kernelRun0_A.sl.HS0_64
  repeat refine List.forall_mem_cons.mpr ⟨fun x => pieceA arg2 harg2 arg3 harg3 x0 x1 _ _ _ x, ?_⟩
  exact fun _ h => absurd h List.not_mem_nil

theorem sout_A (hc0 : cond0_0 i) (hc1 : ¬cond0_1 i) (hc2 : ¬cond0_2 i) :
    sout0_A_0 c i arg2 harg2 arg3 harg3 arg4 harg4 arg5 harg5 arg6 harg6 arg7 harg7 arg8 harg8 hc0 hc1 hc2 x0 x1 x2 x3 x4 = rows x0 x1 := by
  funext y
  unfold sout0_A_0
  rw [View.read_writes_eq_canon _ _ _ (scover0_A_0 c i arg2 harg2 arg3 harg3 arg4 harg4 arg5 harg5 arg6 harg6 arg7 harg7 arg8 harg8 hc0 hc1 hc2 x0 x1 x2 x3 x4)]
  have hcov := scover0_A_0 c i arg2 harg2 arg3 harg3 arg4 harg4 arg5 harg5 arg6 harg6 arg7 harg7 arg8 harg8 hc0 hc1 hc2 x0 x1 x2 x3 x4 y
  unfold kernelRun0_A at hcov ⊢
  dsimp only at hcov ⊢
  exact View.canon_apply_of_pieces _ _ (piecesA c arg2 harg2 arg3 harg3 x0 x1) y hcov

theorem out_A (hc0 : cond0_0 i) (hc1 : ¬cond0_1 i) (hc2 : ¬cond0_2 i) :
    out0_A_5 c i arg2 harg2 arg3 harg3 arg4 harg4 arg5 harg5 arg6 harg6 arg7 harg7 arg8 harg8 hc0 hc1 hc2 x0 x1 x2 x3 x4 = k0_pay1 (rows x0 x1) (k0_pay96 x2) (constant S1024x1024 .f32 0#32) x3 := by
  unfold out0_A_5
  rw [View.read_writes_eq_canon _ _ _ (cover0_A_5 c i arg2 harg2 arg3 harg3 arg4 harg4 arg5 harg5 arg6 harg6 arg7 harg7 arg8 harg8 hc0 hc1 hc2 x0 x1 x2 x3 x4)]
  have hcov := scover0_A_0 c i arg2 harg2 arg3 harg3 arg4 harg4 arg5 harg5 arg6 harg6 arg7 harg7 arg8 harg8 hc0 hc1 hc2 x0 x1 x2 x3 x4
  unfold kernelRun0_A at hcov ⊢
  dsimp only at hcov ⊢
  rw [View.canon_unit_zero hz]
  have e : kernelRun0_A.sl.v1163 (F := Ideal) c arg2 harg2 arg3 harg3 arg8 x0 x1 = rows x0 x1 := by
    unfold kernelRun0_A.sl.v1163
    rw [View.readCov_eq_canon']
    funext j
    rw [View.canon_apply_of_pieces _ _ (piecesA c arg2 harg2 arg3 harg3 x0 x1) _ (hcov _)]
    refine congrArg (rows x0 x1) (funext fun a => Fin.ext ?_)
    match a with
    | ⟨0, _⟩ => exact (show 0 + 1 * (j 0).val = (j 0).val by omega)
    | ⟨1, _⟩ => exact (show 0 + 1 * (j 1).val = (j 1).val by omega)
  rw [e]
  unfold kernelRun0_A.sl.r_42 kernelRun0_A.sl.cst_520
  simp only [View.readAt_eq_ld, harg4.read_unread, harg5.read_unread, View.ld_unit_zero (S := S1024x2048) hz, View.ld_unit_zero (S := S2048x1024) hz]

/-- A group of rows divided by their root mean squares, times the gain. -/
def nrm16 (v : FVec Ideal S16x2048 .f32) (g : Vec Ideal S1x2048 .f32) : FVec Ideal S16x2048 .f32 :=
  k0_pay3 v g (shapeCast S16x1 (multiReduction .add [1] S16 (mulf v v) 0x00000000#32 reduces_S16x2048_S16 (.inl rfl) rfl) shapeCasts_S16_S16x1)

theorem nrm16_apply (v : Vec Ideal S16x2048 .f32) (g : Vec Ideal S1x2048 .f32) (y : S16x2048.Idx) :
    nrm16 v g y = nrm (fun k => v (ix2 (y 0) k)) (fun k => g (ix2 0 k)) (y 1) := by
  pointwise [nrm16, k0_pay3]
  exact congrArg (fun z : EReal => z * _ * _) (congrArg v (eq_ix2 y))

/-- A quarter of the block: the rows of the input plus the running sum plus the last product. -/
def quarter (P : ℕ) (hs : S1024x1024.Slices ![P, 0] S256x1024) (a : FVec Ideal S1024x1024 .bf16) (x o : FVec Ideal S256x2048 .f32) (w : FVec Ideal S1024x2048 .bf16) : FVec Ideal S256x2048 .f32 :=
  addf x (addf (shapeCast S256x2048 o shapeCasts_S256x2048_S256x2048) (matmul dot_S256x1024_S1024x2048_S256x2048_1_0_0_1_n_n none (extractStridedSlice S256x1024 ![P, 0] a hs) (shapeCast S1024x2048 w shapeCasts_S1024x2048_S1024x2048) (constant S256x2048 .f32 0x00000000#32)))

theorem quarter_apply (P : ℕ) (hs : S1024x1024.Slices ![P, 0] S256x1024) (hP : P ≤ 768) (a : FVec Ideal S1024x1024 .bf16) (x o : Vec Ideal S256x2048 .f32) (w : Vec Ideal S1024x2048 .bf16) (r : Fin 256) (k : Fin 2048) :
    quarter P hs a x o w (ix2 r k) = x (ix2 r k) + (o (ix2 r k) + ∑ j : Fin 1024, a (ix2 ⟨P + r.val, by have := r.isLt; omega⟩ j) * w (ix2 j k)) := by
  pointwise [quarter]

/-- The block's last rows: normalized sums of the input, the running sum and the last product. -/
def last : Vec Ideal S1024x2048 .f32 :=
  fun y => nrm (fun k => x0 (ix2 (y 0) k) + (xo (ix2 (y 0) k) + mlp 1024 (fun l => xs (ix2 (y 0) l)) (fun l j => x2 (ix2 l j)) (fun j => x3 (ix2 j k)))) (fun k => x4 (ix2 0 k)) (y 1)

theorem pieceC (q P o : ℕ) (hq : q = P + o) (hP : P ≤ 768) (ho : o ≤ 240)
    (hs : S1024x1024.Slices ![P, 0] S256x1024) (hs' : S256x2048.Slices ![o, 0] S16x2048)
    (inb : ∀ a, (![q, 0] : Fin 2 → ℕ) a + S16x2048.size a ≤ S1024x2048.size a)
    (inb0 inb7 : ∀ a, (![P, 0] : Fin 2 → ℕ) a + S256x2048.size a ≤ S1024x2048.size a)
    (inb8 inb5 : ∀ a, (![0, 0] : Fin 2 → ℕ) a + S1024x2048.size a ≤ S1024x2048.size a)
    (inb4 : ∀ a, (![0, 0] : Fin 2 → ℕ) a + S2048x1024.size a ≤ S2048x1024.size a)
    (inb6 : ∀ a, (![0, 0] : Fin 2 → ℕ) a + S1x2048.size a ≤ S1x2048.size a)
    (x : S16x2048.Idx) :
    nrm16 (extractStridedSlice S16x2048 ![o, 0] (quarter P hs (k0_pay97
        (View.readAt (Elt Ideal) arg8.view (Rect.unit (s := S1024x2048) ![0, 0] S1024x2048.size inb8).toLoadRect (harg8.unread xs))
        (View.readAt (Elt Ideal) arg4.view (Rect.unit (s := S2048x1024) ![0, 0] S2048x1024.size inb4).toLoadRect (harg4.unread x2)))
      (View.readAt (Elt Ideal) arg2.view (Rect.unit (s := S1024x2048) ![P, 0] S256x2048.size inb0).toLoadRect (harg2.unread x0))
      (View.readAt (Elt Ideal) arg7.view (Rect.unit (s := S1024x2048) ![P, 0] S256x2048.size inb7).toLoadRect (harg7.unread xo))
      (View.readAt (Elt Ideal) arg5.view (Rect.unit (s := S1024x2048) ![0, 0] S1024x2048.size inb5).toLoadRect (harg5.unread x3))) hs')
      (View.readAt (Elt Ideal) arg6.view (Rect.unit (s := S1x2048) ![0, 0] S1x2048.size inb6).toLoadRect (harg6.unread x4)) x
      = last x0 x2 x3 x4 xo xs ((Rect.unit (s := S1024x2048) ![q, 0] S16x2048.size inb).emb x) := by
  subst hq
  rw [nrm16_apply]
  simp only [View.readAt_eq_ld, harg2.read_unread, harg4.read_unread, harg5.read_unread, harg6.read_unread, harg7.read_unread, harg8.read_unread, View.ld_unit_zero (S := S1024x2048) hz, View.ld_unit_zero (S := S2048x1024) hz, View.ld_unit_zero (S := S1x2048) hz]
  unfold last
  have hx : (x 0).val < 16 := (x 0).isLt
  congr 1
  · funext k
    refine Eq.trans (b := quarter P hs _ _ _ _ (ix2 ⟨o + (x 0).val, by omega⟩ k)) (congrArg (quarter P hs _ _ _ _) (funext fun a => Fin.ext ?_)) ?_
    · match a with
      | ⟨0, _⟩ => rfl
      | ⟨1, _⟩ => exact (show 0 + k.val = k.val by omega)
    rw [quarter_apply P hs hP]
    have e0 : ∀ (z : Vec Ideal S1024x2048 .f32) (inb' : ∀ a, (![P, 0] : Fin 2 → ℕ) a + S256x2048.size a ≤ S1024x2048.size a) (h : o + (x 0).val < 256),
        View.ld z (Rect.unit (s := S1024x2048) ![P, 0] S256x2048.size inb') (ix2 ⟨o + (x 0).val, h⟩ k) = z (ix2 ((Rect.unit (s := S1024x2048) ![P + o, 0] S16x2048.size inb).emb x 0) k) := fun z inb' h => by
      refine congrArg z (funext fun a => Fin.ext ?_)
      match a with
      | ⟨0, _⟩ => exact (show P + 1 * (o + (x 0).val) = P + o + 1 * (x 0).val by omega)
      | ⟨1, _⟩ => exact (show 0 + 1 * k.val = k.val by omega)
    have er : ∀ h : P + (o + (x 0).val) < 1024, (⟨P + (o + (x 0).val), h⟩ : Fin 1024) = (Rect.unit (s := S1024x2048) ![P + o, 0] S16x2048.size inb).emb x 0 :=
      fun h => Fin.ext (show P + (o + (x 0).val) = P + o + 1 * (x 0).val by omega)
    refine congr (congrArg (@HAdd.hAdd EReal EReal EReal _) (e0 _ _ _)) (congr (congrArg (@HAdd.hAdd EReal EReal EReal _) (e0 _ _ _)) ?_)
    unfold mlp
    refine Finset.sum_congr rfl fun j _ => ?_
    rw [pay97_apply]
    refine congrArg (fun z : Fin 1024 => max (∑ l : Fin 2048, xs (ix2 z l) * x2 (ix2 l j)) 0 * max (∑ l : Fin 2048, xs (ix2 z l) * x2 (ix2 l j)) 0 * x3 (ix2 j k)) (er _)
  · funext k
    refine congrArg x4 (funext fun a => Fin.ext ?_)
    match a with
    | ⟨0, _⟩ => rfl
    | ⟨1, _⟩ => exact (show 0 + 1 * k.val = k.val by omega)
  · exact Fin.ext (show (x 1).val = 0 + 1 * (x 1).val by omega)

theorem out_C (hc0 : ¬cond0_0 i) (hc1 : ¬cond0_1 i) (hc2 : cond0_2 i) :
    out0_C_5 c i arg2 harg2 arg3 harg3 arg4 harg4 arg5 harg5 arg6 harg6 arg7 harg7 arg8 harg8 hc0 hc1 hc2 x0 x1 x2 x3 x4 xo xs = last x0 x2 x3 x4 xo xs := by
  funext y
  unfold out0_C_5
  rw [View.read_writes_eq_canon _ _ _ (cover0_C_5 c i arg2 harg2 arg3 harg3 arg4 harg4 arg5 harg5 arg6 harg6 arg7 harg7 arg8 harg8 hc0 hc1 hc2 x0 x1 x2 x3 x4 xo xs)]
  have hcov := cover0_C_5 c i arg2 harg2 arg3 harg3 arg4 harg4 arg5 harg5 arg6 harg6 arg7 harg7 arg8 harg8 hc0 hc1 hc2 x0 x1 x2 x3 x4 xo xs y
  unfold kernelRun0_C at hcov ⊢
  dsimp only at hcov ⊢
  refine View.canon_apply_of_pieces _ _ ?_ y hcov
  repeat refine List.forall_mem_cons.mpr ⟨fun x => pieceC arg2 harg2 arg4 harg4 arg5 harg5 arg6 harg6 arg7 harg7 arg8 harg8 x0 x2 x3 x4 xo xs _ _ _ (by exact rfl) (by decide) (by decide) (by decide) (by decide) (by decide) (by decide) (by decide) (by decide) (by decide) (by decide) (by decide) x, ?_⟩
  exact fun _ h => absurd h List.not_mem_nil
end
end Cert.Kernel2Ideal.Ffn
-- ==== Proof.FfnArr.lean ====
/- The feed-forward kernel's output array: its blocks, what it carries, the sum over the width, and the reference read at a point. -/
module
public import proofs.«01_k».proof.Proof.FfnBody
public import proofs.«01_k».proof.Proof.Gen.Reference2Ideal.Read
public import Idealize.ShloMosaic.Lib.StableHlo.ReadAt
public import Idealize.ShloMosaic.Lib.WholeRead
public import Idealize.ShloMosaic.Lib.Pointwise
public import Idealize.ShloMosaic.Lib.Pipeline.ValueKit.Geometry
public import Idealize.ShloMosaic.Lib.Pipeline.ValueKit.Point
@[expose] public section
set_option maxRecDepth 16384
noncomputable section
namespace Cert.Kernel2Ideal.Ffn
open Idealize.ShloMosaic Idealize.ShloMosaic.TcCoe Cert.Kernel2Ideal.Gen
open scoped BigOperators

section
open Cert.Reference2Ideal Cert.Reference2Ideal.Read
variable (x0 : Vec Ideal S16384x2048 .f32) (x1 : Vec Ideal S1x2048 .f32) (x2 : Vec Ideal S2048x8192 .f32) (x3 : Vec Ideal S8192x2048 .f32) (x4 : Vec Ideal S1x2048 .f32)
theorem ref_h (t : Fin 16384) (l : Fin 2048) :
    (val_main_v11 (F := Ideal) x0 x1 (ix2 t l) : EReal) = nrm (fun k => x0 (ix2 t k)) (fun k => x1 (ix2 0 k)) l := by
  pointwise [val_main_v0, val_main_cst, val_main_v1, val_main_v2, val_main_cst_0, val_main_v3, val_main_v4, val_main_cst_1, val_main_v5, val_main_v6, val_main_v7, val_main_v8, val_main_v9, val_main_v10, val_main_v11, nrm]
theorem ref_y (t : Fin 16384) (k : Fin 2048) :
    (val_main_v17 (F := Ideal) x0 x1 x2 x3 (ix2 t k) : EReal)
      = x0 (ix2 t k) + mlp 8192 (fun l => nrm (fun k' => x0 (ix2 t k')) (fun k' => x1 (ix2 0 k')) l) (fun l j => x2 (ix2 l j)) (fun j => x3 (ix2 j k)) := by
  simp only [← ref_h]
  pointwise [val_main_v12, val_main_cst_2, val_main_v13, val_main_v14, val_main_v15, val_main_v16, val_main_v17, mlp]
theorem ref_nrm (t : Fin 16384) (d : Fin 2048) :
    (val_main_v29 (F := Ideal) x0 x1 x2 x3 x4 (ix2 t d) : EReal) = nrm (fun k => val_main_v17 (F := Ideal) x0 x1 x2 x3 (ix2 t k)) (fun k => x4 (ix2 0 k)) d := by
  pointwise [val_main_v18, val_main_cst_3, val_main_v19, val_main_v20, val_main_cst_4, val_main_v21, val_main_v22, val_main_cst_5, val_main_v23, val_main_v24, val_main_v25, val_main_v26, val_main_v27, val_main_v28, val_main_v29, nrm]
theorem ref_at (t : Fin 16384) (d : Fin 2048) :
    (val_main_v29 (F := Ideal) x0 x1 x2 x3 x4 (ix2 t d) : EReal)
      = nrm (fun k => x0 (ix2 t k) + mlp 8192 (fun l => nrm (fun k' => x0 (ix2 t k')) (fun k' => x1 (ix2 0 k')) l) (fun l j => x2 (ix2 l j)) (fun j => x3 (ix2 j k)))
        (fun k => x4 (ix2 0 k)) d :=
  (ref_nrm x0 x1 x2 x3 x4 t d).trans (congrArg (fun X => nrm X (fun k => x4 (ix2 0 k)) d) (funext fun k => ref_y x0 x1 x2 x3 t k))
end

variable (m : (ℓ : Loc nD τ sig) → Buf (Elt Ideal) ℓ) (c : Dev nD)

theorem V0 : (V m c main_v0 : S2048x8192.Idx → EReal) = m ((c : Thread nD τ).loc main_arg2) := by
  unfold V
  after_reads_at
  rfl
theorem V1 : (V m c main_v1 : S8192x2048.Idx → EReal) = m ((c : Thread nD τ).loc main_arg3) := by
  unfold V
  after_reads_at
  rfl
theorem idx : ∀ t : Fin grid0.N, (win0 0).index t = ![t.val / 8, 0] ∧ (win0 1).index t = ![0, 0] ∧ (win0 2).index t = ![0, t.val % 8]
    ∧ (win0 3).index t = ![t.val % 8, 0] ∧ (win0 4).index t = ![0, 0] := by
  decide +kernel
theorem iblk0 (t : Fin cfg0.N) (r : Fin 1024) (k : Fin 2048) (h : t.val / 8 * 1024 + r.val < 16384) :
    (iblk m c 0 t (ix2 r k) : EReal) = m ((c : Thread nD τ).loc main_arg0) (ix2 (⟨t.val / 8 * 1024 + r.val, h⟩ : Fin 16384) k) := by
  rw [← V_main_arg0 m c]
  blk_ext [iblk, (idx t).1]
theorem iblk1 (t : Fin cfg0.N) (k : Fin 2048) :
    (iblk m c 1 t (ix2 (0 : Fin 1) k) : EReal) = m ((c : Thread nD τ).loc main_arg1) (ix2 (0 : Fin 1) k) := by
  rw [← V_main_arg1 m c]
  blk_ext [iblk, (idx t).2.1]
theorem iblk2 (t : Fin cfg0.N) (k : Fin 2048) (j : Fin 1024) (h : t.val % 8 * 1024 + j.val < 8192) :
    (iblk m c 2 t (ix2 k j) : EReal) = m ((c : Thread nD τ).loc main_arg2) (ix2 k (⟨t.val % 8 * 1024 + j.val, h⟩ : Fin 8192)) := by
  rw [← V0 m c]
  blk_ext [iblk, (idx t).2.2.1]
theorem iblk3 (t : Fin cfg0.N) (j : Fin 1024) (k : Fin 2048) (h : t.val % 8 * 1024 + j.val < 8192) :
    (iblk m c 3 t (ix2 j k) : EReal) = m ((c : Thread nD τ).loc main_arg3) (ix2 (⟨t.val % 8 * 1024 + j.val, h⟩ : Fin 8192) k) := by
  rw [← V1 m c]
  blk_ext [iblk, (idx t).2.2.2.1]
theorem iblk4 (t : Fin cfg0.N) (k : Fin 2048) :
    (iblk m c 4 t (ix2 (0 : Fin 1) k) : EReal) = m ((c : Thread nD τ).loc main_arg4) (ix2 (0 : Fin 1) k) := by
  rw [← V_main_arg4 m c]
  blk_ext [iblk, (idx t).2.2.2.2]

/-- One row of the input. -/
def xrow (n : Fin 16384) : Fin 2048 → EReal := fun k => m ((c : Thread nD τ).loc main_arg0) (ix2 n k)
/-- One row normalized. -/
def hrow (n : Fin 16384) : Fin 2048 → EReal := nrm (xrow m c n) fun k => m ((c : Thread nD τ).loc main_arg1) (ix2 (0 : Fin 1) k)
/-- The part of the feed-forward sum of block `f` of the width. -/
def part (n : Fin 16384) (k : Fin 2048) (f : ℕ) : EReal :=
  mlp 1024 (hrow m c n) (fun l j => if h : f * 1024 + j.val < 8192 then m ((c : Thread nD τ).loc main_arg2) (ix2 l (⟨f * 1024 + j.val, h⟩ : Fin 8192)) else 0)
    fun j => if h : f * 1024 + j.val < 8192 then m ((c : Thread nD τ).loc main_arg3) (ix2 (⟨f * 1024 + j.val, h⟩ : Fin 8192) k) else 0

theorem rows_at (t : Fin cfg0.N) (r : Fin 1024) (h : t.val / 8 * 1024 + r.val < 16384) :
    (fun k => (rows (iblk m c 0 t) (iblk m c 1 t) (ix2 r k) : EReal)) = hrow m c ⟨t.val / 8 * 1024 + r.val, h⟩ := by
  funext k
  exact congrArg₂ (fun X g => nrm X g k) (funext fun k => iblk0 m c t r k h) (funext fun k => iblk1 m c t k)

theorem part_at (t : Fin cfg0.N) (n : Fin 16384) (k : Fin 2048) :
    mlp 1024 (hrow m c n) (fun l j => iblk m c 2 t (ix2 l j)) (fun j => iblk m c 3 t (ix2 j k)) = part m c n k (t.val % 8) := by
  have e (j : Fin 1024) : t.val % 8 * 1024 + j.val < 8192 := by have := j.isLt; omega
  exact congrArg₂ (mlp 1024 (hrow m c n)) (funext fun l => funext fun j => by rw [dif_pos (e j)]; exact iblk2 m c t l j (e j))
    (funext fun j => by rw [dif_pos (e j)]; exact iblk3 m c t j k (e j))

theorem fst_of {α β : Type} {p : α × β} {a : α} {b : β} (h : p = (a, b)) : p.1 = a := congrArg Prod.fst h
theorem snd_of {α β : Type} {p : α × β} {a : α} {b : β} (h : p = (a, b)) : p.2 = b := congrArg Prod.snd h

theorem caseA (t : Fin cfg0.N) (h0 : t.val % 8 = 0) : (outsAt0 m c t.val t.isLt).2 = rows (iblk m c 0 t) (iblk m c 1 t)
    ∧ ∀ (r : Fin 1024) (k : Fin 2048) (h : t.val / 8 * 1024 + r.val < 16384), ((outsAt0 m c t.val t.isLt).1 (ix2 r k) : EReal) = part m c ⟨t.val / 8 * 1024 + r.val, h⟩ k 0 := by
  have e := outsAt0_A m c t h0 (by omega) (by omega)
  refine ⟨(snd_of e).trans (sout_A ..), fun r k h => ?_⟩
  refine (congrFun ((fst_of e).trans (out_A ..)) (ix2 r k)).trans ((pay1_apply ..).trans ?_)
  refine (congrArg (fun H => mlp 1024 H (fun l j => iblk m c 2 t (ix2 l j)) fun j => iblk m c 3 t (ix2 j k)) (rows_at m c t r h)).trans ?_
  rw [part_at, h0]

theorem caseB (t : Fin cfg0.N) (h1 : 1 ≤ t.val % 8 ∧ t.val % 8 ≤ 6) (hp : t.val - 1 < cfg0.N) : (outsAt0 m c t.val t.isLt).2 = (outsAt0 m c (t.val - 1) hp).2
    ∧ (outsAt0 m c t.val t.isLt).1 = k0_pay2 (outsAt0 m c (t.val - 1) hp).1 (outsAt0 m c (t.val - 1) hp).2 (iblk m c 2 t) (iblk m c 3 t) := by
  have e := outsAt0_B m c t (by omega) h1 (by omega)
  exact ⟨snd_of e, (fst_of e).trans (out_B ..)⟩

theorem caseC (t : Fin cfg0.N) (h2 : t.val % 8 = 7) (hp : t.val - 1 < cfg0.N) : (outsAt0 m c t.val t.isLt).1
    = last (iblk m c 0 t) (iblk m c 2 t) (iblk m c 3 t) (iblk m c 4 t) (outsAt0 m c (t.val - 1) hp).1 (outsAt0 m c (t.val - 1) hp).2 :=
  (fst_of (outsAt0_C m c t (by omega) (by omega) h2)).trans (out_C ..)

/-- After point `8 i + f`, `f < 7`: the scratch holds the normalized rows of block `i`, the output block the parts up to `f`. -/
theorem carried (i : ℕ) : ∀ (f : ℕ) (_ : f < 7) (hn : 8 * i + f < cfg0.N) (r : Fin 1024) (h : i * 1024 + r.val < 16384),
    (fun k => ((outsAt0 m c (8 * i + f) hn).2 (ix2 r k) : EReal)) = hrow m c ⟨i * 1024 + r.val, h⟩
    ∧ ∀ k : Fin 2048, ((outsAt0 m c (8 * i + f) hn).1 (ix2 r k) : EReal) = ∑ f' ∈ Finset.range (f + 1), part m c ⟨i * 1024 + r.val, h⟩ k f' := by
  intro f
  induction f with
  | zero =>
    intro _ hn r h
    have ed : (8 * i + 0) / 8 = i := by omega
    obtain ⟨a, b⟩ := caseA m c ⟨8 * i + 0, hn⟩ (by dsimp only; omega)
    have en : (⟨(8 * i + 0) / 8 * 1024 + r.val, by rw [ed]; exact h⟩ : Fin 16384) = ⟨i * 1024 + r.val, h⟩ := Fin.ext (by dsimp only; rw [ed])
    refine ⟨?_, fun k => ?_⟩
    · rw [← en]
      exact (congrArg (fun (v : Vec Ideal S1024x2048 .bf16) => fun k => (v (ix2 r k) : EReal)) a).trans (rows_at m c ⟨8 * i + 0, hn⟩ r _)
    · rw [Finset.sum_range_one, ← en]
      exact b r k _
  | succ f ih =>
    intro hf hn r h
    have hp : 8 * i + f < cfg0.N := by omega
    obtain ⟨a, b⟩ := caseB m c ⟨8 * i + (f + 1), hn⟩ (by dsimp only; omega) hp
    obtain ⟨u, v⟩ := ih (by omega) hp r h
    have ef : (8 * i + (f + 1)) % 8 = f + 1 := by omega
    have er := (congrArg (fun (v : Vec Ideal S1024x2048 .bf16) => fun k => (v (ix2 r k) : EReal)) a).trans u
    refine ⟨er, fun k => ?_⟩
    refine (congrFun b (ix2 r k)).trans ((pay2_apply ..).trans ?_)
    rw [Finset.sum_range_succ]
    refine congrArg₂ (@HAdd.hAdd EReal EReal EReal _) (v k) ?_
    refine (congrArg (fun H => mlp 1024 H (fun l j => iblk m c 2 ⟨8 * i + (f + 1), hn⟩ (ix2 l j)) fun j => iblk m c 3 ⟨8 * i + (f + 1), hn⟩ (ix2 j k)) u).trans ?_
    rw [part_at]
    exact congrArg (part m c _ k) ef

/-- A sum over the width is the sum of its eight blocks. -/
theorem sum_blocks (F : Fin 8192 → EReal) :
    ∑ j, F j = ∑ f ∈ Finset.range 8, ∑ j : Fin 1024, if h : f * 1024 + j.val < 8192 then F ⟨f * 1024 + j.val, h⟩ else 0 := by
  rw [← Fin.sum_univ_eq_sum_range (fun f => ∑ j : Fin 1024, if h : f * 1024 + j.val < 8192 then F ⟨f * 1024 + j.val, h⟩ else 0) 8, ← Fintype.sum_prod_type',
    ← (finProdFinEquiv (m := 8) (n := 1024)).sum_comp]
  refine Finset.sum_congr rfl fun p _ => ?_
  have h := p.1.isLt
  have h' := p.2.isLt
  have e : p.1.val * 1024 + p.2.val < 8192 := by omega
  rw [dif_pos e]
  exact congrArg F (Fin.ext (by simp only [finProdFinEquiv_apply_val]; omega))

theorem parts (n : Fin 16384) (k : Fin 2048) : ∑ f ∈ Finset.range 8, part m c n k f
    = mlp 8192 (hrow m c n) (fun l j => m ((c : Thread nD τ).loc main_arg2) (ix2 l j)) (fun j => m ((c : Thread nD τ).loc main_arg3) (ix2 j k)) := by
  unfold part mlp
  rw [sum_blocks]
  refine Finset.sum_congr rfl fun f hf => Finset.sum_congr rfl fun j _ => ?_
  have := Finset.mem_range.mp hf
  have := j.isLt
  have e : f * 1024 + j.val < 8192 := by omega
  simp only [dif_pos e]

theorem outs_congr (a b : ℕ) (h : a = b) (ha : a < cfg0.N) (hb : b < cfg0.N) : outsAt0 m c a ha = outsAt0 m c b hb := by subst h; rfl

theorem idx5 : ∀ t : Fin grid0.N, (win0 5).index t = ![t.val / 8, 0] := by decide +kernel

/-- The kernel's output array is the reference's. -/
theorem arr5 : (dats m 0 c).arrAt 5 cfg0.N = Cert.Reference2Ideal.Read.val_main_v29 (F := Ideal) (m ((c : Thread nD τ).loc main_arg0))
    (m ((c : Thread nD τ).loc main_arg1)) (m ((c : Thread nD τ).loc main_arg2)) (m ((c : Thread nD τ).loc main_arg3)) (m ((c : Thread nD τ).loc main_arg4)) := by
  refine (dats m 0 c).arrAt_eq_of_covers 5 _ (by decide +kernel) fun t hfl x => ?_
  have ht : t.val < 128 := lt_of_lt_of_eq t.isLt N_0
  have h7 : t.val % 8 = 7 := (flush0_5 t).mp hfl
  blk_simp
  rw [after0_5]
  obtain ⟨r, d, rfl⟩ : ∃ (r : Fin 1024) (d : Fin 2048), x = ix2 r d := ⟨x 0, x 1, by funext a; fin_cases a <;> rfl⟩
  have hr := r.isLt
  have hn : t.val / 8 * 1024 + r.val < 16384 := by omega
  have e : ((cfg0.win 5).blk t).view.emb (ix2 r d) = ix2 (⟨t.val / 8 * 1024 + r.val, hn⟩ : Fin 16384) d := by
    blk_ext [idx5 t]
  rw [e]
  refine Eq.trans ?_ (ref_at _ _ _ _ _ _ _).symm
  have hp : t.val - 1 < cfg0.N := Nat.lt_of_le_of_lt (Nat.sub_le _ _) t.isLt
  have hq : 8 * (t.val / 8) + 6 < cfg0.N := lt_of_lt_of_eq (show _ < 128 by omega) N_0.symm
  obtain ⟨u, v⟩ := carried m c (t.val / 8) 6 (by omega) hq r hn
  rw [← outs_congr m c (t.val - 1) (8 * (t.val / 8) + 6) (by omega) hp hq] at u v
  refine (congrFun (caseC m c t h7 hp) (ix2 r d)).trans ?_
  refine congrArg₂ (fun X g => nrm X g d) (funext fun k => congrArg₂ (@HAdd.hAdd EReal EReal EReal _) (iblk0 m c t r k hn) ?_) (funext fun k => iblk4 m c t k)
  refine Eq.trans ?_ (parts m c ⟨t.val / 8 * 1024 + r.val, hn⟩ k)
  rw [Finset.sum_range_succ]
  refine congrArg₂ (@HAdd.hAdd EReal EReal EReal _) (v k) ?_
  refine (congrArg (fun H => mlp 1024 H (fun l j => iblk m c 2 t (ix2 l j)) fun j => iblk m c 3 t (ix2 j k)) u).trans ?_
  rw [part_at, h7]
end Cert.Kernel2Ideal.Ffn
-- ==== Proof.Ffn.lean ====
/- The claims about the feed-forward program. -/
module
public import proofs.«01_k».proof.Defs
public import proofs.«01_k».proof.Proof.FfnArr
public import proofs.«01_k».proof.Proof.Gen.Kernel2.Frame
public import proofs.«01_k».proof.Proof.Gen.Kernel2Ideal.Value
public import proofs.«01_k».proof.Proof.Gen.Reference2Ideal.Run
public import proofs.«01_k».proof.Proof.Gen.Reference2Ideal.Read

@[expose] public section
set_option maxRecDepth 100000
noncomputable section
namespace Cert.Proof
open Idealize.ShloMosaic Idealize.ShloMosaic.TcCoe Idealize.SL.Sem

attribute [local instance] Cert.Kernel2.Gen.facts Cert.Kernel2Ideal.Gen.facts Cert.Reference2Ideal.Gen.facts

/-- Every run of the kernel ends, leaves its arguments alone and its semaphores at zero. -/
theorem frame_p2 : Cert.quiescent_Kernel2 := fun m g _ => Cert.Kernel2.Gen.frame m g

/-- The same over the extended reals. -/
theorem frame_pi2 : Cert.quiescent_Kernel2Ideal := fun m g _ => Cert.Kernel2Ideal.Gen.frame m g

/-- The same of the reference. -/
theorem frame_ri2 : Cert.quiescent_Reference2Ideal := fun m g _ =>
  (θ_run Cert.Reference2Ideal.defs _ _).mono (fun r h => ⟨fun c => (h c).2,
    Idealize.ShloMosaic.sem_eq_zero_of_no_sems (by decide) r.2⟩) (Cert.Reference2Ideal.Value.run (F := Ideal) m g)

/-- No operation is replaced. -/
theorem preserves2 : Cert.preserves_Kernel2_Kernel2Ideal := trivial

/-- The kernel and the reference return the same array. -/
theorem value2 : Cert.algebraic_Kernel2Ideal_Reference2Ideal := fun m g m' g' _ hargs =>
  ⟨fun c => (Cert.Kernel2Ideal.Gen.dats m 0 c).arrAt 5 Cert.Kernel2Ideal.cfg0.N,
    Cert.Kernel2Ideal.Value.run_blocks (F := Ideal) m g,
    (θ_run Cert.Reference2Ideal.defs _ _).mono (fun r h c => ⟨(h c).1.trans (by
        obtain ⟨a0, a1, a2, a3, a4⟩ := hargs c
        rw [Cert.Reference2Ideal.Read.val_main_v29_eq, a0, a1, a2, a3, a4]
        exact (Cert.Kernel2Ideal.Ffn.arr5 m c).symm), (h c).2⟩) (Cert.Reference2Ideal.Value.run (F := Ideal) m' g')⟩

end Cert.Proof
end
-- ==== Proof.lean ====
/- The claims of the certificate, assembled. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Gen.ReferenceIdeal.Read
public import proofs.«01_k».proof.Proof.Run
public import proofs.«01_k».proof.Proof.Frames
public import proofs.«01_k».proof.Proof.Value
public import proofs.«01_k».proof.Proof.Ffn
public import Idealize.ShloMosaic.Adequacy
public import Idealize.ShloMosaic.Init

@[expose] public section

noncomputable section

namespace Cert.Proof

open Idealize.ShloMosaic Idealize.SL.Sem Cert.Kernel

/-- All that the certificate claims. -/
theorem claim : Cert.Claim :=
  ⟨Cert.Kernel.Gen.facts, Cert.KernelIdeal.Gen.facts, Cert.ReferenceIdeal.Gen.facts, Cert.Kernel2.Gen.facts, Cert.Kernel2Ideal.Gen.facts,
    Cert.Reference2Ideal.Gen.facts, pre_facts, frame_p, frame_pi, frame_pi_pre, frame_ri, frame_ri_pre, frame_p2, frame_pi2, frame_ri2,
    preserves, value, preserves2, value2⟩

end Cert.Proof

end
